-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2 = (fun _ => 1#1)

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_ctx_finite [hPre_ctx_finite : Cert.Pre_ctx_finite.Facts] (m : (ℓ : Loc Cert.CtxIdeal.nD Cert.CtxIdeal.τ Cert.CtxIdeal.sig) → Buf (Elt Ideal) ℓ) : Prop :=
  ∀ c : Dev Cert.CtxIdeal.nD,
    (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))).1 = (fun _ => 1#1)
    ∧ (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))).2.1 = (fun _ => 1#1)
    ∧ (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))).2.2.1 = (fun _ => 1#1)
    ∧ (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))).2.2.2.1 = (fun _ => 1#1)
    ∧ (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6))).2.2.2.2 = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_ctx_finite [hPre_ctx_finite : Cert.Pre_ctx_finite.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6))).1 = (fun _ => 1#1)
    ∧ (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6))).2.1 = (fun _ => 1#1)
    ∧ (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6))).2.2.1 = (fun _ => 1#1)
    ∧ (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6))).2.2.2.1 = (fun _ => 1#1)
    ∧ (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6))).2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_FfUp (m : (ℓ : Loc Cert.FfUp.nD Cert.FfUp.τ Cert.FfUp.sig) → Buf (Elt Bits) ℓ) : Prop :=
  True

def Pre_FfUpIdeal (m : (ℓ : Loc Cert.FfUpIdeal.nD Cert.FfUpIdeal.τ Cert.FfUpIdeal.sig) → Buf (Elt Ideal) ℓ) : Prop :=
  True

def Pre_FfUpRefIdeal (m : (ℓ : Loc Cert.FfUpRefIdeal.nD Cert.FfUpRefIdeal.τ Cert.FfUpRefIdeal.sig) → Buf (Elt Ideal) ℓ) : Prop :=
  True

def Pre_FfDown (m : (ℓ : Loc Cert.FfDown.nD Cert.FfDown.τ Cert.FfDown.sig) → Buf (Elt Bits) ℓ) : Prop :=
  True

def Pre_FfDownIdeal (m : (ℓ : Loc Cert.FfDownIdeal.nD Cert.FfDownIdeal.τ Cert.FfDownIdeal.sig) → Buf (Elt Ideal) ℓ) : Prop :=
  True

def Pre_FfDownRefIdeal (m : (ℓ : Loc Cert.FfDownRefIdeal.nD Cert.FfDownRefIdeal.τ Cert.FfDownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Rnorm (m : (ℓ : Loc Cert.Rnorm.nD Cert.Rnorm.τ Cert.Rnorm.sig) → Buf (Elt Bits) ℓ) : Prop :=
  True

def Pre_RnormIdeal (m : (ℓ : Loc Cert.RnormIdeal.nD Cert.RnormIdeal.τ Cert.RnormIdeal.sig) → Buf (Elt Ideal) ℓ) : Prop :=
  True

def Pre_RnormRefIdeal (m : (ℓ : Loc Cert.RnormRefIdeal.nD Cert.RnormRefIdeal.τ Cert.RnormRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ r.2.sem = fun _ => 0)

def quiescent_CtxIdeal_pre_ctx_finite [hCtxIdeal : Cert.CtxIdeal.Facts] [hPre_ctx_finite : Cert.Pre_ctx_finite.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_ctx_finite m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6))
      ∧ r.2.sem = fun _ => 0)

def quiescent_CtxRefIdeal_pre_ctx_finite [hCtxRefIdeal : Cert.CtxRefIdeal.Facts] [hPre_ctx_finite : Cert.Pre_ctx_finite.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_ctx_finite m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_FfUp [hFfUp : Cert.FfUp.Facts] : Prop :=
  ∀ (m : (ℓ : Loc Cert.FfUp.nD Cert.FfUp.τ Cert.FfUp.sig) → Buf (Elt Bits) ℓ) (g : Dev Cert.FfUp.nD → PrngReg), Pre_FfUp m →
    θ_run (Cert.FfUp.defs (F := Bits)) (onTc (τ := Cert.FfUp.τ) (Cert.FfUp.main (F := Bits))) ⟨m, fun _ => 0, g⟩ (fun r => (∀ c : Dev Cert.FfUp.nD,
      r.2.mem ((c.tc : Thread Cert.FfUp.nD Cert.FfUp.τ).loc Cert.FfUp.main_arg0) = m ((c.tc : Thread Cert.FfUp.nD Cert.FfUp.τ).loc Cert.FfUp.main_arg0)
      ∧ r.2.mem ((c.tc : Thread Cert.FfUp.nD Cert.FfUp.τ).loc Cert.FfUp.main_arg1) = m ((c.tc : Thread Cert.FfUp.nD Cert.FfUp.τ).loc Cert.FfUp.main_arg1)
      ∧ r.2.mem ((c.tc : Thread Cert.FfUp.nD Cert.FfUp.τ).loc Cert.FfUp.main_arg2) = m ((c.tc : Thread Cert.FfUp.nD Cert.FfUp.τ).loc Cert.FfUp.main_arg2))
      ∧ r.2.sem = fun _ => 0)

def quiescent_FfUpIdeal [hFfUpIdeal : Cert.FfUpIdeal.Facts] : Prop :=
  ∀ (m : (ℓ : Loc Cert.FfUpIdeal.nD Cert.FfUpIdeal.τ Cert.FfUpIdeal.sig) → Buf (Elt Ideal) ℓ) (g : Dev Cert.FfUpIdeal.nD → PrngReg), Pre_FfUpIdeal m →
    θ_run (Cert.FfUpIdeal.defs (F := Ideal)) (onTc (τ := Cert.FfUpIdeal.τ) (Cert.FfUpIdeal.main (F := Ideal))) ⟨m, fun _ => 0, g⟩ (fun r => (∀ c : Dev Cert.FfUpIdeal.nD,
      r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
      ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
      ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2))
      ∧ r.2.sem = fun _ => 0)

def quiescent_FfUpRefIdeal [hFfUpRefIdeal : Cert.FfUpRefIdeal.Facts] : Prop :=
  ∀ (m : (ℓ : Loc Cert.FfUpRefIdeal.nD Cert.FfUpRefIdeal.τ Cert.FfUpRefIdeal.sig) → Buf (Elt Ideal) ℓ) (g : Dev Cert.FfUpRefIdeal.nD → PrngReg), Pre_FfUpRefIdeal m →
    θ_run (Cert.FfUpRefIdeal.defs (F := Ideal)) (onTc (τ := Cert.FfUpRefIdeal.τ) (Cert.FfUpRefIdeal.main (F := Ideal))) ⟨m, fun _ => 0, g⟩ (fun r => (∀ c : Dev Cert.FfUpRefIdeal.nD,
      r.2.mem ((c.tc : Thread Cert.FfUpRefIdeal.nD Cert.FfUpRefIdeal.τ).loc Cert.FfUpRefIdeal.main_arg0) = m ((c.tc : Thread Cert.FfUpRefIdeal.nD Cert.FfUpRefIdeal.τ).loc Cert.FfUpRefIdeal.main_arg0)
      ∧ r.2.mem ((c.tc : Thread Cert.FfUpRefIdeal.nD Cert.FfUpRefIdeal.τ).loc Cert.FfUpRefIdeal.main_arg1) = m ((c.tc : Thread Cert.FfUpRefIdeal.nD Cert.FfUpRefIdeal.τ).loc Cert.FfUpRefIdeal.main_arg1)
      ∧ r.2.mem ((c.tc : Thread Cert.FfUpRefIdeal.nD Cert.FfUpRefIdeal.τ).loc Cert.FfUpRefIdeal.main_arg2) = m ((c.tc : Thread Cert.FfUpRefIdeal.nD Cert.FfUpRefIdeal.τ).loc Cert.FfUpRefIdeal.main_arg2))
      ∧ r.2.sem = fun _ => 0)

def quiescent_FfDown [hFfDown : Cert.FfDown.Facts] : Prop :=
  ∀ (m : (ℓ : Loc Cert.FfDown.nD Cert.FfDown.τ Cert.FfDown.sig) → Buf (Elt Bits) ℓ) (g : Dev Cert.FfDown.nD → PrngReg), Pre_FfDown m →
    θ_run (Cert.FfDown.defs (F := Bits)) (onTc (τ := Cert.FfDown.τ) (Cert.FfDown.main (F := Bits))) ⟨m, fun _ => 0, g⟩ (fun r => (∀ c : Dev Cert.FfDown.nD,
      r.2.mem ((c.tc : Thread Cert.FfDown.nD Cert.FfDown.τ).loc Cert.FfDown.main_arg0) = m ((c.tc : Thread Cert.FfDown.nD Cert.FfDown.τ).loc Cert.FfDown.main_arg0)
      ∧ r.2.mem ((c.tc : Thread Cert.FfDown.nD Cert.FfDown.τ).loc Cert.FfDown.main_arg1) = m ((c.tc : Thread Cert.FfDown.nD Cert.FfDown.τ).loc Cert.FfDown.main_arg1)
      ∧ r.2.mem ((c.tc : Thread Cert.FfDown.nD Cert.FfDown.τ).loc Cert.FfDown.main_arg2) = m ((c.tc : Thread Cert.FfDown.nD Cert.FfDown.τ).loc Cert.FfDown.main_arg2)
      ∧ r.2.mem ((c.tc : Thread Cert.FfDown.nD Cert.FfDown.τ).loc Cert.FfDown.main_arg3) = m ((c.tc : Thread Cert.FfDown.nD Cert.FfDown.τ).loc Cert.FfDown.main_arg3))
      ∧ r.2.sem = fun _ => 0)

def quiescent_FfDownIdeal [hFfDownIdeal : Cert.FfDownIdeal.Facts] : Prop :=
  ∀ (m : (ℓ : Loc Cert.FfDownIdeal.nD Cert.FfDownIdeal.τ Cert.FfDownIdeal.sig) → Buf (Elt Ideal) ℓ) (g : Dev Cert.FfDownIdeal.nD → PrngReg), Pre_FfDownIdeal m →
    θ_run (Cert.FfDownIdeal.defs (F := Ideal)) (onTc (τ := Cert.FfDownIdeal.τ) (Cert.FfDownIdeal.main (F := Ideal))) ⟨m, fun _ => 0, g⟩ (fun r => (∀ c : Dev Cert.FfDownIdeal.nD,
      r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
      ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
      ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2)
      ∧ r.2.mem ((c.tc : Thread Cert.FfDownIdeal.nD Cert.FfDownIdeal.τ).loc Cert.FfDownIdeal.main_arg3) = m ((c.tc : Thread Cert.FfDownIdeal.nD Cert.FfDownIdeal.τ).loc Cert.FfDownIdeal.main_arg3))
      ∧ r.2.sem = fun _ => 0)

def quiescent_FfDownRefIdeal [hFfDownRefIdeal : Cert.FfDownRefIdeal.Facts] : Prop :=
  ∀ (m : (ℓ : Loc Cert.FfDownRefIdeal.nD Cert.FfDownRefIdeal.τ Cert.FfDownRefIdeal.sig) → Buf (Elt Ideal) ℓ) (g : Dev Cert.FfDownRefIdeal.nD → PrngReg), Pre_FfDownRefIdeal m →
    θ_run (Cert.FfDownRefIdeal.defs (F := Ideal)) (onTc (τ := Cert.FfDownRefIdeal.τ) (Cert.FfDownRefIdeal.main (F := Ideal))) ⟨m, fun _ => 0, g⟩ (fun r => (∀ c : Dev Cert.FfDownRefIdeal.nD,
      r.2.mem ((c.tc : Thread Cert.FfDownRefIdeal.nD Cert.FfDownRefIdeal.τ).loc Cert.FfDownRefIdeal.main_arg0) = m ((c.tc : Thread Cert.FfDownRefIdeal.nD Cert.FfDownRefIdeal.τ).loc Cert.FfDownRefIdeal.main_arg0)
      ∧ r.2.mem ((c.tc : Thread Cert.FfDownRefIdeal.nD Cert.FfDownRefIdeal.τ).loc Cert.FfDownRefIdeal.main_arg1) = m ((c.tc : Thread Cert.FfDownRefIdeal.nD Cert.FfDownRefIdeal.τ).loc Cert.FfDownRefIdeal.main_arg1)
      ∧ r.2.mem ((c.tc : Thread Cert.FfDownRefIdeal.nD Cert.FfDownRefIdeal.τ).loc Cert.FfDownRefIdeal.main_arg2) = m ((c.tc : Thread Cert.FfDownRefIdeal.nD Cert.FfDownRefIdeal.τ).loc Cert.FfDownRefIdeal.main_arg2)
      ∧ r.2.mem ((c.tc : Thread Cert.FfDownRefIdeal.nD Cert.FfDownRefIdeal.τ).loc Cert.FfDownRefIdeal.main_arg3) = m ((c.tc : Thread Cert.FfDownRefIdeal.nD Cert.FfDownRefIdeal.τ).loc Cert.FfDownRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2)
      ∧ r.2.mem ((c.tc : Thread Cert.Adaln.nD Cert.Adaln.τ).loc Cert.Adaln.main_arg3) = m ((c.tc : Thread Cert.Adaln.nD Cert.Adaln.τ).loc Cert.Adaln.main_arg3))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
      ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2)
      ∧ r.2.mem ((c.tc : Thread Cert.AdalnRefIdeal.nD Cert.AdalnRefIdeal.τ).loc Cert.AdalnRefIdeal.main_arg3) = m ((c.tc : Thread Cert.AdalnRefIdeal.nD Cert.AdalnRefIdeal.τ).loc Cert.AdalnRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Rnorm [hRnorm : Cert.Rnorm.Facts] : Prop :=
  ∀ (m : (ℓ : Loc Cert.Rnorm.nD Cert.Rnorm.τ Cert.Rnorm.sig) → Buf (Elt Bits) ℓ) (g : Dev Cert.Rnorm.nD → PrngReg), Pre_Rnorm m →
    θ_run (Cert.Rnorm.defs (F := Bits)) (onTc (τ := Cert.Rnorm.τ) (Cert.Rnorm.main (F := Bits))) ⟨m, fun _ => 0, g⟩ (fun r => (∀ c : Dev Cert.Rnorm.nD,
      r.2.mem ((c.tc : Thread Cert.Rnorm.nD Cert.Rnorm.τ).loc Cert.Rnorm.main_arg0) = m ((c.tc : Thread Cert.Rnorm.nD Cert.Rnorm.τ).loc Cert.Rnorm.main_arg0)
      ∧ r.2.mem ((c.tc : Thread Cert.Rnorm.nD Cert.Rnorm.τ).loc Cert.Rnorm.main_arg1) = m ((c.tc : Thread Cert.Rnorm.nD Cert.Rnorm.τ).loc Cert.Rnorm.main_arg1)
      ∧ r.2.mem ((c.tc : Thread Cert.Rnorm.nD Cert.Rnorm.τ).loc Cert.Rnorm.main_arg2) = m ((c.tc : Thread Cert.Rnorm.nD Cert.Rnorm.τ).loc Cert.Rnorm.main_arg2)
      ∧ r.2.mem ((c.tc : Thread Cert.Rnorm.nD Cert.Rnorm.τ).loc Cert.Rnorm.main_arg3) = m ((c.tc : Thread Cert.Rnorm.nD Cert.Rnorm.τ).loc Cert.Rnorm.main_arg3))
      ∧ r.2.sem = fun _ => 0)

def quiescent_RnormIdeal [hRnormIdeal : Cert.RnormIdeal.Facts] : Prop :=
  ∀ (m : (ℓ : Loc Cert.RnormIdeal.nD Cert.RnormIdeal.τ Cert.RnormIdeal.sig) → Buf (Elt Ideal) ℓ) (g : Dev Cert.RnormIdeal.nD → PrngReg), Pre_RnormIdeal m →
    θ_run (Cert.RnormIdeal.defs (F := Ideal)) (onTc (τ := Cert.RnormIdeal.τ) (Cert.RnormIdeal.main (F := Ideal))) ⟨m, fun _ => 0, g⟩ (fun r => (∀ c : Dev Cert.RnormIdeal.nD,
      r.2.mem ((c.tc : Thread Cert.RnormIdeal.nD Cert.RnormIdeal.τ).loc Cert.RnormIdeal.main_arg0) = m ((c.tc : Thread Cert.RnormIdeal.nD Cert.RnormIdeal.τ).loc Cert.RnormIdeal.main_arg0)
      ∧ r.2.mem ((c.tc : Thread Cert.RnormIdeal.nD Cert.RnormIdeal.τ).loc Cert.RnormIdeal.main_arg1) = m ((c.tc : Thread Cert.RnormIdeal.nD Cert.RnormIdeal.τ).loc Cert.RnormIdeal.main_arg1)
      ∧ r.2.mem ((c.tc : Thread Cert.RnormIdeal.nD Cert.RnormIdeal.τ).loc Cert.RnormIdeal.main_arg2) = m ((c.tc : Thread Cert.RnormIdeal.nD Cert.RnormIdeal.τ).loc Cert.RnormIdeal.main_arg2)
      ∧ r.2.mem ((c.tc : Thread Cert.RnormIdeal.nD Cert.RnormIdeal.τ).loc Cert.RnormIdeal.main_arg3) = m ((c.tc : Thread Cert.RnormIdeal.nD Cert.RnormIdeal.τ).loc Cert.RnormIdeal.main_arg3))
      ∧ r.2.sem = fun _ => 0)

def quiescent_RnormRefIdeal [hRnormRefIdeal : Cert.RnormRefIdeal.Facts] : Prop :=
  ∀ (m : (ℓ : Loc Cert.RnormRefIdeal.nD Cert.RnormRefIdeal.τ Cert.RnormRefIdeal.sig) → Buf (Elt Ideal) ℓ) (g : Dev Cert.RnormRefIdeal.nD → PrngReg), Pre_RnormRefIdeal m →
    θ_run (Cert.RnormRefIdeal.defs (F := Ideal)) (onTc (τ := Cert.RnormRefIdeal.τ) (Cert.RnormRefIdeal.main (F := Ideal))) ⟨m, fun _ => 0, g⟩ (fun r => (∀ c : Dev Cert.RnormRefIdeal.nD,
      r.2.mem ((c.tc : Thread Cert.RnormRefIdeal.nD Cert.RnormRefIdeal.τ).loc Cert.RnormRefIdeal.main_arg0) = m ((c.tc : Thread Cert.RnormRefIdeal.nD Cert.RnormRefIdeal.τ).loc Cert.RnormRefIdeal.main_arg0)
      ∧ r.2.mem ((c.tc : Thread Cert.RnormRefIdeal.nD Cert.RnormRefIdeal.τ).loc Cert.RnormRefIdeal.main_arg1) = m ((c.tc : Thread Cert.RnormRefIdeal.nD Cert.RnormRefIdeal.τ).loc Cert.RnormRefIdeal.main_arg1)
      ∧ r.2.mem ((c.tc : Thread Cert.RnormRefIdeal.nD Cert.RnormRefIdeal.τ).loc Cert.RnormRefIdeal.main_arg2) = m ((c.tc : Thread Cert.RnormRefIdeal.nD Cert.RnormRefIdeal.τ).loc Cert.RnormRefIdeal.main_arg2)
      ∧ r.2.mem ((c.tc : Thread Cert.RnormRefIdeal.nD Cert.RnormRefIdeal.τ).loc Cert.RnormRefIdeal.main_arg3) = m ((c.tc : Thread Cert.RnormRefIdeal.nD Cert.RnormRefIdeal.τ).loc Cert.RnormRefIdeal.main_arg3))
      ∧ r.2.sem = fun _ => 0)

def preserves_Attn_AttnIdeal : Prop :=
  True

def algebraic_AttnIdeal_AttnRefIdeal_on_latent_rows_pre_finite [hAttnIdeal : Cert.AttnIdeal.Facts] [hAttnRefIdeal : Cert.AttnRefIdeal.Facts] [hPre_finite : Cert.Pre_finite.Facts] [hOn_latent_rows : Cert.On_latent_rows.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v18)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨2, ![17408, 2048]⟩ : Shape).Idx, (Cert.On_latent_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) i = 1#1 → r.2.mem ((c.tc : Thread Cert.AttnIdeal.nD Cert.AttnIdeal.τ).loc Cert.AttnIdeal.main_v18) i = v0 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨2, ![17408, 2048]⟩ : Shape).Idx, (Cert.On_latent_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) i = 1#1 → r.2.mem ((c.tc : Thread Cert.AttnRefIdeal.nD Cert.AttnRefIdeal.τ).loc Cert.AttnRefIdeal.main_v75) i = v0 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Ctx_CtxIdeal : Prop :=
  True

def algebraic_CtxIdeal_CtxRefIdeal_pre_ctx_finite [hCtxIdeal : Cert.CtxIdeal.Facts] [hCtxRefIdeal : Cert.CtxRefIdeal.Facts] [hPre_ctx_finite : Cert.Pre_ctx_finite.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_ctx_finite m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)) →
    ∃ (v0 : (c : Dev Cert.CtxIdeal.nD) → Buf (Elt Ideal) ((c.tc : Thread Cert.CtxIdeal.nD Cert.CtxIdeal.τ).loc Cert.CtxIdeal.main_v18)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v18) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v67) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v16)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v16) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v40) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_FfUp_FfUpIdeal : Prop :=
  True

def algebraic_FfUpIdeal_FfUpRefIdeal [hFfUpIdeal : Cert.FfUpIdeal.Facts] [hFfUpRefIdeal : Cert.FfUpRefIdeal.Facts] : Prop :=
  ∀ (m : (ℓ : Loc Cert.FfUpIdeal.nD Cert.FfUpIdeal.τ Cert.FfUpIdeal.sig) → Buf (Elt Ideal) ℓ) (g : Dev Cert.FfUpIdeal.nD → PrngReg)
    (m' : (ℓ : Loc Cert.FfUpRefIdeal.nD Cert.FfUpRefIdeal.τ Cert.FfUpRefIdeal.sig) → Buf (Elt Ideal) ℓ) (g' : Dev Cert.FfUpRefIdeal.nD → PrngReg), Pre_FfUpIdeal m →
    (∀ c : Dev Cert.FfUpIdeal.nD,
      m' ((c.tc : Thread Cert.FfUpRefIdeal.nD Cert.FfUpRefIdeal.τ).loc Cert.FfUpRefIdeal.main_arg0) = m ((c.tc : Thread Cert.FfUpIdeal.nD Cert.FfUpIdeal.τ).loc Cert.FfUpIdeal.main_arg0)
      ∧ m' ((c.tc : Thread Cert.FfUpRefIdeal.nD Cert.FfUpRefIdeal.τ).loc Cert.FfUpRefIdeal.main_arg1) = m ((c.tc : Thread Cert.FfUpIdeal.nD Cert.FfUpIdeal.τ).loc Cert.FfUpIdeal.main_arg1)
      ∧ m' ((c.tc : Thread Cert.FfUpRefIdeal.nD Cert.FfUpRefIdeal.τ).loc Cert.FfUpRefIdeal.main_arg2) = m ((c.tc : Thread Cert.FfUpIdeal.nD Cert.FfUpIdeal.τ).loc Cert.FfUpIdeal.main_arg2)) →
    ∃ (v0 : (c : Dev Cert.FfUpIdeal.nD) → Buf (Elt Ideal) ((c.tc : Thread Cert.FfUpIdeal.nD Cert.FfUpIdeal.τ).loc Cert.FfUpIdeal.main_v0)),
      θ_run (Cert.FfUpIdeal.defs (F := Ideal)) (onTc (τ := Cert.FfUpIdeal.τ) (Cert.FfUpIdeal.main (F := Ideal))) ⟨m, fun _ => 0, g⟩ (fun r => ∀ c : Dev Cert.FfUpIdeal.nD,
          r.2.mem ((c.tc : Thread Cert.FfUpIdeal.nD Cert.FfUpIdeal.τ).loc Cert.FfUpIdeal.main_v0) = v0 c
          ∧ r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
          ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
          ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2))
      ∧ θ_run (Cert.FfUpRefIdeal.defs (F := Ideal)) (onTc (τ := Cert.FfUpRefIdeal.τ) (Cert.FfUpRefIdeal.main (F := Ideal))) ⟨m', fun _ => 0, g'⟩ (fun r => ∀ c : Dev Cert.FfUpRefIdeal.nD,
          r.2.mem ((c.tc : Thread Cert.FfUpRefIdeal.nD Cert.FfUpRefIdeal.τ).loc Cert.FfUpRefIdeal.main_v9) = v0 c
          ∧ r.2.mem ((c.tc : Thread Cert.FfUpRefIdeal.nD Cert.FfUpRefIdeal.τ).loc Cert.FfUpRefIdeal.main_arg0) = m' ((c.tc : Thread Cert.FfUpRefIdeal.nD Cert.FfUpRefIdeal.τ).loc Cert.FfUpRefIdeal.main_arg0)
          ∧ r.2.mem ((c.tc : Thread Cert.FfUpRefIdeal.nD Cert.FfUpRefIdeal.τ).loc Cert.FfUpRefIdeal.main_arg1) = m' ((c.tc : Thread Cert.FfUpRefIdeal.nD Cert.FfUpRefIdeal.τ).loc Cert.FfUpRefIdeal.main_arg1)
          ∧ r.2.mem ((c.tc : Thread Cert.FfUpRefIdeal.nD Cert.FfUpRefIdeal.τ).loc Cert.FfUpRefIdeal.main_arg2) = m' ((c.tc : Thread Cert.FfUpRefIdeal.nD Cert.FfUpRefIdeal.τ).loc Cert.FfUpRefIdeal.main_arg2))

def preserves_FfDown_FfDownIdeal : Prop :=
  True

def algebraic_FfDownIdeal_FfDownRefIdeal [hFfDownIdeal : Cert.FfDownIdeal.Facts] [hFfDownRefIdeal : Cert.FfDownRefIdeal.Facts] : Prop :=
  ∀ (m : (ℓ : Loc Cert.FfDownIdeal.nD Cert.FfDownIdeal.τ Cert.FfDownIdeal.sig) → Buf (Elt Ideal) ℓ) (g : Dev Cert.FfDownIdeal.nD → PrngReg)
    (m' : (ℓ : Loc Cert.FfDownRefIdeal.nD Cert.FfDownRefIdeal.τ Cert.FfDownRefIdeal.sig) → Buf (Elt Ideal) ℓ) (g' : Dev Cert.FfDownRefIdeal.nD → PrngReg), Pre_FfDownIdeal m →
    (∀ c : Dev Cert.FfDownIdeal.nD,
      m' ((c.tc : Thread Cert.FfDownRefIdeal.nD Cert.FfDownRefIdeal.τ).loc Cert.FfDownRefIdeal.main_arg0) = m ((c.tc : Thread Cert.FfDownIdeal.nD Cert.FfDownIdeal.τ).loc Cert.FfDownIdeal.main_arg0)
      ∧ m' ((c.tc : Thread Cert.FfDownRefIdeal.nD Cert.FfDownRefIdeal.τ).loc Cert.FfDownRefIdeal.main_arg1) = m ((c.tc : Thread Cert.FfDownIdeal.nD Cert.FfDownIdeal.τ).loc Cert.FfDownIdeal.main_arg1)
      ∧ m' ((c.tc : Thread Cert.FfDownRefIdeal.nD Cert.FfDownRefIdeal.τ).loc Cert.FfDownRefIdeal.main_arg2) = m ((c.tc : Thread Cert.FfDownIdeal.nD Cert.FfDownIdeal.τ).loc Cert.FfDownIdeal.main_arg2)
      ∧ m' ((c.tc : Thread Cert.FfDownRefIdeal.nD Cert.FfDownRefIdeal.τ).loc Cert.FfDownRefIdeal.main_arg3) = m ((c.tc : Thread Cert.FfDownIdeal.nD Cert.FfDownIdeal.τ).loc Cert.FfDownIdeal.main_arg3)) →
    ∃ (v0 : (c : Dev Cert.FfDownIdeal.nD) → Buf (Elt Ideal) ((c.tc : Thread Cert.FfDownIdeal.nD Cert.FfDownIdeal.τ).loc Cert.FfDownIdeal.main_v0)),
      θ_run (Cert.FfDownIdeal.defs (F := Ideal)) (onTc (τ := Cert.FfDownIdeal.τ) (Cert.FfDownIdeal.main (F := Ideal))) ⟨m, fun _ => 0, g⟩ (fun r => ∀ c : Dev Cert.FfDownIdeal.nD,
          r.2.mem ((c.tc : Thread Cert.FfDownIdeal.nD Cert.FfDownIdeal.τ).loc Cert.FfDownIdeal.main_v0) = v0 c
          ∧ r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
          ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
          ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2)
          ∧ r.2.mem ((c.tc : Thread Cert.FfDownIdeal.nD Cert.FfDownIdeal.τ).loc Cert.FfDownIdeal.main_arg3) = m ((c.tc : Thread Cert.FfDownIdeal.nD Cert.FfDownIdeal.τ).loc Cert.FfDownIdeal.main_arg3))
      ∧ θ_run (Cert.FfDownRefIdeal.defs (F := Ideal)) (onTc (τ := Cert.FfDownRefIdeal.τ) (Cert.FfDownRefIdeal.main (F := Ideal))) ⟨m', fun _ => 0, g'⟩ (fun r => ∀ c : Dev Cert.FfDownRefIdeal.nD,
          r.2.mem ((c.tc : Thread Cert.FfDownRefIdeal.nD Cert.FfDownRefIdeal.τ).loc Cert.FfDownRefIdeal.main_v23) = v0 c
          ∧ r.2.mem ((c.tc : Thread Cert.FfDownRefIdeal.nD Cert.FfDownRefIdeal.τ).loc Cert.FfDownRefIdeal.main_arg0) = m' ((c.tc : Thread Cert.FfDownRefIdeal.nD Cert.FfDownRefIdeal.τ).loc Cert.FfDownRefIdeal.main_arg0)
          ∧ r.2.mem ((c.tc : Thread Cert.FfDownRefIdeal.nD Cert.FfDownRefIdeal.τ).loc Cert.FfDownRefIdeal.main_arg1) = m' ((c.tc : Thread Cert.FfDownRefIdeal.nD Cert.FfDownRefIdeal.τ).loc Cert.FfDownRefIdeal.main_arg1)
          ∧ r.2.mem ((c.tc : Thread Cert.FfDownRefIdeal.nD Cert.FfDownRefIdeal.τ).loc Cert.FfDownRefIdeal.main_arg2) = m' ((c.tc : Thread Cert.FfDownRefIdeal.nD Cert.FfDownRefIdeal.τ).loc Cert.FfDownRefIdeal.main_arg2)
          ∧ r.2.mem ((c.tc : Thread Cert.FfDownRefIdeal.nD Cert.FfDownRefIdeal.τ).loc Cert.FfDownRefIdeal.main_arg3) = m' ((c.tc : Thread Cert.FfDownRefIdeal.nD Cert.FfDownRefIdeal.τ).loc Cert.FfDownRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v15) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v23) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v49)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v49) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v169) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)
      ∧ m' ((c.tc : Thread Cert.AdalnRefIdeal.nD Cert.AdalnRefIdeal.τ).loc Cert.AdalnRefIdeal.main_arg3) = m ((c.tc : Thread Cert.AdalnIdeal.nD Cert.AdalnIdeal.τ).loc Cert.AdalnIdeal.main_arg3)) →
    ∃ (v0 : (c : Dev Cert.AdalnIdeal.nD) → Buf (Elt Ideal) ((c.tc : Thread Cert.AdalnIdeal.nD Cert.AdalnIdeal.τ).loc Cert.AdalnIdeal.main_v4)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v4) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
          ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v12) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2)
          ∧ r.2.mem ((c.tc : Thread Cert.AdalnRefIdeal.nD Cert.AdalnRefIdeal.τ).loc Cert.AdalnRefIdeal.main_arg3) = m' ((c.tc : Thread Cert.AdalnRefIdeal.nD Cert.AdalnRefIdeal.τ).loc Cert.AdalnRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v59) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Rnorm_RnormIdeal : Prop :=
  True

def algebraic_RnormIdeal_RnormRefIdeal [hRnormIdeal : Cert.RnormIdeal.Facts] [hRnormRefIdeal : Cert.RnormRefIdeal.Facts] : Prop :=
  ∀ (m : (ℓ : Loc Cert.RnormIdeal.nD Cert.RnormIdeal.τ Cert.RnormIdeal.sig) → Buf (Elt Ideal) ℓ) (g : Dev Cert.RnormIdeal.nD → PrngReg)
    (m' : (ℓ : Loc Cert.RnormRefIdeal.nD Cert.RnormRefIdeal.τ Cert.RnormRefIdeal.sig) → Buf (Elt Ideal) ℓ) (g' : Dev Cert.RnormRefIdeal.nD → PrngReg), Pre_RnormIdeal m →
    (∀ c : Dev Cert.RnormIdeal.nD,
      m' ((c.tc : Thread Cert.RnormRefIdeal.nD Cert.RnormRefIdeal.τ).loc Cert.RnormRefIdeal.main_arg0) = m ((c.tc : Thread Cert.RnormIdeal.nD Cert.RnormIdeal.τ).loc Cert.RnormIdeal.main_arg0)
      ∧ m' ((c.tc : Thread Cert.RnormRefIdeal.nD Cert.RnormRefIdeal.τ).loc Cert.RnormRefIdeal.main_arg1) = m ((c.tc : Thread Cert.RnormIdeal.nD Cert.RnormIdeal.τ).loc Cert.RnormIdeal.main_arg1)
      ∧ m' ((c.tc : Thread Cert.RnormRefIdeal.nD Cert.RnormRefIdeal.τ).loc Cert.RnormRefIdeal.main_arg2) = m ((c.tc : Thread Cert.RnormIdeal.nD Cert.RnormIdeal.τ).loc Cert.RnormIdeal.main_arg2)
      ∧ m' ((c.tc : Thread Cert.RnormRefIdeal.nD Cert.RnormRefIdeal.τ).loc Cert.RnormRefIdeal.main_arg3) = m ((c.tc : Thread Cert.RnormIdeal.nD Cert.RnormIdeal.τ).loc Cert.RnormIdeal.main_arg3)) →
    ∃ (v0 : (c : Dev Cert.RnormIdeal.nD) → Buf (Elt Ideal) ((c.tc : Thread Cert.RnormIdeal.nD Cert.RnormIdeal.τ).loc Cert.RnormIdeal.main_v6_0)) (v1 : (c : Dev Cert.RnormIdeal.nD) → Buf (Elt Ideal) ((c.tc : Thread Cert.RnormIdeal.nD Cert.RnormIdeal.τ).loc Cert.RnormIdeal.main_v6_1)),
      θ_run (Cert.RnormIdeal.defs (F := Ideal)) (onTc (τ := Cert.RnormIdeal.τ) (Cert.RnormIdeal.main (F := Ideal))) ⟨m, fun _ => 0, g⟩ (fun r => ∀ c : Dev Cert.RnormIdeal.nD,
          r.2.mem ((c.tc : Thread Cert.RnormIdeal.nD Cert.RnormIdeal.τ).loc Cert.RnormIdeal.main_v6_0) = v0 c
          ∧ r.2.mem ((c.tc : Thread Cert.RnormIdeal.nD Cert.RnormIdeal.τ).loc Cert.RnormIdeal.main_v6_1) = v1 c
          ∧ r.2.mem ((c.tc : Thread Cert.RnormIdeal.nD Cert.RnormIdeal.τ).loc Cert.RnormIdeal.main_arg0) = m ((c.tc : Thread Cert.RnormIdeal.nD Cert.RnormIdeal.τ).loc Cert.RnormIdeal.main_arg0)
          ∧ r.2.mem ((c.tc : Thread Cert.RnormIdeal.nD Cert.RnormIdeal.τ).loc Cert.RnormIdeal.main_arg1) = m ((c.tc : Thread Cert.RnormIdeal.nD Cert.RnormIdeal.τ).loc Cert.RnormIdeal.main_arg1)
          ∧ r.2.mem ((c.tc : Thread Cert.RnormIdeal.nD Cert.RnormIdeal.τ).loc Cert.RnormIdeal.main_arg2) = m ((c.tc : Thread Cert.RnormIdeal.nD Cert.RnormIdeal.τ).loc Cert.RnormIdeal.main_arg2)
          ∧ r.2.mem ((c.tc : Thread Cert.RnormIdeal.nD Cert.RnormIdeal.τ).loc Cert.RnormIdeal.main_arg3) = m ((c.tc : Thread Cert.RnormIdeal.nD Cert.RnormIdeal.τ).loc Cert.RnormIdeal.main_arg3))
      ∧ θ_run (Cert.RnormRefIdeal.defs (F := Ideal)) (onTc (τ := Cert.RnormRefIdeal.τ) (Cert.RnormRefIdeal.main (F := Ideal))) ⟨m', fun _ => 0, g'⟩ (fun r => ∀ c : Dev Cert.RnormRefIdeal.nD,
          r.2.mem ((c.tc : Thread Cert.RnormRefIdeal.nD Cert.RnormRefIdeal.τ).loc Cert.RnormRefIdeal.main_v62) = v0 c
          ∧ r.2.mem ((c.tc : Thread Cert.RnormRefIdeal.nD Cert.RnormRefIdeal.τ).loc Cert.RnormRefIdeal.main_v64) = v1 c
          ∧ r.2.mem ((c.tc : Thread Cert.RnormRefIdeal.nD Cert.RnormRefIdeal.τ).loc Cert.RnormRefIdeal.main_arg0) = m' ((c.tc : Thread Cert.RnormRefIdeal.nD Cert.RnormRefIdeal.τ).loc Cert.RnormRefIdeal.main_arg0)
          ∧ r.2.mem ((c.tc : Thread Cert.RnormRefIdeal.nD Cert.RnormRefIdeal.τ).loc Cert.RnormRefIdeal.main_arg1) = m' ((c.tc : Thread Cert.RnormRefIdeal.nD Cert.RnormRefIdeal.τ).loc Cert.RnormRefIdeal.main_arg1)
          ∧ r.2.mem ((c.tc : Thread Cert.RnormRefIdeal.nD Cert.RnormRefIdeal.τ).loc Cert.RnormRefIdeal.main_arg2) = m' ((c.tc : Thread Cert.RnormRefIdeal.nD Cert.RnormRefIdeal.τ).loc Cert.RnormRefIdeal.main_arg2)
          ∧ r.2.mem ((c.tc : Thread Cert.RnormRefIdeal.nD Cert.RnormRefIdeal.τ).loc Cert.RnormRefIdeal.main_arg3) = m' ((c.tc : Thread Cert.RnormRefIdeal.nD Cert.RnormRefIdeal.τ).loc Cert.RnormRefIdeal.main_arg3))

def Claim : Prop :=
  ∃ (hAttn : Cert.Attn.Facts) (hAttnIdeal : Cert.AttnIdeal.Facts) (hAttnRefIdeal : Cert.AttnRefIdeal.Facts) (hCtx : Cert.Ctx.Facts) (hCtxIdeal : Cert.CtxIdeal.Facts) (hCtxRefIdeal : Cert.CtxRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hFfUp : Cert.FfUp.Facts) (hFfUpIdeal : Cert.FfUpIdeal.Facts) (hFfUpRefIdeal : Cert.FfUpRefIdeal.Facts) (hFfDown : Cert.FfDown.Facts) (hFfDownIdeal : Cert.FfDownIdeal.Facts) (hFfDownRefIdeal : Cert.FfDownRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hInproj : Cert.Inproj.Facts) (hInprojIdeal : Cert.InprojIdeal.Facts) (hInprojRefIdeal : Cert.InprojRefIdeal.Facts) (hAdaln : Cert.Adaln.Facts) (hAdalnIdeal : Cert.AdalnIdeal.Facts) (hAdalnRefIdeal : Cert.AdalnRefIdeal.Facts) (hNorm : Cert.Norm.Facts) (hNormIdeal : Cert.NormIdeal.Facts) (hNormRefIdeal : Cert.NormRefIdeal.Facts) (hRnorm : Cert.Rnorm.Facts) (hRnormIdeal : Cert.RnormIdeal.Facts) (hRnormRefIdeal : Cert.RnormRefIdeal.Facts) (hPre_finite : Cert.Pre_finite.Facts) (hPre_ctx_finite : Cert.Pre_ctx_finite.Facts) (hOn_latent_rows : Cert.On_latent_rows.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ctx (hCtx := hCtx)
    ∧ quiescent_CtxIdeal (hCtxIdeal := hCtxIdeal)
    ∧ quiescent_CtxIdeal_pre_ctx_finite (hCtxIdeal := hCtxIdeal) (hPre_ctx_finite := hPre_ctx_finite)
    ∧ quiescent_CtxRefIdeal (hCtxRefIdeal := hCtxRefIdeal)
    ∧ quiescent_CtxRefIdeal_pre_ctx_finite (hCtxRefIdeal := hCtxRefIdeal) (hPre_ctx_finite := hPre_ctx_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_FfUp (hFfUp := hFfUp)
    ∧ quiescent_FfUpIdeal (hFfUpIdeal := hFfUpIdeal)
    ∧ quiescent_FfUpRefIdeal (hFfUpRefIdeal := hFfUpRefIdeal)
    ∧ quiescent_FfDown (hFfDown := hFfDown)
    ∧ quiescent_FfDownIdeal (hFfDownIdeal := hFfDownIdeal)
    ∧ quiescent_FfDownRefIdeal (hFfDownRefIdeal := hFfDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_Norm (hNorm := hNorm)
    ∧ quiescent_NormIdeal (hNormIdeal := hNormIdeal)
    ∧ quiescent_NormRefIdeal (hNormRefIdeal := hNormRefIdeal)
    ∧ quiescent_Rnorm (hRnorm := hRnorm)
    ∧ quiescent_RnormIdeal (hRnormIdeal := hRnormIdeal)
    ∧ quiescent_RnormRefIdeal (hRnormRefIdeal := hRnormRefIdeal)
    ∧ preserves_Attn_AttnIdeal
    ∧ algebraic_AttnIdeal_AttnRefIdeal_on_latent_rows_pre_finite (hAttnIdeal := hAttnIdeal) (hAttnRefIdeal := hAttnRefIdeal) (hPre_finite := hPre_finite) (hOn_latent_rows := hOn_latent_rows)
    ∧ preserves_Ctx_CtxIdeal
    ∧ algebraic_CtxIdeal_CtxRefIdeal_pre_ctx_finite (hCtxIdeal := hCtxIdeal) (hCtxRefIdeal := hCtxRefIdeal) (hPre_ctx_finite := hPre_ctx_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_FfUp_FfUpIdeal
    ∧ algebraic_FfUpIdeal_FfUpRefIdeal (hFfUpIdeal := hFfUpIdeal) (hFfUpRefIdeal := hFfUpRefIdeal)
    ∧ preserves_FfDown_FfDownIdeal
    ∧ algebraic_FfDownIdeal_FfDownRefIdeal (hFfDownIdeal := hFfDownIdeal) (hFfDownRefIdeal := hFfDownRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Inproj_InprojIdeal
    ∧ algebraic_InprojIdeal_InprojRefIdeal (hInprojIdeal := hInprojIdeal) (hInprojRefIdeal := hInprojRefIdeal)
    ∧ preserves_Adaln_AdalnIdeal
    ∧ algebraic_AdalnIdeal_AdalnRefIdeal (hAdalnIdeal := hAdalnIdeal) (hAdalnRefIdeal := hAdalnRefIdeal)
    ∧ preserves_Norm_NormIdeal
    ∧ algebraic_NormIdeal_NormRefIdeal (hNormIdeal := hNormIdeal) (hNormRefIdeal := hNormRefIdeal)
    ∧ preserves_Rnorm_RnormIdeal
    ∧ algebraic_RnormIdeal_RnormRefIdeal (hRnormIdeal := hRnormIdeal) (hRnormRefIdeal := hRnormRefIdeal)
-- ==== On_latent_rows.lean ====
abbrev S17408x16384 : Shape := ⟨2, ![17408, 16384]⟩
abbrev S4x128 : Shape := ⟨2, ![4, 128]⟩
abbrev S4x256 : Shape := ⟨2, ![4, 256]⟩
abbrev S17408x2048 : Shape := ⟨2, ![17408, 2048]⟩
abbrev S_ : Shape := ⟨0, ![]⟩

class Facts : Prop where
  bcast_S_S17408x2048 : S_.BroadcastsInDim S17408x2048 (![] : Fin 0 → Fin S17408x2048.rank)

variable [Facts]

def fn {F : FTy → Type} [FloatOps F] (main_arg0 : FVec F S17408x16384 .bf16) (main_arg1 : FVec F S4x128 .f32) (main_arg2 : FVec F S4x128 .f32) (main_arg3 : FVec F S4x128 .f32) (main_arg4 : FVec F S4x128 .f32) (main_arg5 : FVec F S4x256 .f32) : IVec S17408x2048 1 :=
  let main_v0 : IVec S17408x2048 32 := iotaInDim S17408x2048 32 0
  let main_c : IVec S_ 32 := constantI S_ 32 16384#32
  let main_v1 : IVec S17408x2048 32 := broadcastInDim S17408x2048 ![] bcast_S_S17408x2048 main_c
  let main_v2 : IVec S17408x2048 1 := cmpi .slt main_v0 main_v1
  main_v2
-- ==== Pre_ctx_finite.lean ====
abbrev S17408x16384 : Shape := ⟨2, ![17408, 16384]⟩
abbrev S4x128 : Shape := ⟨2, ![4, 128]⟩
abbrev S4x256 : Shape := ⟨2, ![4, 256]⟩
abbrev S17408x2048 : Shape := ⟨2, ![17408, 2048]⟩
abbrev S1024x6144 : Shape := ⟨2, ![1024, 6144]⟩
abbrev S_ : Shape := ⟨0, ![]⟩
abbrev S1x128 : Shape := ⟨2, ![1, 128]⟩
abbrev S128 : Shape := ⟨1, ![128]⟩

class Facts : Prop where
  slices_S17408x16384_S1024x6144_16384_0 : S17408x16384.Slices ![16384, 0] S1024x6144
  bitsLt_bf16_f32 : FTy.bits .bf16 < FTy.bits .f32
  bcast_S_S1024x6144 : S_.BroadcastsInDim S1024x6144 (![] : Fin 0 → Fin S1024x6144.rank)
  slices_S4x128_S1x128_1_0 : S4x128.Slices ![1, 0] S1x128
  shapeCasts_S1x128_S128 : S1x128.ShapeCasts S128
  bcast_S_S128 : S_.BroadcastsInDim S128 (![] : Fin 0 → Fin S128.rank)

variable [Facts]

def fn_part1 {F : FTy → Type} [FloatOps F] (main_arg4 : FVec F S4x128 .f32) (main_v4 : IVec S1024x6144 1) (main_v9 : IVec S128 1) (main_v14 : IVec S128 1) (main_v19 : IVec S128 1) : IVec S1024x6144 1 × IVec S128 1 × IVec S128 1 × IVec S128 1 × IVec S128 1 :=
  let main_v20 : FVec F S1x128 .f32 := (extractStridedSlice S1x128 ![1, 0] · slices_S4x128_S1x128_1_0) main_arg4
  let main_v21 : FVec F S128 .f32 := shapeCast S128 main_v20 shapeCasts_S1x128_S128
  let main_v22 : FVec F S128 .f32 := Host.absf main_v21
  let main_cst_3 : FVec F S_ .f32 := constant S_ .f32 0x7F800000#32
  let main_v23 : FVec F S128 .f32 := broadcastInDim S128 ![] bcast_S_S128 main_cst_3
  let main_v24 : IVec S128 1 := cmpf .olt main_v22 main_v23
  (main_v4, main_v9, main_v14, main_v19, main_v24)

def fn {F : FTy → Type} [FloatOps F] (main_arg0 : FVec F S17408x16384 .bf16) (main_arg1 : FVec F S4x128 .f32) (main_arg2 : FVec F S4x128 .f32) (main_arg3 : FVec F S4x128 .f32) (main_arg4 : FVec F S4x128 .f32) (main_arg5 : FVec F S4x256 .f32) (main_arg6 : FVec F S17408x2048 .bf16) : IVec S1024x6144 1 × IVec S128 1 × IVec S128 1 × IVec S128 1 × IVec S128 1 :=
  let main_v0 : FVec F S1024x6144 .bf16 := (extractStridedSlice S1024x6144 ![16384, 0] · slices_S17408x16384_S1024x6144_16384_0) main_arg0
  let main_v1 : FVec F S1024x6144 .f32 := (extf .f32 · bitsLt_bf16_f32) main_v0
  let main_v2 : FVec F S1024x6144 .f32 := Host.absf main_v1
  let main_cst : FVec F S_ .f32 := constant S_ .f32 0x7F800000#32
  let main_v3 : FVec F S1024x6144 .f32 := broadcastInDim S1024x6144 ![] bcast_S_S1024x6144 main_cst
  let main_v4 : IVec S1024x6144 1 := cmpf .olt main_v2 main_v3
  let main_v5 : FVec F S1x128 .f32 := (extractStridedSlice S1x128 ![1, 0] · slices_S4x128_S1x128_1_0) main_arg1
  let main_v6 : FVec F S128 .f32 := shapeCast S128 main_v5 shapeCasts_S1x128_S128
  let main_v7 : FVec F S128 .f32 := Host.absf main_v6
  let main_cst_0 : FVec F S_ .f32 := constant S_ .f32 0x7F800000#32
  let main_v8 : FVec F S128 .f32 := broadcastInDim S128 ![] bcast_S_S128 main_cst_0
  let main_v9 : IVec S128 1 := cmpf .olt main_v7 main_v8
  let main_v10 : FVec F S1x128 .f32 := (extractStridedSlice S1x128 ![1, 0] · slices_S4x128_S1x128_1_0) main_arg2
  let main_v11 : FVec F S128 .f32 := shapeCast S128 main_v10 shapeCasts_S1x128_S128
  let main_v12 : FVec F S128 .f32 := Host.absf main_v11
  let main_cst_1 : FVec F S_ .f32 := constant S_ .f32 0x7F800000#32
  let main_v13 : FVec F S128 .f32 := broadcastInDim S128 ![] bcast_S_S128 main_cst_1
  let main_v14 : IVec S128 1 := cmpf .olt main_v12 main_v13
  let main_v15 : FVec F S1x128 .f32 := (extractStridedSlice S1x128 ![1, 0] · slices_S4x128_S1x128_1_0) main_arg3
  let main_v16 : FVec F S128 .f32 := shapeCast S128 main_v15 shapeCasts_S1x128_S128
  let main_v17 : FVec F S128 .f32 := Host.absf main_v16
  let main_cst_2 : FVec F S_ .f32 := constant S_ .f32 0x7F800000#32
  let main_v18 : FVec F S128 .f32 := broadcastInDim S128 ![] bcast_S_S128 main_cst_2
  let main_v19 : IVec S128 1 := cmpf .olt main_v17 main_v18
  fn_part1 (F := F) main_arg4 main_v4 main_v9 main_v14 main_v19
-- ==== Pre_finite.lean ====
abbrev S17408x16384 : Shape := ⟨2, ![17408, 16384]⟩
abbrev S4x128 : Shape := ⟨2, ![4, 128]⟩
abbrev S4x256 : Shape := ⟨2, ![4, 256]⟩
abbrev S17408x6144 : Shape := ⟨2, ![17408, 6144]⟩
abbrev S_ : Shape := ⟨0, ![]⟩
abbrev S1x128 : Shape := ⟨2, ![1, 128]⟩
abbrev S128 : Shape := ⟨1, ![128]⟩

class Facts : Prop where
  slices_S17408x16384_S17408x6144_0_0 : S17408x16384.Slices ![0, 0] S17408x6144
  bitsLt_bf16_f32 : FTy.bits .bf16 < FTy.bits .f32
  bcast_S_S17408x6144 : S_.BroadcastsInDim S17408x6144 (![] : Fin 0 → Fin S17408x6144.rank)
  slices_S4x128_S1x128_1_0 : S4x128.Slices ![1, 0] S1x128
  shapeCasts_S1x128_S128 : S1x128.ShapeCasts S128
  bcast_S_S128 : S_.BroadcastsInDim S128 (![] : Fin 0 → Fin S128.rank)

variable [Facts]

def fn_part1 {F : FTy → Type} [FloatOps F] (main_arg4 : FVec F S4x128 .f32) (main_v4 : IVec S17408x6144 1) (main_v9 : IVec S128 1) (main_v14 : IVec S128 1) (main_v19 : IVec S128 1) : IVec S17408x6144 1 × IVec S128 1 × IVec S128 1 × IVec S128 1 × IVec S128 1 :=
  let main_v20 : FVec F S1x128 .f32 := (extractStridedSlice S1x128 ![1, 0] · slices_S4x128_S1x128_1_0) main_arg4
  let main_v21 : FVec F S128 .f32 := shapeCast S128 main_v20 shapeCasts_S1x128_S128
  let main_v22 : FVec F S128 .f32 := Host.absf main_v21
  let main_cst_3 : FVec F S_ .f32 := constant S_ .f32 0x7F800000#32
  let main_v23 : FVec F S128 .f32 := broadcastInDim S128 ![] bcast_S_S128 main_cst_3
  let main_v24 : IVec S128 1 := cmpf .olt main_v22 main_v23
  (main_v4, main_v9, main_v14, main_v19, main_v24)

def fn {F : FTy → Type} [FloatOps F] (main_arg0 : FVec F S17408x16384 .bf16) (main_arg1 : FVec F S4x128 .f32) (main_arg2 : FVec F S4x128 .f32) (main_arg3 : FVec F S4x128 .f32) (main_arg4 : FVec F S4x128 .f32) (main_arg5 : FVec F S4x256 .f32) : IVec S17408x6144 1 × IVec S128 1 × IVec S128 1 × IVec S128 1 × IVec S128 1 :=
  let main_v0 : FVec F S17408x6144 .bf16 := (extractStridedSlice S17408x6144 ![0, 0] · slices_S17408x16384_S17408x6144_0_0) main_arg0
  let main_v1 : FVec F S17408x6144 .f32 := (extf .f32 · bitsLt_bf16_f32) main_v0
  let main_v2 : FVec F S17408x6144 .f32 := Host.absf main_v1
  let main_cst : FVec F S_ .f32 := constant S_ .f32 0x7F800000#32
  let main_v3 : FVec F S17408x6144 .f32 := broadcastInDim S17408x6144 ![] bcast_S_S17408x6144 main_cst
  let main_v4 : IVec S17408x6144 1 := cmpf .olt main_v2 main_v3
  let main_v5 : FVec F S1x128 .f32 := (extractStridedSlice S1x128 ![1, 0] · slices_S4x128_S1x128_1_0) main_arg1
  let main_v6 : FVec F S128 .f32 := shapeCast S128 main_v5 shapeCasts_S1x128_S128
  let main_v7 : FVec F S128 .f32 := Host.absf main_v6
  let main_cst_0 : FVec F S_ .f32 := constant S_ .f32 0x7F800000#32
  let main_v8 : FVec F S128 .f32 := broadcastInDim S128 ![] bcast_S_S128 main_cst_0
  let main_v9 : IVec S128 1 := cmpf .olt main_v7 main_v8
  let main_v10 : FVec F S1x128 .f32 := (extractStridedSlice S1x128 ![1, 0] · slices_S4x128_S1x128_1_0) main_arg2
  let main_v11 : FVec F S128 .f32 := shapeCast S128 main_v10 shapeCasts_S1x128_S128
  let main_v12 : FVec F S128 .f32 := Host.absf main_v11
  let main_cst_1 : FVec F S_ .f32 := constant S_ .f32 0x7F800000#32
  let main_v13 : FVec F S128 .f32 := broadcastInDim S128 ![] bcast_S_S128 main_cst_1
  let main_v14 : IVec S128 1 := cmpf .olt main_v12 main_v13
  let main_v15 : FVec F S1x128 .f32 := (extractStridedSlice S1x128 ![1, 0] · slices_S4x128_S1x128_1_0) main_arg3
  let main_v16 : FVec F S128 .f32 := shapeCast S128 main_v15 shapeCasts_S1x128_S128
  let main_v17 : FVec F S128 .f32 := Host.absf main_v16
  let main_cst_2 : FVec F S_ .f32 := constant S_ .f32 0x7F800000#32
  let main_v18 : FVec F S128 .f32 := broadcastInDim S128 ![] bcast_S_S128 main_cst_2
  let main_v19 : IVec S128 1 := cmpf .olt main_v17 main_v18
  fn_part1 (F := F) main_arg4 main_v4 main_v9 main_v14 main_v19
-- ==== Attn.lean ====
abbrev S17408x16384 : Shape := ⟨2, ![17408, 16384]⟩
abbrev S4x128 : Shape := ⟨2, ![4, 128]⟩
abbrev S4x256 : Shape := ⟨2, ![4, 256]⟩
abbrev S1x128 : Shape := ⟨2, ![1, 128]⟩
abbrev S128 : Shape := ⟨1, ![128]⟩
abbrev S_ : Shape := ⟨0, ![]⟩
abbrev S1 : Shape := ⟨1, ![1]⟩
abbrev S4x1x256 : Shape := ⟨3, ![4, 1, 256]⟩
abbrev S17408x2048 : Shape := ⟨2, ![17408, 2048]⟩
abbrev S256x256 : Shape := ⟨2, ![256, 256]⟩
abbrev S4096x256 : Shape := ⟨2, ![4096, 256]⟩
abbrev S1x1x256 : Shape := ⟨3, ![1, 1, 256]⟩
abbrev S256x128 : Shape := ⟨2, ![256, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩
abbrev S1x256 : Shape := ⟨2, ![1, 256]⟩

abbrev nBuf : Space → Nat
  | .hbm => 28
  | .vmem => 13
  | .smem => 1
  | _ => 0

abbrev bufTy : (tb : Table) → Fin (tcTables nBuf tb) → BufTy
  | .hbm, ⟨0, _⟩ => ⟨S17408x16384, .bf16⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x256, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S4x1x256, .f32⟩
  | .hbm, ⟨27, _⟩ => ⟨S17408x2048, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S4096x256, .bf16⟩
  | .local _ .vmem, ⟨9, _⟩ => ⟨S4096x256, .bf16⟩
  | .local _ .vmem, ⟨10, _⟩ => ⟨S1x1x256, .f32⟩
  | .local _ .vmem, ⟨11, _⟩ => ⟨S256x256, .bf16⟩
  | .local _ .vmem, ⟨12, _⟩ => ⟨S256x256, .bf16⟩
  | .local _ .smem, ⟨0, _⟩ => ⟨S1, .f32⟩
  | _, _ => ⟨S17408x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c8_i32 : BitVec 32 := 8#32
  let v1 : BitVec 32 := Scalar.addi c8_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c16_i32 : BitVec 32 := 16#32
  let v1 : BitVec 32 := Scalar.addi c16_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnRefIdeal.lean ====
abbrev S17408x16384 : Shape := ⟨2, ![17408, 16384]⟩
abbrev S4x128 : Shape := ⟨2, ![4, 128]⟩
abbrev S4x256 : Shape := ⟨2, ![4, 256]⟩
abbrev S1x128 : Shape := ⟨2, ![1, 128]⟩
abbrev S128 : Shape := ⟨1, ![128]⟩
abbrev S_ : Shape := ⟨0, ![]⟩
abbrev S16384x16384 : Shape := ⟨2, ![16384, 16384]⟩
abbrev S4x4096x16384 : Shape := ⟨3, ![4, 4096, 16384]⟩
abbrev S1024x16384 : Shape := ⟨2, ![1024, 16384]⟩
abbrev S4x256x16384 : Shape := ⟨3, ![4, 256, 16384]⟩
abbrev S4x4096x2048 : Shape := ⟨3, ![4, 4096, 2048]⟩
abbrev S4x4096x16x128 : Shape := ⟨4, ![4, 4096, 16, 128]⟩
abbrev S4x256x2048 : Shape := ⟨3, ![4, 256, 2048]⟩
abbrev S4x256x16x128 : Shape := ⟨4, ![4, 256, 16, 128]⟩
abbrev S4x256x8x256 : Shape := ⟨4, ![4, 256, 8, 256]⟩
abbrev S4x4096x8x256 : Shape := ⟨4, ![4, 4096, 8, 256]⟩
abbrev S4x4352x16x128 : Shape := ⟨4, ![4, 4352, 16, 128]⟩
abbrev S4x4352x8x256 : Shape := ⟨4, ![4, 4352, 8, 256]⟩
abbrev S4x16x4096x4352 : Shape := ⟨4, ![4, 16, 4096, 4352]⟩
abbrev S4x16x4096 : Shape := ⟨3, ![4, 16, 4096]⟩
abbrev S4x16x4096x1 : Shape := ⟨4, ![4, 16, 4096, 1]⟩
abbrev S4x8x2x4096x4352 : Shape := ⟨5, ![4, 8, 2, 4096, 4352]⟩
abbrev S4x8x1x4096x4352 : Shape := ⟨5, ![4, 8, 1, 4096, 4352]⟩
abbrev S4x8x4096x4352 : Shape := ⟨4, ![4, 8, 4096, 4352]⟩
abbrev S4x8x256x4096 : Shape := ⟨4, ![4, 8, 256, 4096]⟩
abbrev S1x256 : Shape := ⟨2, ![1, 256]⟩
abbrev S256 : Shape := ⟨1, ![256]⟩
abbrev S4x4096x8 : Shape := ⟨3, ![4, 4096, 8]⟩
abbrev S4x4096x8x1 : Shape := ⟨4, ![4, 4096, 8, 1]⟩
abbrev S1x1x1x256 : Shape := ⟨4, ![1, 1, 1, 256]⟩
abbrev S16384x2048 : Shape := ⟨2, ![16384, 2048]⟩
abbrev S1024x2048 : Shape := ⟨2, ![1024, 2048]⟩
abbrev S17408x2048 : Shape := ⟨2, ![17408, 2048]⟩

abbrev nBuf : Space → Nat
  | .hbm => 93
  | .vmem => 0
  | .smem => 0
  | _ => 0

abbrev bufTy : (tb : Table) → Fin (tcTables nBuf tb) → BufTy
  | .hbm, ⟨0, _⟩ => ⟨S17408x16384, .bf16⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x256, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S17408x16384, .f32⟩
  | .hbm, ⟨26, _⟩ => ⟨S16384x16384, .f32⟩
  | .hbm, ⟨27, _⟩ => ⟨S4x4096x16384, .f32⟩
  | .hbm, ⟨28, _⟩ => ⟨S1024x16384, .f32⟩
  | .hbm, ⟨29, _⟩ => ⟨S4x256x16384, .f32⟩
  | .hbm, ⟨30, _⟩ => ⟨S4x4096x2048, .f32⟩
  | .hbm, ⟨31, _⟩ => ⟨S4x4096x16x128, .f32⟩
  | .hbm, ⟨32, _⟩ => ⟨S4x256x2048, .f32⟩
  | .hbm, ⟨33, _⟩ => ⟨S4x256x16x128, .f32⟩
  | .hbm, ⟨34, _⟩ => ⟨S4x256x2048, .f32⟩
  | .hbm, ⟨35, _⟩ => ⟨S4x256x8x256, .f32⟩
  | .hbm, ⟨36, _⟩ => ⟨S4x4096x2048, .f32⟩
  | .hbm, ⟨37, _⟩ => ⟨S4x4096x16x128, .f32⟩
  | .hbm, ⟨38, _⟩ => ⟨S4x4096x2048, .f32⟩
  | .hbm, ⟨39, _⟩ => ⟨S4x4096x8x256, .f32⟩
  | .hbm, ⟨40, _⟩ => ⟨S4x4352x16x128, .f32⟩
  | .hbm, ⟨41, _⟩ => ⟨S4x4352x8x256, .f32⟩
  | .hbm, ⟨42, _⟩ => ⟨S4x16x4096x4352, .f32⟩
  | .hbm, ⟨43, _⟩ => ⟨S_, .f32⟩
  | .hbm, ⟨44, _⟩ => ⟨S4x16x4096, .f32⟩
  | .hbm, ⟨45, _⟩ => ⟨S_, .f32⟩
  | .hbm, ⟨46, _⟩ => ⟨S4x16x4096, .f32⟩
  | .hbm, ⟨47, _⟩ => ⟨S4x16x4096, .f32⟩
  | .hbm, ⟨48, _⟩ => ⟨S4x16x4096x1, .f32⟩
  | .hbm, ⟨49, _⟩ => ⟨S4x16x4096x4352, .f32⟩
  | .hbm, ⟨50, _⟩ => ⟨S4x16x4096x4352, .f32⟩
  | .hbm, ⟨51, _⟩ => ⟨S4x16x4096x4352, .f32⟩
  | .hbm, ⟨52, _⟩ => ⟨S_, .f32⟩
  | .hbm, ⟨53, _⟩ => ⟨S4x16x4096, .f32⟩
  | .hbm, ⟨54, _⟩ => ⟨S4x16x4096x1, .f32⟩
  | .hbm, ⟨55, _⟩ => ⟨S4x16x4096x4352, .f32⟩
  | .hbm, ⟨56, _⟩ => ⟨S4x16x4096x4352, .f32⟩
  | .hbm, ⟨57, _⟩ => ⟨S4x8x2x4096x4352, .f32⟩
  | .hbm, ⟨58, _⟩ => ⟨S4x8x1x4096x4352, .f32⟩
  | .hbm, ⟨59, _⟩ => ⟨S4x8x4096x4352, .f32⟩
  | .hbm, ⟨60, _⟩ => ⟨S4x8x1x4096x4352, .f32⟩
  | .hbm, ⟨61, _⟩ => ⟨S4x8x4096x4352, .f32⟩
  | .hbm, ⟨62, _⟩ => ⟨S4x8x4096x4352, .f32⟩
  | .hbm, ⟨63, _⟩ => ⟨S4x8x4096x4352, .f32⟩
  | .hbm, ⟨64, _⟩ => ⟨S4x8x4096x4352, .f32⟩
  | .hbm, ⟨65, _⟩ => ⟨S4x8x256x4096, .f32⟩
  | .hbm, ⟨66, _⟩ => ⟨S4x4096x8x256, .f32⟩
  | .hbm, ⟨67, _⟩ => ⟨S1x256, .f32⟩
  | .hbm, ⟨68, _⟩ => ⟨S256, .f32⟩
  | .hbm, ⟨69, _⟩ => ⟨S4x4096x8x256, .f32⟩
  | .hbm, ⟨70, _⟩ => ⟨S_, .f32⟩
  | .hbm, ⟨71, _⟩ => ⟨S4x4096x8, .f32⟩
  | .hbm, ⟨72, _⟩ => ⟨S4x4096x8x1, .f32⟩
  | .hbm, ⟨73, _⟩ => ⟨S_, .f32⟩
  | .hbm, ⟨74, _⟩ => ⟨S4x4096x8x1, .f32⟩
  | .hbm, ⟨75, _⟩ => ⟨S4x4096x8x1, .f32⟩
  | .hbm, ⟨76, _⟩ => ⟨S_, .f32⟩
  | .hbm, ⟨77, _⟩ => ⟨S4x4096x8x1, .f32⟩
  | .hbm, ⟨78, _⟩ => ⟨S4x4096x8x1, .f32⟩
  | .hbm, ⟨79, _⟩ => ⟨S4x4096x8x1, .f32⟩
  | .hbm, ⟨80, _⟩ => ⟨S4x4096x8x256, .f32⟩
  | .hbm, ⟨81, _⟩ => ⟨S4x4096x8x256, .f32⟩
  | .hbm, ⟨82, _⟩ => ⟨S1x1x1x256, .f32⟩
  | .hbm, ⟨83, _⟩ => ⟨S4x4096x8x256, .f32⟩
  | .hbm, ⟨84, _⟩ => ⟨S4x4096x8x256, .f32⟩
  | .hbm, ⟨85, _⟩ => ⟨S_, .f32⟩
  | .hbm, ⟨86, _⟩ => ⟨S4x4096x8x256, .f32⟩
  | .hbm, ⟨87, _⟩ => ⟨S4x4096x8x256, .f32⟩
  | .hbm, ⟨88, _⟩ => ⟨S16384x2048, .f32⟩
  | .hbm, ⟨89, _⟩ => ⟨S_, .f32⟩
  | .hbm, ⟨90, _⟩ => ⟨S1024x2048, .f32⟩
  | .hbm, ⟨91, _⟩ => ⟨S17408x2048, .f32⟩
  | .hbm, ⟨92, _⟩ => ⟨S17408x2048, .bf16⟩
  | _, _ => ⟨S17408x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Ctx.lean ====
abbrev S17408x16384 : Shape := ⟨2, ![17408, 16384]⟩
abbrev S4x128 : Shape := ⟨2, ![4, 128]⟩
abbrev S4x256 : Shape := ⟨2, ![4, 256]⟩
abbrev S17408x2048 : Shape := ⟨2, ![17408, 2048]⟩
abbrev S1x128 : Shape := ⟨2, ![1, 128]⟩
abbrev S128 : Shape := ⟨1, ![128]⟩
abbrev S_ : Shape := ⟨0, ![]⟩
abbrev S1 : Shape := ⟨1, ![1]⟩
abbrev S4x1x256 : Shape := ⟨3, ![4, 1, 256]⟩
abbrev S256x256 : Shape := ⟨2, ![256, 256]⟩
abbrev S1x1x256 : Shape := ⟨3, ![1, 1, 256]⟩
abbrev S256x128 : Shape := ⟨2, ![256, 128]⟩
abbrev S256 : Shape := ⟨1, ![256]⟩
abbrev S256x1 : Shape := ⟨2, ![256, 1]⟩
abbrev S1x256 : Shape := ⟨2, ![1, 256]⟩

abbrev nBuf : Space → Nat
  | .hbm => 29
  | .vmem => 9
  | .smem => 1
  | _ => 0

abbrev bufTy : (tb : Table) → Fin (tcTables nBuf tb) → BufTy
  | .hbm, ⟨0, _⟩ => ⟨S17408x16384, .bf16⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x256, .f32⟩
  | .hbm, ⟨6, _⟩ => ⟨S17408x2048, .bf16⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S4x1x256, .f32⟩
  | .hbm, ⟨28, _⟩ => ⟨S17408x2048, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S1x1x256, .f32⟩
  | .local _ .vmem, ⟨7, _⟩ => ⟨S256x256, .bf16⟩
  | .local _ .vmem, ⟨8, _⟩ => ⟨S256x256, .bf16⟩
  | .local _ .smem, ⟨0, _⟩ => ⟨S1, .f32⟩
  | _, _ => ⟨S17408x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c8_i32 : BitVec 32 := 8#32
  let v1 : BitVec 32 := Scalar.addi c8_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c16_i32 : BitVec 32 := 16#32
  let v1 : BitVec 32 := Scalar.addi c16_i32 arg1
  let c0_i32 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== CtxRefIdeal.lean ====
abbrev S17408x16384 : Shape := ⟨2, ![17408, 16384]⟩
abbrev S4x128 : Shape := ⟨2, ![4, 128]⟩
abbrev S4x256 : Shape := ⟨2, ![4, 256]⟩
abbrev S17408x2048 : Shape := ⟨2, ![17408, 2048]⟩
abbrev S1x128 : Shape := ⟨2, ![1, 128]⟩
abbrev S128 : Shape := ⟨1, ![128]⟩
abbrev S_ : Shape := ⟨0, ![]⟩
abbrev S1024x16384 : Shape := ⟨2, ![1024, 16384]⟩
abbrev S4x256x16384 : Shape := ⟨3, ![4, 256, 16384]⟩
abbrev S4x256x2048 : Shape := ⟨3, ![4, 256, 2048]⟩
abbrev S4x256x16x128 : Shape := ⟨4, ![4, 256, 16, 128]⟩
abbrev S4x256x8x256 : Shape := ⟨4, ![4, 256, 8, 256]⟩
abbrev S4x16x256x256 : Shape := ⟨4, ![4, 16, 256, 256]⟩
abbrev S4x16x256 : Shape := ⟨3, ![4, 16, 256]⟩
abbrev S4x16x256x1 : Shape := ⟨4, ![4, 16, 256, 1]⟩
abbrev S4x8x2x256x256 : Shape := ⟨5, ![4, 8, 2, 256, 256]⟩
abbrev S4x8x1x256x256 : Shape := ⟨5, ![4, 8, 1, 256, 256]⟩
abbrev S4x8x256x256 : Shape := ⟨4, ![4, 8, 256, 256]⟩
abbrev S1x256 : Shape := ⟨2, ![1, 256]⟩
abbrev S256 : Shape := ⟨1, ![256]⟩
abbrev S4x256x8 : Shape := ⟨3, ![4, 256, 8]⟩
abbrev S4x256x8x1 : Shape := ⟨4, ![4, 256, 8, 1]⟩
abbrev S1x1x1x256 : Shape := ⟨4, ![1, 1, 1, 256]⟩
abbrev S1024x2048 : Shape := ⟨2, ![1024, 2048]⟩
abbrev S16384x2048 : Shape := ⟨2, ![16384, 2048]⟩

abbrev nBuf : Space → Nat
  | .hbm => 85
  | .vmem => 0
  | .smem => 0
  | _ => 0

abbrev bufTy : (tb : Table) → Fin (tcTables nBuf tb) → BufTy
  | .hbm, ⟨0, _⟩ => ⟨S17408x16384, .bf16⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x256, .f32⟩
  | .hbm, ⟨6, _⟩ => ⟨S17408x2048, .bf16⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S17408x16384, .f32⟩
  | .hbm, ⟨27, _⟩ => ⟨S1024x16384, .f32⟩
  | .hbm, ⟨28, _⟩ => ⟨S4x256x16384, .f32⟩
  | .hbm, ⟨29, _⟩ => ⟨S4x256x2048, .f32⟩
  | .hbm, ⟨30, _⟩ => ⟨S4x256x16x128, .f32⟩
  | .hbm, ⟨31, _⟩ => ⟨S4x256x2048, .f32⟩
  | .hbm, ⟨32, _⟩ => ⟨S4x256x16x128, .f32⟩
  | .hbm, ⟨33, _⟩ => ⟨S4x256x2048, .f32⟩
  | .hbm, ⟨34, _⟩ => ⟨S4x256x8x256, .f32⟩
  | .hbm, ⟨35, _⟩ => ⟨S4x16x256x256, .f32⟩
  | .hbm, ⟨36, _⟩ => ⟨S_, .f32⟩
  | .hbm, ⟨37, _⟩ => ⟨S4x16x256, .f32⟩
  | .hbm, ⟨38, _⟩ => ⟨S_, .f32⟩
  | .hbm, ⟨39, _⟩ => ⟨S4x16x256, .f32⟩
  | .hbm, ⟨40, _⟩ => ⟨S4x16x256, .f32⟩
  | .hbm, ⟨41, _⟩ => ⟨S4x16x256x1, .f32⟩
  | .hbm, ⟨42, _⟩ => ⟨S4x16x256x256, .f32⟩
  | .hbm, ⟨43, _⟩ => ⟨S4x16x256x256, .f32⟩
  | .hbm, ⟨44, _⟩ => ⟨S4x16x256x256, .f32⟩
  | .hbm, ⟨45, _⟩ => ⟨S_, .f32⟩
  | .hbm, ⟨46, _⟩ => ⟨S4x16x256, .f32⟩
  | .hbm, ⟨47, _⟩ => ⟨S4x16x256x1, .f32⟩
  | .hbm, ⟨48, _⟩ => ⟨S4x16x256x256, .f32⟩
  | .hbm, ⟨49, _⟩ => ⟨S4x16x256x256, .f32⟩
  | .hbm, ⟨50, _⟩ => ⟨S4x8x2x256x256, .f32⟩
  | .hbm, ⟨51, _⟩ => ⟨S4x8x1x256x256, .f32⟩
  | .hbm, ⟨52, _⟩ => ⟨S4x8x256x256, .f32⟩
  | .hbm, ⟨53, _⟩ => ⟨S4x8x1x256x256, .f32⟩
  | .hbm, ⟨54, _⟩ => ⟨S4x8x256x256, .f32⟩
  | .hbm, ⟨55, _⟩ => ⟨S4x8x256x256, .f32⟩
  | .hbm, ⟨56, _⟩ => ⟨S4x8x256x256, .f32⟩
  | .hbm, ⟨57, _⟩ => ⟨S4x8x256x256, .f32⟩
  | .hbm, ⟨58, _⟩ => ⟨S4x8x256x256, .f32⟩
  | .hbm, ⟨59, _⟩ => ⟨S4x256x8x256, .f32⟩
  | .hbm, ⟨60, _⟩ => ⟨S1x256, .f32⟩
  | .hbm, ⟨61, _⟩ => ⟨S256, .f32⟩
  | .hbm, ⟨62, _⟩ => ⟨S4x256x8x256, .f32⟩
  | .hbm, ⟨63, _⟩ => ⟨S_, .f32⟩
  | .hbm, ⟨64, _⟩ => ⟨S4x256x8, .f32⟩
  | .hbm, ⟨65, _⟩ => ⟨S4x256x8x1, .f32⟩
  | .hbm, ⟨66, _⟩ => ⟨S_, .f32⟩
  | .hbm, ⟨67, _⟩ => ⟨S4x256x8x1, .f32⟩
  | .hbm, ⟨68, _⟩ => ⟨S4x256x8x1, .f32⟩
  | .hbm, ⟨69, _⟩ => ⟨S_, .f32⟩
  | .hbm, ⟨70, _⟩ => ⟨S4x256x8x1, .f32⟩
  | .hbm, ⟨71, _⟩ => ⟨S4x256x8x1, .f32⟩
  | .hbm, ⟨72, _⟩ => ⟨S4x256x8x1, .f32⟩
  | .hbm, ⟨73, _⟩ => ⟨S4x256x8x256, .f32⟩
  | .hbm, ⟨74, _⟩ => ⟨S4x256x8x256, .f32⟩
  | .hbm, ⟨75, _⟩ => ⟨S1x1x1x256, .f32⟩
  | .hbm, ⟨76, _⟩ => ⟨S4x256x8x256, .f32⟩
  | .hbm, ⟨77, _⟩ => ⟨S4x256x8x256, .f32⟩
  | .hbm, ⟨78, _⟩ => ⟨S_, .f32⟩
  | .hbm, ⟨79, _⟩ => ⟨S4x256x8x256, .f32⟩
  | .hbm, ⟨80, _⟩ => ⟨S4x256x8x256, .f32⟩
  | .hbm, ⟨81, _⟩ => ⟨S1024x2048, .f32⟩
  | .hbm, ⟨82, _⟩ => ⟨S1024x2048, .bf16⟩
  | .hbm, ⟨83, _⟩ => ⟨S16384x2048, .bf16⟩
  | .hbm, ⟨84, _⟩ => ⟨S17408x2048, .bf16⟩
  | _, _ => ⟨S17408x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Up.lean ====
abbrev S17408x2048 : Shape := ⟨2, ![17408, 2048]⟩
abbrev S2x8x2048x5632 : Shape := ⟨4, ![2, 8, 2048, 5632]⟩
abbrev S17408x5632 : Shape := ⟨2, ![17408, 5632]⟩
abbrev S1024x2048 : Shape := ⟨2, ![1024, 2048]⟩
abbrev S1x1x2048x512 : Shape := ⟨4, ![1, 1, 2048, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S17408x2048, .bf16⟩
  | .hbm, ⟨1, _⟩ => ⟨S2x8x2048x5632, .f32⟩
  | .hbm, ⟨2, _⟩ => ⟨S2x8x2048x5632, .f32⟩
  | .hbm, ⟨3, _⟩ => ⟨S17408x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S17408x2048 : Shape := ⟨2, ![17408, 2048]⟩
abbrev S2x8x2048x5632 : Shape := ⟨4, ![2, 8, 2048, 5632]⟩
abbrev S1x1x2048x5632 : Shape := ⟨4, ![1, 1, 2048, 5632]⟩
abbrev S2048x5632 : Shape := ⟨2, ![2048, 5632]⟩
abbrev S17408x5632 : Shape := ⟨2, ![17408, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2x8x2048x5632, .f32⟩
  | .hbm, ⟨2, _⟩ => ⟨S2x8x2048x5632, .f32⟩
  | .hbm, ⟨3, _⟩ => ⟨S17408x2048, .f32⟩
  | .hbm, ⟨4, _⟩ => ⟨S1x1x2048x5632, .f32⟩
  | .hbm, ⟨5, _⟩ => ⟨S2048x5632, .f32⟩
  | .hbm, ⟨6, _⟩ => ⟨S17408x5632, .f32⟩
  | .hbm, ⟨7, _⟩ => ⟨S17408x5632, .f32⟩
  | .hbm, ⟨8, _⟩ => ⟨S17408x5632, .f32⟩
  | .hbm, ⟨9, _⟩ => ⟨S_, .f32⟩
  | .hbm, ⟨10, _⟩ => ⟨S17408x5632, .f32⟩
  | .hbm, ⟨11, _⟩ => ⟨S17408x5632, .f32⟩
  | .hbm, ⟨12, _⟩ => ⟨S_, .f32⟩
  | .hbm, ⟨13, _⟩ => ⟨S17408x5632, .f32⟩
  | .hbm, ⟨14, _⟩ => ⟨S17408x5632, .f32⟩
  | .hbm, ⟨15, _⟩ => ⟨S17408x5632, .f32⟩
  | .hbm, ⟨16, _⟩ => ⟨S1x1x2048x5632, .f32⟩
  | .hbm, ⟨17, _⟩ => ⟨S2048x5632, .f32⟩
  | .hbm, ⟨18, _⟩ => ⟨S17408x5632, .f32⟩
  | .hbm, ⟨19, _⟩ => ⟨S17408x5632, .f32⟩
  | .hbm, ⟨20, _⟩ => ⟨S17408x5632, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S17408x5632 : Shape := ⟨2, ![17408, 5632]⟩
abbrev S2x8x5632x2048 : Shape := ⟨4, ![2, 8, 5632, 2048]⟩
abbrev S17408x2048 : Shape := ⟨2, ![17408, 2048]⟩
abbrev S4x8x12288 : Shape := ⟨3, ![4, 8, 12288]⟩
abbrev S17408x128 : Shape := ⟨2, ![17408, 128]⟩
abbrev S17408x8 : Shape := ⟨2, ![17408, 8]⟩
abbrev S17408x2 : Shape := ⟨2, ![17408, 2]⟩
abbrev S_ : Shape := ⟨0, ![]⟩
abbrev S17408 : Shape := ⟨1, ![17408]⟩
abbrev S17408x1 : Shape := ⟨2, ![17408, 1]⟩
abbrev S17408x2x1 : Shape := ⟨3, ![17408, 2, 1]⟩
abbrev S1x1x8 : Shape := ⟨3, ![1, 1, 8]⟩
abbrev S17408x2x8 : Shape := ⟨3, ![17408, 2, 8]⟩
abbrev S512x5632 : Shape := ⟨2, ![512, 5632]⟩
abbrev S1x1x5632x512 : Shape := ⟨4, ![1, 1, 5632, 512]⟩
abbrev S512x512 : Shape := ⟨2, ![512, 512]⟩
abbrev S1x8x512 : Shape := ⟨3, ![1, 8, 512]⟩
abbrev S512x128 : Shape := ⟨2, ![512, 128]⟩
abbrev S5632x512 : Shape := ⟨2, ![5632, 512]⟩
abbrev S1x1x512 : Shape := ⟨3, ![1, 1, 512]⟩
abbrev S1x512 : Shape := ⟨2, ![1, 512]⟩
abbrev S1x128 : Shape := ⟨2, ![1, 128]⟩

abbrev nBuf : Space → Nat
  | .hbm => 32
  | .vmem => 13
  | .smem => 0
  | _ => 0

abbrev bufTy : (tb : Table) → Fin (tcTables nBuf tb) → BufTy
  | .hbm, ⟨0, _⟩ => ⟨S17408x5632, .bf16⟩
  | .hbm, ⟨1, _⟩ => ⟨S2x8x5632x2048, .f32⟩
  | .hbm, ⟨2, _⟩ => ⟨S17408x2048, .f32⟩
  | .hbm, ⟨3, _⟩ => ⟨S4x8x12288, .f32⟩
  | .hbm, ⟨4, _⟩ => ⟨S17408x128, .f32⟩
  | .hbm, ⟨5, _⟩ => ⟨S17408x8, .f32⟩
  | .hbm, ⟨6, _⟩ => ⟨S17408x2, .f32⟩
  | .hbm, ⟨7, _⟩ => ⟨S17408x2, .i32⟩
  | .hbm, ⟨8, _⟩ => ⟨S_, .f32⟩
  | .hbm, ⟨9, _⟩ => ⟨S17408, .f32⟩
  | .hbm, ⟨10, _⟩ => ⟨S_, .f32⟩
  | .hbm, ⟨11, _⟩ => ⟨S17408, .f32⟩
  | .hbm, ⟨12, _⟩ => ⟨S17408, .f32⟩
  | .hbm, ⟨13, _⟩ => ⟨S17408x1, .f32⟩
  | .hbm, ⟨14, _⟩ => ⟨S17408x2, .f32⟩
  | .hbm, ⟨15, _⟩ => ⟨S17408x2, .f32⟩
  | .hbm, ⟨16, _⟩ => ⟨S17408x2, .f32⟩
  | .hbm, ⟨17, _⟩ => ⟨S_, .f32⟩
  | .hbm, ⟨18, _⟩ => ⟨S17408, .f32⟩
  | .hbm, ⟨19, _⟩ => ⟨S17408x1, .f32⟩
  | .hbm, ⟨20, _⟩ => ⟨S17408x2, .f32⟩
  | .hbm, ⟨21, _⟩ => ⟨S17408x2, .f32⟩
  | .hbm, ⟨22, _⟩ => ⟨S17408x2x1, .i32⟩
  | .hbm, ⟨23, _⟩ => ⟨S1x1x8, .i32⟩
  | .hbm, ⟨24, _⟩ => ⟨S17408x2x8, .i32⟩
  | .hbm, ⟨25, _⟩ => ⟨S17408x2x8, .i32⟩
  | .hbm, ⟨26, _⟩ => ⟨S17408x2x8, .i1⟩
  | .hbm, ⟨27, _⟩ => ⟨S17408x2x8, .f32⟩
  | .hbm, ⟨28, _⟩ => ⟨S17408x8, .f32⟩
  | .hbm, ⟨29, _⟩ => ⟨S17408x1, .f32⟩
  | .hbm, ⟨30, _⟩ => ⟨S17408x128, .f32⟩
  | .hbm, ⟨31, _⟩ => ⟨S17408x2048, .f32⟩
  | .local _ .vmem, ⟨0, _⟩ => ⟨S512x5632, .bf16⟩
  | .local _ .vmem, ⟨1, _⟩ => ⟨S512x5632, .bf16⟩
  | .local _ .vmem, ⟨2, _⟩ => ⟨S1x1x5632x512, .f32⟩
  | .local _ .vmem, ⟨3, _⟩ => ⟨S1x1x5632x512, .f32⟩
  | .local _ .vmem, ⟨4, _⟩ => ⟨S512x512, .f32⟩
  | .local _ .vmem, ⟨5, _⟩ => ⟨S512x512, .f32⟩
  | .local _ .vmem, ⟨6, _⟩ => ⟨S1x8x512, .f32⟩
  | .local _ .vmem, ⟨7, _⟩ => ⟨S1x8x512, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S5632x512, .bf16⟩
  | _, _ => ⟨S17408x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 34], ![false, false]⟩

def k0_off1 (i : grid0.Coords) : Fin 3 → Nat :=
  let c0_9 : Index := 0#32
  let arg1 : BitVec 32 := BitVec.ofNat 32 (i 1).val
  let c32_i32 : BitVec 32 := 32#32
  let v6 : BitVec 1 := Scalar.cmpi .sge arg1 c32_i32
  let c4_i32 : BitVec 32 := 4#32
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c8_i32 : BitVec 32 := 8#32
  let c0_i32_6 : BitVec 32 := 0#32
  let v13 : BitVec 1 := Scalar.cmpi .sgt c8_i32 c0_i32_6
  let v14 : BitVec 32 := Scalar.extui v13
  let c0_i32_7 : BitVec 32 := 0#32
  let v15 : BitVec 1 := Scalar.cmpi .slt c8_i32 c0_i32_7
  let v16 : BitVec 32 := Scalar.extui v15
  let v17 : BitVec 32 := Scalar.subi v14 v16
  let v18 : BitVec 1 := Scalar.cmpi .ne v12 v17
  let v19 : BitVec 32 := Scalar.remsi arg1 c8_i32
  let c0_i32_8 : BitVec 32 := 0#32
  let v20 : BitVec 1 := Scalar.cmpi .ne v19 c0_i32_8
  let v21 : BitVec 1 := Scalar.andi v18 v20
  let v7 : BitVec 32 := Scalar.divsi arg1 c8_i32
  let c1_i32 : BitVec 32 := 1#32
  let v22 : BitVec 32 := Scalar.subi v7 c1_i32
  let v23 : BitVec 32 := Scalar.select v21 v22 v7
  let v24 : BitVec 32 := Scalar.select v6 c4_i32 v23
  let v25 : Index := Scalar.indexCast v24
  let c0_10 : Index := 0#32
  ![0, v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S17408x5632 : Shape := ⟨2, ![17408, 5632]⟩
abbrev S2x8x5632x2048 : Shape := ⟨4, ![2, 8, 5632, 2048]⟩
abbrev S17408x2048 : Shape := ⟨2, ![17408, 2048]⟩
abbrev S4x8x12288 : Shape := ⟨3, ![4, 8, 12288]⟩
abbrev S17408x128 : Shape := ⟨2, ![17408, 128]⟩
abbrev S17408x8 : Shape := ⟨2, ![17408, 8]⟩
abbrev S17408x2 : Shape := ⟨2, ![17408, 2]⟩
abbrev S_ : Shape := ⟨0, ![]⟩
abbrev S17408 : Shape := ⟨1, ![17408]⟩
abbrev S17408x1 : Shape := ⟨2, ![17408, 1]⟩
abbrev S17408x2x1 : Shape := ⟨3, ![17408, 2, 1]⟩
abbrev S1x1x8 : Shape := ⟨3, ![1, 1, 8]⟩
abbrev S17408x2x8 : Shape := ⟨3, ![17408, 2, 8]⟩
abbrev S1x1x5632x2048 : Shape := ⟨4, ![1, 1, 5632, 2048]⟩
abbrev S5632x2048 : Shape := ⟨2, ![5632, 2048]⟩
abbrev S1x4x2048 : Shape := ⟨3, ![1, 4, 2048]⟩
abbrev S4x2048 : Shape := ⟨2, ![4, 2048]⟩
abbrev S1x1x2048 : Shape := ⟨3, ![1, 1, 2048]⟩
abbrev S2048 : Shape := ⟨1, ![2048]⟩
abbrev S16384x2048 : Shape := ⟨2, ![16384, 2048]⟩
abbrev S4x4096x2048 : Shape := ⟨3, ![4, 4096, 2048]⟩
abbrev S4x1x2048 : Shape := ⟨3, ![4, 1, 2048]⟩
abbrev S1024x2048 : Shape := ⟨2, ![1024, 2048]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S17408x5632, .bf16⟩
  | .hbm, ⟨1, _⟩ => ⟨S2x8x5632x2048, .f32⟩
  | .hbm, ⟨2, _⟩ => ⟨S17408x2048, .f32⟩
  | .hbm, ⟨3, _⟩ => ⟨S4x8x12288, .f32⟩
  | .hbm, ⟨4, _⟩ => ⟨S17408x128, .f32⟩
  | .hbm, ⟨5, _⟩ => ⟨S17408x8, .f32⟩
  | .hbm, ⟨6, _⟩ => ⟨S17408x2, .f32⟩
  | .hbm, ⟨7, _⟩ => ⟨S17408x2, .i32⟩
  | .hbm, ⟨8, _⟩ => ⟨S_, .f32⟩
  | .hbm, ⟨9, _⟩ => ⟨S17408, .f32⟩
  | .hbm, ⟨10, _⟩ => ⟨S_, .f32⟩
  | .hbm, ⟨11, _⟩ => ⟨S17408, .f32⟩
  | .hbm, ⟨12, _⟩ => ⟨S17408, .f32⟩
  | .hbm, ⟨13, _⟩ => ⟨S17408x1, .f32⟩
  | .hbm, ⟨14, _⟩ => ⟨S17408x2, .f32⟩
  | .hbm, ⟨15, _⟩ => ⟨S17408x2, .f32⟩
  | .hbm, ⟨16, _⟩ => ⟨S17408x2, .f32⟩
  | .hbm, ⟨17, _⟩ => ⟨S_, .f32⟩
  | .hbm, ⟨18, _⟩ => ⟨S17408, .f32⟩
  | .hbm, ⟨19, _⟩ => ⟨S17408x1, .f32⟩
  | .hbm, ⟨20, _⟩ => ⟨S17408x2, .f32⟩
  | .hbm, ⟨21, _⟩ => ⟨S17408x2, .f32⟩
  | .hbm, ⟨22, _⟩ => ⟨S17408x2x1, .i32⟩
  | .hbm, ⟨23, _⟩ => ⟨S1x1x8, .i32⟩
  | .hbm, ⟨24, _⟩ => ⟨S17408x2x8, .i32⟩
  | .hbm, ⟨25, _⟩ => ⟨S17408x2x8, .i32⟩
  | .hbm, ⟨26, _⟩ => ⟨S17408x2x8, .i1⟩
  | .hbm, ⟨27, _⟩ => ⟨S17408x2x8, .f32⟩
  | .hbm, ⟨28, _⟩ => ⟨S17408x8, .f32⟩
  | .hbm, ⟨29, _⟩ => ⟨S17408x1, .f32⟩
  | .hbm, ⟨30, _⟩ => ⟨S17408x5632, .f32⟩
  | .hbm, ⟨31, _⟩ => ⟨S1x1x5632x2048, .f32⟩
  | .hbm, ⟨32, _⟩ => ⟨S5632x2048, .f32⟩
  | .hbm, ⟨33, _⟩ => ⟨S17408x2048, .f32⟩
  | .hbm, ⟨34, _⟩ => ⟨S17408x2048, .f32⟩
  | .hbm, ⟨35, _⟩ => ⟨S17408x2048, .f32⟩
  | .hbm, ⟨36, _⟩ => ⟨S1x4x2048, .f32⟩
  | .hbm, ⟨37, _⟩ => ⟨S4x2048, .f32⟩
  | .hbm, ⟨38, _⟩ => ⟨S1x1x2048, .f32⟩
  | .hbm, ⟨39, _⟩ => ⟨S2048, .f32⟩
  | .hbm, ⟨40, _⟩ => ⟨S16384x2048, .f32⟩
  | .hbm, ⟨41, _⟩ => ⟨S4x4096x2048, .f32⟩
  | .hbm, ⟨42, _⟩ => ⟨S4x1x2048, .f32⟩
  | .hbm, ⟨43, _⟩ => ⟨S16384x2048, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S1024x2048, .f32⟩
  | .hbm, ⟨49, _⟩ => ⟨S1024x2048, .f32⟩
  | .hbm, ⟨50, _⟩ => ⟨S1x2048, .f32⟩
  | .hbm, ⟨51, _⟩ => ⟨S1024x2048, .f32⟩
  | .hbm, ⟨52, _⟩ => ⟨S1024x2048, .f32⟩
  | .hbm, ⟨53, _⟩ => ⟨S1024x2048, .f32⟩
  | .hbm, ⟨54, _⟩ => ⟨S16384x2048, .f32⟩
  | .hbm, ⟨55, _⟩ => ⟨S17408x2048, .f32⟩
  | _, _ => ⟨S17408x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== FfUp.lean ====
abbrev S17408x2048 : Shape := ⟨2, ![17408, 2048]⟩
abbrev S2x2048x5632 : Shape := ⟨3, ![2, 2048, 5632]⟩
abbrev S17408x5632 : Shape := ⟨2, ![17408, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S17408x2048, .bf16⟩
  | .hbm, ⟨1, _⟩ => ⟨S2x2048x5632, .f32⟩
  | .hbm, ⟨2, _⟩ => ⟨S2x2048x5632, .f32⟩
  | .hbm, ⟨3, _⟩ => ⟨S17408x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfUpRefIdeal.lean ====
abbrev S17408x2048 : Shape := ⟨2, ![17408, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S17408x5632 : Shape := ⟨2, ![17408, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2x2048x5632, .f32⟩
  | .hbm, ⟨2, _⟩ => ⟨S2x2048x5632, .f32⟩
  | .hbm, ⟨3, _⟩ => ⟨S17408x2048, .f32⟩
  | .hbm, ⟨4, _⟩ => ⟨S1x2048x5632, .f32⟩
  | .hbm, ⟨5, _⟩ => ⟨S2048x5632, .f32⟩
  | .hbm, ⟨6, _⟩ => ⟨S17408x5632, .f32⟩
  | .hbm, ⟨7, _⟩ => ⟨S17408x5632, .f32⟩
  | .hbm, ⟨8, _⟩ => ⟨S17408x5632, .f32⟩
  | .hbm, ⟨9, _⟩ => ⟨S_, .f32⟩
  | .hbm, ⟨10, _⟩ => ⟨S17408x5632, .f32⟩
  | .hbm, ⟨11, _⟩ => ⟨S17408x5632, .f32⟩
  | .hbm, ⟨12, _⟩ => ⟨S_, .f32⟩
  | .hbm, ⟨13, _⟩ => ⟨S17408x5632, .f32⟩
  | .hbm, ⟨14, _⟩ => ⟨S17408x5632, .f32⟩
  | .hbm, ⟨15, _⟩ => ⟨S17408x5632, .f32⟩
  | .hbm, ⟨16, _⟩ => ⟨S1x2048x5632, .f32⟩
  | .hbm, ⟨17, _⟩ => ⟨S2048x5632, .f32⟩
  | .hbm, ⟨18, _⟩ => ⟨S17408x5632, .f32⟩
  | .hbm, ⟨19, _⟩ => ⟨S17408x5632, .f32⟩
  | .hbm, ⟨20, _⟩ => ⟨S17408x5632, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfDown.lean ====
abbrev S17408x5632 : Shape := ⟨2, ![17408, 5632]⟩
abbrev S2x5632x2048 : Shape := ⟨3, ![2, 5632, 2048]⟩
abbrev S17408x2048 : Shape := ⟨2, ![17408, 2048]⟩
abbrev S4x8x12288 : Shape := ⟨3, ![4, 8, 12288]⟩
abbrev S512x5632 : Shape := ⟨2, ![512, 5632]⟩
abbrev S1x5632x512 : Shape := ⟨3, ![1, 5632, 512]⟩
abbrev S512x512 : Shape := ⟨2, ![512, 512]⟩
abbrev S1x8x512 : Shape := ⟨3, ![1, 8, 512]⟩
abbrev S5632x512 : Shape := ⟨2, ![5632, 512]⟩
abbrev S1x1x512 : Shape := ⟨3, ![1, 1, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S17408x5632, .bf16⟩
  | .hbm, ⟨1, _⟩ => ⟨S2x5632x2048, .f32⟩
  | .hbm, ⟨2, _⟩ => ⟨S17408x2048, .f32⟩
  | .hbm, ⟨3, _⟩ => ⟨S4x8x12288, .f32⟩
  | .hbm, ⟨4, _⟩ => ⟨S17408x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S1x8x512, .f32⟩
  | .local _ .vmem, ⟨7, _⟩ => ⟨S1x8x512, .f32⟩
  | .local _ .vmem, ⟨8, _⟩ => ⟨S512x512, .f32⟩
  | .local _ .vmem, ⟨9, _⟩ => ⟨S512x512, .f32⟩
  | .local _ .vmem, ⟨10, _⟩ => ⟨S5632x512, .bf16⟩
  | _, _ => ⟨S17408x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 34], ![false, false]⟩

def k0_off1 (i : grid0.Coords) : Fin 3 → Nat :=
  let c0_9 : Index := 0#32
  let arg1 : BitVec 32 := BitVec.ofNat 32 (i 1).val
  let c32_i32 : BitVec 32 := 32#32
  let v6 : BitVec 1 := Scalar.cmpi .sge arg1 c32_i32
  let c4_i32 : BitVec 32 := 4#32
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c8_i32 : BitVec 32 := 8#32
  let c0_i32_6 : BitVec 32 := 0#32
  let v13 : BitVec 1 := Scalar.cmpi .sgt c8_i32 c0_i32_6
  let v14 : BitVec 32 := Scalar.extui v13
  let c0_i32_7 : BitVec 32 := 0#32
  let v15 : BitVec 1 := Scalar.cmpi .slt c8_i32 c0_i32_7
  let v16 : BitVec 32 := Scalar.extui v15
  let v17 : BitVec 32 := Scalar.subi v14 v16
  let v18 : BitVec 1 := Scalar.cmpi .ne v12 v17
  let v19 : BitVec 32 := Scalar.remsi arg1 c8_i32
  let c0_i32_8 : BitVec 32 := 0#32
  let v20 : BitVec 1 := Scalar.cmpi .ne v19 c0_i32_8
  let v21 : BitVec 1 := Scalar.andi v18 v20
  let v7 : BitVec 32 := Scalar.divsi arg1 c8_i32
  let c1_i32 : BitVec 32 := 1#32
  let v22 : BitVec 32 := Scalar.subi v7 c1_i32
  let v23 : BitVec 32 := Scalar.select v21 v22 v7
  let v24 : BitVec 32 := Scalar.select v6 c4_i32 v23
  let v25 : Index := Scalar.indexCast v24
  let c0_10 : Index := 0#32
  ![0, v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c2_i32 : BitVec 32 := 2#32
  let c0_i32 : BitVec 32 := 0#32
  let c0_i32_0 : BitVec 32 := 0#32
  ![c2_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfDownRefIdeal.lean ====
abbrev S17408x5632 : Shape := ⟨2, ![17408, 5632]⟩
abbrev S2x5632x2048 : Shape := ⟨3, ![2, 5632, 2048]⟩
abbrev S17408x2048 : Shape := ⟨2, ![17408, 2048]⟩
abbrev S4x8x12288 : Shape := ⟨3, ![4, 8, 12288]⟩
abbrev S1x5632x2048 : Shape := ⟨3, ![1, 5632, 2048]⟩
abbrev S5632x2048 : Shape := ⟨2, ![5632, 2048]⟩
abbrev S1x4x2048 : Shape := ⟨3, ![1, 4, 2048]⟩
abbrev S4x2048 : Shape := ⟨2, ![4, 2048]⟩
abbrev S1x1x2048 : Shape := ⟨3, ![1, 1, 2048]⟩
abbrev S2048 : Shape := ⟨1, ![2048]⟩
abbrev S16384x2048 : Shape := ⟨2, ![16384, 2048]⟩
abbrev S4x4096x2048 : Shape := ⟨3, ![4, 4096, 2048]⟩
abbrev S4x1x2048 : Shape := ⟨3, ![4, 1, 2048]⟩
abbrev S1024x2048 : Shape := ⟨2, ![1024, 2048]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S17408x5632, .bf16⟩
  | .hbm, ⟨1, _⟩ => ⟨S2x5632x2048, .f32⟩
  | .hbm, ⟨2, _⟩ => ⟨S17408x2048, .f32⟩
  | .hbm, ⟨3, _⟩ => ⟨S4x8x12288, .f32⟩
  | .hbm, ⟨4, _⟩ => ⟨S17408x5632, .f32⟩
  | .hbm, ⟨5, _⟩ => ⟨S1x5632x2048, .f32⟩
  | .hbm, ⟨6, _⟩ => ⟨S5632x2048, .f32⟩
  | .hbm, ⟨7, _⟩ => ⟨S17408x2048, .f32⟩
  | .hbm, ⟨8, _⟩ => ⟨S1x4x2048, .f32⟩
  | .hbm, ⟨9, _⟩ => ⟨S4x2048, .f32⟩
  | .hbm, ⟨10, _⟩ => ⟨S1x1x2048, .f32⟩
  | .hbm, ⟨11, _⟩ => ⟨S2048, .f32⟩
  | .hbm, ⟨12, _⟩ => ⟨S16384x2048, .f32⟩
  | .hbm, ⟨13, _⟩ => ⟨S4x4096x2048, .f32⟩
  | .hbm, ⟨14, _⟩ => ⟨S4x1x2048, .f32⟩
  | .hbm, ⟨15, _⟩ => ⟨S16384x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S1024x2048, .f32⟩
  | .hbm, ⟨21, _⟩ => ⟨S1024x2048, .f32⟩
  | .hbm, ⟨22, _⟩ => ⟨S1x2048, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S16384x2048, .f32⟩
  | .hbm, ⟨27, _⟩ => ⟨S17408x2048, .f32⟩
  | _, _ => ⟨S17408x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Merge.lean ====
abbrev S17408x2048 : Shape := ⟨2, ![17408, 2048]⟩
abbrev S17408x16384 : Shape := ⟨2, ![17408, 16384]⟩
abbrev S4x2048x2048 : Shape := ⟨3, ![4, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 6
  | .vmem => 16
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S17408x16384, .bf16⟩
  | .hbm, ⟨3, _⟩ => ⟨S4x2048x2048, .f32⟩
  | .hbm, ⟨4, _⟩ => ⟨S4x2048x2048, .f32⟩
  | .hbm, ⟨5, _⟩ => ⟨S17408x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S17408x2048 : Shape := ⟨2, ![17408, 2048]⟩
abbrev S17408x16384 : Shape := ⟨2, ![17408, 16384]⟩
abbrev S4x2048x2048 : Shape := ⟨3, ![4, 2048, 2048]⟩
abbrev S17408x4096 : Shape := ⟨2, ![17408, 4096]⟩
abbrev S1x2048x2048 : Shape := ⟨3, ![1, 2048, 2048]⟩
abbrev S2048x2048 : Shape := ⟨2, ![2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S17408x16384, .bf16⟩
  | .hbm, ⟨3, _⟩ => ⟨S4x2048x2048, .f32⟩
  | .hbm, ⟨4, _⟩ => ⟨S4x2048x2048, .f32⟩
  | .hbm, ⟨5, _⟩ => ⟨S17408x4096, .bf16⟩
  | .hbm, ⟨6, _⟩ => ⟨S17408x4096, .f32⟩
  | .hbm, ⟨7, _⟩ => ⟨S17408x2048, .f32⟩
  | .hbm, ⟨8, _⟩ => ⟨S17408x2048, .f32⟩
  | .hbm, ⟨9, _⟩ => ⟨S17408x2048, .f32⟩
  | .hbm, ⟨10, _⟩ => ⟨S1x2048x2048, .f32⟩
  | .hbm, ⟨11, _⟩ => ⟨S2048x2048, .f32⟩
  | .hbm, ⟨12, _⟩ => ⟨S17408x2048, .f32⟩
  | .hbm, ⟨13, _⟩ => ⟨S17408x2048, .f32⟩
  | .hbm, ⟨14, _⟩ => ⟨S17408x2048, .f32⟩
  | .hbm, ⟨15, _⟩ => ⟨S1x2048x2048, .f32⟩
  | .hbm, ⟨16, _⟩ => ⟨S2048x2048, .f32⟩
  | .hbm, ⟨17, _⟩ => ⟨S17408x2048, .f32⟩
  | .hbm, ⟨18, _⟩ => ⟨S17408x2048, .f32⟩
  | .hbm, ⟨19, _⟩ => ⟨S17408x2048, .f32⟩
  | .hbm, ⟨20, _⟩ => ⟨S17408x2048, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Out.lean ====
abbrev S17408x2048 : Shape := ⟨2, ![17408, 2048]⟩
abbrev S4x2048x2048 : Shape := ⟨3, ![4, 2048, 2048]⟩
abbrev S4x8x12288 : Shape := ⟨3, ![4, 8, 12288]⟩
abbrev S1024x2048 : Shape := ⟨2, ![1024, 2048]⟩
abbrev S1x2048x512 : Shape := ⟨3, ![1, 2048, 512]⟩
abbrev S1024x512 : Shape := ⟨2, ![1024, 512]⟩
abbrev S1x8x512 : Shape := ⟨3, ![1, 8, 512]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S17408x2048, .bf16⟩
  | .hbm, ⟨1, _⟩ => ⟨S4x2048x2048, .f32⟩
  | .hbm, ⟨2, _⟩ => ⟨S17408x2048, .f32⟩
  | .hbm, ⟨3, _⟩ => ⟨S4x8x12288, .f32⟩
  | .hbm, ⟨4, _⟩ => ⟨S17408x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1x8x512, .f32⟩
  | .local _ .vmem, ⟨7, _⟩ => ⟨S1x8x512, .f32⟩
  | .local _ .vmem, ⟨8, _⟩ => ⟨S1024x512, .f32⟩
  | .local _ .vmem, ⟨9, _⟩ => ⟨S1024x512, .f32⟩
  | .local _ .vmem, ⟨10, _⟩ => ⟨S2048x512, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def k0_off1 (i : grid0.Coords) : Fin 3 → Nat :=
  let c0_10 : Index := 0#32
  let arg1 : BitVec 32 := BitVec.ofNat 32 (i 1).val
  let c16_i32 : BitVec 32 := 16#32
  let v6 : BitVec 1 := Scalar.cmpi .sge arg1 c16_i32
  let c4_i32_9 : BitVec 32 := 4#32
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg1 c4_i32
  let c0_i32_8 : BitVec 32 := 0#32
  let v20 : BitVec 1 := Scalar.cmpi .ne v19 c0_i32_8
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let v24 : BitVec 32 := Scalar.select v6 c4_i32_9 v23
  let v25 : Index := Scalar.indexCast v24
  let c0_11 : Index := 0#32
  ![0, v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S17408x2048 : Shape := ⟨2, ![17408, 2048]⟩
abbrev S4x2048x2048 : Shape := ⟨3, ![4, 2048, 2048]⟩
abbrev S4x8x12288 : Shape := ⟨3, ![4, 8, 12288]⟩
abbrev S1x2048x2048 : Shape := ⟨3, ![1, 2048, 2048]⟩
abbrev S2048x2048 : Shape := ⟨2, ![2048, 2048]⟩
abbrev S1x4x2048 : Shape := ⟨3, ![1, 4, 2048]⟩
abbrev S4x2048 : Shape := ⟨2, ![4, 2048]⟩
abbrev S1x1x2048 : Shape := ⟨3, ![1, 1, 2048]⟩
abbrev S2048 : Shape := ⟨1, ![2048]⟩
abbrev S16384x2048 : Shape := ⟨2, ![16384, 2048]⟩
abbrev S4x4096x2048 : Shape := ⟨3, ![4, 4096, 2048]⟩
abbrev S4x1x2048 : Shape := ⟨3, ![4, 1, 2048]⟩
abbrev S1024x2048 : Shape := ⟨2, ![1024, 2048]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S4x2048x2048, .f32⟩
  | .hbm, ⟨2, _⟩ => ⟨S17408x2048, .f32⟩
  | .hbm, ⟨3, _⟩ => ⟨S4x8x12288, .f32⟩
  | .hbm, ⟨4, _⟩ => ⟨S17408x2048, .f32⟩
  | .hbm, ⟨5, _⟩ => ⟨S1x2048x2048, .f32⟩
  | .hbm, ⟨6, _⟩ => ⟨S2048x2048, .f32⟩
  | .hbm, ⟨7, _⟩ => ⟨S17408x2048, .f32⟩
  | .hbm, ⟨8, _⟩ => ⟨S1x4x2048, .f32⟩
  | .hbm, ⟨9, _⟩ => ⟨S4x2048, .f32⟩
  | .hbm, ⟨10, _⟩ => ⟨S1x1x2048, .f32⟩
  | .hbm, ⟨11, _⟩ => ⟨S2048, .f32⟩
  | .hbm, ⟨12, _⟩ => ⟨S16384x2048, .f32⟩
  | .hbm, ⟨13, _⟩ => ⟨S4x4096x2048, .f32⟩
  | .hbm, ⟨14, _⟩ => ⟨S4x1x2048, .f32⟩
  | .hbm, ⟨15, _⟩ => ⟨S16384x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S1024x2048, .f32⟩
  | .hbm, ⟨21, _⟩ => ⟨S1024x2048, .f32⟩
  | .hbm, ⟨22, _⟩ => ⟨S1x2048, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S16384x2048, .f32⟩
  | .hbm, ⟨27, _⟩ => ⟨S17408x2048, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Inproj.lean ====
abbrev S17408x2048 : Shape := ⟨2, ![17408, 2048]⟩
abbrev S4x2048x16384 : Shape := ⟨3, ![4, 2048, 16384]⟩
abbrev S4x128 : Shape := ⟨2, ![4, 128]⟩
abbrev S4x4096 : Shape := ⟨2, ![4, 4096]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1024x128 : Shape := ⟨2, ![1024, 128]⟩
abbrev S5120x128 : Shape := ⟨2, ![5120, 128]⟩
abbrev S4x8x128 : Shape := ⟨3, ![4, 8, 128]⟩
abbrev S1 : Shape := ⟨1, ![1]⟩
abbrev S4x1x4096 : Shape := ⟨3, ![4, 1, 4096]⟩
abbrev S17408x16384 : Shape := ⟨2, ![17408, 16384]⟩
abbrev S1024x2048 : Shape := ⟨2, ![1024, 2048]⟩
abbrev S1x2048x512 : Shape := ⟨3, ![1, 2048, 512]⟩
abbrev S1x8x128 : Shape := ⟨3, ![1, 8, 128]⟩
abbrev S1x1x512 : Shape := ⟨3, ![1, 1, 512]⟩
abbrev S1024x512 : Shape := ⟨2, ![1024, 512]⟩
abbrev S2048x512 : Shape := ⟨2, ![2048, 512]⟩
abbrev S1x1x128 : Shape := ⟨3, ![1, 1, 128]⟩
abbrev S1x128 : Shape := ⟨2, ![1, 128]⟩
abbrev S1024 : Shape := ⟨1, ![1024]⟩
abbrev S1024x1 : Shape := ⟨2, ![1024, 1]⟩
abbrev S1x512 : Shape := ⟨2, ![1, 512]⟩

abbrev nBuf : Space → Nat
  | .hbm => 63
  | .vmem => 14
  | .smem => 0
  | _ => 0

abbrev bufTy : (tb : Table) → Fin (tcTables nBuf tb) → BufTy
  | .hbm, ⟨0, _⟩ => ⟨S17408x2048, .bf16⟩
  | .hbm, ⟨1, _⟩ => ⟨S4x2048x16384, .f32⟩
  | .hbm, ⟨2, _⟩ => ⟨S4x128, .f32⟩
  | .hbm, ⟨3, _⟩ => ⟨S4x128, .f32⟩
  | .hbm, ⟨4, _⟩ => ⟨S4x4096, .f32⟩
  | .hbm, ⟨5, _⟩ => ⟨S64, .i32⟩
  | .hbm, ⟨6, _⟩ => ⟨S64x64, .i32⟩
  | .hbm, ⟨7, _⟩ => ⟨S4096, .i32⟩
  | .hbm, ⟨8, _⟩ => ⟨S4096, .f32⟩
  | .hbm, ⟨9, _⟩ => ⟨S64, .i32⟩
  | .hbm, ⟨10, _⟩ => ⟨S1x64, .i32⟩
  | .hbm, ⟨11, _⟩ => ⟨S64x64, .i32⟩
  | .hbm, ⟨12, _⟩ => ⟨S4096, .i32⟩
  | .hbm, ⟨13, _⟩ => ⟨S4096, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x128, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S4096x128, .f32⟩
  | .hbm, ⟨44, _⟩ => ⟨S_, .f32⟩
  | .hbm, ⟨45, _⟩ => ⟨S1024x128, .f32⟩
  | .hbm, ⟨46, _⟩ => ⟨S5120x128, .f32⟩
  | .hbm, ⟨47, _⟩ => ⟨S_, .f32⟩
  | .hbm, ⟨48, _⟩ => ⟨S1024x128, .f32⟩
  | .hbm, ⟨49, _⟩ => ⟨S5120x128, .f32⟩
  | .hbm, ⟨50, _⟩ => ⟨S_, .f32⟩
  | .hbm, ⟨51, _⟩ => ⟨S4x8x128, .f32⟩
  | .hbm, ⟨52, _⟩ => ⟨S_, .f32⟩
  | .hbm, ⟨53, _⟩ => ⟨S4x128, .f32⟩
  | .hbm, ⟨54, _⟩ => ⟨S4x128, .f32⟩
  | .hbm, ⟨55, _⟩ => ⟨S_, .i32⟩
  | .hbm, ⟨56, _⟩ => ⟨S1, .i32⟩
  | .hbm, ⟨57, _⟩ => ⟨S4x8x128, .f32⟩
  | .hbm, ⟨58, _⟩ => ⟨S_, .i32⟩
  | .hbm, ⟨59, _⟩ => ⟨S1, .i32⟩
  | .hbm, ⟨60, _⟩ => ⟨S4x8x128, .f32⟩
  | .hbm, ⟨61, _⟩ => ⟨S4x1x4096, .f32⟩
  | .hbm, ⟨62, _⟩ => ⟨S17408x16384, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x8x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x1x512, .f32⟩
  | .local _ .vmem, ⟨10, _⟩ => ⟨S1x1x512, .f32⟩
  | .local _ .vmem, ⟨11, _⟩ => ⟨S1024x512, .bf16⟩
  | .local _ .vmem, ⟨12, _⟩ => ⟨S1024x512, .bf16⟩
  | .local _ .vmem, ⟨13, _⟩ => ⟨S2048x512, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_1 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_c : Ref sig .tc := ⟨.hbm, 55, rfl⟩
abbrev main_v44 : Ref sig .tc := ⟨.hbm, 56, rfl⟩
abbrev main_v45 : Ref sig .tc := ⟨.hbm, 57, rfl⟩
abbrev main_c_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 17], ![false, false]⟩

def k0_cond2 (i : grid0.Coords) : BitVec 1 :=
  let arg0 : BitVec 32 := BitVec.ofNat 32 (i 0).val
  let c8_i32 : BitVec 32 := 8#32
  let v6 : BitVec 1 := Scalar.cmpi .slt arg0 c8_i32
  let v7 : BitVec 32 := Scalar.extui v6
  let c0_i32_4 : BitVec 32 := 0#32
  let v8 : BitVec 1 := Scalar.cmpi .ne v7 c0_i32_4
  v8

def k0_off1 (i : grid0.Coords) : Fin 3 → Nat :=
  let c0_14 : Index := 0#32
  let arg0 : BitVec 32 := BitVec.ofNat 32 (i 0).val
  let c0_i32_9 : BitVec 32 := 0#32
  let v18 : BitVec 1 := Scalar.cmpi .sgt arg0 c0_i32_9
  let v19 : BitVec 32 := Scalar.extui v18
  let c0_i32_10 : BitVec 32 := 0#32
  let v20 : BitVec 1 := Scalar.cmpi .slt arg0 c0_i32_10
  let v21 : BitVec 32 := Scalar.extui v20
  let v22 : BitVec 32 := Scalar.subi v19 v21
  let c4_i32 : BitVec 32 := 4#32
  let c0_i32_11 : BitVec 32 := 0#32
  let v23 : BitVec 1 := Scalar.cmpi .sgt c4_i32 c0_i32_11
  let v24 : BitVec 32 := Scalar.extui v23
  let c0_i32_12 : BitVec 32 := 0#32
  let v25 : BitVec 1 := Scalar.cmpi .slt c4_i32 c0_i32_12
  let v26 : BitVec 32 := Scalar.extui v25
  let v27 : BitVec 32 := Scalar.subi v24 v26
  let v28 : BitVec 1 := Scalar.cmpi .ne v22 v27
  let v29 : BitVec 32 := Scalar.remsi arg0 c4_i32
  let c0_i32_13 : BitVec 32 := 0#32
  let v30 : BitVec 1 := Scalar.cmpi .ne v29 c0_i32_13
  let v31 : BitVec 1 := Scalar.andi v28 v30
  let v17 : BitVec 32 := Scalar.divsi arg0 c4_i32
  let c1_i32 : BitVec 32 := 1#32
  let v32 : BitVec 32 := Scalar.subi v17 c1_i32
  let v33 : BitVec 32 := Scalar.select v31 v32 v17
  let v34 : Index := Scalar.indexCast v33
  let c0_15 : Index := 0#32
  ![0, v34.toNat, 0]
def k0_cond3 (i : grid0.Coords) : BitVec 1 :=
  let arg0 : BitVec 32 := BitVec.ofNat 32 (i 0).val
  let c8_i32_5 : BitVec 32 := 8#32
  let v9 : BitVec 1 := Scalar.cmpi .sge arg0 c8_i32_5
  let c24_i32 : BitVec 32 := 24#32
  let v10 : BitVec 1 := Scalar.cmpi .slt arg0 c24_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c24_i32_7 : BitVec 32 := 24#32
  let v14 : BitVec 1 := Scalar.cmpi .sge arg0 c24_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 c4_i32_3 v10
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 c4_i32_3 v10
  let c0_i32_4 : BitVec 32 := 0#32
  let c0_i32_5 : BitVec 32 := 0#32
  ![v11.toNat, c0_i32_4.toNat]

def cc0_transform_5 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.subi arg0 c24_i32
  let c0_i32 : BitVec 32 := 0#32
  let v1 : BitVec 32 := Scalar.maxsi v0 c0_i32
  let c1_i32 : BitVec 32 := 1#32
  let c0_i32_0 : BitVec 32 := 0#32
  let c0_i32_1 : BitVec 32 := 0#32
  ![c1_i32.toNat, c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InprojRefIdeal.lean ====
abbrev S17408x2048 : Shape := ⟨2, ![17408, 2048]⟩
abbrev S4x2048x16384 : Shape := ⟨3, ![4, 2048, 16384]⟩
abbrev S4x128 : Shape := ⟨2, ![4, 128]⟩
abbrev S4x4096 : Shape := ⟨2, ![4, 4096]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x2x32 : Shape := ⟨3, ![4096, 2, 32]⟩
abbrev S1x2048x16384 : Shape := ⟨3, ![1, 2048, 16384]⟩
abbrev S2048x16384 : Shape := ⟨2, ![2048, 16384]⟩
abbrev S17408x16384 : Shape := ⟨2, ![17408, 16384]⟩
abbrev S16384x16384 : Shape := ⟨2, ![16384, 16384]⟩
abbrev S4x4096x16384 : Shape := ⟨3, ![4, 4096, 16384]⟩
abbrev S1024x16384 : Shape := ⟨2, ![1024, 16384]⟩
abbrev S4x4096x2048 : Shape := ⟨3, ![4, 4096, 2048]⟩
abbrev S4x4096x16x128 : Shape := ⟨4, ![4, 4096, 16, 128]⟩
abbrev S1x128 : Shape := ⟨2, ![1, 128]⟩
abbrev S128 : Shape := ⟨1, ![128]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S4x4096x16x2x2x32 : Shape := ⟨6, ![4, 4096, 16, 2, 2, 32]⟩
abbrev S4x4096x16x2x1x32 : Shape := ⟨6, ![4, 4096, 16, 2, 1, 32]⟩
abbrev S4x4096x16x2x32 : Shape := ⟨5, ![4, 4096, 16, 2, 32]⟩
abbrev S1x4096x1x2x32 : Shape := ⟨5, ![1, 4096, 1, 2, 32]⟩
abbrev S1024x2048 : Shape := ⟨2, ![1024, 2048]⟩
abbrev S1024x16x128 : Shape := ⟨3, ![1024, 16, 128]⟩
abbrev S1024x16 : Shape := ⟨2, ![1024, 16]⟩
abbrev S1024x16x1 : Shape := ⟨3, ![1024, 16, 1]⟩
abbrev S1x1x128 : Shape := ⟨3, ![1, 1, 128]⟩
abbrev S16384x2048 : Shape := ⟨2, ![16384, 2048]⟩
abbrev S17408x4096 : Shape := ⟨2, ![17408, 4096]⟩
abbrev S1x4096 : Shape := ⟨2, ![1, 4096]⟩
abbrev S17408x8192 : Shape := ⟨2, ![17408, 8192]⟩

abbrev nBuf : Space → Nat
  | .hbm => 192
  | .vmem => 0
  | .smem => 0
  | _ => 0

abbrev hbmTy0_0 (i : Nat) : BufTy := match i % 128 with
  | 0 => ⟨S17408x2048, .bf16⟩
  | 1 => ⟨S4x2048x16384, .f32⟩
  | 2 => ⟨S4x128, .f32⟩
  | 3 => ⟨S4x128, .f32⟩
  | 4 => ⟨S4x4096, .f32⟩
  | 5 => ⟨S64, .i32⟩
  | 6 => ⟨S64x64, .i32⟩
  | 7 => ⟨S4096, .i32⟩
  | 8 => ⟨S4096, .f32⟩
  | 9 => ⟨S64, .i32⟩
  | 10 => ⟨S1x64, .i32⟩
  | 11 => ⟨S64x64, .i32⟩
  | 12 => ⟨S4096, .i32⟩
  | 13 => ⟨S4096, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4096x1, .f32⟩
  | 23 => ⟨S1x32, .f32⟩
  | 24 => ⟨S4096x32, .f32⟩
  | 25 => ⟨S4096x32, .f32⟩
  | 26 => ⟨S4096x32, .f32⟩
  | 27 => ⟨S4096x1, .f32⟩
  | 28 => ⟨S1x32, .f32⟩
  | 29 => ⟨S4096x32, .f32⟩
  | 30 => ⟨S4096x32, .f32⟩
  | 31 => ⟨S4096x32, .f32⟩
  | 32 => ⟨S4096x1x32, .f32⟩
  | 33 => ⟨S4096x1x32, .f32⟩
  | 34 => ⟨S4096x2x32, .f32⟩
  | 35 => ⟨S4096x2x32, .f32⟩
  | 36 => ⟨S4096x2x32, .f32⟩
  | 37 => ⟨S17408x2048, .f32⟩
  | 38 => ⟨S1x2048x16384, .f32⟩
  | 39 => ⟨S2048x16384, .f32⟩
  | 40 => ⟨S17408x16384, .f32⟩
  | 41 => ⟨S16384x16384, .f32⟩
  | 42 => ⟨S4x4096x16384, .f32⟩
  | 43 => ⟨S1024x16384, .f32⟩
  | 44 => ⟨S4x4096x2048, .f32⟩
  | 45 => ⟨S4x4096x16x128, .f32⟩
  | 46 => ⟨S1x128, .f32⟩
  | 47 => ⟨S128, .f32⟩
  | 48 => ⟨S4x4096x16x128, .f32⟩
  | 49 => ⟨S_, .f32⟩
  | 50 => ⟨S4x4096x16, .f32⟩
  | 51 => ⟨S4x4096x16x1, .f32⟩
  | 52 => ⟨S_, .f32⟩
  | 53 => ⟨S4x4096x16x1, .f32⟩
  | 54 => ⟨S4x4096x16x1, .f32⟩
  | 55 => ⟨S_, .f32⟩
  | 56 => ⟨S4x4096x16x1, .f32⟩
  | 57 => ⟨S4x4096x16x1, .f32⟩
  | 58 => ⟨S4x4096x16x1, .f32⟩
  | 59 => ⟨S4x4096x16x128, .f32⟩
  | 60 => ⟨S4x4096x16x128, .f32⟩
  | 61 => ⟨S1x1x1x128, .f32⟩
  | 62 => ⟨S4x4096x16x128, .f32⟩
  | 63 => ⟨S4x4096x16x128, .f32⟩
  | 64 => ⟨S4x4096x16x2x2x32, .f32⟩
  | 65 => ⟨S4x4096x16x2x1x32, .f32⟩
  | 66 => ⟨S4x4096x16x2x32, .f32⟩
  | 67 => ⟨S4x4096x16x2x1x32, .f32⟩
  | 68 => ⟨S4x4096x16x2x32, .f32⟩
  | 69 => ⟨S1x4096x1x2x32, .f32⟩
  | 70 => ⟨S1x4096x1x2x32, .f32⟩
  | 71 => ⟨S4x4096x16x2x32, .f32⟩
  | 72 => ⟨S4x4096x16x2x32, .f32⟩
  | 73 => ⟨S4x4096x16x2x32, .f32⟩
  | 74 => ⟨S4x4096x16x2x32, .f32⟩
  | 75 => ⟨S4x4096x16x2x32, .f32⟩
  | 76 => ⟨S4x4096x16x2x32, .f32⟩
  | 77 => ⟨S4x4096x16x2x32, .f32⟩
  | 78 => ⟨S4x4096x16x2x32, .f32⟩
  | 79 => ⟨S4x4096x16x2x32, .f32⟩
  | 80 => ⟨S4x4096x16x2x32, .f32⟩
  | 81 => ⟨S4x4096x16x2x1x32, .f32⟩
  | 82 => ⟨S4x4096x16x2x1x32, .f32⟩
  | 83 => ⟨S4x4096x16x2x2x32, .f32⟩
  | 84 => ⟨S4x4096x16x128, .f32⟩
  | 85 => ⟨S4x4096x2048, .f32⟩
  | 86 => ⟨S4x4096x16x128, .f32⟩
  | 87 => ⟨S1x128, .f32⟩
  | 88 => ⟨S128, .f32⟩
  | 89 => ⟨S4x4096x16x128, .f32⟩
  | 90 => ⟨S_, .f32⟩
  | 91 => ⟨S4x4096x16, .f32⟩
  | 92 => ⟨S4x4096x16x1, .f32⟩
  | 93 => ⟨S_, .f32⟩
  | 94 => ⟨S4x4096x16x1, .f32⟩
  | 95 => ⟨S4x4096x16x1, .f32⟩
  | 96 => ⟨S_, .f32⟩
  | 97 => ⟨S4x4096x16x1, .f32⟩
  | 98 => ⟨S4x4096x16x1, .f32⟩
  | 99 => ⟨S4x4096x16x1, .f32⟩
  | 100 => ⟨S4x4096x16x128, .f32⟩
  | 101 => ⟨S4x4096x16x128, .f32⟩
  | 102 => ⟨S1x1x1x128, .f32⟩
  | 103 => ⟨S4x4096x16x128, .f32⟩
  | 104 => ⟨S4x4096x16x128, .f32⟩
  | 105 => ⟨S4x4096x16x2x2x32, .f32⟩
  | 106 => ⟨S4x4096x16x2x1x32, .f32⟩
  | 107 => ⟨S4x4096x16x2x32, .f32⟩
  | 108 => ⟨S4x4096x16x2x1x32, .f32⟩
  | 109 => ⟨S4x4096x16x2x32, .f32⟩
  | 110 => ⟨S1x4096x1x2x32, .f32⟩
  | 111 => ⟨S1x4096x1x2x32, .f32⟩
  | 112 => ⟨S4x4096x16x2x32, .f32⟩
  | 113 => ⟨S4x4096x16x2x32, .f32⟩
  | 114 => ⟨S4x4096x16x2x32, .f32⟩
  | 115 => ⟨S4x4096x16x2x32, .f32⟩
  | 116 => ⟨S4x4096x16x2x32, .f32⟩
  | 117 => ⟨S4x4096x16x2x32, .f32⟩
  | 118 => ⟨S4x4096x16x2x32, .f32⟩
  | 119 => ⟨S4x4096x16x2x32, .f32⟩
  | 120 => ⟨S4x4096x16x2x32, .f32⟩
  | 121 => ⟨S4x4096x16x2x32, .f32⟩
  | 122 => ⟨S4x4096x16x2x1x32, .f32⟩
  | 123 => ⟨S4x4096x16x2x1x32, .f32⟩
  | 124 => ⟨S4x4096x16x2x2x32, .f32⟩
  | 125 => ⟨S4x4096x16x128, .f32⟩
  | 126 => ⟨S1024x2048, .f32⟩
  | 127 => ⟨S1024x16x128, .f32⟩
  | _ => ⟨S17408x2048, .bf16⟩

abbrev hbmTy0_1 (i : Nat) : BufTy := match i % 128 with
  | 0 => ⟨S1x128, .f32⟩
  | 1 => ⟨S128, .f32⟩
  | 2 => ⟨S1024x16x128, .f32⟩
  | 3 => ⟨S_, .f32⟩
  | 4 => ⟨S1024x16, .f32⟩
  | 5 => ⟨S1024x16x1, .f32⟩
  | 6 => ⟨S_, .f32⟩
  | 7 => ⟨S1024x16x1, .f32⟩
  | 8 => ⟨S1024x16x1, .f32⟩
  | 9 => ⟨S_, .f32⟩
  | 10 => ⟨S1024x16x1, .f32⟩
  | 11 => ⟨S1024x16x1, .f32⟩
  | 12 => ⟨S1024x16x1, .f32⟩
  | 13 => ⟨S1024x16x128, .f32⟩
  | 14 => ⟨S1024x16x128, .f32⟩
  | 15 => ⟨S1x1x128, .f32⟩
  | 16 => ⟨S1024x16x128, .f32⟩
  | 17 => ⟨S1024x16x128, .f32⟩
  | 18 => ⟨S1024x2048, .f32⟩
  | 19 => ⟨S1024x16x128, .f32⟩
  | 20 => ⟨S1x128, .f32⟩
  | 21 => ⟨S128, .f32⟩
  | 22 => ⟨S1024x16x128, .f32⟩
  | 23 => ⟨S_, .f32⟩
  | 24 => ⟨S1024x16, .f32⟩
  | 25 => ⟨S1024x16x1, .f32⟩
  | 26 => ⟨S_, .f32⟩
  | 27 => ⟨S1024x16x1, .f32⟩
  | 28 => ⟨S1024x16x1, .f32⟩
  | 29 => ⟨S_, .f32⟩
  | 30 => ⟨S1024x16x1, .f32⟩
  | 31 => ⟨S1024x16x1, .f32⟩
  | 32 => ⟨S1024x16x1, .f32⟩
  | 33 => ⟨S1024x16x128, .f32⟩
  | 34 => ⟨S1024x16x128, .f32⟩
  | 35 => ⟨S1x1x128, .f32⟩
  | 36 => ⟨S1024x16x128, .f32⟩
  | 37 => ⟨S1024x16x128, .f32⟩
  | 38 => ⟨S16384x2048, .f32⟩
  | 39 => ⟨S1024x2048, .f32⟩
  | 40 => ⟨S17408x2048, .f32⟩
  | 41 => ⟨S_, .f32⟩
  | 42 => ⟨S17408x2048, .f32⟩
  | 43 => ⟨S17408x2048, .f32⟩
  | 44 => ⟨S16384x2048, .f32⟩
  | 45 => ⟨S1024x2048, .f32⟩
  | 46 => ⟨S17408x2048, .f32⟩
  | 47 => ⟨S17408x4096, .f32⟩
  | 48 => ⟨S1x4096, .f32⟩
  | 49 => ⟨S4096, .f32⟩
  | 50 => ⟨S1x4096, .f32⟩
  | 51 => ⟨S17408x4096, .f32⟩
  | 52 => ⟨S17408x4096, .f32⟩
  | 53 => ⟨S17408x4096, .f32⟩
  | 54 => ⟨S17408x4096, .f32⟩
  | 55 => ⟨S_, .f32⟩
  | 56 => ⟨S17408x4096, .f32⟩
  | 57 => ⟨S17408x4096, .f32⟩
  | 58 => ⟨S_, .f32⟩
  | 59 => ⟨S17408x4096, .f32⟩
  | 60 => ⟨S17408x4096, .f32⟩
  | 61 => ⟨S17408x8192, .f32⟩
  | 62 => ⟨S17408x16384, .f32⟩
  | 63 => ⟨S17408x16384, .bf16⟩
  | _ => ⟨S17408x2048, .bf16⟩

abbrev hbmTy (i : Nat) : BufTy := match i / 128 with
  | 0 => hbmTy0_0 i
  | 1 => hbmTy0_1 i
  | _ => ⟨S17408x2048, .bf16⟩

abbrev bufTy : (tb : Table) → Fin (tcTables nBuf tb) → BufTy
  | .hbm, ⟨i, _⟩ => hbmTy i
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_1 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_4 : Ref sig .tc := ⟨.hbm, 90, rfl⟩
abbrev main_v80 : Ref sig .tc := ⟨.hbm, 91, rfl⟩
abbrev main_v81 : Ref sig .tc := ⟨.hbm, 92, rfl⟩
abbrev main_cst_5 : Ref sig .tc := ⟨.hbm, 93, rfl⟩
abbrev main_v82 : Ref sig .tc := ⟨.hbm, 94, rfl⟩
abbrev main_v83 : Ref sig .tc := ⟨.hbm, 95, rfl⟩
abbrev main_cst_6 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_cst_7 : Ref sig .tc := ⟨.hbm, 131, rfl⟩
abbrev main_v118 : Ref sig .tc := ⟨.hbm, 132, rfl⟩
abbrev main_v119 : Ref sig .tc := ⟨.hbm, 133, rfl⟩
abbrev main_cst_8 : Ref sig .tc := ⟨.hbm, 134, rfl⟩
abbrev main_v120 : Ref sig .tc := ⟨.hbm, 135, rfl⟩
abbrev main_v121 : Ref sig .tc := ⟨.hbm, 136, rfl⟩
abbrev main_cst_9 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_cst_10 : Ref sig .tc := ⟨.hbm, 151, rfl⟩
abbrev main_v135 : Ref sig .tc := ⟨.hbm, 152, rfl⟩
abbrev main_v136 : Ref sig .tc := ⟨.hbm, 153, rfl⟩
abbrev main_cst_11 : Ref sig .tc := ⟨.hbm, 154, rfl⟩
abbrev main_v137 : Ref sig .tc := ⟨.hbm, 155, rfl⟩
abbrev main_v138 : Ref sig .tc := ⟨.hbm, 156, rfl⟩
abbrev main_cst_12 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_cst_13 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_cst_14 : Ref sig .tc := ⟨.hbm, 183, rfl⟩
abbrev main_v163 : Ref sig .tc := ⟨.hbm, 184, rfl⟩
abbrev main_v164 : Ref sig .tc := ⟨.hbm, 185, rfl⟩
abbrev main_cst_15 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩

abbrev nD : Nat := 1
abbrev τ : Topo := Topo.v7x

variable {F : FTy → Type} [FloatOps F]
-- ==== Adaln.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1536 : Shape := ⟨3, ![1, 2048, 1536]⟩
abbrev S1x1x1536 : Shape := ⟨3, ![1, 1, 1536]⟩
abbrev S1x8x1536 : Shape := ⟨3, ![1, 8, 1536]⟩
abbrev S2048x1536 : Shape := ⟨2, ![2048, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .local _ .vmem, ⟨0, _⟩ => ⟨S8x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnRefIdeal.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S4x12288x4 : Shape := ⟨3, ![4, 12288, 4]⟩
abbrev S4x4x12288 : Shape := ⟨3, ![4, 4, 12288]⟩
abbrev S4x1x12288 : Shape := ⟨3, ![4, 1, 12288]⟩
abbrev S4x3x12288 : Shape := ⟨3, ![4, 3, 12288]⟩
abbrev S4x8x12288 : Shape := ⟨3, ![4, 8, 12288]⟩

abbrev nBuf : Space → Nat
  | .hbm => 33
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x12288x4, .f32⟩
  | .hbm, ⟨14, _⟩ => ⟨S4x4x12288, .f32⟩
  | .hbm, ⟨15, _⟩ => ⟨S4x1x12288, .f32⟩
  | .hbm, ⟨16, _⟩ => ⟨S4x4x12288, .f32⟩
  | .hbm, ⟨17, _⟩ => ⟨S4x4x12288, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S4x12288, .f32⟩
  | .hbm, ⟨28, _⟩ => ⟨S4x12288, .f32⟩
  | .hbm, ⟨29, _⟩ => ⟨S4x1x12288, .f32⟩
  | .hbm, ⟨30, _⟩ => ⟨S4x3x12288, .f32⟩
  | .hbm, ⟨31, _⟩ => ⟨S4x1x12288, .f32⟩
  | .hbm, ⟨32, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Norm.lean ====
abbrev S17408x2048 : Shape := ⟨2, ![17408, 2048]⟩
abbrev S4x2048 : Shape := ⟨2, ![4, 2048]⟩
abbrev S4x8x12288 : Shape := ⟨3, ![4, 8, 12288]⟩
abbrev S4x1x2048 : Shape := ⟨3, ![4, 1, 2048]⟩
abbrev S256x2048 : Shape := ⟨2, ![256, 2048]⟩
abbrev S1x1x2048 : Shape := ⟨3, ![1, 1, 2048]⟩
abbrev S1x8x2048 : Shape := ⟨3, ![1, 8, 2048]⟩
abbrev S256 : Shape := ⟨1, ![256]⟩
abbrev S256x1 : Shape := ⟨2, ![256, 1]⟩
abbrev S1x2048 : Shape := ⟨2, ![1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S17408x2048, .f32⟩
  | .hbm, ⟨1, _⟩ => ⟨S4x2048, .f32⟩
  | .hbm, ⟨2, _⟩ => ⟨S4x8x12288, .f32⟩
  | .hbm, ⟨3, _⟩ => ⟨S4x1x2048, .f32⟩
  | .hbm, ⟨4, _⟩ => ⟨S17408x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x8x2048, .f32⟩
  | .local _ .vmem, ⟨4, _⟩ => ⟨S1x8x2048, .f32⟩
  | .local _ .vmem, ⟨5, _⟩ => ⟨S256x2048, .bf16⟩
  | .local _ .vmem, ⟨6, _⟩ => ⟨S256x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![68], ![false]⟩

def k0_off1 (i : grid0.Coords) : Fin 3 → Nat :=
  let c0_10 : Index := 0#32
  let arg0 : BitVec 32 := BitVec.ofNat 32 (i 0).val
  let c64_i32 : BitVec 32 := 64#32
  let v0 : BitVec 1 := Scalar.cmpi .sge arg0 c64_i32
  let c4_i32 : BitVec 32 := 4#32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let v1 : BitVec 32 := Scalar.divsi arg0 c16_i32
  let c1_i32 : BitVec 32 := 1#32
  let v16 : BitVec 32 := Scalar.subi v1 c1_i32
  let v17 : BitVec 32 := Scalar.select v15 v16 v1
  let v18 : BitVec 32 := Scalar.select v0 c4_i32 v17
  let v34 : Index := Scalar.indexCast v18
  let c0_11 : Index := 0#32
  ![0, v34.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S17408x2048 : Shape := ⟨2, ![17408, 2048]⟩
abbrev S4x2048 : Shape := ⟨2, ![4, 2048]⟩
abbrev S4x8x12288 : Shape := ⟨3, ![4, 8, 12288]⟩
abbrev S1x4x2048 : Shape := ⟨3, ![1, 4, 2048]⟩
abbrev S1x1x2048 : Shape := ⟨3, ![1, 1, 2048]⟩
abbrev S2048 : Shape := ⟨1, ![2048]⟩
abbrev S16384x2048 : Shape := ⟨2, ![16384, 2048]⟩
abbrev S4x4096x2048 : Shape := ⟨3, ![4, 4096, 2048]⟩
abbrev S1x2048 : Shape := ⟨2, ![1, 2048]⟩
abbrev S_ : Shape := ⟨0, ![]⟩
abbrev S4x4096 : Shape := ⟨2, ![4, 4096]⟩
abbrev S4x4096x1 : Shape := ⟨3, ![4, 4096, 1]⟩
abbrev S4x1x2048 : Shape := ⟨3, ![4, 1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 71
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S4x2048, .f32⟩
  | .hbm, ⟨2, _⟩ => ⟨S4x8x12288, .f32⟩
  | .hbm, ⟨3, _⟩ => ⟨S1x4x2048, .f32⟩
  | .hbm, ⟨4, _⟩ => ⟨S4x2048, .f32⟩
  | .hbm, ⟨5, _⟩ => ⟨S1x4x2048, .f32⟩
  | .hbm, ⟨6, _⟩ => ⟨S4x2048, .f32⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S16384x2048, .f32⟩
  | .hbm, ⟨12, _⟩ => ⟨S4x4096x2048, .f32⟩
  | .hbm, ⟨13, _⟩ => ⟨S1x2048, .f32⟩
  | .hbm, ⟨14, _⟩ => ⟨S2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S4x1x2048, .f32⟩
  | .hbm, ⟨32, _⟩ => ⟨S4x1x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S1024x2048, .f32⟩
  | .hbm, ⟨41, _⟩ => ⟨S1x2048, .f32⟩
  | .hbm, ⟨42, _⟩ => ⟨S2048, .f32⟩
  | .hbm, ⟨43, _⟩ => ⟨S1024x2048, .f32⟩
  | .hbm, ⟨44, _⟩ => ⟨S_, .f32⟩
  | .hbm, ⟨45, _⟩ => ⟨S1024, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S_, .f32⟩
  | .hbm, ⟨51, _⟩ => ⟨S1024x1, .f32⟩
  | .hbm, ⟨52, _⟩ => ⟨S1024x1, .f32⟩
  | .hbm, ⟨53, _⟩ => ⟨S1024x1, .f32⟩
  | .hbm, ⟨54, _⟩ => ⟨S1024x2048, .f32⟩
  | .hbm, ⟨55, _⟩ => ⟨S1024x2048, .f32⟩
  | .hbm, ⟨56, _⟩ => ⟨S1x2048, .f32⟩
  | .hbm, ⟨57, _⟩ => ⟨S1024x2048, .f32⟩
  | .hbm, ⟨58, _⟩ => ⟨S1024x2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S1x2048, .f32⟩
  | .hbm, ⟨63, _⟩ => ⟨S1024x2048, .f32⟩
  | .hbm, ⟨64, _⟩ => ⟨S1024x2048, .f32⟩
  | .hbm, ⟨65, _⟩ => ⟨S1x2048, .f32⟩
  | .hbm, ⟨66, _⟩ => ⟨S1024x2048, .f32⟩
  | .hbm, ⟨67, _⟩ => ⟨S1024x2048, .f32⟩
  | .hbm, ⟨68, _⟩ => ⟨S16384x2048, .f32⟩
  | .hbm, ⟨69, _⟩ => ⟨S17408x2048, .f32⟩
  | .hbm, ⟨70, _⟩ => ⟨S17408x2048, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]
-- ==== Rnorm.lean ====
abbrev S17408x2048 : Shape := ⟨2, ![17408, 2048]⟩
abbrev S4x2048 : Shape := ⟨2, ![4, 2048]⟩
abbrev S4x8x12288 : Shape := ⟨3, ![4, 8, 12288]⟩
abbrev S2x2048x8 : Shape := ⟨3, ![2, 2048, 8]⟩
abbrev S_ : Shape := ⟨0, ![]⟩
abbrev S2x2048x128 : Shape := ⟨3, ![2, 2048, 128]⟩
abbrev S1 : Shape := ⟨1, ![1]⟩
abbrev S1x2048x128 : Shape := ⟨3, ![1, 2048, 128]⟩
abbrev S2048x128 : Shape := ⟨2, ![2048, 128]⟩
abbrev S4x1x2048 : Shape := ⟨3, ![4, 1, 2048]⟩
abbrev S17408x128 : Shape := ⟨2, ![17408, 128]⟩
abbrev S256x2048 : Shape := ⟨2, ![256, 2048]⟩
abbrev S1x1x2048 : Shape := ⟨3, ![1, 1, 2048]⟩
abbrev S1x8x2048 : Shape := ⟨3, ![1, 8, 2048]⟩
abbrev S256x128 : Shape := ⟨2, ![256, 128]⟩
abbrev S256 : Shape := ⟨1, ![256]⟩
abbrev S256x1 : Shape := ⟨2, ![256, 1]⟩
abbrev S1x2048 : Shape := ⟨2, ![1, 2048]⟩

abbrev nBuf : Space → Nat
  | .hbm => 14
  | .vmem => 10
  | .smem => 0
  | _ => 0

abbrev bufTy : (tb : Table) → Fin (tcTables nBuf tb) → BufTy
  | .hbm, ⟨0, _⟩ => ⟨S17408x2048, .f32⟩
  | .hbm, ⟨1, _⟩ => ⟨S4x2048, .f32⟩
  | .hbm, ⟨2, _⟩ => ⟨S4x8x12288, .f32⟩
  | .hbm, ⟨3, _⟩ => ⟨S2x2048x8, .f32⟩
  | .hbm, ⟨4, _⟩ => ⟨S_, .f32⟩
  | .hbm, ⟨5, _⟩ => ⟨S2x2048x128, .f32⟩
  | .hbm, ⟨6, _⟩ => ⟨S_, .i32⟩
  | .hbm, ⟨7, _⟩ => ⟨S1, .i32⟩
  | .hbm, ⟨8, _⟩ => ⟨S2x2048x128, .f32⟩
  | .hbm, ⟨9, _⟩ => ⟨S1x2048x128, .f32⟩
  | .hbm, ⟨10, _⟩ => ⟨S2048x128, .f32⟩
  | .hbm, ⟨11, _⟩ => ⟨S4x1x2048, .f32⟩
  | .hbm, ⟨12, _⟩ => ⟨S17408x2048, .bf16⟩
  | .hbm, ⟨13, _⟩ => ⟨S17408x128, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x8x2048, .f32⟩
  | .local _ .vmem, ⟨4, _⟩ => ⟨S1x8x2048, .f32⟩
  | .local _ .vmem, ⟨5, _⟩ => ⟨S2048x128, .f32⟩
  | .local _ .vmem, ⟨6, _⟩ => ⟨S256x2048, .bf16⟩
  | .local _ .vmem, ⟨7, _⟩ => ⟨S256x2048, .bf16⟩
  | .local _ .vmem, ⟨8, _⟩ => ⟨S256x128, .f32⟩
  | .local _ .vmem, ⟨9, _⟩ => ⟨S256x128, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![68], ![false]⟩

def k0_off1 (i : grid0.Coords) : Fin 3 → Nat :=
  let c0_10 : Index := 0#32
  let arg0 : BitVec 32 := BitVec.ofNat 32 (i 0).val
  let c64_i32 : BitVec 32 := 64#32
  let v0 : BitVec 1 := Scalar.cmpi .sge arg0 c64_i32
  let c4_i32 : BitVec 32 := 4#32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let v1 : BitVec 32 := Scalar.divsi arg0 c16_i32
  let c1_i32 : BitVec 32 := 1#32
  let v16 : BitVec 32 := Scalar.subi v1 c1_i32
  let v17 : BitVec 32 := Scalar.select v15 v16 v1
  let v18 : BitVec 32 := Scalar.select v0 c4_i32 v17
  let v34 : Index := Scalar.indexCast v18
  let c0_11 : Index := 0#32
  ![0, v34.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c3_i32 : BitVec 32 := 3#32
  let c0_i32_0 : BitVec 32 := 0#32
  ![c1_i32.toNat, c0_i32.toNat, c3_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c4_i32 : BitVec 32 := 4#32
  let c0_i32_0 : BitVec 32 := 0#32
  ![c1_i32.toNat, c0_i32.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RnormRefIdeal.lean ====
abbrev S17408x2048 : Shape := ⟨2, ![17408, 2048]⟩
abbrev S4x2048 : Shape := ⟨2, ![4, 2048]⟩
abbrev S4x8x12288 : Shape := ⟨3, ![4, 8, 12288]⟩
abbrev S2x2048x8 : Shape := ⟨3, ![2, 2048, 8]⟩
abbrev S1x4x2048 : Shape := ⟨3, ![1, 4, 2048]⟩
abbrev S1x1x2048 : Shape := ⟨3, ![1, 1, 2048]⟩
abbrev S2048 : Shape := ⟨1, ![2048]⟩
abbrev S16384x2048 : Shape := ⟨2, ![16384, 2048]⟩
abbrev S4x4096x2048 : Shape := ⟨3, ![4, 4096, 2048]⟩
abbrev S1x2048 : Shape := ⟨2, ![1, 2048]⟩
abbrev S_ : Shape := ⟨0, ![]⟩
abbrev S4x4096 : Shape := ⟨2, ![4, 4096]⟩
abbrev S4x4096x1 : Shape := ⟨3, ![4, 4096, 1]⟩
abbrev S4x1x2048 : Shape := ⟨3, ![4, 1, 2048]⟩
abbrev S1024x2048 : Shape := ⟨2, ![1024, 2048]⟩
abbrev S1024 : Shape := ⟨1, ![1024]⟩
abbrev S1024x1 : Shape := ⟨2, ![1024, 1]⟩
abbrev S1x2048x8 : Shape := ⟨3, ![1, 2048, 8]⟩
abbrev S2048x8 : Shape := ⟨2, ![2048, 8]⟩
abbrev S17408x8 : Shape := ⟨2, ![17408, 8]⟩
abbrev S17408x120 : Shape := ⟨2, ![17408, 120]⟩
abbrev S17408x128 : Shape := ⟨2, ![17408, 128]⟩

abbrev nBuf : Space → Nat
  | .hbm => 78
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S4x2048, .f32⟩
  | .hbm, ⟨2, _⟩ => ⟨S4x8x12288, .f32⟩
  | .hbm, ⟨3, _⟩ => ⟨S2x2048x8, .f32⟩
  | .hbm, ⟨4, _⟩ => ⟨S1x4x2048, .f32⟩
  | .hbm, ⟨5, _⟩ => ⟨S4x2048, .f32⟩
  | .hbm, ⟨6, _⟩ => ⟨S1x4x2048, .f32⟩
  | .hbm, ⟨7, _⟩ => ⟨S4x2048, .f32⟩
  | .hbm, ⟨8, _⟩ => ⟨S1x1x2048, .f32⟩
  | .hbm, ⟨9, _⟩ => ⟨S2048, .f32⟩
  | .hbm, ⟨10, _⟩ => ⟨S1x1x2048, .f32⟩
  | .hbm, ⟨11, _⟩ => ⟨S2048, .f32⟩
  | .hbm, ⟨12, _⟩ => ⟨S16384x2048, .f32⟩
  | .hbm, ⟨13, _⟩ => ⟨S4x4096x2048, .f32⟩
  | .hbm, ⟨14, _⟩ => ⟨S1x2048, .f32⟩
  | .hbm, ⟨15, _⟩ => ⟨S2048, .f32⟩
  | .hbm, ⟨16, _⟩ => ⟨S4x4096x2048, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x2048, .f32⟩
  | .hbm, ⟨28, _⟩ => ⟨S4x4096x2048, .f32⟩
  | .hbm, ⟨29, _⟩ => ⟨S1x1x2048, .f32⟩
  | .hbm, ⟨30, _⟩ => ⟨S4x4096x2048, .f32⟩
  | .hbm, ⟨31, _⟩ => ⟨S4x4096x2048, .f32⟩
  | .hbm, ⟨32, _⟩ => ⟨S4x1x2048, .f32⟩
  | .hbm, ⟨33, _⟩ => ⟨S4x1x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S1024x2048, .f32⟩
  | .hbm, ⟨42, _⟩ => ⟨S1x2048, .f32⟩
  | .hbm, ⟨43, _⟩ => ⟨S2048, .f32⟩
  | .hbm, ⟨44, _⟩ => ⟨S1024x2048, .f32⟩
  | .hbm, ⟨45, _⟩ => ⟨S_, .f32⟩
  | .hbm, ⟨46, _⟩ => ⟨S1024, .f32⟩
  | .hbm, ⟨47, _⟩ => ⟨S1024x1, .f32⟩
  | .hbm, ⟨48, _⟩ => ⟨S_, .f32⟩
  | .hbm, ⟨49, _⟩ => ⟨S1024x1, .f32⟩
  | .hbm, ⟨50, _⟩ => ⟨S1024x1, .f32⟩
  | .hbm, ⟨51, _⟩ => ⟨S_, .f32⟩
  | .hbm, ⟨52, _⟩ => ⟨S1024x1, .f32⟩
  | .hbm, ⟨53, _⟩ => ⟨S1024x1, .f32⟩
  | .hbm, ⟨54, _⟩ => ⟨S1024x1, .f32⟩
  | .hbm, ⟨55, _⟩ => ⟨S1024x2048, .f32⟩
  | .hbm, ⟨56, _⟩ => ⟨S1024x2048, .f32⟩
  | .hbm, ⟨57, _⟩ => ⟨S1x2048, .f32⟩
  | .hbm, ⟨58, _⟩ => ⟨S1024x2048, .f32⟩
  | .hbm, ⟨59, _⟩ => ⟨S1024x2048, .f32⟩
  | .hbm, ⟨60, _⟩ => ⟨S_, .f32⟩
  | .hbm, ⟨61, _⟩ => ⟨S2048, .f32⟩
  | .hbm, ⟨62, _⟩ => ⟨S2048, .f32⟩
  | .hbm, ⟨63, _⟩ => ⟨S1x2048, .f32⟩
  | .hbm, ⟨64, _⟩ => ⟨S1024x2048, .f32⟩
  | .hbm, ⟨65, _⟩ => ⟨S1024x2048, .f32⟩
  | .hbm, ⟨66, _⟩ => ⟨S1x2048, .f32⟩
  | .hbm, ⟨67, _⟩ => ⟨S1024x2048, .f32⟩
  | .hbm, ⟨68, _⟩ => ⟨S1024x2048, .f32⟩
  | .hbm, ⟨69, _⟩ => ⟨S16384x2048, .f32⟩
  | .hbm, ⟨70, _⟩ => ⟨S17408x2048, .f32⟩
  | .hbm, ⟨71, _⟩ => ⟨S1x2048x8, .f32⟩
  | .hbm, ⟨72, _⟩ => ⟨S2048x8, .f32⟩
  | .hbm, ⟨73, _⟩ => ⟨S17408x8, .f32⟩
  | .hbm, ⟨74, _⟩ => ⟨S17408x2048, .bf16⟩
  | .hbm, ⟨75, _⟩ => ⟨S_, .f32⟩
  | .hbm, ⟨76, _⟩ => ⟨S17408x120, .f32⟩
  | .hbm, ⟨77, _⟩ => ⟨S17408x128, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_v63 : Ref sig .tc := ⟨.hbm, 76, rfl⟩
abbrev main_v64 : Ref sig .tc := ⟨.hbm, 77, rfl⟩

abbrev nD : Nat := 1
abbrev τ : Topo := Topo.v7x

variable {F : FTy → Type} [FloatOps F]
-- ==== Proof.Softmax.lean ====
module
public import Idealize.ShloMosaic.Lib.Pointwise

/-!
# Softmax-weighted averages over the reals

The weighted average `(∑ exp (s k) v k) / ∑ exp (s k)` does not change when a constant is taken from
every score, so it does not matter which maximum a program subtracts, nor whether it divides each weight
or the whole sum. Here the averages are stated over the extended reals, at real scores and values, as
the two programs spell them.
-/

@[expose] public section

noncomputable section

open Idealize.ShloMosaic

namespace Cert.Softmax

/-- The average of `v` weighted by the exponentials of the scores `s`. -/
def avg {n : ℕ} (s v : Fin n → ℝ) : ℝ := (∑ k, Real.exp (s k) * v k) / ∑ k, Real.exp (s k)

/-- A finite sum of reals, read in the extended reals. -/
theorem coe_sum {ι : Type} [DecidableEq ι] (S : Finset ι) (f : ι → ℝ) :
    (∑ k ∈ S, ((f k : ℝ) : EReal)) = ((∑ k ∈ S, f k : ℝ) : EReal) := by
  induction S using Finset.induction_on with
  | empty => simp
  | insert a S h ih => rw [Finset.sum_insert h, Finset.sum_insert h, ih, EReal.coe_add]

/-- The exponential of a difference of reals. -/
theorem exp_sub_coe (a b : ℝ) : Ideal.exp ((a : EReal) - (b : EReal)) = ((Real.exp (a - b) : ℝ) : EReal) := by
  rw [← EReal.coe_sub, Ideal.exp_coe]

/-- Division of a real by a nonzero real. -/
theorem div_coe_coe (a b : ℝ) (h : b ≠ 0) : Ideal.div (a : EReal) (b : EReal) = ((a / b : ℝ) : EReal) := by
  rw [Ideal.div_coe h, ← EReal.coe_mul, mul_one_div]

/-- The maximum of finitely many reals over a start that is not `⊤` is not `⊤`. -/
theorem fold_max_ne_top {ι : Type} [DecidableEq ι] (S : Finset ι) (init : EReal) (hi : init ≠ ⊤) (f : ι → EReal)
    (hf : ∀ k, f k ≠ ⊤) : S.fold max init f ≠ ⊤ := by
  induction S using Finset.induction_on with
  | empty => simpa using hi
  | insert a S h ih =>
    rw [Finset.fold_insert h]
    rcases max_choice (f a) (S.fold max init f) with e | e
    · rw [e]; exact hf a
    · rw [e]; exact ih

/-- The maximum of a family that has an element above `⊥` is above `⊥`. -/
theorem fold_max_ne_bot {ι : Type} [DecidableEq ι] (S : Finset ι) (init : EReal) (f : ι → EReal) (a : ι) (ha : a ∈ S)
    (hf : f a ≠ ⊥) : S.fold max init f ≠ ⊥ := by
  intro e
  have h : f a ≤ S.fold max init f := (Finset.le_fold_max (f a)).2 (.inr ⟨a, ha, le_rfl⟩)
  rw [e] at h
  exact hf (le_bot_iff.1 h)

/-- The maximum of a nonempty family of reals over a start that is not `⊤` is a real. -/
theorem fold_max_real {n : ℕ} (init : EReal) (hi : init ≠ ⊤) (f : Fin (n + 1) → EReal) (s : Fin (n + 1) → ℝ)
    (hs : ∀ k, f k = (s k : EReal)) :
    ∃ M : ℝ, (Finset.univ : Finset (Fin (n + 1))).fold max init f = (M : EReal) := by
  refine ⟨_, (EReal.coe_toReal ?_ ?_).symm⟩
  · exact fold_max_ne_top _ init hi f fun k => by rw [hs k]; exact EReal.coe_ne_top _
  · exact fold_max_ne_bot _ init f 0 (Finset.mem_univ _) (by rw [hs 0]; exact EReal.coe_ne_bot _)

/-- The sum of the exponentials of reals is positive. -/
theorem expsum_pos {n : ℕ} (s : Fin (n + 1) → ℝ) : 0 < ∑ k, Real.exp (s k) :=
  Finset.sum_pos (fun k _ => Real.exp_pos _) ⟨0, Finset.mem_univ _⟩

/-- The average of shifted scores is the average. -/
theorem avg_shift {n : ℕ} (s v : Fin n → ℝ) (M : ℝ) :
    (∑ k, Real.exp (s k - M) * v k) / (∑ k, Real.exp (s k - M)) = avg s v := by
  have e1 : (∑ k, Real.exp (s k - M) * v k) = (∑ k, Real.exp (s k) * v k) * Real.exp (-M) := by
    rw [Finset.sum_mul]
    exact Finset.sum_congr rfl fun k _ => by rw [sub_eq_add_neg, Real.exp_add]; ring
  have e2 : (∑ k, Real.exp (s k - M)) = (∑ k, Real.exp (s k)) * Real.exp (-M) := by
    rw [Finset.sum_mul]
    exact Finset.sum_congr rfl fun k _ => by rw [sub_eq_add_neg, Real.exp_add]
  rw [e1, e2, mul_div_mul_right _ _ (Real.exp_ne_zero _)]
  rfl

/-- The kernel's form: the scores come in two pieces, the weights are summed against the values piece by
    piece, and the whole is divided once. -/
theorem pieces (s v : Fin 4352 → ℝ) (M : ℝ) (sc vc : Fin 256 → EReal) (sl vl : Fin 4096 → EReal)
    (hsc : ∀ k, sc k = (s ⟨k.val, by omega⟩ : EReal)) (hvc : ∀ k, vc k = (v ⟨k.val, by omega⟩ : EReal))
    (hsl : ∀ k, sl k = (s ⟨256 + k.val, by omega⟩ : EReal)) (hvl : ∀ k, vl k = (v ⟨256 + k.val, by omega⟩ : EReal)) :
    Ideal.div ((∑ k, Ideal.exp (sc k - (M : EReal)) * vc k) + ∑ k, Ideal.exp (sl k - (M : EReal)) * vl k)
        ((∑ k, Ideal.exp (sc k - (M : EReal))) + ∑ k, Ideal.exp (sl k - (M : EReal)))
      = ((avg s v : ℝ) : EReal) := by
  simp only [hsc, hvc, hsl, hvl, exp_sub_coe, ← EReal.coe_mul]
  rw [coe_sum, coe_sum, coe_sum, coe_sum, ← EReal.coe_add, ← EReal.coe_add,
    ← Fin.sum_univ_two_halves 256 4096 rfl (fun k : Fin 4352 => Real.exp (s k - M) * v k),
    ← Fin.sum_univ_two_halves 256 4096 rfl (fun k : Fin 4352 => Real.exp (s k - M)),
    div_coe_coe _ _ (expsum_pos (n := 4351) fun k => s k - M).ne', avg_shift]

/-- The same form where all the scores lie in one piece. -/
theorem whole {n : ℕ} (s v : Fin (n + 1) → ℝ) (M : ℝ) (S V : Fin (n + 1) → EReal)
    (hS : ∀ k, S k = (s k : EReal)) (hV : ∀ k, V k = (v k : EReal)) :
    Ideal.div (∑ k, Ideal.exp (S k - (M : EReal)) * V k) (∑ k, Ideal.exp (S k - (M : EReal))) = ((avg s v : ℝ) : EReal) := by
  simp only [hS, hV, exp_sub_coe, ← EReal.coe_mul]
  rw [coe_sum, coe_sum, div_coe_coe _ _ (expsum_pos fun k => s k - M).ne', avg_shift]

/-- The reference's form: each weight is divided, the second head's weights are taken away `l` times, and
    the difference is summed against the values. -/
theorem difference {n : ℕ} (s t v : Fin (n + 1) → ℝ) (l M N : ℝ) (S T V : Fin (n + 1) → EReal)
    (hS : ∀ k, S k = (s k : EReal)) (hT : ∀ k, T k = (t k : EReal)) (hV : ∀ k, V k = (v k : EReal)) :
    (∑ k, V k * (Ideal.div (Ideal.exp (S k - (M : EReal))) (∑ k, Ideal.exp (S k - (M : EReal)))
        - (l : EReal) * Ideal.div (Ideal.exp (T k - (N : EReal))) (∑ k, Ideal.exp (T k - (N : EReal)))))
      = ((avg s v - l * avg t v : ℝ) : EReal) := by
  simp only [hS, hT, hV, exp_sub_coe]
  rw [coe_sum, coe_sum]
  have hs : (∑ k, Real.exp (s k - M)) ≠ 0 := (expsum_pos fun k => s k - M).ne'
  have ht : (∑ k, Real.exp (t k - N)) ≠ 0 := (expsum_pos fun k => t k - N).ne'
  simp only [div_coe_coe _ _ hs, div_coe_coe _ _ ht, ← EReal.coe_mul, ← EReal.coe_sub]
  rw [coe_sum]
  congr 1
  rw [← avg_shift s v M, ← avg_shift t v N, Finset.sum_div, Finset.sum_div, Finset.mul_sum, ← Finset.sum_sub_distrib]
  exact Finset.sum_congr rfl fun k _ => by ring

end Cert.Softmax
-- ==== Proof.AttnRef.lean ====
module
public import proofs.«01_k».proof.Proof.Gen.AttnRefIdeal.Run
public import proofs.«01_k».proof.Proof.Softmax

/-!
# The attention reference at an index

The reference's composed term is cut into its stages (scores, softmax, difference, norm) and each stage is
read at an index.
-/

@[expose] public section

set_option maxRecDepth 16384

noncomputable section

open Idealize.ShloMosaic Idealize.ShloMosaic.TcCoe Idealize.SL.Sem

namespace Cert.AttnRefIdeal.Value

open Cert.AttnRefIdeal Cert.AttnRefIdeal.Gen

/-- The latent rows, by batch and position. -/
def LATF (X0 : FVec Ideal S17408x16384 .bf16) : FVec Ideal S4x4096x16384 .f32 :=
  shapeCast _ (extractStridedSlice S16384x16384 ![0, 0] (extf .f32 X0 bitsLt_bf16_f32) slices_S17408x16384_S16384x16384_0_0) shapeCasts_S16384x16384_S4x4096x16384

/-- The context rows, by batch and position. -/
def CTXF (X0 : FVec Ideal S17408x16384 .bf16) : FVec Ideal S4x256x16384 .f32 :=
  shapeCast _ (extractStridedSlice S1024x16384 ![16384, 0] (extf .f32 X0 bitsLt_bf16_f32) slices_S17408x16384_S1024x16384_16384_0) shapeCasts_S1024x16384_S4x256x16384

/-- The keys, context then latent. -/
def KA (l : FVec Ideal S4x4096x16384 .f32) (c : FVec Ideal S4x256x16384 .f32) : FVec Ideal S4x4352x16x128 .f32 :=
  concatenate S4x4352x16x128 1 [⟨S4x256x16x128, (shapeCast _ (extractStridedSlice S4x256x2048 ![0, 0, 2048] c slices_S4x256x16384_S4x256x2048_0_0_2048) shapeCasts_S4x256x2048_S4x256x16x128)⟩, ⟨S4x4096x16x128, (shapeCast _ (extractStridedSlice S4x4096x2048 ![0, 0, 2048] l slices_S4x4096x16384_S4x4096x2048_0_0_2048) shapeCasts_S4x4096x2048_S4x4096x16x128)⟩] concatenates_S4x256x16x128_S4x4096x16x128_S4x4352x16x128_d1

/-- The values, context then latent. -/
def VA (l : FVec Ideal S4x4096x16384 .f32) (c : FVec Ideal S4x256x16384 .f32) : FVec Ideal S4x4352x8x256 .f32 :=
  concatenate S4x4352x8x256 1 [⟨S4x256x8x256, (shapeCast _ (extractStridedSlice S4x256x2048 ![0, 0, 4096] c slices_S4x256x16384_S4x256x2048_0_0_4096) shapeCasts_S4x256x2048_S4x256x8x256)⟩, ⟨S4x4096x8x256, (shapeCast _ (extractStridedSlice S4x4096x2048 ![0, 0, 4096] l slices_S4x4096x16384_S4x4096x2048_0_0_4096) shapeCasts_S4x4096x2048_S4x4096x8x256)⟩] concatenates_S4x256x8x256_S4x4096x8x256_S4x4352x8x256_d1

/-- The scores. -/
def SC (l : FVec Ideal S4x4096x16384 .f32) (k : FVec Ideal S4x4352x16x128 .f32) : FVec Ideal S4x16x4096x4352 .f32 :=
  Host.dotGeneral dot_S4x4096x16x128_S4x4352x16x128_S4x16x4096x4352_3_3_1_1_02_02 none (shapeCast _ (extractStridedSlice S4x4096x2048 ![0, 0, 0] l slices_S4x4096x16384_S4x4096x2048_0_0_0) shapeCasts_S4x4096x2048_S4x4096x16x128) k

/-- The fold of each row of scores under the maximum. -/
def RD (s : FVec Ideal S4x16x4096x4352 .f32) : FVec Ideal S4x16x4096 .f32 :=
  Host.reduce FloatOps.maximumf s (constant S_ .f32 0xFF800000#32) reducesTo_S4x16x4096x4352_S4x16x4096_d3 h_S_

/-- The largest score of each row. -/
def MX (r : FVec Ideal S4x16x4096 .f32) : FVec Ideal S4x16x4096 .f32 :=
  maximumf (broadcastInDim S4x16x4096 ![] bcast_S_S4x16x4096 (constant S_ .f32 0xFF800000#32)) r

/-- The exponentials of the scores less a number for each row. -/
def EX (s : FVec Ideal S4x16x4096x4352 .f32) (m : FVec Ideal S4x16x4096 .f32) : FVec Ideal S4x16x4096x4352 .f32 :=
  Host.exp (subf s (broadcastInDim S4x16x4096x4352 ![0, 1, 2, 3] bcast_S4x16x4096x1_S4x16x4096x4352_0_1_2_3 (broadcastInDim S4x16x4096x1 ![0, 1, 2] bcast_S4x16x4096_S4x16x4096x1_0_1_2 m)))

/-- The softmax. -/
def PR (e : FVec Ideal S4x16x4096x4352 .f32) : FVec Ideal S4x16x4096x4352 .f32 :=
  Host.divf e (broadcastInDim S4x16x4096x4352 ![0, 1, 2, 3] bcast_S4x16x4096x1_S4x16x4096x4352_0_1_2_3 (broadcastInDim S4x16x4096x1 ![0, 1, 2] bcast_S4x16x4096_S4x16x4096x1_0_1_2 (Host.reduceAdd e (constant S_ .f32 0x00000000#32) reducesTo_S4x16x4096x4352_S4x16x4096_d3 h_S_)))

/-- The weight of the second head of a pair. -/
def LAM (X1 X2 X3 X4 : FVec Ideal S4x128 .f32) : FVec Ideal S_ .f32 :=
  addf (subf (Host.exp (Host.reduceAdd (mulf (shapeCast _ (extractStridedSlice S1x128 ![1, 0] X1 slices_S4x128_S1x128_1_0) shapeCasts_S1x128_S128) (shapeCast _ (extractStridedSlice S1x128 ![1, 0] X2 slices_S4x128_S1x128_1_0) shapeCasts_S1x128_S128)) (constant S_ .f32 0x00000000#32) reducesTo_S128_S_d0 h_S_)) (Host.exp (Host.reduceAdd (mulf (shapeCast _ (extractStridedSlice S1x128 ![1, 0] X3 slices_S4x128_S1x128_1_0) shapeCasts_S1x128_S128) (shapeCast _ (extractStridedSlice S1x128 ![1, 0] X4 slices_S4x128_S1x128_1_0) shapeCasts_S1x128_S128)) (constant S_ .f32 0x00000000#32) reducesTo_S128_S_d0 h_S_))) (constant S_ .f32 0x3EB60549#32)

/-- The difference of the two softmaxes applied to the values. -/
def DI (v : FVec Ideal S4x4352x8x256 .f32) (p : FVec Ideal S4x16x4096x4352 .f32) (l : FVec Ideal S_ .f32) : FVec Ideal S4x4096x8x256 .f32 :=
  transpose S4x4096x8x256 [0, 3, 1, 2] (Host.dotGeneral dot_S4x4352x8x256_S4x8x4096x4352_S4x8x256x4096_1_3_3_2_02_01 none v (subf (shapeCast _ (extractStridedSlice S4x8x1x4096x4352 ![0, 0, 0, 0, 0] (shapeCast _ p shapeCasts_S4x16x4096x4352_S4x8x2x4096x4352) slices_S4x8x2x4096x4352_S4x8x1x4096x4352_0_0_0_0_0) shapeCasts_S4x8x1x4096x4352_S4x8x4096x4352) (mulf (broadcastInDim S4x8x4096x4352 ![] bcast_S_S4x8x4096x4352 l) (shapeCast _ (extractStridedSlice S4x8x1x4096x4352 ![0, 0, 1, 0, 0] (shapeCast _ p shapeCasts_S4x16x4096x4352_S4x8x2x4096x4352) slices_S4x8x2x4096x4352_S4x8x1x4096x4352_0_0_1_0_0) shapeCasts_S4x8x1x4096x4352_S4x8x4096x4352)))) transposes_S4x8x256x4096_S4x4096x8x256_0_3_1_2

/-- The norm of each head and its scales, as rows. -/
def NRM (o : FVec Ideal S4x4096x8x256 .f32) (X5 : FVec Ideal S4x256 .f32) : FVec Ideal S16384x2048 .f32 :=
  shapeCast _ (mulf (mulf (mulf o (broadcastInDim S4x4096x8x256 ![0, 1, 2, 3] bcast_S4x4096x8x1_S4x4096x8x256_0_1_2_3 (Host.rsqrt (addf (Host.divf (broadcastInDim S4x4096x8x1 ![0, 1, 2] bcast_S4x4096x8_S4x4096x8x1_0_1_2 (Host.reduceAdd (mulf o o) (constant S_ .f32 0x00000000#32) reducesTo_S4x4096x8x256_S4x4096x8_d3 h_S_)) (broadcastInDim S4x4096x8x1 ![] bcast_S_S4x4096x8x1 (constant S_ .f32 0x43800000#32))) (broadcastInDim S4x4096x8x1 ![] bcast_S_S4x4096x8x1 (constant S_ .f32 0x358637BD#32)))))) (broadcastInDim S4x4096x8x256 ![0, 1, 2, 3] bcast_S1x1x1x256_S4x4096x8x256_0_1_2_3 (broadcastInDim S1x1x1x256 ![3] bcast_S256_S1x1x1x256_3 (shapeCast _ (extractStridedSlice S1x256 ![1, 0] X5 slices_S4x256_S1x256_1_0) shapeCasts_S1x256_S256)))) (broadcastInDim S4x4096x8x256 ![] bcast_S_S4x4096x8x256 (constant S_ .f32 0x3F24FD5C#32))) shapeCasts_S4x4096x8x256_S16384x2048

/-- The difference head of the arguments, stage by stage. -/
def OUT (X0 : FVec Ideal S17408x16384 .bf16) (X1 X2 X3 X4 : FVec Ideal S4x128 .f32) : FVec Ideal S4x4096x8x256 .f32 :=
  DI (VA (LATF X0) (CTXF X0)) (PR (EX (SC (LATF X0) (KA (LATF X0) (CTXF X0))) (MX (RD (SC (LATF X0) (KA (LATF X0) (CTXF X0))))))) (LAM X1 X2 X3 X4)

/-- The reference's composed term of its six arguments. -/
def REF (X0 : FVec Ideal S17408x16384 .bf16) (X1 X2 X3 X4 : FVec Ideal S4x128 .f32) (X5 : FVec Ideal S4x256 .f32) : FVec Ideal S17408x2048 .bf16 :=
  truncf .bf16 (concatenate S17408x2048 0 [⟨S16384x2048, (NRM (OUT X0 X1 X2 X3 X4) X5)⟩, ⟨S1024x2048, (broadcastInDim S1024x2048 ![] bcast_S_S1024x2048 (constant S_ .f32 0x00000000#32))⟩] concatenates_S16384x2048_S1024x2048_S17408x2048_d0) bitsLt_bf16_f32

/-- The row of the array that holds key `k` of batch `b`: the context's 256 rows, then the latent ones. -/
def krow (b : Fin 4) (k : Fin 4352) : Fin 17408 :=
  if h : k.val < 256 then ⟨16384 + (b.val * 256 + k.val), by omega⟩ else ⟨b.val * 4096 + (k.val - 256), by omega⟩

/-- The keys at an index. -/
theorem KA_at (X0 : FVec Ideal S17408x16384 .bf16) (b : Fin 4) (k : Fin 4352) (g : Fin 16) (d : Fin 128) :
    KA (LATF X0) (CTXF X0) (ix4 b k g d) = X0 (ix2 (krow b k) ⟨2048 + (g.val * 128 + d.val), by omega⟩) := by
  by_cases h : k.val < 256
  · rw [krow, dif_pos h]
    pointwise [KA, LATF, CTXF]
    simp only [dif_pos h]
  · rw [krow, dif_neg h]
    pointwise [KA, LATF, CTXF]
    simp only [dif_neg h]

/-- The values at an index. -/
theorem VA_at (X0 : FVec Ideal S17408x16384 .bf16) (b : Fin 4) (k : Fin 4352) (g : Fin 8) (d : Fin 256) :
    VA (LATF X0) (CTXF X0) (ix4 b k g d) = X0 (ix2 (krow b k) ⟨4096 + (g.val * 256 + d.val), by omega⟩) := by
  by_cases h : k.val < 256
  · rw [krow, dif_pos h]
    pointwise [VA, LATF, CTXF]
    simp only [dif_pos h]
  · rw [krow, dif_neg h]
    pointwise [VA, LATF, CTXF]
    simp only [dif_neg h]

/-- A latent row at an index. -/
theorem LATF_at (X0 : FVec Ideal S17408x16384 .bf16) (b : Fin 4) (i : Fin 4096) (q : Fin 16384) :
    LATF X0 (ix3 b i q) = X0 (ix2 ⟨b.val * 4096 + i.val, by omega⟩ q) := by
  pointwise [LATF]

/-- The scores at an index. -/
theorem SC_at (l : FVec Ideal S4x4096x16384 .f32) (k : FVec Ideal S4x4352x16x128 .f32) (b : Fin 4) (g : Fin 16)
    (i : Fin 4096) (x : Fin 4352) :
    SC l k (ix4 b g i x) = ∑ d : Fin 128, l (ix3 b i ⟨g.val * 128 + d.val, by omega⟩) * k (ix4 b x g d) := by
  pointwise [SC]

/-- The exponentials at an index. -/
theorem EX_at (s : FVec Ideal S4x16x4096x4352 .f32) (m : FVec Ideal S4x16x4096 .f32) (b : Fin 4) (g : Fin 16)
    (i : Fin 4096) (k : Fin 4352) :
    EX s m (ix4 b g i k) = Ideal.exp (s (ix4 b g i k) - m (ix3 b g i)) := by
  pointwise [EX]

/-- The softmax at an index. -/
theorem PR_at (e : FVec Ideal S4x16x4096x4352 .f32) (b : Fin 4) (g : Fin 16) (i : Fin 4096) (k : Fin 4352) :
    PR e (ix4 b g i k) = Ideal.div (e (ix4 b g i k)) (∑ x : Fin 4352, e (ix4 b g i x)) := by
  pointwise [PR]

/-- The difference at an index. -/
theorem DI_at (v : FVec Ideal S4x4352x8x256 .f32) (p : FVec Ideal S4x16x4096x4352 .f32) (l : FVec Ideal S_ .f32)
    (b : Fin 4) (h : Fin 8) (i : Fin 4096) (j : Fin 256) :
    DI v p l (ix4 b i h j) = ∑ k : Fin 4352, v (ix4 b k h j) * (p (ix4 b ⟨h.val * 2, by omega⟩ i k)
      - l ix0 * p (ix4 b ⟨h.val * 2 + 1, by omega⟩ i k)) := by
  pointwise [DI]

/-- The weight of the second head is a number that the four rows give. -/
theorem LAM_at (X1 X2 X3 X4 : FVec Ideal S4x128 .f32) :
    LAM X1 X2 X3 X4 ix0 = Ideal.exp (∑ x : Fin 128, X1 (ix2 1 x) * X2 (ix2 1 x))
      - Ideal.exp (∑ x : Fin 128, X3 (ix2 1 x) * X4 (ix2 1 x)) + Ideal.ofBits .f32 0x3EB60549#32 := by
  pointwise [LAM]

/-- The least float is the least extended real. -/
theorem ofBits_neg_inf : Ideal.ofBits .f32 0xFF800000#32 = (⊥ : EReal) := by
  simp [Ideal.ofBits, Ideal.ieee]

/-- A row maximum over the last axis, started from the least value, is a real where the row is real. -/
theorem reduce_max_real {n0 n1 n2 n3 : ℕ} {t u : Shape} (x : (⟨4, ![n0, n1, n2, n3]⟩ : Shape).Idx → Ideal .f32)
    (init : u.Idx → Ideal .f32) (h : (⟨4, ![n0, n1, n2, n3]⟩ : Shape).ReducesTo [3] t) (hu : 0 < u.numel) (j : t.Idx)
    (h3 : 0 < n3) (hi : ∀ i, (show EReal from init i) ≠ ⊤) (hx : ∀ i, ∃ y : ℝ, x i = (y : EReal)) :
    ∃ M : ℝ, Host.reduce (FloatOps.maximumf : Ideal .f32 → Ideal .f32 → Ideal .f32) x init h hu j = (M : EReal) := by
  rw [Host.reduce_eq_fold]
  refine ⟨_, (EReal.coe_toReal ?_ ?_).symm⟩
  · exact Softmax.fold_max_ne_top _ _ (hi _) x fun k => by obtain ⟨y, e⟩ := hx k; rw [e]; exact EReal.coe_ne_top _
  · refine Softmax.fold_max_ne_bot _ _ x _ (Finset.mem_filter.2 ⟨Finset.mem_univ _, (h.fiber_r4_a3 j _).2 ⟨⟨0, h3⟩, rfl⟩⟩) ?_
    obtain ⟨y, e⟩ := hx _
    rw [e]; exact EReal.coe_ne_bot _

/-- The largest score at an index. -/
theorem MX_at (r : FVec Ideal S4x16x4096 .f32) (j : S4x16x4096.Idx) : MX r j = max (⊥ : EReal) (r j) := by
  rw [← ofBits_neg_inf]
  rfl

/-- The fold of a row of reals is a real. -/
theorem RD_real (s : FVec Ideal S4x16x4096x4352 .f32) (hs : ∀ i, ∃ y : ℝ, s i = (y : EReal)) (j : S4x16x4096.Idx) :
    ∃ M : ℝ, RD s j = (M : EReal) := by
  have hi : ∀ i, (show EReal from (constant S_ .f32 0xFF800000#32 : FVec Ideal S_ .f32) i) ≠ ⊤ := fun i => by
    show Ideal.ofBits .f32 0xFF800000#32 ≠ ⊤
    rw [ofBits_neg_inf]; exact bot_ne_top
  exact reduce_max_real s (constant S_ .f32 0xFF800000#32) reducesTo_S4x16x4096x4352_S4x16x4096_d3 h_S_ j (by norm_num) hi hs

/-- The largest score of a row of reals is a real. -/
theorem MX_real (s : FVec Ideal S4x16x4096x4352 .f32) (hs : ∀ i, ∃ y : ℝ, s i = (y : EReal)) (j : S4x16x4096.Idx) :
    ∃ M : ℝ, MX (RD s) j = (M : EReal) := by
  obtain ⟨M, hM⟩ := RD_real s hs j
  exact ⟨M, (MX_at _ j).trans ((max_eq_right bot_le).trans hM)⟩

/-- The real value of an element, where it is one. -/
theorem coe_toReal {x : EReal} (h : ∃ y : ℝ, x = (y : EReal)) : x = ((x.toReal : ℝ) : EReal) := by
  obtain ⟨y, rfl⟩ := h
  rw [EReal.toReal_coe]

/-- The score of latent row `i` of batch `b` against key `k` in head `g`, as a real. -/
def score (X0 : FVec Ideal S17408x16384 .bf16) (b : Fin 4) (i : Fin 4096) (g : Fin 16) (k : Fin 4352) : ℝ :=
  ∑ d : Fin 128, EReal.toReal (X0 (ix2 ⟨b.val * 4096 + i.val, by omega⟩ ⟨g.val * 128 + d.val, by omega⟩))
    * EReal.toReal (X0 (ix2 (krow b k) ⟨2048 + (g.val * 128 + d.val), by omega⟩))

/-- Column `j` of the value of key `k` in head pair `h`, as a real. -/
def value (X0 : FVec Ideal S17408x16384 .bf16) (b : Fin 4) (h : Fin 8) (j : Fin 256) (k : Fin 4352) : ℝ :=
  EReal.toReal (X0 (ix2 (krow b k) ⟨4096 + (h.val * 256 + j.val), by omega⟩))

/-- The difference head over the reals: the average under the first head's scores less `l` times the
    average under the second's. -/
def head (X0 : FVec Ideal S17408x16384 .bf16) (l : ℝ) (b : Fin 4) (i : Fin 4096) (h : Fin 8) (j : Fin 256) : ℝ :=
  Softmax.avg (score X0 b i ⟨h.val * 2, by omega⟩) (value X0 b h j)
    - l * Softmax.avg (score X0 b i ⟨h.val * 2 + 1, by omega⟩) (value X0 b h j)

/-- The scores are reals where the columns they read are. -/
theorem SC_real (X0 : FVec Ideal S17408x16384 .bf16)
    (hX : ∀ (r : Fin 17408) (q : Fin 16384), q.val < 6144 → ∃ y : ℝ, X0 (ix2 r q) = (y : EReal))
    (b : Fin 4) (g : Fin 16) (i : Fin 4096) (k : Fin 4352) :
    SC (LATF X0) (KA (LATF X0) (CTXF X0)) (ix4 b g i k) = ((score X0 b i g k : ℝ) : EReal) := by
  rw [SC_at, score, ← Softmax.coe_sum]
  refine Finset.sum_congr rfl fun d _ => ?_
  rw [LATF_at, KA_at, EReal.coe_mul, ← coe_toReal (hX _ _ (by dsimp only; omega)),
    ← coe_toReal (hX _ _ (by dsimp only; omega))]

/-- The difference head of the reference at an index. -/
theorem OUT_at (X0 : FVec Ideal S17408x16384 .bf16) (X1 X2 X3 X4 : FVec Ideal S4x128 .f32) (l : ℝ)
    (hX : ∀ (r : Fin 17408) (q : Fin 16384), q.val < 6144 → ∃ y : ℝ, X0 (ix2 r q) = (y : EReal))
    (hl : LAM X1 X2 X3 X4 ix0 = (l : EReal)) (b : Fin 4) (i : Fin 4096) (h : Fin 8) (j : Fin 256) :
    OUT X0 X1 X2 X3 X4 (ix4 b i h j) = ((head X0 l b i h j : ℝ) : EReal) := by
  have hS : ∀ z, ∃ y : ℝ, SC (LATF X0) (KA (LATF X0) (CTXF X0)) z = (y : EReal) := fun z =>
    ⟨_, (congrArg _ (eq_ix4 z)).trans (SC_real X0 hX (z 0) (z 1) (z 2) (z 3))⟩
  obtain ⟨M, hM⟩ := MX_real _ hS (ix3 b ⟨h.val * 2, by omega⟩ i)
  obtain ⟨N, hN⟩ := MX_real _ hS (ix3 b ⟨h.val * 2 + 1, by omega⟩ i)
  refine (DI_at _ _ _ b h i j).trans ?_
  simp only [PR_at, EX_at, hM, hN, hl]
  exact Softmax.difference (n := 4351) _ _ _ l M N _ _ _ (fun k => SC_real X0 hX b _ i k) (fun k => SC_real X0 hX b _ i k)
    (fun k => by rw [VA_at, value, ← coe_toReal (hX _ _ (by dsimp only; omega))])

/-- A latent row of the result, from the difference head. -/
theorem NRM_at (o : FVec Ideal S4x4096x8x256 .f32) (X5 : FVec Ideal S4x256 .f32) (r : Fin 16384) (q : Fin 2048) :
    NRM o X5 (ix2 r q) =
      o (ix4 ⟨r.val / 4096, by omega⟩ ⟨r.val % 4096, by omega⟩ ⟨q.val / 256, by omega⟩ ⟨q.val % 256, by omega⟩)
        * Ideal.rsqrt (Ideal.div (∑ x : Fin 256,
            o (ix4 ⟨r.val / 4096, by omega⟩ ⟨r.val % 4096, by omega⟩ ⟨q.val / 256, by omega⟩ x)
            * o (ix4 ⟨r.val / 4096, by omega⟩ ⟨r.val % 4096, by omega⟩ ⟨q.val / 256, by omega⟩ x))
            (Ideal.ofBits .f32 0x43800000#32) + Ideal.ofBits .f32 0x358637BD#32)
        * X5 (ix2 1 ⟨q.val % 256, by omega⟩) * Ideal.ofBits .f32 0x3F24FD5C#32 := by
  pointwise [NRM]

/-- The reference at a latent row. -/
theorem REF_at (X0 : FVec Ideal S17408x16384 .bf16) (X1 X2 X3 X4 : FVec Ideal S4x128 .f32) (X5 : FVec Ideal S4x256 .f32)
    (r : Fin 17408) (q : Fin 2048) (hr : r.val < 16384) :
    REF X0 X1 X2 X3 X4 X5 (ix2 r q) = NRM (OUT X0 X1 X2 X3 X4) X5 (ix2 ⟨r.val, hr⟩ q) := by
  generalize hz : NRM (OUT X0 X1 X2 X3 X4) X5 = z
  unfold REF
  rw [hz]
  pointwise
  simp only [dif_pos hr]

end Cert.AttnRefIdeal.Value
-- ==== Proof.AttnValue.lean ====
module
public import proofs.«01_k».proof.Proof.Gen.AttnIdeal.Value
public import proofs.«01_k».proof.Proof.AttnRef
public import Idealize.ShloMosaic.Lib.Pipeline.ValueKit
public import Idealize.ShloMosaic.Lib.Pipeline.ReadBack

/-!
# The differential attention: the kernel's latent rows are the reference's

A grid point takes 256 query rows of one batch and one pair of heads. It multiplies them with the batch's
context keys and latent keys separately, takes one maximum over both pieces, sums the exponentials of both,
and divides once. Both programs then take the same norm of the same difference.
-/

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (m : (ℓ : Loc nD τ sig) → Buf (Elt Ideal) ℓ)

/-- The row maximum over both pieces of the scores. -/
def top (S : Fin 256 → EReal) (T : Fin 4096 → EReal) : EReal :=
  max ((Finset.univ : Finset (Fin 256)).fold max (Ideal.ofBits .f32 0xFF800000#32) S)
    ((Finset.univ : Finset (Fin 4096)).fold max (Ideal.ofBits .f32 0xFF800000#32) T)

/-- The softmax average in two pieces. -/
def soft (S : Fin 256 → EReal) (T : Fin 4096 → EReal) (M : EReal) (v : Fin 256 → EReal) (w : Fin 4096 → EReal) : EReal :=
  Ideal.div ((∑ k, Ideal.exp (S k - M) * v k) + ∑ k, Ideal.exp (T k - M) * w k)
    ((∑ k, Ideal.exp (S k - M)) + ∑ k, Ideal.exp (T k - M))

/-- A score of a block: a query row against a key row. -/
def dots {n : ℕ} (q : FVec Ideal S256x128 .bf16) (k : FVec Ideal ⟨2, ![n, 128]⟩ .bf16) (i : Fin 256) (x : Fin n) : EReal :=
  ∑ d : Fin 128, q (ix2 i d) * k (ix2 x d)

/-- The first head's average at an index. -/
theorem pay2_at (q : FVec Ideal S256x128 .bf16) (kc : FVec Ideal S256x128 .bf16) (kl : FVec Ideal S4096x128 .bf16)
    (vc : FVec Ideal S256x256 .bf16) (vl : FVec Ideal S4096x256 .bf16) (i j : Fin 256) :
    k0_pay2 (F := Ideal) q kc kl vc vl (ix2 i j)
      = soft (dots q kc i) (dots q kl i) (top (dots q kc i) (dots q kl i)) (fun k => vc (ix2 k j)) (fun k => vl (ix2 k j)) := by
  pointwise [k0_pay2, soft, dots, top]

/-- The scaled norm of one row of the difference of two averages, at column `j`. -/
def normed (d : Fin 256 → EReal) (g : EReal) (j : Fin 256) : EReal :=
  d j * Ideal.rsqrt (Ideal.div (∑ x, d x * d x) (Ideal.ofBits .f32 0x43800000#32) + Ideal.ofBits .f32 0x358637BD#32)
    * g * Ideal.ofBits .f32 0x3F24FD5C#32

/-- The stored block at an index, from the first head's average and the second head's operands. -/
theorem pay1_at (l : Elt Ideal .f32) (a : FVec Ideal S256x256 .f32) (q : FVec Ideal S256x128 .bf16) (kc : FVec Ideal S256x128 .bf16)
    (kl : FVec Ideal S4096x128 .bf16) (vc : FVec Ideal S256x256 .bf16) (vl : FVec Ideal S4096x256 .bf16)
    (s : FVec Ideal S1x1x256 .f32) (i j : Fin 256) :
    k0_pay1 (F := Ideal) (k0_pay3 (F := Ideal) l a q kc (constant S256x256 .f32 0x00000000#32) kl vc vl) s (ix2 i j)
      = normed (fun x => a (ix2 i x) - l * soft (dots q kc i) (dots q kl i) (top (dots q kc i) (dots q kl i))
          (fun k => vc (ix2 k x)) (fun k => vl (ix2 k x))) (s (ix3 0 0 j)) j := by
  pointwise [k0_pay1, k0_pay3, normed, soft, dots, top]

/-- The index maps at a point, by arithmetic on its number. -/
theorem idx : ∀ t : Fin cfg0.N,
    win0_0.index t = ![0] ∧ win0_1.index t = ![t.val / 128 * 16 + t.val % 16, t.val / 16 % 8]
      ∧ win0_2.index t = ![64 + t.val / 128, 8 + t.val / 16 % 8] ∧ win0_3.index t = ![t.val / 128, 8 + t.val / 16 % 8]
      ∧ win0_4.index t = ![64 + t.val / 128, 16 + t.val / 16 % 8] ∧ win0_5.index t = ![t.val / 128, 16 + t.val / 16 % 8]
      ∧ win0_6.index t = ![1, 0, 0] ∧ win0_7.index t = ![t.val / 128 * 16 + t.val % 16, t.val / 16 % 8] :=
  (by decide +kernel : ∀ t : Fin grid0.N, _)

/-- The query rows of a point, read at an index. -/
theorem q_at (c : Dev nD) (t : Fin cfg0.N) (i : Fin 256) (x : Fin 256)
    (hr : t.val / 128 * 4096 + (t.val % 16 * 256 + i.val) < 17408) (hc : t.val / 16 % 8 * 256 + x.val < 16384) :
    iblk m c 1 t (ix2 i x) = m ((c : Thread nD τ).loc main_arg0) (ix2 ⟨t.val / 128 * 4096 + (t.val % 16 * 256 + i.val), hr⟩
      ⟨t.val / 16 % 8 * 256 + x.val, hc⟩) := by
  blk_point [iblk, V, idx t]

/-- The context keys of a point, read at an index. -/
theorem kc_at (c : Dev nD) (t : Fin cfg0.N) (i : Fin 256) (x : Fin 256)
    (hr : 16384 + (t.val / 128 * 256 + i.val) < 17408) (hc : 2048 + (t.val / 16 % 8 * 256 + x.val) < 16384) :
    iblk m c 2 t (ix2 i x) = m ((c : Thread nD τ).loc main_arg0) (ix2 ⟨16384 + (t.val / 128 * 256 + i.val), hr⟩
      ⟨2048 + (t.val / 16 % 8 * 256 + x.val), hc⟩) := by
  blk_point [iblk, V, idx t]

/-- The context values of a point, read at an index. -/
theorem vc_at (c : Dev nD) (t : Fin cfg0.N) (i : Fin 256) (x : Fin 256)
    (hr : 16384 + (t.val / 128 * 256 + i.val) < 17408) (hc : 4096 + (t.val / 16 % 8 * 256 + x.val) < 16384) :
    iblk m c 4 t (ix2 i x) = m ((c : Thread nD τ).loc main_arg0) (ix2 ⟨16384 + (t.val / 128 * 256 + i.val), hr⟩
      ⟨4096 + (t.val / 16 % 8 * 256 + x.val), hc⟩) := by
  blk_point [iblk, V, idx t]

/-- The latent keys of a point, read at an index. -/
theorem kl_at (c : Dev nD) (t : Fin cfg0.N) (i : Fin 4096) (x : Fin 256)
    (hr : t.val / 128 * 4096 + i.val < 17408) (hc : 2048 + (t.val / 16 % 8 * 256 + x.val) < 16384) :
    X0_3 m c t (ix2 i x) = m ((c : Thread nD τ).loc main_arg0) (ix2 ⟨t.val / 128 * 4096 + i.val, hr⟩
      ⟨2048 + (t.val / 16 % 8 * 256 + x.val), hc⟩) := by
  unfold X0_3 Pipeline.Window.fill
  rw [dif_pos (moved0_3 t _)]
  blk_point [iblk, V, idx t]

/-- The latent values of a point, read at an index. -/
theorem vl_at (c : Dev nD) (t : Fin cfg0.N) (i : Fin 4096) (x : Fin 256)
    (hr : t.val / 128 * 4096 + i.val < 17408) (hc : 4096 + (t.val / 16 % 8 * 256 + x.val) < 16384) :
    X0_5 m c t (ix2 i x) = m ((c : Thread nD τ).loc main_arg0) (ix2 ⟨t.val / 128 * 4096 + i.val, hr⟩
      ⟨4096 + (t.val / 16 % 8 * 256 + x.val), hc⟩) := by
  unfold X0_5 Pipeline.Window.fill
  rw [dif_pos (moved0_5 t _)]
  blk_point [iblk, V, idx t]

/-- The norm's gain, read at an index. -/
theorem gain_at (c : Dev nD) (t : Fin cfg0.N) (j : Fin 256) :
    iblk m c 6 t (ix3 0 0 j) = m ((c : Thread nD τ).loc main_arg5) (ix2 1 j) := by
  blk_point [iblk, V, idx t]

/-- The weight of the second head, as the kernel is handed it. -/
theorem lam_at (c : Dev nD) (t : Fin cfg0.N) :
    iblk m c 0 t (ix1 0) = Cert.AttnRefIdeal.Value.LAM (m ((c : Thread nD τ).loc main_arg1)) (m ((c : Thread nD τ).loc main_arg2)) (m ((c : Thread nD τ).loc main_arg3)) (m ((c : Thread nD τ).loc main_arg4)) ix0 := by
  blk_point [iblk, V, idx t]

/-- The maximum over both pieces of real scores is a real. -/
theorem top_real (S : Fin 256 → EReal) (T : Fin 4096 → EReal) (s : Fin 256 → ℝ) (t : Fin 4096 → ℝ)
    (hs : ∀ k, S k = (s k : EReal)) (ht : ∀ k, T k = (t k : EReal)) : ∃ M : ℝ, top S T = (M : EReal) := by
  have hi : Ideal.ofBits .f32 0xFF800000#32 ≠ (⊤ : EReal) := by
    rw [Cert.AttnRefIdeal.Value.ofBits_neg_inf]; exact bot_ne_top
  obtain ⟨M, hM⟩ := Softmax.fold_max_real _ hi S s hs
  obtain ⟨N, hN⟩ := Softmax.fold_max_real _ hi T t ht
  rcases max_choice (M : EReal) (N : EReal) with e | e
  · exact ⟨M, by unfold top; rw [hM, hN, e]⟩
  · exact ⟨N, by unfold top; rw [hM, hN, e]⟩

/-- The average in two pieces, over real scores and values. -/
theorem soft_real (s v : Fin 4352 → ℝ) (sc vc : Fin 256 → EReal) (sl vl : Fin 4096 → EReal)
    (hsc : ∀ k, sc k = (s ⟨k.val, by omega⟩ : EReal)) (hvc : ∀ k, vc k = (v ⟨k.val, by omega⟩ : EReal))
    (hsl : ∀ k, sl k = (s ⟨256 + k.val, by omega⟩ : EReal)) (hvl : ∀ k, vl k = (v ⟨256 + k.val, by omega⟩ : EReal)) :
    soft sc sl (top sc sl) vc vl = ((Softmax.avg s v : ℝ) : EReal) := by
  obtain ⟨M, hM⟩ := top_real sc sl _ _ hsc hsl
  rw [hM]
  exact Softmax.pieces s v M sc vc sl vl hsc hvc hsl hvl

/-- A score of a block is the score of the two rows it reads. -/
theorem dots_real {n : ℕ} (X : FVec Ideal ⟨2, ![17408, 16384]⟩ .bf16)
    (hX : ∀ (r : Fin 17408) (q : Fin 16384), q.val < 6144 → ∃ y : ℝ, X (ix2 r q) = (y : EReal))
    (q : FVec Ideal S256x128 .bf16) (k : FVec Ideal ⟨2, ![n, 128]⟩ .bf16) (i : Fin 256) (x : Fin n)
    (b : Fin 4) (i' : Fin 4096) (g : Fin 16) (x' : Fin 4352)
    (hq : ∀ d : Fin 128, q (ix2 i d) = X (ix2 ⟨b.val * 4096 + i'.val, by omega⟩ ⟨g.val * 128 + d.val, by omega⟩))
    (hk : ∀ d : Fin 128, k (ix2 x d) = X (ix2 (Cert.AttnRefIdeal.Value.krow b x') ⟨2048 + (g.val * 128 + d.val), by omega⟩)) :
    dots q k i x = ((Cert.AttnRefIdeal.Value.score X b i' g x' : ℝ) : EReal) := by
  rw [dots, Cert.AttnRefIdeal.Value.score, ← Softmax.coe_sum]
  refine Finset.sum_congr rfl fun d _ => ?_
  rw [hq, hk, EReal.coe_mul, ← Cert.AttnRefIdeal.Value.coe_toReal (hX _ _ (by dsimp only; omega)),
    ← Cert.AttnRefIdeal.Value.coe_toReal (hX _ _ (by dsimp only; omega))]

/-- The left half of a block's columns. -/
theorem ld_left {n : ℕ} (f : Vec Ideal ⟨2, ![n, 256]⟩ .bf16) (inb) (i : Fin n) (d : Fin 128) :
    View.ld (Val := Elt Ideal) (e' := .bf16) f (Rect.unit (s := ⟨2, ![n, 256]⟩) ![0, 0] ![n, 128] inb) (ix2 i d)
      = f (ix2 i ⟨d.val, by omega⟩) := by
  refine congrArg f ?_
  funext a
  fin_cases a <;> exact Fin.ext (by simp [Rect.idx_unit_val])

/-- The right half of a block's columns. -/
theorem ld_right {n : ℕ} (f : Vec Ideal ⟨2, ![n, 256]⟩ .bf16) (inb) (i : Fin n) (d : Fin 128) :
    View.ld (Val := Elt Ideal) (e' := .bf16) f (Rect.unit (s := ⟨2, ![n, 256]⟩) ![0, 128] ![n, 128] inb) (ix2 i d)
      = f (ix2 i ⟨128 + d.val, by omega⟩) := by
  refine congrArg f ?_
  funext a
  fin_cases a <;> exact Fin.ext (by simp [Rect.idx_unit_val])

/-- The reference's norm at a batch, position, head and column. -/
theorem nrm_split (o : FVec Ideal Cert.AttnRefIdeal.S4x4096x8x256 .f32) (X5 : FVec Ideal Cert.AttnRefIdeal.S4x256 .f32)
    (b : Fin 4) (i : Fin 4096) (h : Fin 8) (j : Fin 256) :
    Cert.AttnRefIdeal.Value.NRM o X5 (ix2 ⟨b.val * 4096 + i.val, by omega⟩ ⟨h.val * 256 + j.val, by omega⟩)
      = normed (fun x => o (ix4 b i h x)) (X5 (ix2 1 j)) j := by
  refine (Cert.AttnRefIdeal.Value.NRM_at o X5 _ _).trans ?_
  have e1 : (⟨(b.val * 4096 + i.val) / 4096, by omega⟩ : Fin 4) = b := Fin.ext (by dsimp only; omega)
  have e2 : (⟨(b.val * 4096 + i.val) % 4096, by omega⟩ : Fin 4096) = i := Fin.ext (by dsimp only; omega)
  have e3 : (⟨(h.val * 256 + j.val) / 256, by omega⟩ : Fin 8) = h := Fin.ext (by dsimp only; omega)
  have e4 : (⟨(h.val * 256 + j.val) % 256, by omega⟩ : Fin 256) = j := Fin.ext (by dsimp only; omega)
  dsimp only
  rw [e1, e2, e3, e4]
  rfl

section Point

variable (c : Dev nD) (t : Fin cfg0.N) (b : Fin 4) (h : Fin 8) (w : Fin 16) (i : Fin 256)
  (hX : ∀ (r : Fin 17408) (q : Fin 16384), q.val < 6144 →
    ∃ y : ℝ, m ((c : Thread nD τ).loc main_arg0) (ix2 r q) = (y : EReal))
  (hb : t.val / 128 = b.val) (hh : t.val / 16 % 8 = h.val) (hw : t.val % 16 = w.val)

include hX hb hh hw

/-- The average of one head of the pair at a point, as a real: head `e` reads the columns from `128 e` on. -/
theorem half_at (e : Fin 2) (q kc : FVec Ideal S256x128 .bf16) (kl : FVec Ideal S4096x128 .bf16)
    (hq : ∀ (y : Fin 256) (d : Fin 128), q (ix2 y d) = iblk m c 1 t (ix2 y ⟨e.val * 128 + d.val, by omega⟩))
    (hkc : ∀ (y : Fin 256) (d : Fin 128), kc (ix2 y d) = iblk m c 2 t (ix2 y ⟨e.val * 128 + d.val, by omega⟩))
    (hkl : ∀ (y : Fin 4096) (d : Fin 128), kl (ix2 y d) = X0_3 m c t (ix2 y ⟨e.val * 128 + d.val, by omega⟩))
    (x : Fin 256) :
    soft (dots q kc i) (dots q kl i) (top (dots q kc i) (dots q kl i)) (fun k => iblk m c 4 t (ix2 k x))
        (fun k => X0_5 m c t (ix2 k x))
      = ((Softmax.avg
          (Cert.AttnRefIdeal.Value.score (m ((c : Thread nD τ).loc main_arg0)) b ⟨w.val * 256 + i.val, by omega⟩
            ⟨h.val * 2 + e.val, by omega⟩)
          (Cert.AttnRefIdeal.Value.value (m ((c : Thread nD τ).loc main_arg0)) b h x) : ℝ) : EReal) := by
  refine soft_real _ _ _ _ _ _ (fun k => ?_) (fun k => ?_) (fun k => ?_) (fun k => ?_)
  · refine dots_real _ hX _ _ i k b ⟨w.val * 256 + i.val, by omega⟩ ⟨h.val * 2 + e.val, by omega⟩ ⟨k.val, by omega⟩
      (fun d => ?_) (fun d => ?_)
    · refine (hq i d).trans ((q_at m c t i _ (by omega) (by dsimp only; omega)).trans ?_)
      congr 2 <;> exact Fin.ext (by dsimp only; omega)
    · refine (hkc k d).trans ((kc_at m c t k _ (by omega) (by dsimp only; omega)).trans ?_)
      rw [Cert.AttnRefIdeal.Value.krow, dif_pos k.isLt]
      congr 2 <;> exact Fin.ext (by dsimp only; omega)
  · refine ((vc_at m c t k x (by omega) (by omega)).trans ?_).trans
      (Cert.AttnRefIdeal.Value.coe_toReal (hX (Cert.AttnRefIdeal.Value.krow b ⟨k.val, by omega⟩)
        ⟨4096 + (h.val * 256 + x.val), by omega⟩ (by dsimp only; omega)))
    rw [Cert.AttnRefIdeal.Value.krow, dif_pos k.isLt]
    congr 2 <;> exact Fin.ext (by dsimp only; omega)
  · refine dots_real _ hX _ _ i k b ⟨w.val * 256 + i.val, by omega⟩ ⟨h.val * 2 + e.val, by omega⟩ ⟨256 + k.val, by omega⟩
      (fun d => ?_) (fun d => ?_)
    · refine (hq i d).trans ((q_at m c t i _ (by omega) (by dsimp only; omega)).trans ?_)
      congr 2 <;> exact Fin.ext (by dsimp only; omega)
    · refine (hkl k d).trans ((kl_at m c t k _ (by omega) (by dsimp only; omega)).trans ?_)
      rw [Cert.AttnRefIdeal.Value.krow, dif_neg (by dsimp only; omega)]
      congr 2 <;> exact Fin.ext (by dsimp only; omega)
  · refine ((vl_at m c t k x (by omega) (by omega)).trans ?_).trans
      (Cert.AttnRefIdeal.Value.coe_toReal (hX (Cert.AttnRefIdeal.Value.krow b ⟨256 + k.val, by omega⟩)
        ⟨4096 + (h.val * 256 + x.val), by omega⟩ (by dsimp only; omega)))
    rw [Cert.AttnRefIdeal.Value.krow, dif_neg (by dsimp only; omega)]
    congr 2 <;> exact Fin.ext (by dsimp only; omega)

/-- The block a point leaves is the norm of the difference of its two averages. -/
theorem out_at (l : ℝ) (hl : Cert.AttnRefIdeal.Value.LAM (m ((c : Thread nD τ).loc main_arg1))
      (m ((c : Thread nD τ).loc main_arg2)) (m ((c : Thread nD τ).loc main_arg3))
      (m ((c : Thread nD τ).loc main_arg4)) ix0 = (l : EReal)) (j : Fin 256) :
    outsAt0 m c t (ix2 i j)
      = normed (fun x => ((Cert.AttnRefIdeal.Value.head (m ((c : Thread nD τ).loc main_arg0)) l b
          ⟨w.val * 256 + i.val, by omega⟩ h x : ℝ) : EReal)) (m ((c : Thread nD τ).loc main_arg5) (ix2 1 j)) j := by
  unfold outsAt0
  frame_out
  refine (pay1_at _ _ _ _ _ _ _ _ i j).trans ?_
  refine congrArg₂ (fun d g => normed d g j) (funext fun x => ?_) (gain_at m c t j)
  refine (congrArg₂ (fun u v : EReal => u - v) ((pay2_at _ _ _ _ _ i x).trans
      (half_at m c t b h w i hX hb hh hw 0 _ _ _ (fun y d => ?_) (fun y d => ?_) (fun y d => ?_) x))
    (congrArg₂ (fun u v : EReal => u * v) (((congrArg (iblk m c 0 t) ?_).trans (lam_at m c t)).trans hl)
      (half_at m c t b h w i hX hb hh hw 1 _ _ _ (fun y d => ?_) (fun y d => ?_) (fun y d => ?_) x))).trans ?_
  · exact (ld_left _ _ y d).trans (by congr 2; exact Fin.ext (by dsimp only; simp))
  · exact (ld_left _ _ y d).trans (by congr 2; exact Fin.ext (by dsimp only; simp))
  · exact (ld_left _ _ y d).trans (by congr 2; exact Fin.ext (by dsimp only; simp))
  · funext a; fin_cases a; rfl
  · exact (ld_right _ _ y d).trans (by congr 2)
  · exact (ld_right _ _ y d).trans (by congr 2)
  · exact (ld_right _ _ y d).trans (by congr 2)
  · rw [← EReal.coe_mul, ← EReal.coe_sub]
    rfl

end Point

/-- Each latent point leaves the reference's block. -/
theorem point (c : Dev nD) (t : Fin cfg0.N) (i j : Fin 256) (l : ℝ)
    (hX : ∀ (r : Fin 17408) (q : Fin 16384), q.val < 6144 →
      ∃ y : ℝ, m ((c : Thread nD τ).loc main_arg0) (ix2 r q) = (y : EReal))
    (hl : Cert.AttnRefIdeal.Value.LAM (m ((c : Thread nD τ).loc main_arg1)) (m ((c : Thread nD τ).loc main_arg2))
      (m ((c : Thread nD τ).loc main_arg3)) (m ((c : Thread nD τ).loc main_arg4)) ix0 = (l : EReal))
    (hr : (t.val / 128 * 16 + t.val % 16) * 256 + i.val < 17408) (hq : t.val / 16 % 8 * 256 + j.val < 2048) :
    outsAt0 m c t (ix2 i j)
      = Cert.AttnRefIdeal.Value.REF (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
          (ix2 ⟨(t.val / 128 * 16 + t.val % 16) * 256 + i.val, hr⟩ ⟨t.val / 16 % 8 * 256 + j.val, hq⟩) := by
  have hN : t.val < 512 := t.isLt
  refine (out_at m c t ⟨t.val / 128, by omega⟩ ⟨t.val / 16 % 8, by omega⟩ ⟨t.val % 16, by omega⟩ i hX rfl rfl rfl l hl j).trans ?_
  refine .trans ?_ (Cert.AttnRefIdeal.Value.REF_at _ _ _ _ _ _ _ _ (by dsimp only; omega)).symm
  have e : (⟨(t.val / 128 * 16 + t.val % 16) * 256 + i.val, by omega⟩ : Fin 16384)
      = ⟨t.val / 128 * 4096 + (t.val % 16 * 256 + i.val), by omega⟩ := Fin.ext (by dsimp only; omega)
  dsimp only
  rw [e]
  refine .trans ?_ (nrm_split _ _ ⟨t.val / 128, by omega⟩ ⟨t.val % 16 * 256 + i.val, by omega⟩ ⟨t.val / 16 % 8, by omega⟩ j).symm
  exact congrArg (fun d => normed d _ j) (funext fun x => (Cert.AttnRefIdeal.Value.OUT_at _ _ _ _ _ l hX hl _ _ _ x).symm)

/-- Where a point's block lies in the result. -/
theorem emb_at (R : S17408x2048.Idx → EReal) (t : Fin cfg0.N) (i j : Fin 256)
    (hr : (t.val / 128 * 16 + t.val % 16) * 256 + i.val < 17408) (hq : t.val / 16 % 8 * 256 + j.val < 2048) :
    R (((View.whole main_v18).slice (win0_7.rect t)).emb (ix2 i j))
      = R (ix2 ⟨(t.val / 128 * 16 + t.val % 16) * 256 + i.val, hr⟩ ⟨t.val / 16 % 8 * 256 + j.val, hq⟩) := by
  blk_point [idx t]

/-- The latent rows of the result array after the run are the reference's; the other rows stay. -/
theorem final (c : Dev nD) (l : ℝ)
    (hX : ∀ (r : Fin 17408) (q : Fin 16384), q.val < 6144 →
      ∃ y : ℝ, m ((c : Thread nD τ).loc main_arg0) (ix2 r q) = (y : EReal))
    (hl : Cert.AttnRefIdeal.Value.LAM (m ((c : Thread nD τ).loc main_arg1)) (m ((c : Thread nD τ).loc main_arg2))
      (m ((c : Thread nD τ).loc main_arg3)) (m ((c : Thread nD τ).loc main_arg4)) ix0 = (l : EReal)) :
    (dats m 0 c).arrAt 7 cfg0.N = fun i : S17408x2048.Idx => if (i 0).val < 16384 then
      Cert.AttnRefIdeal.Value.REF (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) i else V m c main_v18 i := by
  refine (dats m 0 c).arrAt_eq_of_coversWhere 7 _ (fun β => β 0 < 64) (by decide +kernel) (fun t hf y => ?_)
    (fun j => ?_)
  · blk_simp; rw [after0_7]
    idx_vars y
    have hN : t.val < 512 := t.isLt
    have h0 := y0.isLt
    have h1 := y1.isLt
    refine (point m c t y0 y1 l hX hl (by omega) (by omega)).trans ?_
    exact (emb_at _ t y0 y1 (by omega) (by omega)).symm
  · blk_simp [Pipeline.Window.cell_apply]; omega

end Cert.AttnIdeal.Value
-- ==== Proof.AttnPre.lean ====
module
public import proofs.«01_k».proof.Defs
public import proofs.«01_k».proof.Proof.AttnValue
public import proofs.«01_k».proof.Proof.Gen.Pre_finite
public import proofs.«01_k».proof.Proof.Gen.On_latent_rows
public import Idealize.ShloMosaic.Lib.Pointwise

/-!
# The attention's value claim, from its precondition and its mask

The precondition says that the columns the attention reads, and the four rows that give the weight of the
second head, are finite; so over the extended reals they are reals. The mask is the latent rows.
-/

@[expose] public section

set_option maxRecDepth 16384

noncomputable section

open Idealize.ShloMosaic Idealize.ShloMosaic.TcCoe Idealize.SL.Sem

namespace Cert.AttnPre

variable [hPre : Cert.Pre_finite.Facts] [hOn : Cert.On_latent_rows.Facts]
  (X0 : FVec Ideal ⟨2, ![17408, 16384]⟩ .bf16) (X1 X2 X3 X4 : FVec Ideal ⟨2, ![4, 128]⟩ .f32) (X5 : FVec Ideal ⟨2, ![4, 256]⟩ .f32)

/-- The infinity of the format. -/
theorem ofBits_inf : Ideal.ofBits .f32 0x7F800000#32 = (⊤ : EReal) := by
  simp [Ideal.ofBits, Ideal.ieee]

/-- A number whose absolute value is below the infinity is a real. -/
theorem real_of_abs {φ : FTy} (x : Ideal φ)
    (h : BitVec.ofBool (decide ((show EReal from FloatOps.absf x) < Ideal.ofBits .f32 0x7F800000#32)) = 1#1) :
    ∃ y : ℝ, x = (y : EReal) := by
  rw [ofBits_inf] at h
  have h' : max (show EReal from x) (-(show EReal from x)) < ⊤ := by
    by_contra hn
    have : decide ((show EReal from FloatOps.absf x) < ⊤) = false := decide_eq_false hn
    rw [this] at h
    exact absurd h (by decide)
  refine ⟨EReal.toReal x, (EReal.coe_toReal ?_ ?_).symm⟩
  · rintro e
    rw [e] at h'
    exact absurd h' (by simp)
  · rintro e
    rw [e] at h'
    exact absurd h' (by simp)

/-- The columns that the attention reads are reals. -/
theorem fin0 (h : (Cert.Pre_finite.fn (F := Ideal) X0 X1 X2 X3 X4 X5).1 = fun _ => 1#1) (r : Fin 17408) (q : Fin 16384)
    (hq : q.val < 6144) : ∃ y : ℝ, X0 (ix2 r q) = (y : EReal) := by
  refine real_of_abs _ (.trans ?_ (congrFun h (ix2 r ⟨q.val, hq⟩)))
  symm
  pointwise [Cert.Pre_finite.fn, Cert.Pre_finite.fn_part1]
  rfl

/-- The first row is real. -/
theorem fin1 (h : (Cert.Pre_finite.fn (F := Ideal) X0 X1 X2 X3 X4 X5).2.1 = fun _ => 1#1) (x : Fin 128) :
    ∃ y : ℝ, X1 (ix2 1 x) = (y : EReal) := by
  refine real_of_abs _ (.trans ?_ (congrFun h (ix1 x)))
  symm
  pointwise [Cert.Pre_finite.fn, Cert.Pre_finite.fn_part1]

/-- The second row is real. -/
theorem fin2 (h : (Cert.Pre_finite.fn (F := Ideal) X0 X1 X2 X3 X4 X5).2.2.1 = fun _ => 1#1) (x : Fin 128) :
    ∃ y : ℝ, X2 (ix2 1 x) = (y : EReal) := by
  refine real_of_abs _ (.trans ?_ (congrFun h (ix1 x)))
  symm
  pointwise [Cert.Pre_finite.fn, Cert.Pre_finite.fn_part1]

/-- The third row is real. -/
theorem fin3 (h : (Cert.Pre_finite.fn (F := Ideal) X0 X1 X2 X3 X4 X5).2.2.2.1 = fun _ => 1#1) (x : Fin 128) :
    ∃ y : ℝ, X3 (ix2 1 x) = (y : EReal) := by
  refine real_of_abs _ (.trans ?_ (congrFun h (ix1 x)))
  symm
  pointwise [Cert.Pre_finite.fn, Cert.Pre_finite.fn_part1]

/-- The fourth row is real. -/
theorem fin4 (h : (Cert.Pre_finite.fn (F := Ideal) X0 X1 X2 X3 X4 X5).2.2.2.2 = fun _ => 1#1) (x : Fin 128) :
    ∃ y : ℝ, X4 (ix2 1 x) = (y : EReal) := by
  refine real_of_abs _ (.trans ?_ (congrFun h (ix1 x)))
  symm
  pointwise [Cert.Pre_finite.fn, Cert.Pre_finite.fn_part1]

/-- The exponential of a product of two real rows is a real. -/
theorem exp_dot (f g : Fin 128 → EReal) (hf : ∀ x, ∃ y : ℝ, f x = (y : EReal)) (hg : ∀ x, ∃ y : ℝ, g x = (y : EReal)) :
    ∃ y : ℝ, Ideal.exp (∑ x, f x * g x) = (y : EReal) := by
  choose u hu using hf
  choose v hv using hg
  refine ⟨Real.exp (∑ x, u x * v x), ?_⟩
  simp only [hu, hv, ← EReal.coe_mul, Softmax.coe_sum, Ideal.exp_coe]

/-- The weight of the second head is a real. -/
theorem lam_real (h : (Cert.Pre_finite.fn (F := Ideal) X0 X1 X2 X3 X4 X5).2.1 = (fun _ => 1#1)
    ∧ (Cert.Pre_finite.fn (F := Ideal) X0 X1 X2 X3 X4 X5).2.2.1 = (fun _ => 1#1)
    ∧ (Cert.Pre_finite.fn (F := Ideal) X0 X1 X2 X3 X4 X5).2.2.2.1 = (fun _ => 1#1)
    ∧ (Cert.Pre_finite.fn (F := Ideal) X0 X1 X2 X3 X4 X5).2.2.2.2 = (fun _ => 1#1)) [Cert.AttnRefIdeal.Facts] :
    ∃ l : ℝ, Cert.AttnRefIdeal.Value.LAM X1 X2 X3 X4 ix0 = (l : EReal) := by
  obtain ⟨a, ha⟩ := exp_dot (fun x => X1 (ix2 1 x)) (fun x => X2 (ix2 1 x)) (fin1 X0 X1 X2 X3 X4 X5 h.1) (fin2 X0 X1 X2 X3 X4 X5 h.2.1)
  obtain ⟨b, hb⟩ := exp_dot (fun x => X3 (ix2 1 x)) (fun x => X4 (ix2 1 x)) (fin3 X0 X1 X2 X3 X4 X5 h.2.2.1) (fin4 X0 X1 X2 X3 X4 X5 h.2.2.2)
  obtain ⟨k, hk⟩ : ∃ k : ℝ, Ideal.ofBits .f32 0x3EB60549#32 = (k : EReal) := ⟨_, by simp [Ideal.ofBits, Ideal.ieee, -EReal.coe_mul]; rfl⟩
  refine ⟨a - b + k, (Cert.AttnRefIdeal.Value.LAM_at X1 X2 X3 X4).trans ?_⟩
  rw [EReal.coe_add, EReal.coe_sub, ← ha, ← hb, ← hk]

/-- The mask is the latent rows. -/
theorem mask (i : (⟨2, ![17408, 2048]⟩ : Shape).Idx)
    (h : Cert.On_latent_rows.fn (F := Ideal) X0 X1 X2 X3 X4 X5 i = 1#1) : (i 0).val < 16384 := by
  idx_vars i
  have e : Cert.On_latent_rows.fn (F := Ideal) X0 X1 X2 X3 X4 X5 (ix2 i0 i1) = IntOp.cmpi .slt (BitVec.ofNat 32 i0.val) 16384#32 := by
    pointwise [Cert.On_latent_rows.fn]
  rw [e] at h
  have h0 := i0.isLt
  show i0.val < 16384
  have h' : BitVec.slt (BitVec.ofNat 32 i0.val) 16384#32 = true := by
    by_contra hn
    rw [Bool.not_eq_true] at hn
    have : IntOp.cmpi .slt (BitVec.ofNat 32 i0.val) 16384#32 = BitVec.ofBool (BitVec.slt (BitVec.ofNat 32 i0.val) 16384#32) := rfl
    rw [this, hn] at h
    exact absurd h (by decide)
  have h2 : (BitVec.ofNat 32 i0.val).toInt < (16384#32).toInt := BitVec.slt_iff_toInt_lt.1 h'
  have e1 : (BitVec.ofNat 32 i0.val).toInt = (i0.val : ℤ) := by
    rw [BitVec.toInt_eq_toNat_of_lt (by rw [BitVec.toNat_ofNat]; omega), BitVec.toNat_ofNat]
    omega
  have e2 : (16384#32).toInt = 16384 := by decide
  rw [e1, e2] at h2
  omega

end Cert.AttnPre

namespace Cert.AttnPre

/-- What the reference's run leaves is the value of its stages. -/
theorem res_eq (m : (ℓ : Loc Cert.AttnRefIdeal.nD Cert.AttnRefIdeal.τ Cert.AttnRefIdeal.sig) → Buf (Elt Ideal) ℓ)
    (c : Dev Cert.AttnRefIdeal.nD) :
    Cert.AttnRefIdeal.Value.res_main_v75 m c
      = Cert.AttnRefIdeal.Value.REF (m (c.tc.loc Cert.AttnRefIdeal.main_arg0)) (m (c.tc.loc Cert.AttnRefIdeal.main_arg1))
          (m (c.tc.loc Cert.AttnRefIdeal.main_arg2)) (m (c.tc.loc Cert.AttnRefIdeal.main_arg3))
          (m (c.tc.loc Cert.AttnRefIdeal.main_arg4)) (m (c.tc.loc Cert.AttnRefIdeal.main_arg5)) := rfl

/-- The value claim of the attention: on the latent rows the kernel and the reference end with the same array. -/
theorem algebraic : Cert.algebraic_AttnIdeal_AttnRefIdeal_on_latent_rows_pre_finite (hAttnIdeal := Cert.AttnIdeal.Gen.facts)
    (hAttnRefIdeal := Cert.AttnRefIdeal.Gen.facts) (hPre_finite := Cert.Pre_finite.Gen.facts)
    (hOn_latent_rows := Cert.On_latent_rows.Gen.facts) := by
  intro m g m' g' hpre hargs
  refine ⟨fun c => (Cert.AttnIdeal.Gen.dats m 0 c).arrAt 7 Cert.AttnIdeal.cfg0.N,
    (θ_run (Cert.AttnIdeal.defs (F := Ideal)) _ _).mono (fun r h c => ?_) (Cert.AttnIdeal.Value.run_blocks m g),
    (θ_run (Cert.AttnRefIdeal.defs (F := Ideal)) _ _).mono (fun r h c => ?_) (Cert.AttnRefIdeal.Value.run m' g')⟩
  · exact ⟨fun i _ => by rw [(h c).1], (h c).2⟩
  · refine ⟨fun i hi => ?_, (h c).2⟩
    obtain ⟨h0, hrest⟩ := hpre c
    obtain ⟨l, hl⟩ := lam_real _ _ _ _ _ _ hrest
    have hX := fin0 _ _ _ _ _ _ h0
    have hrow := mask _ _ _ _ _ _ i hi
    obtain ⟨a0, a1, a2, a3, a4, a5⟩ := hargs c
    refine .trans ?_ (congrFun (Cert.AttnIdeal.Value.final m c l hX hl) i).symm
    refine .trans ?_ (if_pos hrow).symm
    rw [(h c).1, res_eq m' c, a0, a1, a2, a3, a4, a5]

end Cert.AttnPre
-- ==== Proof.CtxRef.lean ====
module
public import proofs.«01_k».proof.Proof.Gen.CtxRefIdeal.Run
public import proofs.«01_k».proof.Proof.AttnRef

/-!
# The context attention reference at an index

The stages of the reference for the context rows: every context row attends to the 256 context rows of its
own batch, and the latent rows are those of the array that was handed in.
-/

@[expose] public section

set_option maxRecDepth 16384

noncomputable section

open Idealize.ShloMosaic Idealize.ShloMosaic.TcCoe Idealize.SL.Sem

namespace Cert.CtxRefIdeal.Value

open Cert.CtxRefIdeal Cert.CtxRefIdeal.Gen
open Cert.AttnRefIdeal.Value (ofBits_neg_inf reduce_max_real coe_toReal)

/-- The context rows, by batch and position. -/
def CTXF (X0 : FVec Ideal S17408x16384 .bf16) : FVec Ideal S4x256x16384 .f32 :=
  shapeCast _ (extractStridedSlice S1024x16384 ![16384, 0] (extf .f32 X0 bitsLt_bf16_f32) slices_S17408x16384_S1024x16384_16384_0) shapeCasts_S1024x16384_S4x256x16384

/-- The values. -/
def VC (c : FVec Ideal S4x256x16384 .f32) : FVec Ideal S4x256x8x256 .f32 :=
  shapeCast _ (extractStridedSlice S4x256x2048 ![0, 0, 4096] c slices_S4x256x16384_S4x256x2048_0_0_4096) shapeCasts_S4x256x2048_S4x256x8x256

/-- The scores. -/
def SC (c : FVec Ideal S4x256x16384 .f32) : FVec Ideal S4x16x256x256 .f32 :=
  Host.dotGeneral dot_S4x256x16x128_S4x256x16x128_S4x16x256x256_3_3_1_1_02_02 none (shapeCast _ (extractStridedSlice S4x256x2048 ![0, 0, 0] c slices_S4x256x16384_S4x256x2048_0_0_0) shapeCasts_S4x256x2048_S4x256x16x128) (shapeCast _ (extractStridedSlice S4x256x2048 ![0, 0, 2048] c slices_S4x256x16384_S4x256x2048_0_0_2048) shapeCasts_S4x256x2048_S4x256x16x128)

/-- The fold of each row of scores under the maximum. -/
def RD (s : FVec Ideal S4x16x256x256 .f32) : FVec Ideal S4x16x256 .f32 :=
  Host.reduce FloatOps.maximumf s (constant S_ .f32 0xFF800000#32) reducesTo_S4x16x256x256_S4x16x256_d3 h_S_

/-- The largest score of each row. -/
def MX (r : FVec Ideal S4x16x256 .f32) : FVec Ideal S4x16x256 .f32 :=
  maximumf (broadcastInDim S4x16x256 ![] bcast_S_S4x16x256 (constant S_ .f32 0xFF800000#32)) r

/-- The exponentials of the scores less a number for each row. -/
def EX (s : FVec Ideal S4x16x256x256 .f32) (m : FVec Ideal S4x16x256 .f32) : FVec Ideal S4x16x256x256 .f32 :=
  Host.exp (subf s (broadcastInDim S4x16x256x256 ![0, 1, 2, 3] bcast_S4x16x256x1_S4x16x256x256_0_1_2_3 (broadcastInDim S4x16x256x1 ![0, 1, 2] bcast_S4x16x256_S4x16x256x1_0_1_2 m)))

/-- The softmax. -/
def PR (e : FVec Ideal S4x16x256x256 .f32) : FVec Ideal S4x16x256x256 .f32 :=
  Host.divf e (broadcastInDim S4x16x256x256 ![0, 1, 2, 3] bcast_S4x16x256x1_S4x16x256x256_0_1_2_3 (broadcastInDim S4x16x256x1 ![0, 1, 2] bcast_S4x16x256_S4x16x256x1_0_1_2 (Host.reduceAdd e (constant S_ .f32 0x00000000#32) reducesTo_S4x16x256x256_S4x16x256_d3 h_S_)))

/-- The weight of the second head of a pair. -/
def LAM (X1 X2 X3 X4 : FVec Ideal S4x128 .f32) : FVec Ideal S_ .f32 :=
  addf (subf (Host.exp (Host.reduceAdd (mulf (shapeCast _ (extractStridedSlice S1x128 ![1, 0] X1 slices_S4x128_S1x128_1_0) shapeCasts_S1x128_S128) (shapeCast _ (extractStridedSlice S1x128 ![1, 0] X2 slices_S4x128_S1x128_1_0) shapeCasts_S1x128_S128)) (constant S_ .f32 0x00000000#32) reducesTo_S128_S_d0 h_S_)) (Host.exp (Host.reduceAdd (mulf (shapeCast _ (extractStridedSlice S1x128 ![1, 0] X3 slices_S4x128_S1x128_1_0) shapeCasts_S1x128_S128) (shapeCast _ (extractStridedSlice S1x128 ![1, 0] X4 slices_S4x128_S1x128_1_0) shapeCasts_S1x128_S128)) (constant S_ .f32 0x00000000#32) reducesTo_S128_S_d0 h_S_))) (constant S_ .f32 0x3EB60549#32)

/-- The difference of the two softmaxes applied to the values. -/
def DI (v : FVec Ideal S4x256x8x256 .f32) (p : FVec Ideal S4x16x256x256 .f32) (l : FVec Ideal S_ .f32) : FVec Ideal S4x256x8x256 .f32 :=
  transpose S4x256x8x256 [0, 3, 1, 2] (Host.dotGeneral dot_S4x256x8x256_S4x8x256x256_S4x8x256x256_1_3_3_2_02_01 none v (subf (shapeCast _ (extractStridedSlice S4x8x1x256x256 ![0, 0, 0, 0, 0] (shapeCast _ p shapeCasts_S4x16x256x256_S4x8x2x256x256) slices_S4x8x2x256x256_S4x8x1x256x256_0_0_0_0_0) shapeCasts_S4x8x1x256x256_S4x8x256x256) (mulf (broadcastInDim S4x8x256x256 ![] bcast_S_S4x8x256x256 l) (shapeCast _ (extractStridedSlice S4x8x1x256x256 ![0, 0, 1, 0, 0] (shapeCast _ p shapeCasts_S4x16x256x256_S4x8x2x256x256) slices_S4x8x2x256x256_S4x8x1x256x256_0_0_1_0_0) shapeCasts_S4x8x1x256x256_S4x8x256x256)))) transposes_S4x8x256x256_S4x256x8x256_0_3_1_2

/-- The norm of each head and its scales, as rows. -/
def NRM (o : FVec Ideal S4x256x8x256 .f32) (X5 : FVec Ideal S4x256 .f32) : FVec Ideal S1024x2048 .f32 :=
  shapeCast _ (mulf (mulf (mulf o (broadcastInDim S4x256x8x256 ![0, 1, 2, 3] bcast_S4x256x8x1_S4x256x8x256_0_1_2_3 (Host.rsqrt (addf (Host.divf (broadcastInDim S4x256x8x1 ![0, 1, 2] bcast_S4x256x8_S4x256x8x1_0_1_2 (Host.reduceAdd (mulf o o) (constant S_ .f32 0x00000000#32) reducesTo_S4x256x8x256_S4x256x8_d3 h_S_)) (broadcastInDim S4x256x8x1 ![] bcast_S_S4x256x8x1 (constant S_ .f32 0x43800000#32))) (broadcastInDim S4x256x8x1 ![] bcast_S_S4x256x8x1 (constant S_ .f32 0x358637BD#32)))))) (broadcastInDim S4x256x8x256 ![0, 1, 2, 3] bcast_S1x1x1x256_S4x256x8x256_0_1_2_3 (broadcastInDim S1x1x1x256 ![3] bcast_S256_S1x1x1x256_3 (shapeCast _ (extractStridedSlice S1x256 ![1, 0] X5 slices_S4x256_S1x256_1_0) shapeCasts_S1x256_S256)))) (broadcastInDim S4x256x8x256 ![] bcast_S_S4x256x8x256 (constant S_ .f32 0x3F24FD5C#32))) shapeCasts_S4x256x8x256_S1024x2048

/-- The difference head of the arguments, stage by stage. -/
def OUT (X0 : FVec Ideal S17408x16384 .bf16) (X1 X2 X3 X4 : FVec Ideal S4x128 .f32) : FVec Ideal S4x256x8x256 .f32 :=
  DI (VC (CTXF X0)) (PR (EX (SC (CTXF X0)) (MX (RD (SC (CTXF X0)))))) (LAM X1 X2 X3 X4)

/-- The reference's composed term of its seven arguments. -/
def REF (X0 : FVec Ideal S17408x16384 .bf16) (X1 X2 X3 X4 : FVec Ideal S4x128 .f32) (X5 : FVec Ideal S4x256 .f32)
    (X6 : FVec Ideal S17408x2048 .bf16) : FVec Ideal S17408x2048 .bf16 :=
  concatenate S17408x2048 0 [⟨S16384x2048, extractStridedSlice S16384x2048 ![0, 0] X6 slices_S17408x2048_S16384x2048_0_0⟩, ⟨S1024x2048, truncf .bf16 (NRM (OUT X0 X1 X2 X3 X4) X5) bitsLt_bf16_f32⟩] concatenates_S16384x2048_S1024x2048_S17408x2048_d0

/-- A context row at an index. -/
theorem CTXF_at (X0 : FVec Ideal S17408x16384 .bf16) (b : Fin 4) (i : Fin 256) (q : Fin 16384) :
    CTXF X0 (ix3 b i q) = X0 (ix2 ⟨16384 + (b.val * 256 + i.val), by omega⟩ q) := by
  pointwise [CTXF]

/-- The values at an index. -/
theorem VC_at (c : FVec Ideal S4x256x16384 .f32) (b : Fin 4) (k : Fin 256) (g : Fin 8) (d : Fin 256) :
    VC c (ix4 b k g d) = c (ix3 b k ⟨4096 + (g.val * 256 + d.val), by omega⟩) := by
  pointwise [VC]

/-- The scores at an index. -/
theorem SC_at (c : FVec Ideal S4x256x16384 .f32) (b : Fin 4) (g : Fin 16) (i x : Fin 256) :
    SC c (ix4 b g i x) = ∑ d : Fin 128, c (ix3 b i ⟨g.val * 128 + d.val, by omega⟩)
      * c (ix3 b x ⟨2048 + (g.val * 128 + d.val), by omega⟩) := by
  pointwise [SC]

/-- The exponentials at an index. -/
theorem EX_at (s : FVec Ideal S4x16x256x256 .f32) (m : FVec Ideal S4x16x256 .f32) (b : Fin 4) (g : Fin 16) (i k : Fin 256) :
    EX s m (ix4 b g i k) = Ideal.exp (s (ix4 b g i k) - m (ix3 b g i)) := by
  pointwise [EX]

/-- The softmax at an index. -/
theorem PR_at (e : FVec Ideal S4x16x256x256 .f32) (b : Fin 4) (g : Fin 16) (i k : Fin 256) :
    PR e (ix4 b g i k) = Ideal.div (e (ix4 b g i k)) (∑ x : Fin 256, e (ix4 b g i x)) := by
  pointwise [PR]

/-- The difference at an index. -/
theorem DI_at (v : FVec Ideal S4x256x8x256 .f32) (p : FVec Ideal S4x16x256x256 .f32) (l : FVec Ideal S_ .f32)
    (b : Fin 4) (h : Fin 8) (i j : Fin 256) :
    DI v p l (ix4 b i h j) = ∑ k : Fin 256, v (ix4 b k h j) * (p (ix4 b ⟨h.val * 2, by omega⟩ i k)
      - l ix0 * p (ix4 b ⟨h.val * 2 + 1, by omega⟩ i k)) := by
  pointwise [DI]

/-- The weight of the second head is a number that the four rows give. -/
theorem LAM_at (X1 X2 X3 X4 : FVec Ideal S4x128 .f32) :
    LAM X1 X2 X3 X4 ix0 = Ideal.exp (∑ x : Fin 128, X1 (ix2 1 x) * X2 (ix2 1 x))
      - Ideal.exp (∑ x : Fin 128, X3 (ix2 1 x) * X4 (ix2 1 x)) + Ideal.ofBits .f32 0x3EB60549#32 := by
  pointwise [LAM]

/-- The largest score at an index. -/
theorem MX_at (r : FVec Ideal S4x16x256 .f32) (j : S4x16x256.Idx) : MX r j = max (⊥ : EReal) (r j) := by
  rw [← ofBits_neg_inf]
  rfl

/-- The largest score of a row of reals is a real. -/
theorem MX_real (s : FVec Ideal S4x16x256x256 .f32) (hs : ∀ i, ∃ y : ℝ, s i = (y : EReal)) (j : S4x16x256.Idx) :
    ∃ M : ℝ, MX (RD s) j = (M : EReal) := by
  have hi : ∀ i, (show EReal from (constant S_ .f32 0xFF800000#32 : FVec Ideal S_ .f32) i) ≠ ⊤ := fun i => by
    show Ideal.ofBits .f32 0xFF800000#32 ≠ ⊤
    rw [ofBits_neg_inf]; exact bot_ne_top
  obtain ⟨M, hM⟩ := reduce_max_real s (constant S_ .f32 0xFF800000#32) reducesTo_S4x16x256x256_S4x16x256_d3 h_S_ j (by norm_num) hi hs
  exact ⟨M, (MX_at _ j).trans ((max_eq_right bot_le).trans hM)⟩

/-- The score of context row `i` of batch `b` against context row `k` in head `g`, as a real. -/
def score (X0 : FVec Ideal S17408x16384 .bf16) (b : Fin 4) (i : Fin 256) (g : Fin 16) (k : Fin 256) : ℝ :=
  ∑ d : Fin 128, EReal.toReal (X0 (ix2 ⟨16384 + (b.val * 256 + i.val), by omega⟩ ⟨g.val * 128 + d.val, by omega⟩))
    * EReal.toReal (X0 (ix2 ⟨16384 + (b.val * 256 + k.val), by omega⟩ ⟨2048 + (g.val * 128 + d.val), by omega⟩))

/-- Column `j` of the value of context row `k` in head pair `h`, as a real. -/
def value (X0 : FVec Ideal S17408x16384 .bf16) (b : Fin 4) (h : Fin 8) (j k : Fin 256) : ℝ :=
  EReal.toReal (X0 (ix2 ⟨16384 + (b.val * 256 + k.val), by omega⟩ ⟨4096 + (h.val * 256 + j.val), by omega⟩))

/-- The difference head over the reals: the average under the first head's scores less `l` times the
    average under the second's. -/
def head (X0 : FVec Ideal S17408x16384 .bf16) (l : ℝ) (b : Fin 4) (i : Fin 256) (h : Fin 8) (j : Fin 256) : ℝ :=
  Softmax.avg (score X0 b i ⟨h.val * 2, by omega⟩) (value X0 b h j)
    - l * Softmax.avg (score X0 b i ⟨h.val * 2 + 1, by omega⟩) (value X0 b h j)

/-- The scores are reals where the columns they read are. -/
theorem SC_real (X0 : FVec Ideal S17408x16384 .bf16)
    (hX : ∀ (r : Fin 17408) (q : Fin 16384), 16384 ≤ r.val → q.val < 6144 → ∃ y : ℝ, X0 (ix2 r q) = (y : EReal))
    (b : Fin 4) (g : Fin 16) (i k : Fin 256) :
    SC (CTXF X0) (ix4 b g i k) = ((score X0 b i g k : ℝ) : EReal) := by
  rw [SC_at, score, ← Softmax.coe_sum]
  refine Finset.sum_congr rfl fun d _ => ?_
  rw [CTXF_at, CTXF_at, EReal.coe_mul, ← coe_toReal (hX _ _ (by dsimp only; omega) (by dsimp only; omega)),
    ← coe_toReal (hX _ _ (by dsimp only; omega) (by dsimp only; omega))]

/-- The difference head of the reference at an index. -/
theorem OUT_at (X0 : FVec Ideal S17408x16384 .bf16) (X1 X2 X3 X4 : FVec Ideal S4x128 .f32) (l : ℝ)
    (hX : ∀ (r : Fin 17408) (q : Fin 16384), 16384 ≤ r.val → q.val < 6144 → ∃ y : ℝ, X0 (ix2 r q) = (y : EReal))
    (hl : LAM X1 X2 X3 X4 ix0 = (l : EReal)) (b : Fin 4) (i : Fin 256) (h : Fin 8) (j : Fin 256) :
    OUT X0 X1 X2 X3 X4 (ix4 b i h j) = ((head X0 l b i h j : ℝ) : EReal) := by
  have hS : ∀ z, ∃ y : ℝ, SC (CTXF X0) z = (y : EReal) := fun z =>
    ⟨_, (congrArg _ (eq_ix4 z)).trans (SC_real X0 hX (z 0) (z 1) (z 2) (z 3))⟩
  obtain ⟨M, hM⟩ := MX_real _ hS (ix3 b ⟨h.val * 2, by omega⟩ i)
  obtain ⟨N, hN⟩ := MX_real _ hS (ix3 b ⟨h.val * 2 + 1, by omega⟩ i)
  refine (DI_at _ _ _ b h i j).trans ?_
  simp only [PR_at, EX_at, hM, hN, hl]
  exact Softmax.difference (n := 255) _ _ _ l M N _ _ _ (fun k => SC_real X0 hX b _ i k) (fun k => SC_real X0 hX b _ i k)
    (fun k => by rw [VC_at, CTXF_at, value, ← coe_toReal (hX _ _ (by dsimp only; omega) (by dsimp only; omega))])

/-- A context row of the result, from the difference head. -/
theorem NRM_at (o : FVec Ideal S4x256x8x256 .f32) (X5 : FVec Ideal S4x256 .f32) (r : Fin 1024) (q : Fin 2048) :
    NRM o X5 (ix2 r q) =
      o (ix4 ⟨r.val / 256, by omega⟩ ⟨r.val % 256, by omega⟩ ⟨q.val / 256, by omega⟩ ⟨q.val % 256, by omega⟩)
        * Ideal.rsqrt (Ideal.div (∑ x : Fin 256,
            o (ix4 ⟨r.val / 256, by omega⟩ ⟨r.val % 256, by omega⟩ ⟨q.val / 256, by omega⟩ x)
            * o (ix4 ⟨r.val / 256, by omega⟩ ⟨r.val % 256, by omega⟩ ⟨q.val / 256, by omega⟩ x))
            (Ideal.ofBits .f32 0x43800000#32) + Ideal.ofBits .f32 0x358637BD#32)
        * X5 (ix2 1 ⟨q.val % 256, by omega⟩) * Ideal.ofBits .f32 0x3F24FD5C#32 := by
  pointwise [NRM]

/-- The reference at a context row. -/
theorem REF_ctx (X0 : FVec Ideal S17408x16384 .bf16) (X1 X2 X3 X4 : FVec Ideal S4x128 .f32) (X5 : FVec Ideal S4x256 .f32)
    (X6 : FVec Ideal S17408x2048 .bf16) (r : Fin 1024) (q : Fin 2048) :
    REF X0 X1 X2 X3 X4 X5 X6 (ix2 ⟨16384 + r.val, by omega⟩ q) = NRM (OUT X0 X1 X2 X3 X4) X5 (ix2 r q) := by
  generalize hz : NRM (OUT X0 X1 X2 X3 X4) X5 = z
  unfold REF
  rw [hz]
  pointwise

/-- The reference at a latent row is the array handed in. -/
theorem REF_lat (X0 : FVec Ideal S17408x16384 .bf16) (X1 X2 X3 X4 : FVec Ideal S4x128 .f32) (X5 : FVec Ideal S4x256 .f32)
    (X6 : FVec Ideal S17408x2048 .bf16) (r : Fin 17408) (q : Fin 2048) (hr : r.val < 16384) :
    REF X0 X1 X2 X3 X4 X5 X6 (ix2 r q) = X6 (ix2 r q) := by
  generalize hz : NRM (OUT X0 X1 X2 X3 X4) X5 = z
  unfold REF
  rw [hz]
  pointwise
  simp only [dif_pos hr]

/-- What the reference's run leaves is the value of its stages. -/
theorem res_eq (m : (ℓ : Loc nD τ sig) → Buf (Elt Ideal) ℓ) (c : Dev nD) :
    res_main_v67 m c
      = REF (m (c.tc.loc main_arg0)) (m (c.tc.loc main_arg1)) (m (c.tc.loc main_arg2)) (m (c.tc.loc main_arg3))
          (m (c.tc.loc main_arg4)) (m (c.tc.loc main_arg5)) (m (c.tc.loc main_arg6)) := rfl

end Cert.CtxRefIdeal.Value
-- ==== Proof.CtxValue.lean ====
module
public import proofs.«01_k».proof.Defs
public import proofs.«01_k».proof.Proof.Gen.CtxIdeal.Value
public import proofs.«01_k».proof.Proof.Gen.Pre_ctx_finite
public import proofs.«01_k».proof.Proof.CtxRef
public import proofs.«01_k».proof.Proof.AttnPre
public import Idealize.ShloMosaic.Lib.Pipeline.ValueKit
public import Idealize.ShloMosaic.Lib.Pipeline.ReadBack

/-!
# The attention of the context rows: the kernel's array is the reference's

A grid point takes the 256 context rows of one batch and one pair of heads, as queries, keys and values. The
kernel divides the weighted sum by the sum of the exponentials; the reference divides each weight. The latent
rows are not written: they are those of the array that the result starts as.
-/

@[expose] public section

set_option maxRecDepth 16384

noncomputable section

open Idealize.ShloMosaic Idealize.ShloMosaic.TcCoe Idealize.SL.Sem
open Idealize.ShloMosaic.Pipeline (Dat)

namespace Cert.CtxIdeal.Value

open Cert.CtxIdeal Cert.CtxIdeal.Gen
open Cert.AttnIdeal.Value (dots normed ld_left ld_right)

variable (m : (ℓ : Loc nD τ sig) → Buf (Elt Ideal) ℓ)

/-- The row maximum of the scores. -/
def top (S : Fin 256 → EReal) : EReal :=
  (Finset.univ : Finset (Fin 256)).fold max (Ideal.ofBits .f32 0xFF800000#32) S

/-- The softmax average, divided once. -/
def soft (S : Fin 256 → EReal) (v : Fin 256 → EReal) : EReal :=
  Ideal.div (∑ k, Ideal.exp (S k - top S) * v k) (∑ k, Ideal.exp (S k - top S))

/-- The difference of the two averages at an index. -/
theorem pay2_at (l : Elt Ideal .f32) (q k : FVec Ideal S256x128 .bf16) (v : FVec Ideal S256x256 .bf16)
    (q' k' : FVec Ideal S256x128 .bf16) (v' : FVec Ideal S256x256 .bf16) (i j : Fin 256) :
    k0_pay2 (F := Ideal) l q k v q' k' v' (ix2 i j)
      = soft (dots q k i) (fun x => v (ix2 x j)) - l * soft (dots q' k' i) (fun x => v' (ix2 x j)) := by
  pointwise [k0_pay2, soft, top, dots]

/-- The stored block at an index, from the difference and its square. -/
theorem pay1_at (d e : FVec Ideal S256x256 .f32) (s : FVec Ideal S1x1x256 .f32) (h : ∀ y, e y = d y * d y) (i j : Fin 256) :
    k0_pay1 (F := Ideal) d e s (ix2 i j) = normed (fun x => d (ix2 i x)) (s (ix3 0 0 j)) j := by
  obtain rfl : e = fun y => d y * d y := funext h
  pointwise [k0_pay1, normed]

/-- The index maps at a point, by arithmetic on its number. -/
theorem idx : ∀ t : Fin cfg0.N,
    win0_0.index t = ![0] ∧ win0_1.index t = ![64 + t.val / 8, t.val % 8]
      ∧ win0_2.index t = ![64 + t.val / 8, 8 + t.val % 8] ∧ win0_3.index t = ![64 + t.val / 8, 16 + t.val % 8]
      ∧ win0_4.index t = ![1, 0, 0] ∧ win0_5.index t = ![64 + t.val / 8, t.val % 8] :=
  (by decide +kernel : ∀ t : Fin grid0.N, _)

/-- The query rows of a point, read at an index. -/
theorem q_at (c : Dev nD) (t : Fin cfg0.N) (i : Fin 256) (x : Fin 256)
    (hr : 16384 + (t.val / 8 * 256 + i.val) < 17408) (hc : t.val % 8 * 256 + x.val < 16384) :
    iblk m c 1 t (ix2 i x) = m ((c : Thread nD τ).loc main_arg0) (ix2 ⟨16384 + (t.val / 8 * 256 + i.val), hr⟩
      ⟨t.val % 8 * 256 + x.val, hc⟩) := by
  blk_point [iblk, V, idx t]

/-- The keys of a point, read at an index. -/
theorem k_at (c : Dev nD) (t : Fin cfg0.N) (i : Fin 256) (x : Fin 256)
    (hr : 16384 + (t.val / 8 * 256 + i.val) < 17408) (hc : 2048 + (t.val % 8 * 256 + x.val) < 16384) :
    iblk m c 2 t (ix2 i x) = m ((c : Thread nD τ).loc main_arg0) (ix2 ⟨16384 + (t.val / 8 * 256 + i.val), hr⟩
      ⟨2048 + (t.val % 8 * 256 + x.val), hc⟩) := by
  blk_point [iblk, V, idx t]

/-- The values of a point, read at an index. -/
theorem v_at (c : Dev nD) (t : Fin cfg0.N) (i : Fin 256) (x : Fin 256)
    (hr : 16384 + (t.val / 8 * 256 + i.val) < 17408) (hc : 4096 + (t.val % 8 * 256 + x.val) < 16384) :
    iblk m c 3 t (ix2 i x) = m ((c : Thread nD τ).loc main_arg0) (ix2 ⟨16384 + (t.val / 8 * 256 + i.val), hr⟩
      ⟨4096 + (t.val % 8 * 256 + x.val), hc⟩) := by
  blk_point [iblk, V, idx t]

/-- The norm's gain, read at an index. -/
theorem gain_at (c : Dev nD) (t : Fin cfg0.N) (j : Fin 256) :
    iblk m c 4 t (ix3 0 0 j) = m ((c : Thread nD τ).loc main_arg5) (ix2 1 j) := by
  blk_point [iblk, V, idx t]

/-- The weight of the second head, as the kernel is handed it. -/
theorem lam_at (c : Dev nD) (t : Fin cfg0.N) :
    iblk m c 0 t (ix1 0) = Cert.CtxRefIdeal.Value.LAM (m ((c : Thread nD τ).loc main_arg1)) (m ((c : Thread nD τ).loc main_arg2)) (m ((c : Thread nD τ).loc main_arg3)) (m ((c : Thread nD τ).loc main_arg4)) ix0 := by
  blk_point [iblk, V, idx t]

/-- The average over real scores and values is a real. -/
theorem soft_real (s v : Fin 256 → ℝ) (S V : Fin 256 → EReal) (hS : ∀ k, S k = (s k : EReal)) (hV : ∀ k, V k = (v k : EReal)) :
    soft S V = ((Softmax.avg s v : ℝ) : EReal) := by
  have hi : Ideal.ofBits .f32 0xFF800000#32 ≠ (⊤ : EReal) := by
    rw [Cert.AttnRefIdeal.Value.ofBits_neg_inf]; exact bot_ne_top
  obtain ⟨M, hM⟩ := Softmax.fold_max_real (n := 255) _ hi S s hS
  have hM' : top S = (M : EReal) := hM
  rw [soft, hM']
  exact Softmax.whole (n := 255) s v M S V hS hV

/-- The reference's norm at a batch, position, head and column. -/
theorem nrm_split (o : FVec Ideal Cert.CtxRefIdeal.S4x256x8x256 .f32) (X5 : FVec Ideal Cert.CtxRefIdeal.S4x256 .f32)
    (b : Fin 4) (i : Fin 256) (h : Fin 8) (j : Fin 256) :
    Cert.CtxRefIdeal.Value.NRM o X5 (ix2 ⟨b.val * 256 + i.val, by omega⟩ ⟨h.val * 256 + j.val, by omega⟩)
      = normed (fun x => o (ix4 b i h x)) (X5 (ix2 1 j)) j := by
  refine (Cert.CtxRefIdeal.Value.NRM_at o X5 _ _).trans ?_
  have e1 : (⟨(b.val * 256 + i.val) / 256, by omega⟩ : Fin 4) = b := Fin.ext (by dsimp only; omega)
  have e2 : (⟨(b.val * 256 + i.val) % 256, by omega⟩ : Fin 256) = i := Fin.ext (by dsimp only; omega)
  have e3 : (⟨(h.val * 256 + j.val) / 256, by omega⟩ : Fin 8) = h := Fin.ext (by dsimp only; omega)
  have e4 : (⟨(h.val * 256 + j.val) % 256, by omega⟩ : Fin 256) = j := Fin.ext (by dsimp only; omega)
  dsimp only
  rw [e1, e2, e3, e4]
  rfl

section Point

variable (c : Dev nD) (t : Fin cfg0.N) (b : Fin 4) (h : Fin 8) (i : Fin 256)
  (hX : ∀ (r : Fin 17408) (q : Fin 16384), 16384 ≤ r.val → q.val < 6144 →
    ∃ y : ℝ, m ((c : Thread nD τ).loc main_arg0) (ix2 r q) = (y : EReal))
  (hb : t.val / 8 = b.val) (hh : t.val % 8 = h.val)

include hX hb hh

/-- The average of one head of the pair at a point, as a real: head `e` reads the columns from `128 e` on. -/
theorem half_at (e : Fin 2) (q k : FVec Ideal S256x128 .bf16) (v : FVec Ideal S256x256 .bf16)
    (hq : ∀ (y : Fin 256) (d : Fin 128), q (ix2 y d) = iblk m c 1 t (ix2 y ⟨e.val * 128 + d.val, by omega⟩))
    (hk : ∀ (y : Fin 256) (d : Fin 128), k (ix2 y d) = iblk m c 2 t (ix2 y ⟨e.val * 128 + d.val, by omega⟩))
    (hv : ∀ y x : Fin 256, v (ix2 y x) = iblk m c 3 t (ix2 y x)) (x : Fin 256) :
    soft (dots q k i) (fun y => v (ix2 y x))
      = ((Softmax.avg
          (Cert.CtxRefIdeal.Value.score (m ((c : Thread nD τ).loc main_arg0)) b i ⟨h.val * 2 + e.val, by omega⟩)
          (Cert.CtxRefIdeal.Value.value (m ((c : Thread nD τ).loc main_arg0)) b h x) : ℝ) : EReal) := by
  refine soft_real _ _ _ _ (fun y => ?_) (fun y => ?_)
  · rw [dots, Cert.CtxRefIdeal.Value.score, ← Softmax.coe_sum]
    refine Finset.sum_congr rfl fun d _ => ?_
    rw [EReal.coe_mul]
    refine congrArg₂ (fun u w : EReal => u * w) ?_ ?_
    · refine ((hq i d).trans ((q_at m c t i _ (by omega) (by dsimp only; omega)).trans ?_)).trans
        (Cert.AttnRefIdeal.Value.coe_toReal (hX ⟨16384 + (b.val * 256 + i.val), by omega⟩
          ⟨(h.val * 2 + e.val) * 128 + d.val, by omega⟩ (by dsimp only; omega) (by dsimp only; omega)))
      congr 2 <;> exact Fin.ext (by dsimp only; omega)
    · refine ((hk y d).trans ((k_at m c t y _ (by omega) (by dsimp only; omega)).trans ?_)).trans
        (Cert.AttnRefIdeal.Value.coe_toReal (hX ⟨16384 + (b.val * 256 + y.val), by omega⟩
          ⟨2048 + ((h.val * 2 + e.val) * 128 + d.val), by omega⟩ (by dsimp only; omega) (by dsimp only; omega)))
      congr 2 <;> exact Fin.ext (by dsimp only; omega)
  · refine ((hv y x).trans ((v_at m c t y x (by omega) (by omega)).trans ?_)).trans
      (Cert.AttnRefIdeal.Value.coe_toReal (hX ⟨16384 + (b.val * 256 + y.val), by omega⟩
        ⟨4096 + (h.val * 256 + x.val), by omega⟩ (by dsimp only; omega) (by dsimp only; omega)))
    congr 2 <;> exact Fin.ext (by dsimp only; omega)

/-- The block a point leaves is the norm of the difference of its two averages. -/
theorem out_at (l : ℝ) (hl : Cert.CtxRefIdeal.Value.LAM (m ((c : Thread nD τ).loc main_arg1))
      (m ((c : Thread nD τ).loc main_arg2)) (m ((c : Thread nD τ).loc main_arg3))
      (m ((c : Thread nD τ).loc main_arg4)) ix0 = (l : EReal)) (j : Fin 256) :
    outsAt0 m c t (ix2 i j)
      = normed (fun x => ((Cert.CtxRefIdeal.Value.head (m ((c : Thread nD τ).loc main_arg0)) l b i h x : ℝ) : EReal))
          (m ((c : Thread nD τ).loc main_arg5) (ix2 1 j)) j := by
  unfold outsAt0
  frame_out
  refine (pay1_at _ _ _ (fun y => rfl) i j).trans ?_
  refine congrArg₂ (fun d g => normed d g j) (funext fun x => ?_) (gain_at m c t j)
  refine (pay2_at _ _ _ _ _ _ _ i x).trans ?_
  refine (congrArg₂ (fun u v : EReal => u - v)
      (half_at m c t b h i hX hb hh 0 _ _ _ (fun y d => ?_) (fun y d => ?_) (fun y d => ?_) x)
    (congrArg₂ (fun u v : EReal => u * v) (((congrArg (iblk m c 0 t) ?_).trans (lam_at m c t)).trans hl)
      (half_at m c t b h i hX hb hh 1 _ _ _ (fun y d => ?_) (fun y d => ?_) (fun y d => ?_) x))).trans ?_
  · exact (ld_left _ _ y d).trans (by congr 2; exact Fin.ext (by dsimp only; simp))
  · exact (ld_left _ _ y d).trans (by congr 2; exact Fin.ext (by dsimp only; simp))
  · rfl
  · funext a; fin_cases a; rfl
  · exact (ld_right _ _ y d).trans (by congr 2)
  · exact (ld_right _ _ y d).trans (by congr 2)
  · rfl
  · rw [← EReal.coe_mul, ← EReal.coe_sub]
    rfl

end Point

/-- The reference's array of the program's arguments. -/
def WANT (c : Dev nD) : S17408x2048.Idx → EReal :=
  Cert.CtxRefIdeal.Value.REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Each point leaves the reference's block. -/
theorem point (c : Dev nD) (t : Fin cfg0.N) (i j : Fin 256) (l : ℝ)
    (hX : ∀ (r : Fin 17408) (q : Fin 16384), 16384 ≤ r.val → q.val < 6144 →
      ∃ y : ℝ, m ((c : Thread nD τ).loc main_arg0) (ix2 r q) = (y : EReal))
    (hl : Cert.CtxRefIdeal.Value.LAM (m ((c : Thread nD τ).loc main_arg1)) (m ((c : Thread nD τ).loc main_arg2))
      (m ((c : Thread nD τ).loc main_arg3)) (m ((c : Thread nD τ).loc main_arg4)) ix0 = (l : EReal))
    (hr : (64 + t.val / 8) * 256 + i.val < 17408) (hq : t.val % 8 * 256 + j.val < 2048) :
    outsAt0 m c t (ix2 i j)
      = WANT m c (ix2 ⟨(64 + t.val / 8) * 256 + i.val, hr⟩ ⟨t.val % 8 * 256 + j.val, hq⟩) := by
  have hN : t.val < 32 := t.isLt
  refine (out_at m c t ⟨t.val / 8, by omega⟩ ⟨t.val % 8, by omega⟩ i hX rfl rfl l hl j).trans ?_
  have e : (⟨(64 + t.val / 8) * 256 + i.val, hr⟩ : Fin 17408)
      = ⟨16384 + (t.val / 8 * 256 + i.val), by omega⟩ := Fin.ext (by dsimp only; omega)
  rw [e, WANT]
  refine .trans ?_ (Cert.CtxRefIdeal.Value.REF_ctx _ _ _ _ _ _ _ ⟨t.val / 8 * 256 + i.val, by omega⟩ _).symm
  refine .trans ?_ (nrm_split _ _ ⟨t.val / 8, by omega⟩ i ⟨t.val % 8, by omega⟩ j).symm
  exact congrArg (fun d => normed d _ j) (funext fun x => (Cert.CtxRefIdeal.Value.OUT_at _ _ _ _ _ l hX hl _ _ _ x).symm)

/-- Where a point's block lies in the result. -/
theorem emb_at (R : S17408x2048.Idx → EReal) (t : Fin cfg0.N) (i j : Fin 256)
    (hr : (64 + t.val / 8) * 256 + i.val < 17408) (hq : t.val % 8 * 256 + j.val < 2048) :
    R (((View.whole main_v18).slice (win0_5.rect t)).emb (ix2 i j))
      = R (ix2 ⟨(64 + t.val / 8) * 256 + i.val, hr⟩ ⟨t.val % 8 * 256 + j.val, hq⟩) := by
  blk_point [idx t]

/-- The result starts as the array handed in. -/
theorem entry (c : Dev nD) : V m c main_v18 = m ((c : Thread nD τ).loc main_arg6) := by
  show StableHlo.after hostOps0 (fun b => m (c, b)) (Proc.tc.devRef main_v18) = _
  simp only [hostOps0, cast_eq]
  after_results
  all_goals rfl

/-- The context rows of the result array after the run are the reference's; the other rows stay. -/
theorem rows (c : Dev nD) (l : ℝ)
    (hX : ∀ (r : Fin 17408) (q : Fin 16384), 16384 ≤ r.val → q.val < 6144 →
      ∃ y : ℝ, m ((c : Thread nD τ).loc main_arg0) (ix2 r q) = (y : EReal))
    (hl : Cert.CtxRefIdeal.Value.LAM (m ((c : Thread nD τ).loc main_arg1)) (m ((c : Thread nD τ).loc main_arg2))
      (m ((c : Thread nD τ).loc main_arg3)) (m ((c : Thread nD τ).loc main_arg4)) ix0 = (l : EReal)) :
    (dats m 0 c).arrAt 5 cfg0.N = fun i : S17408x2048.Idx => if 16384 ≤ (i 0).val then WANT m c i else V m c main_v18 i := by
  refine (dats m 0 c).arrAt_eq_of_coversWhere 5 _ (fun β => 64 ≤ β 0) (by decide +kernel) (fun t hf y => ?_)
    (fun j => ?_)
  · blk_simp; rw [after0_5]
    idx_vars y
    have hN : t.val < 32 := t.isLt
    have h0 := y0.isLt
    have h1 := y1.isLt
    refine (point m c t y0 y1 l hX hl (by omega) (by omega)).trans ?_
    exact (emb_at _ t y0 y1 (by omega) (by omega)).symm
  · blk_simp [Pipeline.Window.cell_apply]; omega

/-- The result array after the run is the reference's. -/
theorem final (c : Dev nD) (l : ℝ)
    (hX : ∀ (r : Fin 17408) (q : Fin 16384), 16384 ≤ r.val → q.val < 6144 →
      ∃ y : ℝ, m ((c : Thread nD τ).loc main_arg0) (ix2 r q) = (y : EReal))
    (hl : Cert.CtxRefIdeal.Value.LAM (m ((c : Thread nD τ).loc main_arg1)) (m ((c : Thread nD τ).loc main_arg2))
      (m ((c : Thread nD τ).loc main_arg3)) (m ((c : Thread nD τ).loc main_arg4)) ix0 = (l : EReal)) :
    (dats m 0 c).arrAt 5 cfg0.N = WANT m c := by
  refine (rows m c l hX hl).trans (funext fun i => ?_)
  by_cases h : 16384 ≤ (i 0).val
  · exact if_pos h
  · refine (if_neg h).trans ((congrFun (entry m c) i).trans ?_)
    idx_vars i
    exact (Cert.CtxRefIdeal.Value.REF_lat _ _ _ _ _ _ _ i0 i1 (Nat.lt_of_not_le h)).symm

section Pre

variable [hPre : Cert.Pre_ctx_finite.Facts]
  (X0 : FVec Ideal ⟨2, ![17408, 16384]⟩ .bf16) (X1 X2 X3 X4 : FVec Ideal ⟨2, ![4, 128]⟩ .f32) (X5 : FVec Ideal ⟨2, ![4, 256]⟩ .f32)
  (X6 : FVec Ideal ⟨2, ![17408, 2048]⟩ .bf16)

/-- The columns that the attention reads are reals on the context rows. -/
theorem fin0 (h : (Cert.Pre_ctx_finite.fn (F := Ideal) X0 X1 X2 X3 X4 X5 X6).1 = fun _ => 1#1) (r : Fin 17408)
    (q : Fin 16384) (hr : 16384 ≤ r.val) (hq : q.val < 6144) : ∃ y : ℝ, X0 (ix2 r q) = (y : EReal) := by
  have e : r = ⟨16384 + (⟨r.val - 16384, by omega⟩ : Fin 1024).val, by dsimp only; omega⟩ := Fin.ext (by dsimp only; omega)
  rw [e]
  refine Cert.AttnPre.real_of_abs _ (.trans ?_ (congrFun h (ix2 ⟨r.val - 16384, by omega⟩ ⟨q.val, hq⟩)))
  symm
  pointwise [Cert.Pre_ctx_finite.fn, Cert.Pre_ctx_finite.fn_part1]
  rfl

/-- The first row is real. -/
theorem fin1 (h : (Cert.Pre_ctx_finite.fn (F := Ideal) X0 X1 X2 X3 X4 X5 X6).2.1 = fun _ => 1#1) (x : Fin 128) :
    ∃ y : ℝ, X1 (ix2 1 x) = (y : EReal) := by
  refine Cert.AttnPre.real_of_abs _ (.trans ?_ (congrFun h (ix1 x)))
  symm
  pointwise [Cert.Pre_ctx_finite.fn, Cert.Pre_ctx_finite.fn_part1]

/-- The second row is real. -/
theorem fin2 (h : (Cert.Pre_ctx_finite.fn (F := Ideal) X0 X1 X2 X3 X4 X5 X6).2.2.1 = fun _ => 1#1) (x : Fin 128) :
    ∃ y : ℝ, X2 (ix2 1 x) = (y : EReal) := by
  refine Cert.AttnPre.real_of_abs _ (.trans ?_ (congrFun h (ix1 x)))
  symm
  pointwise [Cert.Pre_ctx_finite.fn, Cert.Pre_ctx_finite.fn_part1]

/-- The third row is real. -/
theorem fin3 (h : (Cert.Pre_ctx_finite.fn (F := Ideal) X0 X1 X2 X3 X4 X5 X6).2.2.2.1 = fun _ => 1#1) (x : Fin 128) :
    ∃ y : ℝ, X3 (ix2 1 x) = (y : EReal) := by
  refine Cert.AttnPre.real_of_abs _ (.trans ?_ (congrFun h (ix1 x)))
  symm
  pointwise [Cert.Pre_ctx_finite.fn, Cert.Pre_ctx_finite.fn_part1]

/-- The fourth row is real. -/
theorem fin4 (h : (Cert.Pre_ctx_finite.fn (F := Ideal) X0 X1 X2 X3 X4 X5 X6).2.2.2.2 = fun _ => 1#1) (x : Fin 128) :
    ∃ y : ℝ, X4 (ix2 1 x) = (y : EReal) := by
  refine Cert.AttnPre.real_of_abs _ (.trans ?_ (congrFun h (ix1 x)))
  symm
  pointwise [Cert.Pre_ctx_finite.fn, Cert.Pre_ctx_finite.fn_part1]

/-- The weight of the second head is a real. -/
theorem lam_real (h : (Cert.Pre_ctx_finite.fn (F := Ideal) X0 X1 X2 X3 X4 X5 X6).2.1 = (fun _ => 1#1)
    ∧ (Cert.Pre_ctx_finite.fn (F := Ideal) X0 X1 X2 X3 X4 X5 X6).2.2.1 = (fun _ => 1#1)
    ∧ (Cert.Pre_ctx_finite.fn (F := Ideal) X0 X1 X2 X3 X4 X5 X6).2.2.2.1 = (fun _ => 1#1)
    ∧ (Cert.Pre_ctx_finite.fn (F := Ideal) X0 X1 X2 X3 X4 X5 X6).2.2.2.2 = (fun _ => 1#1)) :
    ∃ l : ℝ, Cert.CtxRefIdeal.Value.LAM X1 X2 X3 X4 ix0 = (l : EReal) := by
  obtain ⟨a, ha⟩ := Cert.AttnPre.exp_dot (fun x => X1 (ix2 1 x)) (fun x => X2 (ix2 1 x)) (fin1 X0 X1 X2 X3 X4 X5 X6 h.1) (fin2 X0 X1 X2 X3 X4 X5 X6 h.2.1)
  obtain ⟨b, hb⟩ := Cert.AttnPre.exp_dot (fun x => X3 (ix2 1 x)) (fun x => X4 (ix2 1 x)) (fin3 X0 X1 X2 X3 X4 X5 X6 h.2.2.1) (fin4 X0 X1 X2 X3 X4 X5 X6 h.2.2.2)
  obtain ⟨k, hk⟩ : ∃ k : ℝ, Ideal.ofBits .f32 0x3EB60549#32 = (k : EReal) := ⟨_, by simp [Ideal.ofBits, Ideal.ieee, -EReal.coe_mul]; rfl⟩
  refine ⟨a - b + k, (Cert.CtxRefIdeal.Value.LAM_at X1 X2 X3 X4).trans ?_⟩
  rw [EReal.coe_add, EReal.coe_sub, ← ha, ← hb, ← hk]

end Pre

/-- The value claim of the context rows' attention: the kernel and the reference end with the same array. -/
theorem algebraic : Cert.algebraic_CtxIdeal_CtxRefIdeal_pre_ctx_finite (hCtxIdeal := Cert.CtxIdeal.Gen.facts)
    (hCtxRefIdeal := Cert.CtxRefIdeal.Gen.facts) (hPre_ctx_finite := Cert.Pre_ctx_finite.Gen.facts) := by
  intro m g m' g' hpre hargs
  refine ⟨fun c => (dats m 0 c).arrAt 5 cfg0.N,
    (θ_run (defs (F := Ideal)) _ _).mono (fun r h c => h c) (run_blocks m g),
    (θ_run (Cert.CtxRefIdeal.defs (F := Ideal)) _ _).mono (fun r h c => ?_) (Cert.CtxRefIdeal.Value.run m' g')⟩
  refine ⟨?_, (h c).2⟩
  obtain ⟨h0, hrest⟩ := hpre c
  obtain ⟨l, hl⟩ := lam_real _ _ _ _ _ _ _ hrest
  have hX := fin0 _ _ _ _ _ _ _ h0
  obtain ⟨a0, a1, a2, a3, a4, a5, a6⟩ := hargs c
  refine .trans ?_ (final m c l hX hl).symm
  rw [(h c).1, Cert.CtxRefIdeal.Value.res_eq m' c, a0, a1, a2, a3, a4, a5, a6]
  rfl

end Cert.CtxIdeal.Value
-- ==== Proof.UpValue.lean ====
module

public import proofs.«01_k».proof.Defs
public import proofs.«01_k».proof.Proof.Gen.UpIdeal.Frame
public import proofs.«01_k».proof.Proof.Gen.UpIdeal.Value
public import proofs.«01_k».proof.Proof.Gen.UpRefIdeal.Run
public import Idealize.ShloMosaic.Lib.Pipeline.ValueKit
public import Idealize.ShloMosaic.Lib.Pipeline.ReadBack
public import Idealize.ShloMosaic.Lib.Pointwise

/-!
# The expert's gated up-projection: the kernel's result is the reference's term

The grid is column-major: 11 column blocks of 512, and in each of them 17 row blocks of 1024. At the
first row block of a column block the two weight blocks are copied into scratch; every point multiplies
its rows by the scratch. So the scratch always holds the weight columns of the point's own column block,
and every block of the result is the reference's `silu(x W₁) * (x W₃)` there.
-/

@[expose] public section

set_option maxRecDepth 16384

noncomputable section

open Idealize.ShloMosaic Idealize.ShloMosaic.TcCoe Idealize.SL.Sem
open Idealize.ShloMosaic.Pipeline (Dat)

namespace Cert.UpRefIdeal.Value

open Cert.UpRefIdeal Cert.UpRefIdeal.Gen

/-- The reference's composed term of its three arguments. -/
def REF (X0 : FVec Ideal S17408x2048 .bf16) (X1 X2 : FVec Ideal S2x8x2048x5632 .f32) :
    FVec Ideal S17408x5632 .bf16 :=
  truncf .bf16 (mulf (mulf (Host.dotGeneral dot_S17408x2048_S2048x5632_S17408x5632_1_0_0_1_n_n none (extf .f32 X0 bitsLt_bf16_f32) (shapeCast _ (extractStridedSlice S1x1x2048x5632 ![0, 3, 0, 0] X1 slices_S2x8x2048x5632_S1x1x2048x5632_0_3_0_0) shapeCasts_S1x1x2048x5632_S2048x5632)) (Host.divf (broadcastInDim S17408x5632 ![] bcast_S_S17408x5632 (constant S_ .f32 0x3F800000#32)) (addf (broadcastInDim S17408x5632 ![] bcast_S_S17408x5632 (constant S_ .f32 0x3F800000#32)) (Host.exp (Host.negf (Host.dotGeneral dot_S17408x2048_S2048x5632_S17408x5632_1_0_0_1_n_n none (extf .f32 X0 bitsLt_bf16_f32) (shapeCast _ (extractStridedSlice S1x1x2048x5632 ![0, 3, 0, 0] X1 slices_S2x8x2048x5632_S1x1x2048x5632_0_3_0_0) shapeCasts_S1x1x2048x5632_S2048x5632))))))) (Host.dotGeneral dot_S17408x2048_S2048x5632_S17408x5632_1_0_0_1_n_n none (extf .f32 X0 bitsLt_bf16_f32) (shapeCast _ (extractStridedSlice S1x1x2048x5632 ![0, 3, 0, 0] X2 slices_S2x8x2048x5632_S1x1x2048x5632_0_3_0_0) shapeCasts_S1x1x2048x5632_S2048x5632))) bitsLt_bf16_f32

/-- One element of the product of the rows of `x` with expert 3's matrix in `w`. -/
def dotW (X : FVec Ideal S17408x2048 .bf16) (W : FVec Ideal S2x8x2048x5632 .f32)
    (r : Fin 17408) (q : Fin 5632) : EReal :=
  ∑ k : Fin 2048, X (ix2 r k) * W (ix4 0 3 k q)

/-- The reference at an index: the first product through `silu`, times the second. -/
theorem ref_at (X0 : FVec Ideal S17408x2048 .bf16) (X1 X2 : FVec Ideal S2x8x2048x5632 .f32)
    (r : Fin 17408) (q : Fin 5632) :
    REF X0 X1 X2 (ix2 r q)
      = dotW X0 X1 r q * Ideal.logistic (dotW X0 X1 r q) * dotW X0 X2 r q := by
  pointwise [REF, dotW]
  rfl

end Cert.UpRefIdeal.Value

namespace Cert.UpIdeal.Value

open Cert.UpIdeal Cert.UpIdeal.Gen

variable (m : (ℓ : Loc nD τ sig) → Buf (Elt Ideal) ℓ)

/-- The index maps at a point, by arithmetic on its number. -/
theorem idx : ∀ t : Fin cfg0.N,
    win0_0.index t = ![t.val % 17, 0] ∧ win0_1.index t = ![0, 3, 0, t.val / 17]
      ∧ win0_2.index t = ![0, 3, 0, t.val / 17] ∧ win0_3.index t = ![t.val % 17, t.val / 17] :=
  (by decide +kernel : ∀ t : Fin grid0.N, _)

/-- The first weight block of a point, read at an index. -/
theorem w1_at (c : Dev nD) (t : Fin cfg0.N) (a : Fin 2048) (b : Fin 512) (h : t.val / 17 * 512 + b.val < 5632) :
    k0_pay1 (iblk m c 1 t) (ix2 a b) = m ((c : Thread nD τ).loc main_arg1) (ix4 0 3 a ⟨t.val / 17 * 512 + b.val, h⟩) := by
  pointwise [k0_pay1]
  blk_point [iblk, V, idx t]

/-- The second weight block of a point, read at an index. -/
theorem w3_at (c : Dev nD) (t : Fin cfg0.N) (a : Fin 2048) (b : Fin 512) (h : t.val / 17 * 512 + b.val < 5632) :
    k0_pay2 (iblk m c 2 t) (ix2 a b) = m ((c : Thread nD τ).loc main_arg2) (ix4 0 3 a ⟨t.val / 17 * 512 + b.val, h⟩) := by
  pointwise [k0_pay2]
  blk_point [iblk, V, idx t]

/-- At a first row block the scratch is filled with the two weight blocks. -/
theorem scr_A (c : Dev nD) (t : Fin cfg0.N) (h : t.val % 17 = 0) :
    (outsAt0 m c t.val t.isLt).2 = (k0_pay1 (iblk m c 1 t), k0_pay2 (iblk m c 2 t)) := by
  rw [outsAt0_A m c t h]
  refine Prod.ext ?_ ?_
  · funext y; frame_out
  · funext y; frame_out

/-- At every other point the scratch stays. -/
theorem scr_B (c : Dev nD) (t : Fin cfg0.N) (h : ¬t.val % 17 = 0) :
    (outsAt0 m c t.val t.isLt).2 = (outsAt0 m c (t.val - 1) (by have := t.isLt; omega)).2 := by
  rw [outsAt0_B m c t h]
  rfl

/-- The result block of a point is computed from its rows and the scratch. -/
theorem out_at (c : Dev nD) (t : Fin cfg0.N) :
    (outsAt0 m c t.val t.isLt).1
      = k0_pay3 (iblk m c 0 t) (outsAt0 m c t.val t.isLt).2.1 (iblk m c 0 t) (outsAt0 m c t.val t.isLt).2.2 := by
  by_cases h : t.val % 17 = 0
  · rw [scr_A m c t h, outsAt0_A m c t h]
    funext y; frame_out
  · rw [scr_B m c t h, outsAt0_B m c t h]
    funext y; frame_out
    rw [read_unread_whole, read_unread_whole]

/-- After point `n` the first scratch holds the weight columns of the point's column block. -/
theorem scr1 (c : Dev nD) : ∀ (n : ℕ) (hn : n < cfg0.N) (a : Fin 2048) (b : Fin 512) (h : n / 17 * 512 + b.val < 5632),
    (outsAt0 m c n hn).2.1 (ix2 a b) = m ((c : Thread nD τ).loc main_arg1) (ix4 0 3 a ⟨n / 17 * 512 + b.val, h⟩) := by
  intro n
  induction n with
  | zero =>
    intro hn a b h
    rw [scr_A m c ⟨0, hn⟩ rfl]
    exact w1_at m c ⟨0, hn⟩ a b h
  | succ n ih =>
    intro hn a b h
    by_cases h0 : (n + 1) % 17 = 0
    · rw [scr_A m c ⟨n + 1, hn⟩ h0]
      exact w1_at m c ⟨n + 1, hn⟩ a b h
    · have e : (n + 1) / 17 = n / 17 := by omega
      rw [scr_B m c ⟨n + 1, hn⟩ h0]
      refine (ih (by omega) a b (by omega)).trans ?_
      simp only [e]

/-- After point `n` the second scratch holds the weight columns of the point's column block. -/
theorem scr2 (c : Dev nD) : ∀ (n : ℕ) (hn : n < cfg0.N) (a : Fin 2048) (b : Fin 512) (h : n / 17 * 512 + b.val < 5632),
    (outsAt0 m c n hn).2.2 (ix2 a b) = m ((c : Thread nD τ).loc main_arg2) (ix4 0 3 a ⟨n / 17 * 512 + b.val, h⟩) := by
  intro n
  induction n with
  | zero =>
    intro hn a b h
    rw [scr_A m c ⟨0, hn⟩ rfl]
    exact w3_at m c ⟨0, hn⟩ a b h
  | succ n ih =>
    intro hn a b h
    by_cases h0 : (n + 1) % 17 = 0
    · rw [scr_A m c ⟨n + 1, hn⟩ h0]
      exact w3_at m c ⟨n + 1, hn⟩ a b h
    · have e : (n + 1) / 17 = n / 17 := by omega
      rw [scr_B m c ⟨n + 1, hn⟩ h0]
      refine (ih (by omega) a b (by omega)).trans ?_
      simp only [e]

/-- The rows of a point, read at an index. -/
theorem x_at (c : Dev nD) (t : Fin cfg0.N) (a : Fin 1024) (k : Fin 2048) (h : t.val % 17 * 1024 + a.val < 17408) :
    iblk m c 0 t (ix2 a k) = m ((c : Thread nD τ).loc main_arg0) (ix2 ⟨t.val % 17 * 1024 + a.val, h⟩ k) := by
  blk_point [iblk, V, idx t]

/-- The stored block over any rows and weights, at an index. -/
theorem pay_at (X : FVec Ideal S1024x2048 .bf16) (W1 W3 : FVec Ideal S2048x512 .bf16) (a : Fin 1024) (b : Fin 512) :
    k0_pay3 (F := Ideal) X W1 X W3 (ix2 a b)
      = (∑ k : Fin 2048, X (ix2 a k) * W1 (ix2 k b)) * Ideal.logistic (∑ k : Fin 2048, X (ix2 a k) * W1 (ix2 k b))
        * ∑ k : Fin 2048, X (ix2 a k) * W3 (ix2 k b) := by
  pointwise [k0_pay3]

/-- Each point leaves the reference's block. -/
theorem point (c : Dev nD) (t : Fin cfg0.N) (a : Fin 1024) (b : Fin 512)
    (ha : t.val % 17 * 1024 + a.val < 17408) (hb : t.val / 17 * 512 + b.val < 5632) :
    (outsAt0 m c t.val t.isLt).1 (ix2 a b)
      = Cert.UpRefIdeal.Value.REF (m ((c : Thread nD τ).loc main_arg0)) (m ((c : Thread nD τ).loc main_arg1))
          (m ((c : Thread nD τ).loc main_arg2)) (ix2 ⟨t.val % 17 * 1024 + a.val, ha⟩ ⟨t.val / 17 * 512 + b.val, hb⟩) := by
  rw [out_at m c t]
  refine (pay_at _ _ _ a b).trans ?_
  refine .trans ?_ (Cert.UpRefIdeal.Value.ref_at _ _ _ _ _).symm
  have e1 : (∑ k : Fin 2048, (show EReal from iblk m c 0 t (ix2 a k)) * (outsAt0 m c t.val t.isLt).2.1 (ix2 k b))
      = Cert.UpRefIdeal.Value.dotW (m ((c : Thread nD τ).loc main_arg0)) (m ((c : Thread nD τ).loc main_arg1))
          ⟨t.val % 17 * 1024 + a.val, ha⟩ ⟨t.val / 17 * 512 + b.val, hb⟩ :=
    Finset.sum_congr rfl fun k _ => Ideal.mul_congr (x_at m c t a k ha) (scr1 m c t.val t.isLt k b hb)
  have e2 : (∑ k : Fin 2048, (show EReal from iblk m c 0 t (ix2 a k)) * (outsAt0 m c t.val t.isLt).2.2 (ix2 k b))
      = Cert.UpRefIdeal.Value.dotW (m ((c : Thread nD τ).loc main_arg0)) (m ((c : Thread nD τ).loc main_arg2))
          ⟨t.val % 17 * 1024 + a.val, ha⟩ ⟨t.val / 17 * 512 + b.val, hb⟩ :=
    Finset.sum_congr rfl fun k _ => Ideal.mul_congr (x_at m c t a k ha) (scr2 m c t.val t.isLt k b hb)
  exact congrArg₂ (fun u v : EReal => u * Ideal.logistic u * v) e1 e2

/-- The result array after the run is the reference's term of the arguments. -/
theorem final (c : Dev nD) :
    (dats m 0 c).arrAt 3 (cfgs 0).N
      = Cert.UpRefIdeal.Value.REF (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp; rw [after0_3]
  idx_vars y
  have hN : t.val < 187 := t.isLt
  have h0 := y0.isLt
  have h1 := y1.isLt
  refine (point m c t y0 y1 (by omega) (by omega)).trans ?_
  blk_point [idx t]

end Cert.UpIdeal.Value

namespace Cert.UpIdeal.Value

/-- The value claim of the up-projection: kernel and reference end with the same array. -/
theorem algebraic : Cert.algebraic_UpIdeal_UpRefIdeal (hUpIdeal := Cert.UpIdeal.Gen.facts)
    (hUpRefIdeal := Cert.UpRefIdeal.Gen.facts) := by
  intro m g m' g' _ hargs
  refine ⟨fun c => Cert.UpRefIdeal.Value.REF (m ((c : Thread nD τ).loc main_arg0)) (m ((c : Thread nD τ).loc main_arg1))
      (m ((c : Thread nD τ).loc main_arg2)),
    (θ_run (Cert.UpIdeal.defs (F := Ideal)) _ _).mono (fun r h c => ⟨(h c).1.trans (final m c), (h c).2⟩)
      (run_blocks m g),
    (θ_run (Cert.UpRefIdeal.defs (F := Ideal)) _ _).mono (fun r h c => ⟨(h c).1.trans ?_, (h c).2⟩)
      (Cert.UpRefIdeal.Value.run m' g')⟩
  obtain ⟨a0, a1, a2⟩ := hargs c
  rw [a0, a1, a2]
  rfl

end Cert.UpIdeal.Value
-- ==== Proof.DownValue.lean ====
module

public import proofs.«01_k».proof.Defs
public import proofs.«01_k».proof.Proof.Gen.DownIdeal.Frame
public import proofs.«01_k».proof.Proof.Gen.DownIdeal.Value
public import proofs.«01_k».proof.Proof.Gen.DownRefIdeal.Run
public import Idealize.ShloMosaic.Lib.Pipeline.ValueKit
public import Idealize.ShloMosaic.Lib.Pipeline.ReadBack
public import Idealize.ShloMosaic.Lib.Pointwise

/-!
# The expert's down-projection: the kernel's result is the reference's term

The grid is column-major: 4 column blocks of 512, and in each of them 34 row blocks of 512. At the first row
block of a column block the weight block is copied into scratch. Every point multiplies its rows by the scratch
and adds the product, scaled by the gate of the row's batch and by the row's routing weight, to its rows of the
residual, in four strips of 128 columns. The kernel scales the gate by the routing weight before the product
meets it, the reference after: one use of associativity. The routing weights are the same term on both sides
and are never opened.
-/

@[expose] public section

set_option maxRecDepth 16384

noncomputable section

open Idealize.ShloMosaic Idealize.ShloMosaic.TcCoe Idealize.SL.Sem
open Idealize.ShloMosaic.Pipeline (Dat)

namespace Cert.DownRefIdeal.Value

open Cert.DownRefIdeal Cert.DownRefIdeal.Gen

/-- The exponentials of the two largest logits of each row, less their maximum. -/
def TOPE (T : FVec Ideal S17408x2 .f32) : FVec Ideal S17408x2 .f32 :=
  Host.exp (subf T (broadcastInDim S17408x2 ![0, 1] bcast_S17408x1_S17408x2_0_1 (broadcastInDim S17408x1 ![0] bcast_S17408_S17408x1_0 (maximumf (broadcastInDim S17408 ![] bcast_S_S17408 (constant S_ .f32 0xFF800000#32)) (Host.reduce FloatOps.maximumf T (constant S_ .f32 0xFF800000#32) reducesTo_S17408x2_S17408_d1 h_S_)))))

/-- The routing weights: the softmax of the two largest logits of a row, at their experts. -/
def COMB (X4 : FVec Ideal S17408x128 .f32) : FVec Ideal S17408x8 .f32 :=
  Host.dotGeneral dot_S17408x2_S17408x2x8_S17408x8_1_1_n_2_0_0 none (Host.divf (TOPE (Host.topK S17408x2 1 (FloatOps.cmpfTotal .gt) (extractStridedSlice S17408x8 ![0, 0] X4 slices_S17408x128_S17408x8_0_0) sliceFits_S17408x8_S17408x2).1) (broadcastInDim S17408x2 ![0, 1] bcast_S17408x1_S17408x2_0_1 (broadcastInDim S17408x1 ![0] bcast_S17408_S17408x1_0 (Host.reduceAdd (TOPE (Host.topK S17408x2 1 (FloatOps.cmpfTotal .gt) (extractStridedSlice S17408x8 ![0, 0] X4 slices_S17408x128_S17408x8_0_0) sliceFits_S17408x8_S17408x2).1) (constant S_ .f32 0x00000000#32) reducesTo_S17408x2_S17408_d1 h_S_)))) (uitofp .f32 (cmpi .eq (broadcastInDim S17408x2x8 ![0, 1, 2] bcast_S17408x2x1_S17408x2x8_0_1_2 (broadcastInDim S17408x2x1 ![0, 1] bcast_S17408x2_S17408x2x1_0_1 ((Host.topK S17408x2 1 (FloatOps.cmpfTotal .gt) (extractStridedSlice S17408x8 ![0, 0] X4 slices_S17408x128_S17408x8_0_0) sliceFits_S17408x8_S17408x2).2))) (broadcastInDim S17408x2x8 ![0, 1, 2] bcast_S1x1x8_S17408x2x8_0_1_2 (iotaInDim S1x1x8 32 2))))

/-- The product of the rows with expert 3's matrix, scaled by the expert's routing weight. -/
def Y (X0 : FVec Ideal S17408x5632 .bf16) (X1 : FVec Ideal S2x8x5632x2048 .f32) (C : FVec Ideal S17408x8 .f32) :
    FVec Ideal S17408x2048 .f32 :=
  mulf (broadcastInDim S17408x2048 ![0, 1] bcast_S17408x1_S17408x2048_0_1 (extractStridedSlice S17408x1 ![0, 3] C slices_S17408x8_S17408x1_0_3)) (Host.dotGeneral dot_S17408x5632_S5632x2048_S17408x2048_1_0_0_1_n_n none (extf .f32 X0 bitsLt_bf16_f32) (shapeCast _ (extractStridedSlice S1x1x5632x2048 ![0, 3, 0, 0] X1 slices_S2x8x5632x2048_S1x1x5632x2048_0_3_0_0) shapeCasts_S1x1x5632x2048_S5632x2048))

/-- The latent rows of the result. -/
def LAT (X2 : FVec Ideal S17408x2048 .f32) (X3 : FVec Ideal S4x8x12288 .f32) (Y : FVec Ideal S17408x2048 .f32) :
    FVec Ideal S16384x2048 .f32 :=
  shapeCast _ (addf (shapeCast _ (extractStridedSlice S16384x2048 ![0, 0] X2 slices_S17408x2048_S16384x2048_0_0) shapeCasts_S16384x2048_S4x4096x2048) (mulf (broadcastInDim S4x4096x2048 ![0, 1, 2] bcast_S4x1x2048_S4x4096x2048_0_1_2 (broadcastInDim S4x1x2048 ![0, 2] bcast_S4x2048_S4x1x2048_0_2 (shapeCast _ (extractStridedSlice S1x4x2048 ![1, 0, 10240] X3 slices_S4x8x12288_S1x4x2048_1_0_10240) shapeCasts_S1x4x2048_S4x2048))) (shapeCast _ (extractStridedSlice S16384x2048 ![0, 0] Y slices_S17408x2048_S16384x2048_0_0) shapeCasts_S16384x2048_S4x4096x2048))) shapeCasts_S4x4096x2048_S16384x2048

/-- The context rows of the result. -/
def CTX (X2 : FVec Ideal S17408x2048 .f32) (X3 : FVec Ideal S4x8x12288 .f32) (Y : FVec Ideal S17408x2048 .f32) :
    FVec Ideal S1024x2048 .f32 :=
  addf (extractStridedSlice S1024x2048 ![16384, 0] X2 slices_S17408x2048_S1024x2048_16384_0) (mulf (broadcastInDim S1024x2048 ![0, 1] bcast_S1x2048_S1024x2048_0_1 (broadcastInDim S1x2048 ![1] bcast_S2048_S1x2048_1 (shapeCast _ (extractStridedSlice S1x1x2048 ![1, 4, 10240] X3 slices_S4x8x12288_S1x1x2048_1_4_10240) shapeCasts_S1x1x2048_S2048))) (extractStridedSlice S1024x2048 ![16384, 0] Y slices_S17408x2048_S1024x2048_16384_0))

/-- The reference's composed term of its five arguments. -/
def REF (X0 : FVec Ideal S17408x5632 .bf16) (X1 : FVec Ideal S2x8x5632x2048 .f32) (X2 : FVec Ideal S17408x2048 .f32)
    (X3 : FVec Ideal S4x8x12288 .f32) (X4 : FVec Ideal S17408x128 .f32) : FVec Ideal S17408x2048 .f32 :=
  concatenate S17408x2048 0 [⟨S16384x2048, LAT X2 X3 (Y X0 X1 (COMB X4))⟩, ⟨S1024x2048, CTX X2 X3 (Y X0 X1 (COMB X4))⟩] concatenates_S16384x2048_S1024x2048_S17408x2048_d0

/-- One element of the product of the rows with expert 3's matrix. -/
def dotW (X : FVec Ideal S17408x5632 .bf16) (W : FVec Ideal S2x8x5632x2048 .f32)
    (r : Fin 17408) (q : Fin 2048) : EReal :=
  ∑ k : Fin 5632, X (ix2 r k) * W (ix4 0 3 k q)

/-- The scaled product at an index. -/
theorem Y_at (X0 : FVec Ideal S17408x5632 .bf16) (X1 : FVec Ideal S2x8x5632x2048 .f32) (C : FVec Ideal S17408x8 .f32)
    (r : Fin 17408) (q : Fin 2048) :
    Y X0 X1 C (ix2 r q) = C (ix2 r 3) * dotW X0 X1 r q := by
  pointwise [Y, dotW]

/-- A latent row of the result. -/
theorem LAT_at (X2 : FVec Ideal S17408x2048 .f32) (X3 : FVec Ideal S4x8x12288 .f32) (Y : FVec Ideal S17408x2048 .f32)
    (r : Fin 16384) (q : Fin 2048) :
    LAT X2 X3 Y (ix2 r q) = X2 (ix2 ⟨r.val, by omega⟩ q)
      + X3 (ix3 1 ⟨r.val / 4096, by omega⟩ ⟨10240 + q.val, by omega⟩) * Y (ix2 ⟨r.val, by omega⟩ q) := by
  pointwise [LAT]

/-- A context row of the result. -/
theorem CTX_at (X2 : FVec Ideal S17408x2048 .f32) (X3 : FVec Ideal S4x8x12288 .f32) (Y : FVec Ideal S17408x2048 .f32)
    (r : Fin 1024) (q : Fin 2048) :
    CTX X2 X3 Y (ix2 r q) = X2 (ix2 ⟨16384 + r.val, by omega⟩ q)
      + X3 (ix3 1 4 ⟨10240 + q.val, by omega⟩) * Y (ix2 ⟨16384 + r.val, by omega⟩ q) := by
  pointwise [CTX]

/-- The reference at an index: the gate is that of the row's batch, the context's being the fifth. -/
theorem REF_at (X0 : FVec Ideal S17408x5632 .bf16) (X1 : FVec Ideal S2x8x5632x2048 .f32) (X2 : FVec Ideal S17408x2048 .f32)
    (X3 : FVec Ideal S4x8x12288 .f32) (X4 : FVec Ideal S17408x128 .f32) (r : Fin 17408) (q : Fin 2048) :
    REF X0 X1 X2 X3 X4 (ix2 r q) = X2 (ix2 r q)
      + X3 (ix3 1 ⟨r.val / 4096, by omega⟩ ⟨10240 + q.val, by omega⟩) * (COMB X4 (ix2 r 3) * dotW X0 X1 r q) := by
  rw [← Y_at X0 X1 (COMB X4) r q]
  unfold REF
  generalize Y X0 X1 (COMB X4) = y
  by_cases hr : r.val < 16384
  · refine .trans ?_ (LAT_at X2 X3 y ⟨r.val, hr⟩ q)
    generalize LAT X2 X3 y = z
    generalize CTX X2 X3 y = w
    pointwise
    simp only [dif_pos hr]
  · have e := CTX_at X2 X3 y ⟨r.val - 16384, by omega⟩ q
    have e4 : (⟨r.val / 4096, by omega⟩ : Fin 8) = 4 := Fin.ext (by show r.val / 4096 = 4; omega)
    have er : (⟨16384 + (r.val - 16384), by omega⟩ : Fin 17408) = r := Fin.ext (by show 16384 + (r.val - 16384) = r.val; omega)
    rw [e4]
    simp only [er] at e
    refine .trans ?_ e
    generalize LAT X2 X3 y = z
    generalize CTX X2 X3 y = w
    pointwise
    simp only [dif_neg hr]

end Cert.DownRefIdeal.Value

namespace Cert.DownIdeal.Value

open Cert.DownIdeal Cert.DownIdeal.Gen

variable (m : (ℓ : Loc nD τ sig) → Buf (Elt Ideal) ℓ)

/-- The index maps at a point, by arithmetic on its number. -/
theorem idx : ∀ t : Fin cfg0.N,
    win0_0.index t = ![t.val % 34, 0] ∧ win0_1.index t = ![0, 3, 0, t.val / 34]
      ∧ win0_2.index t = ![t.val % 34, t.val / 34] ∧ win0_3.index t = ![1, 0, 20 + t.val / 34]
      ∧ win0_4.index t = ![t.val % 34, 0] ∧ win0_5.index t = ![t.val % 34, t.val / 34] :=
  (by decide +kernel : ∀ t : Fin grid0.N, _)

/-- The gate's row a point reads: its row block's batch. -/
theorem off : ∀ t : Fin cfg0.N, k0_off1 (grid0.coords t) = ![0, t.val % 34 / 8, 0] :=
  (by decide +kernel : ∀ t : Fin grid0.N, k0_off1 (grid0.coords t) = ![0, t.val % 34 / 8, 0])

/-- The row weights the host prepares are the routing weights of expert 3. -/
theorem entry_v15 (c : Dev nD) : V m c main_v15
    = broadcastInDim S17408x128 ![0, 1] bcast_S17408x1_S17408x128_0_1 (extractStridedSlice S17408x1 ![0, 3]
        (Cert.DownRefIdeal.Value.COMB (m ((c : Thread nD τ).loc main_arg4))) slices_S17408x8_S17408x1_0_3) := by
  show StableHlo.after [hostOps0, hostOps0_1, hostOps0_2].flatten (fun b => m (c, b)) (Proc.tc.devRef main_v15) = _
  simp only [hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results
  all_goals rfl

/-- The weight block of a point, read at an index. -/
theorem w_at (c : Dev nD) (t : Fin cfg0.N) (a : Fin 5632) (b : Fin 512) (h : t.val / 34 * 512 + b.val < 2048) :
    k0_pay5 (iblk m c 1 t) (ix2 a b) = m ((c : Thread nD τ).loc main_arg1) (ix4 0 3 a ⟨t.val / 34 * 512 + b.val, h⟩) := by
  pointwise [k0_pay5]
  blk_point [iblk, V, idx t]

/-- The rows of a point, read at an index. -/
theorem x_at (c : Dev nD) (t : Fin cfg0.N) (a : Fin 512) (k : Fin 5632) (h : t.val % 34 * 512 + a.val < 17408) :
    iblk m c 0 t (ix2 a k) = m ((c : Thread nD τ).loc main_arg0) (ix2 ⟨t.val % 34 * 512 + a.val, h⟩ k) := by
  blk_point [iblk, V, idx t]

/-- The residual block of a point, read at an index. -/
theorem r_at (c : Dev nD) (t : Fin cfg0.N) (a b : Fin 512) (h : t.val % 34 * 512 + a.val < 17408)
    (h' : t.val / 34 * 512 + b.val < 2048) :
    iblk m c 2 t (ix2 a b) = m ((c : Thread nD τ).loc main_arg2) (ix2 ⟨t.val % 34 * 512 + a.val, h⟩ ⟨t.val / 34 * 512 + b.val, h'⟩) := by
  blk_point [iblk, V, idx t]

/-- The gate block of a point, read at an index. -/
theorem g_at (c : Dev nD) (t : Fin cfg0.N) (s : Fin 8) (b : Fin 512) (h : 10240 + (t.val / 34 * 512 + b.val) < 12288) :
    iblk m c 3 t (ix3 0 s b) = m ((c : Thread nD τ).loc main_arg3) (ix3 1 s ⟨10240 + (t.val / 34 * 512 + b.val), h⟩) := by
  blk_point [iblk, V, idx t]

/-- A block of the row weights over any array of them, read at an index. -/
theorem block4 (t : Fin cfg0.N) (z : S17408x128.Idx → EReal) (a : Fin 512) (l : Fin 128) (h : t.val % 34 * 512 + a.val < 17408) :
    View.read (Elt Ideal) ((cfg0.win 4).blk t).view z (ix2 a l) = z (ix2 ⟨t.val % 34 * 512 + a.val, h⟩ l) := by
  blk_point [idx t]

/-- The row weights of a point, read at an index. -/
theorem s_at (c : Dev nD) (t : Fin cfg0.N) (a : Fin 512) (l : Fin 128) (h : t.val % 34 * 512 + a.val < 17408) :
    iblk m c 4 t (ix2 a l) = Cert.DownRefIdeal.Value.COMB (m ((c : Thread nD τ).loc main_arg4)) (ix2 ⟨t.val % 34 * 512 + a.val, h⟩ 3) := by
  refine (block4 t (V m c main_v15) a l h).trans ?_
  rw [entry_v15 m c]
  generalize Cert.DownRefIdeal.Value.COMB (m ((c : Thread nD τ).loc main_arg4)) = z
  pointwise

/-- At a first row block the scratch is filled with the weight block. -/
theorem scr_A (c : Dev nD) (t : Fin cfg0.N) (h : t.val % 34 = 0) :
    (outsAt0 m c t.val t.isLt).2 = k0_pay5 (iblk m c 1 t) := by
  rw [outsAt0_A m c t h]
  funext y; frame_out

/-- At every other point the scratch stays. -/
theorem scr_B (c : Dev nD) (t : Fin cfg0.N) (h : ¬t.val % 34 = 0) :
    (outsAt0 m c t.val t.isLt).2 = (outsAt0 m c (t.val - 1) (by have := t.isLt; omega)).2 := by
  rw [outsAt0_B m c t h]
  rfl

/-- After point `n` the scratch holds the weight columns of the point's column block. -/
theorem scr (c : Dev nD) : ∀ (n : ℕ) (hn : n < cfg0.N) (a : Fin 5632) (b : Fin 512) (h : n / 34 * 512 + b.val < 2048),
    (outsAt0 m c n hn).2 (ix2 a b) = m ((c : Thread nD τ).loc main_arg1) (ix4 0 3 a ⟨n / 34 * 512 + b.val, h⟩) := by
  intro n
  induction n with
  | zero =>
    intro hn a b h
    rw [scr_A m c ⟨0, hn⟩ rfl]
    exact w_at m c ⟨0, hn⟩ a b h
  | succ n ih =>
    intro hn a b h
    by_cases h0 : (n + 1) % 34 = 0
    · rw [scr_A m c ⟨n + 1, hn⟩ h0]
      exact w_at m c ⟨n + 1, hn⟩ a b h
    · have e : (n + 1) / 34 = n / 34 := by omega
      rw [scr_B m c ⟨n + 1, hn⟩ h0]
      refine (ih (by omega) a b (by omega)).trans ?_
      simp only [e]

/-- A strip's indices within the block. -/
theorem strip_emb (o : ℕ) (inb) (a : Fin 512) (b : Fin 128) (h : o + b.val < 512) :
    (Rect.unit (s := S512x512) ![0, o] ![512, 128] inb).emb (ix2 a b) = ix2 a ⟨o + b.val, h⟩ := by
  show (Rect.unit (s := S512x512) ![0, o] ![512, 128] inb).idx (ix2 a b) = _
  funext d
  fin_cases d <;> exact Fin.ext (by simp [Rect.idx_unit_val])

/-- A strip of the residual block, read at an index. -/
theorem strip_ld (x : Vec Ideal S512x512 .f32) (o : ℕ) (inb) (a : Fin 512) (b : Fin 128) (h : o + b.val < 512) :
    View.ld (Val := Elt Ideal) (e' := .f32) x (Rect.unit (s := S512x512) ![0, o] ![512, 128] inb) (ix2 a b)
      = x (ix2 a ⟨o + b.val, h⟩) :=
  congrArg x (strip_emb o inb a b h)

/-- The gate's row, read at an index. -/
theorem gate_ld (f : Vec Ideal S1x8x512 .f32) (off : Fin 3 → ℕ) (s : Fin 8) (h : off = ![0, s.val, 0]) (inb) (b : Fin 512) :
    k0_pay7 (F := Ideal) (View.ld (Val := Elt Ideal) (e' := .f32) f (Rect.unit (s := S1x8x512) off ![1, 1, 512] inb)) (ix2 0 b)
      = f (ix3 0 s b) := by
  subst h
  pointwise [k0_pay7]

/-- The product at an index. -/
theorem prod_at (X : FVec Ideal S512x5632 .bf16) (W : FVec Ideal S5632x512 .bf16) (a b : Fin 512) :
    k0_pay6 (F := Ideal) X W (ix2 a b) = ∑ k : Fin 5632, X (ix2 a k) * W (ix2 k b) := by
  pointwise [k0_pay6]

/-- The first strip of the stored block. -/
theorem strip1 (X : FVec Ideal S512x5632 .bf16) (W : FVec Ideal S5632x512 .bf16) (v : Vec Ideal S1x1x512 .f32)
    (s : Vec Ideal S512x128 .f32) (x : Vec Ideal S512x128 .f32) (a : Fin 512) (b : Fin 128) :
    k0_pay1 (F := Ideal) x (k0_pay9 v s) (k0_pay10 X W) (ix2 a b)
      = x (ix2 a b) + k0_pay7 (F := Ideal) v (ix2 0 ⟨0 + b.val, by omega⟩) * s (ix2 a b)
        * k0_pay6 (F := Ideal) X W (ix2 a ⟨0 + b.val, by omega⟩) := by
  unfold k0_pay9 k0_pay10
  generalize k0_pay6 (F := Ideal) X W = A
  generalize k0_pay7 (F := Ideal) v = g
  pointwise [k0_pay1, k0_pay8]

/-- Strip 2 of the stored block, over any product, gate, row weights and residual. -/
theorem strip2 (A : FVec Ideal S512x512 .f32) (g : FVec Ideal S1x512 .f32) (s : FVec Ideal S512x128 .f32)
    (x : Vec Ideal S512x128 .f32) (a : Fin 512) (b : Fin 128) :
    k0_pay2 (F := Ideal) A g s x (ix2 a b)
      = x (ix2 a b) + g (ix2 0 ⟨128 + b.val, by omega⟩) * s (ix2 a b) * A (ix2 a ⟨128 + b.val, by omega⟩) := by
  pointwise [k0_pay2]

/-- Strip 3 of the stored block, over any product, gate, row weights and residual. -/
theorem strip3 (A : FVec Ideal S512x512 .f32) (g : FVec Ideal S1x512 .f32) (s : FVec Ideal S512x128 .f32)
    (x : Vec Ideal S512x128 .f32) (a : Fin 512) (b : Fin 128) :
    k0_pay3 (F := Ideal) A g s x (ix2 a b)
      = x (ix2 a b) + g (ix2 0 ⟨256 + b.val, by omega⟩) * s (ix2 a b) * A (ix2 a ⟨256 + b.val, by omega⟩) := by
  pointwise [k0_pay3]

/-- Strip 4 of the stored block, over any product, gate, row weights and residual. -/
theorem strip4 (A : FVec Ideal S512x512 .f32) (g : FVec Ideal S1x512 .f32) (s : FVec Ideal S512x128 .f32)
    (x : Vec Ideal S512x128 .f32) (a : Fin 512) (b : Fin 128) :
    k0_pay4 (F := Ideal) A g s x (ix2 a b)
      = x (ix2 a b) + g (ix2 0 ⟨384 + b.val, by omega⟩) * s (ix2 a b) * A (ix2 a ⟨384 + b.val, by omega⟩) := by
  pointwise [k0_pay4]

/-- What the stored block holds at an index. -/
def blockF (A : S512x512.Idx → EReal) (g : S1x512.Idx → EReal) (s : S512x128.Idx → EReal) (x : S512x512.Idx → EReal)
    (y : S512x512.Idx) : EReal :=
  x y + g (ix2 0 (y 1)) * s (ix2 (y 0) ⟨(y 1).val % 128, Nat.mod_lt _ (by decide)⟩) * A y

/-- `blockF` at an index of a strip. -/
theorem blockF_strip (A : S512x512.Idx → EReal) (g : S1x512.Idx → EReal) (s : S512x128.Idx → EReal) (x : S512x512.Idx → EReal)
    (o : ℕ) (ho : o % 128 = 0) (a : Fin 512) (b : Fin 128) (h : o + b.val < 512) :
    blockF A g s x (ix2 a ⟨o + b.val, h⟩)
      = x (ix2 a ⟨o + b.val, h⟩) + g (ix2 0 ⟨o + b.val, h⟩) * s (ix2 a b) * A (ix2 a ⟨o + b.val, h⟩) := by
  have e : (⟨(o + b.val) % 128, Nat.mod_lt _ (by decide)⟩ : Fin 128) = b := Fin.ext (by show (o + b.val) % 128 = b.val; omega)
  show _ + _ * s (ix2 a ⟨(o + b.val) % 128, _⟩) * _ = _
  rw [e]
  rfl

/-- The four strips make the block. -/
theorem strips (X : FVec Ideal S512x5632 .bf16) (W : FVec Ideal S5632x512 .bf16) (v : Vec Ideal S1x1x512 .f32)
    (s : Vec Ideal S512x128 .f32) (x : Vec Ideal S512x512 .f32) (y : S512x512.Idx) :
    View.canon (Val := Elt Ideal) (s := S512x512) (e := .f32)
      [⟨Rect.unit ![0, 384] ![512, 128] inb_S512x512_S512x128_0_384, k0_pay4 (k0_pay6 X W) (k0_pay7 v) (k0_pay8 s)
          (View.ld x (Rect.unit ![0, 384] ![512, 128] inb_S512x512_S512x128_0_384))⟩,
        ⟨Rect.unit ![0, 256] ![512, 128] inb_S512x512_S512x128_0_256, k0_pay3 (k0_pay6 X W) (k0_pay7 v) (k0_pay8 s)
          (View.ld x (Rect.unit ![0, 256] ![512, 128] inb_S512x512_S512x128_0_256))⟩,
        ⟨Rect.unit ![0, 128] ![512, 128] inb_S512x512_S512x128_0_128, k0_pay2 (k0_pay6 X W) (k0_pay7 v) (k0_pay8 s)
          (View.ld x (Rect.unit ![0, 128] ![512, 128] inb_S512x512_S512x128_0_128))⟩,
        ⟨Rect.unit ![0, 0] ![512, 128] inb_S512x512_S512x128_0_0, k0_pay1
          (View.ld x (Rect.unit ![0, 0] ![512, 128] inb_S512x512_S512x128_0_0)) (k0_pay9 v s) (k0_pay10 X W)⟩] y
      = blockF (k0_pay6 (F := Ideal) X W) (k0_pay7 (F := Ideal) v) s x y := by
  refine View.canon_apply_of_pieces (Val := Elt Ideal) (S := S512x512) (e := .f32) (blockF (k0_pay6 (F := Ideal) X W) (k0_pay7 (F := Ideal) v) s x) _ ?_ y ?_
  · have hs : k0_pay8 (F := Ideal) s = s := by
      funext z
      idx_vars z
      pointwise [k0_pay8]
    rw [hs]
    generalize hA : k0_pay6 (F := Ideal) X W = A
    generalize hg : k0_pay7 (F := Ideal) v = g
    intro p hp
    simp only [List.mem_cons, List.not_mem_nil, or_false] at hp
    rcases hp with rfl | rfl | rfl | rfl
    · intro z
      obtain ⟨a, b, rfl⟩ : ∃ (a : Fin 512) (b : Fin 128), z = ix2 a b := ⟨z 0, z 1, eq_ix2 z⟩
      exact ((strip4 A g s _ a b).trans (congrArg (fun u : EReal => u + _) (strip_ld x 384 _ a b (by omega)))).trans
        ((blockF_strip A g s x 384 rfl a b (by omega)).symm.trans (congrArg (blockF A g s x) (strip_emb 384 inb_S512x512_S512x128_0_384 a b (by omega)).symm))
    · intro z
      obtain ⟨a, b, rfl⟩ : ∃ (a : Fin 512) (b : Fin 128), z = ix2 a b := ⟨z 0, z 1, eq_ix2 z⟩
      exact ((strip3 A g s _ a b).trans (congrArg (fun u : EReal => u + _) (strip_ld x 256 _ a b (by omega)))).trans
        ((blockF_strip A g s x 256 rfl a b (by omega)).symm.trans (congrArg (blockF A g s x) (strip_emb 256 inb_S512x512_S512x128_0_256 a b (by omega)).symm))
    · intro z
      obtain ⟨a, b, rfl⟩ : ∃ (a : Fin 512) (b : Fin 128), z = ix2 a b := ⟨z 0, z 1, eq_ix2 z⟩
      exact ((strip2 A g s _ a b).trans (congrArg (fun u : EReal => u + _) (strip_ld x 128 _ a b (by omega)))).trans
        ((blockF_strip A g s x 128 rfl a b (by omega)).symm.trans (congrArg (blockF A g s x) (strip_emb 128 inb_S512x512_S512x128_0_128 a b (by omega)).symm))
    · intro z
      obtain ⟨a, b, rfl⟩ : ∃ (a : Fin 512) (b : Fin 128), z = ix2 a b := ⟨z 0, z 1, eq_ix2 z⟩
      subst hA hg
      exact ((strip1 X W v s _ a b).trans (congrArg (fun u : EReal => u + _) (strip_ld x 0 _ a b (by omega)))).trans
        ((blockF_strip (k0_pay6 (F := Ideal) X W) (k0_pay7 (F := Ideal) v) s x 0 rfl a b (by omega)).symm.trans (congrArg (blockF (k0_pay6 (F := Ideal) X W) (k0_pay7 (F := Ideal) v) s x) (strip_emb 0 inb_S512x512_S512x128_0_0 a b (by omega)).symm))
  · obtain ⟨a, b, rfl⟩ : ∃ (a b : Fin 512), y = ix2 a b := ⟨y 0, y 1, eq_ix2 y⟩
    have hb := b.isLt
    have ha := a.isLt
    have mem : ∀ (o : ℕ) (inb), o ≤ b.val → b.val < o + 128 →
        ix2 a b ∈ (Rect.unit (s := S512x512) ![0, o] ![512, 128] inb).set := fun o inb h1 h2 =>
      Rect.mem_set_unit.mpr fun d => by fin_cases d <;> constructor <;> simp <;> omega
    simp only [List.exists_mem_cons_iff, List.not_mem_nil, false_and, exists_false, or_false]
    by_cases h3 : 384 ≤ b.val
    · exact Or.inl (mem 384 _ h3 (by omega))
    by_cases h2 : 256 ≤ b.val
    · exact Or.inr (Or.inl (mem 256 _ h2 (by omega)))
    by_cases h1 : 128 ≤ b.val
    · exact Or.inr (Or.inr (Or.inl (mem 128 _ h1 (by omega))))
    · exact Or.inr (Or.inr (Or.inr (mem 0 _ (by omega) (by omega))))

/-- The result block of a point is computed from its rows, the scratch, the gate, the row weights and the residual. -/
theorem out_at (c : Dev nD) (t : Fin cfg0.N) (y : S512x512.Idx) :
    (outsAt0 m c t.val t.isLt).1 y
      = blockF (k0_pay6 (F := Ideal) (iblk m c 0 t) (outsAt0 m c t.val t.isLt).2)
          (k0_pay7 (F := Ideal) (View.ld (Val := Elt Ideal) (e' := .f32) (iblk m c 3 t)
            (Rect.unit (s := S1x8x512) (k0_off1 (grid0.coords t)) ![1, 1, 512] (k0_off1_inb (grid0.coords t)))))
          (iblk m c 4 t) (iblk m c 2 t) y := by
  by_cases h : t.val % 34 = 0
  · rw [scr_A m c t h, outsAt0_A m c t h]
    frame_out
    exact strips (iblk m c 0 t) _ _ (iblk m c 4 t) (iblk m c 2 t) y
  · rw [scr_B m c t h, outsAt0_B m c t h]
    frame_out
    rw [read_unread_whole]
    exact strips (iblk m c 0 t) _ _ (iblk m c 4 t) (iblk m c 2 t) y

/-- Each point leaves the reference's block. -/
theorem point (c : Dev nD) (t : Fin cfg0.N) (a b : Fin 512)
    (ha : t.val % 34 * 512 + a.val < 17408) (hb : t.val / 34 * 512 + b.val < 2048) :
    (outsAt0 m c t.val t.isLt).1 (ix2 a b)
      = Cert.DownRefIdeal.Value.REF (m ((c : Thread nD τ).loc main_arg0)) (m ((c : Thread nD τ).loc main_arg1))
          (m ((c : Thread nD τ).loc main_arg2)) (m ((c : Thread nD τ).loc main_arg3)) (m ((c : Thread nD τ).loc main_arg4))
          (ix2 ⟨t.val % 34 * 512 + a.val, ha⟩ ⟨t.val / 34 * 512 + b.val, hb⟩) := by
  have e1 : k0_pay6 (F := Ideal) (iblk m c 0 t) (outsAt0 m c t.val t.isLt).2 (ix2 a b)
      = Cert.DownRefIdeal.Value.dotW (m ((c : Thread nD τ).loc main_arg0)) (m ((c : Thread nD τ).loc main_arg1))
          ⟨t.val % 34 * 512 + a.val, ha⟩ ⟨t.val / 34 * 512 + b.val, hb⟩ :=
    (prod_at _ _ a b).trans (Finset.sum_congr rfl fun k _ => Ideal.mul_congr (x_at m c t a k ha) (scr m c t.val t.isLt k b hb))
  have e2 := gate_ld (iblk m c 3 t) _ ⟨t.val % 34 / 8, by omega⟩ (off t) (k0_off1_inb (grid0.coords t)) b
  have e3 := e2.trans (g_at m c t ⟨t.val % 34 / 8, by omega⟩ b (by omega))
  have e4 := s_at m c t a ⟨b.val % 128, Nat.mod_lt _ (by decide)⟩ ha
  have e5 := r_at m c t a b ha hb
  have e6 : (⟨t.val % 34 / 8, by omega⟩ : Fin 8) = ⟨(t.val % 34 * 512 + a.val) / 4096, by omega⟩ :=
    Fin.ext (by show t.val % 34 / 8 = (t.val % 34 * 512 + a.val) / 4096; have := a.isLt; omega)
  refine (out_at m c t (ix2 a b)).trans ?_
  refine .trans ?_ (Cert.DownRefIdeal.Value.REF_at _ _ _ _ _ _ _).symm
  rw [e6] at e3
  refine (congrArg₂ (fun u v : EReal => u + v) e5 (congrArg₂ (fun u v : EReal => u * v) (congrArg₂ (fun u v : EReal => u * v) e3 e4) e1)).trans ?_
  exact congrArg (fun u : EReal => _ + u) (mul_assoc _ _ _)

/-- A block of the result window over any array, read at an index. -/
theorem emb_at (t : Fin cfg0.N) (R : S17408x2048.Idx → EReal) (a b : Fin 512)
    (ha : t.val % 34 * 512 + a.val < 17408) (hb : t.val / 34 * 512 + b.val < 2048) :
    R (ix2 ⟨t.val % 34 * 512 + a.val, ha⟩ ⟨t.val / 34 * 512 + b.val, hb⟩) = R (((cfg0.win 5).blk t).view.emb (ix2 a b)) := by
  blk_point [idx t]

/-- The result array after the run is the reference's term of the arguments. -/
theorem final (c : Dev nD) :
    (dats m 0 c).arrAt 5 (cfgs 0).N
      = Cert.DownRefIdeal.Value.REF (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp; rw [after0_5]
  idx_vars y
  have hN : t.val < 136 := t.isLt
  have h0 := y0.isLt
  have h1 := y1.isLt
  refine (point m c t y0 y1 (by omega) (by omega)).trans ?_
  exact emb_at t _ y0 y1 _ _

/-- The value claim of the down-projection: kernel and reference end with the same array. -/
theorem algebraic : Cert.algebraic_DownIdeal_DownRefIdeal (hDownIdeal := Cert.DownIdeal.Gen.facts)
    (hDownRefIdeal := Cert.DownRefIdeal.Gen.facts) := by
  intro m g m' g' _ hargs
  refine ⟨fun c => Cert.DownRefIdeal.Value.REF (m ((c : Thread nD τ).loc main_arg0)) (m ((c : Thread nD τ).loc main_arg1))
      (m ((c : Thread nD τ).loc main_arg2)) (m ((c : Thread nD τ).loc main_arg3)) (m ((c : Thread nD τ).loc main_arg4)),
    (θ_run (Cert.DownIdeal.defs (F := Ideal)) _ _).mono (fun r h c => ⟨(h c).1.trans (final m c), (h c).2⟩)
      (run_blocks m g),
    (θ_run (Cert.DownRefIdeal.defs (F := Ideal)) _ _).mono (fun r h c => ⟨(h c).1.trans ?_, (h c).2⟩)
      (Cert.DownRefIdeal.Value.run m' g')⟩
  obtain ⟨a0, a1, a2, a3, a4⟩ := hargs c
  unfold Cert.DownRefIdeal.Value.res_main_v40
  rw [a0, a1, a2, a3, a4]
  rfl

end Cert.DownIdeal.Value
-- ==== Proof.FfUpValue.lean ====
module

public import proofs.«01_k».proof.Defs
public import proofs.«01_k».proof.Proof.Gen.FfUpIdeal.Frame
public import proofs.«01_k».proof.Proof.Gen.FfUpIdeal.Value
public import proofs.«01_k».proof.Proof.Gen.FfUpRefIdeal.Run
public import Idealize.ShloMosaic.Lib.Pipeline.ValueKit
public import Idealize.ShloMosaic.Lib.Pipeline.ReadBack
public import Idealize.ShloMosaic.Lib.Pointwise

/-!
# A dense layer's gated up-projection: the kernel's result is the reference's term

The grid is column-major: 11 column blocks of 512, and in each of them 17 row blocks of 1024. At the
first row block of a column block the two weight blocks are copied into scratch; every point multiplies
its rows by the scratch. So the scratch always holds the weight columns of the point's own column block,
and every block of the result is the reference's `silu(x W₁) * (x W₃)` there.
-/

@[expose] public section

set_option maxRecDepth 16384

noncomputable section

open Idealize.ShloMosaic Idealize.ShloMosaic.TcCoe Idealize.SL.Sem
open Idealize.ShloMosaic.Pipeline (Dat)

namespace Cert.FfUpRefIdeal.Value

open Cert.FfUpRefIdeal Cert.FfUpRefIdeal.Gen

/-- The reference's composed term of its three arguments. -/
def REF (X0 : FVec Ideal S17408x2048 .bf16) (X1 X2 : FVec Ideal S2x2048x5632 .f32) :
    FVec Ideal S17408x5632 .bf16 :=
  truncf .bf16 (mulf (mulf (Host.dotGeneral dot_S17408x2048_S2048x5632_S17408x5632_1_0_0_1_n_n none (extf .f32 X0 bitsLt_bf16_f32) (shapeCast _ (extractStridedSlice S1x2048x5632 ![1, 0, 0] X1 slices_S2x2048x5632_S1x2048x5632_1_0_0) shapeCasts_S1x2048x5632_S2048x5632)) (Host.divf (broadcastInDim S17408x5632 ![] bcast_S_S17408x5632 (constant S_ .f32 0x3F800000#32)) (addf (broadcastInDim S17408x5632 ![] bcast_S_S17408x5632 (constant S_ .f32 0x3F800000#32)) (Host.exp (Host.negf (Host.dotGeneral dot_S17408x2048_S2048x5632_S17408x5632_1_0_0_1_n_n none (extf .f32 X0 bitsLt_bf16_f32) (shapeCast _ (extractStridedSlice S1x2048x5632 ![1, 0, 0] X1 slices_S2x2048x5632_S1x2048x5632_1_0_0) shapeCasts_S1x2048x5632_S2048x5632))))))) (Host.dotGeneral dot_S17408x2048_S2048x5632_S17408x5632_1_0_0_1_n_n none (extf .f32 X0 bitsLt_bf16_f32) (shapeCast _ (extractStridedSlice S1x2048x5632 ![1, 0, 0] X2 slices_S2x2048x5632_S1x2048x5632_1_0_0) shapeCasts_S1x2048x5632_S2048x5632))) bitsLt_bf16_f32

/-- One element of the product of the rows of `x` with the layer's matrix in `w`. -/
def dotW (X : FVec Ideal S17408x2048 .bf16) (W : FVec Ideal S2x2048x5632 .f32)
    (r : Fin 17408) (q : Fin 5632) : EReal :=
  ∑ k : Fin 2048, X (ix2 r k) * W (ix3 1 k q)

/-- The reference at an index: the first product through `silu`, times the second. -/
theorem ref_at (X0 : FVec Ideal S17408x2048 .bf16) (X1 X2 : FVec Ideal S2x2048x5632 .f32)
    (r : Fin 17408) (q : Fin 5632) :
    REF X0 X1 X2 (ix2 r q)
      = dotW X0 X1 r q * Ideal.logistic (dotW X0 X1 r q) * dotW X0 X2 r q := by
  pointwise [REF, dotW]
  rfl

end Cert.FfUpRefIdeal.Value

namespace Cert.FfUpIdeal.Value

open Cert.FfUpIdeal Cert.FfUpIdeal.Gen

variable (m : (ℓ : Loc nD τ sig) → Buf (Elt Ideal) ℓ)

/-- The index maps at a point, by arithmetic on its number. -/
theorem idx : ∀ t : Fin cfg0.N,
    win0_0.index t = ![t.val % 17, 0] ∧ win0_1.index t = ![1, 0, t.val / 17]
      ∧ win0_2.index t = ![1, 0, t.val / 17] ∧ win0_3.index t = ![t.val % 17, t.val / 17] :=
  (by decide +kernel : ∀ t : Fin grid0.N, _)

/-- The first weight block of a point, read at an index. -/
theorem w1_at (c : Dev nD) (t : Fin cfg0.N) (a : Fin 2048) (b : Fin 512) (h : t.val / 17 * 512 + b.val < 5632) :
    k0_pay1 (iblk m c 1 t) (ix2 a b) = m ((c : Thread nD τ).loc main_arg1) (ix3 1 a ⟨t.val / 17 * 512 + b.val, h⟩) := by
  pointwise [k0_pay1]
  blk_point [iblk, V, idx t]

/-- The second weight block of a point, read at an index. -/
theorem w3_at (c : Dev nD) (t : Fin cfg0.N) (a : Fin 2048) (b : Fin 512) (h : t.val / 17 * 512 + b.val < 5632) :
    k0_pay2 (iblk m c 2 t) (ix2 a b) = m ((c : Thread nD τ).loc main_arg2) (ix3 1 a ⟨t.val / 17 * 512 + b.val, h⟩) := by
  pointwise [k0_pay2]
  blk_point [iblk, V, idx t]

/-- At a first row block the scratch is filled with the two weight blocks. -/
theorem scr_A (c : Dev nD) (t : Fin cfg0.N) (h : t.val % 17 = 0) :
    (outsAt0 m c t.val t.isLt).2 = (k0_pay1 (iblk m c 1 t), k0_pay2 (iblk m c 2 t)) := by
  rw [outsAt0_A m c t h]
  refine Prod.ext ?_ ?_
  · funext y; frame_out
  · funext y; frame_out

/-- At every other point the scratch stays. -/
theorem scr_B (c : Dev nD) (t : Fin cfg0.N) (h : ¬t.val % 17 = 0) :
    (outsAt0 m c t.val t.isLt).2 = (outsAt0 m c (t.val - 1) (by have := t.isLt; omega)).2 := by
  rw [outsAt0_B m c t h]
  rfl

/-- The result block of a point is computed from its rows and the scratch. -/
theorem out_at (c : Dev nD) (t : Fin cfg0.N) :
    (outsAt0 m c t.val t.isLt).1
      = k0_pay3 (iblk m c 0 t) (outsAt0 m c t.val t.isLt).2.1 (iblk m c 0 t) (outsAt0 m c t.val t.isLt).2.2 := by
  by_cases h : t.val % 17 = 0
  · rw [scr_A m c t h, outsAt0_A m c t h]
    funext y; frame_out
  · rw [scr_B m c t h, outsAt0_B m c t h]
    funext y; frame_out
    rw [read_unread_whole, read_unread_whole]

/-- After point `n` the first scratch holds the weight columns of the point's column block. -/
theorem scr1 (c : Dev nD) : ∀ (n : ℕ) (hn : n < cfg0.N) (a : Fin 2048) (b : Fin 512) (h : n / 17 * 512 + b.val < 5632),
    (outsAt0 m c n hn).2.1 (ix2 a b) = m ((c : Thread nD τ).loc main_arg1) (ix3 1 a ⟨n / 17 * 512 + b.val, h⟩) := by
  intro n
  induction n with
  | zero =>
    intro hn a b h
    rw [scr_A m c ⟨0, hn⟩ rfl]
    exact w1_at m c ⟨0, hn⟩ a b h
  | succ n ih =>
    intro hn a b h
    by_cases h0 : (n + 1) % 17 = 0
    · rw [scr_A m c ⟨n + 1, hn⟩ h0]
      exact w1_at m c ⟨n + 1, hn⟩ a b h
    · have e : (n + 1) / 17 = n / 17 := by omega
      rw [scr_B m c ⟨n + 1, hn⟩ h0]
      refine (ih (by omega) a b (by omega)).trans ?_
      simp only [e]

/-- After point `n` the second scratch holds the weight columns of the point's column block. -/
theorem scr2 (c : Dev nD) : ∀ (n : ℕ) (hn : n < cfg0.N) (a : Fin 2048) (b : Fin 512) (h : n / 17 * 512 + b.val < 5632),
    (outsAt0 m c n hn).2.2 (ix2 a b) = m ((c : Thread nD τ).loc main_arg2) (ix3 1 a ⟨n / 17 * 512 + b.val, h⟩) := by
  intro n
  induction n with
  | zero =>
    intro hn a b h
    rw [scr_A m c ⟨0, hn⟩ rfl]
    exact w3_at m c ⟨0, hn⟩ a b h
  | succ n ih =>
    intro hn a b h
    by_cases h0 : (n + 1) % 17 = 0
    · rw [scr_A m c ⟨n + 1, hn⟩ h0]
      exact w3_at m c ⟨n + 1, hn⟩ a b h
    · have e : (n + 1) / 17 = n / 17 := by omega
      rw [scr_B m c ⟨n + 1, hn⟩ h0]
      refine (ih (by omega) a b (by omega)).trans ?_
      simp only [e]

/-- The rows of a point, read at an index. -/
theorem x_at (c : Dev nD) (t : Fin cfg0.N) (a : Fin 1024) (k : Fin 2048) (h : t.val % 17 * 1024 + a.val < 17408) :
    iblk m c 0 t (ix2 a k) = m ((c : Thread nD τ).loc main_arg0) (ix2 ⟨t.val % 17 * 1024 + a.val, h⟩ k) := by
  blk_point [iblk, V, idx t]

/-- The stored block over any rows and weights, at an index. -/
theorem pay_at (X : FVec Ideal S1024x2048 .bf16) (W1 W3 : FVec Ideal S2048x512 .bf16) (a : Fin 1024) (b : Fin 512) :
    k0_pay3 (F := Ideal) X W1 X W3 (ix2 a b)
      = (∑ k : Fin 2048, X (ix2 a k) * W1 (ix2 k b)) * Ideal.logistic (∑ k : Fin 2048, X (ix2 a k) * W1 (ix2 k b))
        * ∑ k : Fin 2048, X (ix2 a k) * W3 (ix2 k b) := by
  pointwise [k0_pay3]

/-- Each point leaves the reference's block. -/
theorem point (c : Dev nD) (t : Fin cfg0.N) (a : Fin 1024) (b : Fin 512)
    (ha : t.val % 17 * 1024 + a.val < 17408) (hb : t.val / 17 * 512 + b.val < 5632) :
    (outsAt0 m c t.val t.isLt).1 (ix2 a b)
      = Cert.FfUpRefIdeal.Value.REF (m ((c : Thread nD τ).loc main_arg0)) (m ((c : Thread nD τ).loc main_arg1))
          (m ((c : Thread nD τ).loc main_arg2)) (ix2 ⟨t.val % 17 * 1024 + a.val, ha⟩ ⟨t.val / 17 * 512 + b.val, hb⟩) := by
  rw [out_at m c t]
  refine (pay_at _ _ _ a b).trans ?_
  refine .trans ?_ (Cert.FfUpRefIdeal.Value.ref_at _ _ _ _ _).symm
  have e1 : (∑ k : Fin 2048, (show EReal from iblk m c 0 t (ix2 a k)) * (outsAt0 m c t.val t.isLt).2.1 (ix2 k b))
      = Cert.FfUpRefIdeal.Value.dotW (m ((c : Thread nD τ).loc main_arg0)) (m ((c : Thread nD τ).loc main_arg1))
          ⟨t.val % 17 * 1024 + a.val, ha⟩ ⟨t.val / 17 * 512 + b.val, hb⟩ :=
    Finset.sum_congr rfl fun k _ => Ideal.mul_congr (x_at m c t a k ha) (scr1 m c t.val t.isLt k b hb)
  have e2 : (∑ k : Fin 2048, (show EReal from iblk m c 0 t (ix2 a k)) * (outsAt0 m c t.val t.isLt).2.2 (ix2 k b))
      = Cert.FfUpRefIdeal.Value.dotW (m ((c : Thread nD τ).loc main_arg0)) (m ((c : Thread nD τ).loc main_arg2))
          ⟨t.val % 17 * 1024 + a.val, ha⟩ ⟨t.val / 17 * 512 + b.val, hb⟩ :=
    Finset.sum_congr rfl fun k _ => Ideal.mul_congr (x_at m c t a k ha) (scr2 m c t.val t.isLt k b hb)
  exact congrArg₂ (fun u v : EReal => u * Ideal.logistic u * v) e1 e2

/-- The result array after the run is the reference's term of the arguments. -/
theorem final (c : Dev nD) :
    (dats m 0 c).arrAt 3 (cfgs 0).N
      = Cert.FfUpRefIdeal.Value.REF (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp; rw [after0_3]
  idx_vars y
  have hN : t.val < 187 := t.isLt
  have h0 := y0.isLt
  have h1 := y1.isLt
  refine (point m c t y0 y1 (by omega) (by omega)).trans ?_
  blk_point [idx t]

end Cert.FfUpIdeal.Value

namespace Cert.FfUpIdeal.Value

/-- The value claim of the up-projection: kernel and reference end with the same array. -/
theorem algebraic : Cert.algebraic_FfUpIdeal_FfUpRefIdeal (hFfUpIdeal := Cert.FfUpIdeal.Gen.facts)
    (hFfUpRefIdeal := Cert.FfUpRefIdeal.Gen.facts) := by
  intro m g m' g' _ hargs
  refine ⟨fun c => Cert.FfUpRefIdeal.Value.REF (m ((c : Thread nD τ).loc main_arg0)) (m ((c : Thread nD τ).loc main_arg1))
      (m ((c : Thread nD τ).loc main_arg2)),
    (θ_run (Cert.FfUpIdeal.defs (F := Ideal)) _ _).mono (fun r h c => ⟨(h c).1.trans (final m c), (h c).2⟩)
      (run_blocks m g),
    (θ_run (Cert.FfUpRefIdeal.defs (F := Ideal)) _ _).mono (fun r h c => ⟨(h c).1.trans ?_, (h c).2⟩)
      (Cert.FfUpRefIdeal.Value.run m' g')⟩
  obtain ⟨a0, a1, a2⟩ := hargs c
  rw [a0, a1, a2]
  rfl

end Cert.FfUpIdeal.Value
-- ==== Proof.FfDownValue.lean ====
module

public import proofs.«01_k».proof.Defs
public import proofs.«01_k».proof.Proof.Gen.FfDownIdeal.Frame
public import proofs.«01_k».proof.Proof.Gen.FfDownIdeal.Value
public import proofs.«01_k».proof.Proof.Gen.FfDownRefIdeal.Run
public import Idealize.ShloMosaic.Lib.Pipeline.ValueKit
public import Idealize.ShloMosaic.Lib.Pipeline.ReadBack
public import Idealize.ShloMosaic.Lib.Pointwise

/-!
# A dense layer's down-projection: the kernel's result is the reference's term

The grid is column-major: 4 column blocks of 512, and in each of them 34 row blocks of 512. At the first row block
of a column block the weight block is copied into scratch; every point multiplies its rows by the scratch, scales the
product by the gate of the rows' batch and adds it to its rows of the residual.
-/

@[expose] public section

set_option maxRecDepth 16384

noncomputable section

open Idealize.ShloMosaic Idealize.ShloMosaic.TcCoe Idealize.SL.Sem
open Idealize.ShloMosaic.Pipeline (Dat)

namespace Cert.FfDownRefIdeal.Value

open Cert.FfDownRefIdeal Cert.FfDownRefIdeal.Gen

/-- The product of the rows with the layer's matrix. -/
def Y (X0 : FVec Ideal S17408x5632 .bf16) (X1 : FVec Ideal S2x5632x2048 .f32) : FVec Ideal S17408x2048 .f32 :=
  Host.dotGeneral dot_S17408x5632_S5632x2048_S17408x2048_1_0_0_1_n_n none (extf .f32 X0 bitsLt_bf16_f32) (shapeCast _ (extractStridedSlice S1x5632x2048 ![1, 0, 0] X1 slices_S2x5632x2048_S1x5632x2048_1_0_0) shapeCasts_S1x5632x2048_S5632x2048)

/-- The latent rows of the result. -/
def LAT (X2 : FVec Ideal S17408x2048 .f32) (X3 : FVec Ideal S4x8x12288 .f32) (Y : FVec Ideal S17408x2048 .f32) :
    FVec Ideal S16384x2048 .f32 :=
  shapeCast _ (addf (shapeCast _ (extractStridedSlice S16384x2048 ![0, 0] X2 slices_S17408x2048_S16384x2048_0_0) shapeCasts_S16384x2048_S4x4096x2048) (mulf (broadcastInDim S4x4096x2048 ![0, 1, 2] bcast_S4x1x2048_S4x4096x2048_0_1_2 (broadcastInDim S4x1x2048 ![0, 2] bcast_S4x2048_S4x1x2048_0_2 (shapeCast _ (extractStridedSlice S1x4x2048 ![2, 0, 10240] X3 slices_S4x8x12288_S1x4x2048_2_0_10240) shapeCasts_S1x4x2048_S4x2048))) (shapeCast _ (extractStridedSlice S16384x2048 ![0, 0] Y slices_S17408x2048_S16384x2048_0_0) shapeCasts_S16384x2048_S4x4096x2048))) shapeCasts_S4x4096x2048_S16384x2048

/-- The context rows of the result. -/
def CTX (X2 : FVec Ideal S17408x2048 .f32) (X3 : FVec Ideal S4x8x12288 .f32) (Y : FVec Ideal S17408x2048 .f32) :
    FVec Ideal S1024x2048 .f32 :=
  addf (extractStridedSlice S1024x2048 ![16384, 0] X2 slices_S17408x2048_S1024x2048_16384_0) (mulf (broadcastInDim S1024x2048 ![0, 1] bcast_S1x2048_S1024x2048_0_1 (broadcastInDim S1x2048 ![1] bcast_S2048_S1x2048_1 (shapeCast _ (extractStridedSlice S1x1x2048 ![2, 4, 10240] X3 slices_S4x8x12288_S1x1x2048_2_4_10240) shapeCasts_S1x1x2048_S2048))) (extractStridedSlice S1024x2048 ![16384, 0] Y slices_S17408x2048_S1024x2048_16384_0))

/-- The reference's composed term of its four arguments. -/
def REF (X0 : FVec Ideal S17408x5632 .bf16) (X1 : FVec Ideal S2x5632x2048 .f32) (X2 : FVec Ideal S17408x2048 .f32)
    (X3 : FVec Ideal S4x8x12288 .f32) : FVec Ideal S17408x2048 .f32 :=
  concatenate S17408x2048 0 [⟨S16384x2048, LAT X2 X3 (Y X0 X1)⟩, ⟨S1024x2048, CTX X2 X3 (Y X0 X1)⟩] concatenates_S16384x2048_S1024x2048_S17408x2048_d0

/-- One element of the product of the rows with the layer's matrix. -/
def dotW (X : FVec Ideal S17408x5632 .bf16) (W : FVec Ideal S2x5632x2048 .f32) (r : Fin 17408) (q : Fin 2048) : EReal :=
  ∑ k : Fin 5632, X (ix2 r k) * W (ix3 1 k q)

/-- The product at an index. -/
theorem Y_at (X0 : FVec Ideal S17408x5632 .bf16) (X1 : FVec Ideal S2x5632x2048 .f32) (r : Fin 17408) (q : Fin 2048) :
    Y X0 X1 (ix2 r q) = dotW X0 X1 r q := by
  pointwise [Y, dotW]

/-- A latent row of the result. -/
theorem LAT_at (X2 : FVec Ideal S17408x2048 .f32) (X3 : FVec Ideal S4x8x12288 .f32) (Y : FVec Ideal S17408x2048 .f32)
    (r : Fin 16384) (q : Fin 2048) :
    LAT X2 X3 Y (ix2 r q) = X2 (ix2 ⟨r.val, by omega⟩ q)
      + X3 (ix3 2 ⟨r.val / 4096, by omega⟩ ⟨10240 + q.val, by omega⟩) * Y (ix2 ⟨r.val, by omega⟩ q) := by
  pointwise [LAT]

/-- A context row of the result. -/
theorem CTX_at (X2 : FVec Ideal S17408x2048 .f32) (X3 : FVec Ideal S4x8x12288 .f32) (Y : FVec Ideal S17408x2048 .f32)
    (r : Fin 1024) (q : Fin 2048) :
    CTX X2 X3 Y (ix2 r q) = X2 (ix2 ⟨16384 + r.val, by omega⟩ q)
      + X3 (ix3 2 4 ⟨10240 + q.val, by omega⟩) * Y (ix2 ⟨16384 + r.val, by omega⟩ q) := by
  pointwise [CTX]

/-- The reference at an index: the gate is that of the row's batch, the context's being the fifth. -/
theorem REF_at (X0 : FVec Ideal S17408x5632 .bf16) (X1 : FVec Ideal S2x5632x2048 .f32) (X2 : FVec Ideal S17408x2048 .f32)
    (X3 : FVec Ideal S4x8x12288 .f32) (r : Fin 17408) (q : Fin 2048) :
    REF X0 X1 X2 X3 (ix2 r q) = X2 (ix2 r q)
      + X3 (ix3 2 ⟨r.val / 4096, by omega⟩ ⟨10240 + q.val, by omega⟩) * dotW X0 X1 r q := by
  rw [← Y_at X0 X1 r q]
  unfold REF
  generalize Y X0 X1 = y
  by_cases hr : r.val < 16384
  · refine .trans ?_ (LAT_at X2 X3 y ⟨r.val, hr⟩ q)
    generalize LAT X2 X3 y = z
    generalize CTX X2 X3 y = w
    pointwise
    simp only [dif_pos hr]
  · have e := CTX_at X2 X3 y ⟨r.val - 16384, by omega⟩ q
    have e4 : (⟨r.val / 4096, by omega⟩ : Fin 8) = 4 := Fin.ext (by show r.val / 4096 = 4; omega)
    have er : (⟨16384 + (r.val - 16384), by omega⟩ : Fin 17408) = r := Fin.ext (by show 16384 + (r.val - 16384) = r.val; omega)
    rw [e4]
    simp only [er] at e
    refine .trans ?_ e
    generalize LAT X2 X3 y = z
    generalize CTX X2 X3 y = w
    pointwise
    simp only [dif_neg hr]

end Cert.FfDownRefIdeal.Value

namespace Cert.FfDownIdeal.Value

open Cert.FfDownIdeal Cert.FfDownIdeal.Gen

variable (m : (ℓ : Loc nD τ sig) → Buf (Elt Ideal) ℓ)

/-- The index maps at a point, by arithmetic on its number. -/
theorem idx : ∀ t : Fin cfg0.N,
    win0_0.index t = ![t.val % 34, 0] ∧ win0_1.index t = ![1, 0, t.val / 34] ∧ win0_2.index t = ![t.val % 34, t.val / 34]
      ∧ win0_3.index t = ![2, 0, 20 + t.val / 34] ∧ win0_4.index t = ![t.val % 34, t.val / 34] :=
  (by decide +kernel : ∀ t : Fin grid0.N, _)

/-- The gate's row a point reads: its row block's batch. -/
theorem off : ∀ t : Fin cfg0.N, k0_off1 (grid0.coords t) = ![0, t.val % 34 / 8, 0] :=
  (by decide +kernel : ∀ t : Fin grid0.N, k0_off1 (grid0.coords t) = ![0, t.val % 34 / 8, 0])

/-- The weight block of a point, read at an index. -/
theorem w_at (c : Dev nD) (t : Fin cfg0.N) (a : Fin 5632) (b : Fin 512) (h : t.val / 34 * 512 + b.val < 2048) :
    k0_pay1 (iblk m c 1 t) (ix2 a b) = m ((c : Thread nD τ).loc main_arg1) (ix3 1 a ⟨t.val / 34 * 512 + b.val, h⟩) := by
  pointwise [k0_pay1]
  blk_point [iblk, V, idx t]

/-- The rows of a point, read at an index. -/
theorem x_at (c : Dev nD) (t : Fin cfg0.N) (a : Fin 512) (k : Fin 5632) (h : t.val % 34 * 512 + a.val < 17408) :
    iblk m c 0 t (ix2 a k) = m ((c : Thread nD τ).loc main_arg0) (ix2 ⟨t.val % 34 * 512 + a.val, h⟩ k) := by
  blk_point [iblk, V, idx t]

/-- The residual block of a point, read at an index. -/
theorem r_at (c : Dev nD) (t : Fin cfg0.N) (a : Fin 512) (b : Fin 512) (h : t.val % 34 * 512 + a.val < 17408)
    (h' : (t.val / 34 * 512 + b.val) < 2048) :
    iblk m c 2 t (ix2 a b) = m ((c : Thread nD τ).loc main_arg2) (ix2 ⟨t.val % 34 * 512 + a.val, h⟩ ⟨(t.val / 34 * 512 + b.val), h'⟩) := by
  blk_point [iblk, V, idx t]

/-- The gate block of a point, read at an index. -/
theorem g_at (c : Dev nD) (t : Fin cfg0.N) (s : Fin 8) (b : Fin 512) (h : 10240 + (t.val / 34 * 512 + b.val) < 12288) :
    iblk m c 3 t (ix3 0 s b) = m ((c : Thread nD τ).loc main_arg3) (ix3 2 s ⟨10240 + (t.val / 34 * 512 + b.val), h⟩) := by
  blk_point [iblk, V, idx t]

/-- At a first row block the scratch is filled with the weight block. -/
theorem scr_A (c : Dev nD) (t : Fin cfg0.N) (h : t.val % 34 = 0) :
    (outsAt0 m c t.val t.isLt).2 = k0_pay1 (iblk m c 1 t) := by
  rw [outsAt0_A m c t h]
  funext y; frame_out

/-- At every other point the scratch stays. -/
theorem scr_B (c : Dev nD) (t : Fin cfg0.N) (h : ¬t.val % 34 = 0) :
    (outsAt0 m c t.val t.isLt).2 = (outsAt0 m c (t.val - 1) (by have := t.isLt; omega)).2 := by
  rw [outsAt0_B m c t h]
  rfl

/-- After point `n` the scratch holds the weight columns of the point's column block. -/
theorem scr (c : Dev nD) : ∀ (n : ℕ) (hn : n < cfg0.N) (a : Fin 5632) (b : Fin 512) (h : n / 34 * 512 + b.val < 2048),
    (outsAt0 m c n hn).2 (ix2 a b) = m ((c : Thread nD τ).loc main_arg1) (ix3 1 a ⟨n / 34 * 512 + b.val, h⟩) := by
  intro n
  induction n with
  | zero =>
    intro hn a b h
    rw [scr_A m c ⟨0, hn⟩ rfl]
    exact w_at m c ⟨0, hn⟩ a b h
  | succ n ih =>
    intro hn a b h
    by_cases h0 : (n + 1) % 34 = 0
    · rw [scr_A m c ⟨n + 1, hn⟩ h0]
      exact w_at m c ⟨n + 1, hn⟩ a b h
    · have e : (n + 1) / 34 = n / 34 := by omega
      rw [scr_B m c ⟨n + 1, hn⟩ h0]
      refine (ih (by omega) a b (by omega)).trans ?_
      simp only [e]

/-- The stored block over any rows, weights, gates and residual, at an index. -/
theorem pay_at (X : FVec Ideal S512x5632 .bf16) (W : FVec Ideal S5632x512 .bf16) (f : Vec Ideal S1x8x512 .f32)
    (off : Fin 3 → ℕ) (s : Fin 8) (h : off = ![0, s.val, 0]) (inb) (x : FVec Ideal S512x512 .f32) (a : Fin 512) (b : Fin 512) :
    k0_pay2 (F := Ideal) X W
        (View.ld (Val := Elt Ideal) (e' := .f32) f (Rect.unit (s := S1x8x512) off ![1, 1, 512] inb)) x (ix2 a b)
      = x (ix2 a b) + f (ix3 0 s b) * ∑ k : Fin 5632, X (ix2 a k) * W (ix2 k b) := by
  subst h
  pointwise [k0_pay2]

/-- The result block of a point is computed from its rows, the scratch, the gates and the residual. -/
theorem out_at (c : Dev nD) (t : Fin cfg0.N) :
    (outsAt0 m c t.val t.isLt).1
      = k0_pay2 (F := Ideal) (iblk m c 0 t) (outsAt0 m c t.val t.isLt).2
          (View.ld (Val := Elt Ideal) (e' := .f32) (iblk m c 3 t)
            (Rect.unit (s := S1x8x512) (k0_off1 (grid0.coords t)) ![1, 1, 512] (k0_off1_inb (grid0.coords t)))) (iblk m c 2 t) := by
  by_cases h : t.val % 34 = 0
  · rw [scr_A m c t h, outsAt0_A m c t h]
    funext y; frame_out; rfl
  · rw [scr_B m c t h, outsAt0_B m c t h]
    funext y; frame_out
    rw [read_unread_whole]
    rfl

/-- Each point leaves the reference's block. -/
theorem point (c : Dev nD) (t : Fin cfg0.N) (a : Fin 512) (b : Fin 512)
    (ha : t.val % 34 * 512 + a.val < 17408) (hb : t.val / 34 * 512 + b.val < 2048) :
    (outsAt0 m c t.val t.isLt).1 (ix2 a b)
      = Cert.FfDownRefIdeal.Value.REF (m ((c : Thread nD τ).loc main_arg0)) (m ((c : Thread nD τ).loc main_arg1)) (m ((c : Thread nD τ).loc main_arg2)) (m ((c : Thread nD τ).loc main_arg3)) (ix2 ⟨t.val % 34 * 512 + a.val, ha⟩ ⟨t.val / 34 * 512 + b.val, hb⟩) := by
  have e1 : (∑ k : Fin 5632, (show EReal from iblk m c 0 t (ix2 a k)) * (outsAt0 m c t.val t.isLt).2 (ix2 k b))
      = Cert.FfDownRefIdeal.Value.dotW (m ((c : Thread nD τ).loc main_arg0)) (m ((c : Thread nD τ).loc main_arg1))
          ⟨t.val % 34 * 512 + a.val, ha⟩ ⟨t.val / 34 * 512 + b.val, hb⟩ :=
    Finset.sum_congr rfl fun k _ => Ideal.mul_congr (x_at m c t a k ha) (scr m c t.val t.isLt k b hb)
  have e3 := g_at m c t ⟨t.val % 34 / 8, by omega⟩ b (by omega)
  have e6 : (⟨t.val % 34 / 8, by omega⟩ : Fin 8) = ⟨(t.val % 34 * 512 + a.val) / 4096, by omega⟩ :=
    Fin.ext (by show t.val % 34 / 8 = (t.val % 34 * 512 + a.val) / 4096; have := a.isLt; omega)
  rw [out_at m c t]
  refine (pay_at _ _ _ _ ⟨t.val % 34 / 8, by omega⟩ (off t) _ _ a b).trans ?_
  refine .trans ?_ (Cert.FfDownRefIdeal.Value.REF_at _ _ _ _ _ _).symm
  rw [e6] at e3 ⊢
  exact congrArg₂ (fun u v : EReal => u + v) (r_at m c t a b ha hb) (Ideal.mul_congr e3 e1)

/-- A block of the result window over any array, read at an index. -/
theorem emb_at (t : Fin cfg0.N) (R : S17408x2048.Idx → EReal) (a : Fin 512) (b : Fin 512)
    (ha : t.val % 34 * 512 + a.val < 17408) (hb : t.val / 34 * 512 + b.val < 2048) :
    R (ix2 ⟨t.val % 34 * 512 + a.val, ha⟩ ⟨t.val / 34 * 512 + b.val, hb⟩) = R (((cfg0.win 4).blk t).view.emb (ix2 a b)) := by
  blk_point [idx t]

/-- The result array after the run is the reference's term of the arguments. -/
theorem final (c : Dev nD) :
    (dats m 0 c).arrAt 4 (cfgs 0).N
      = Cert.FfDownRefIdeal.Value.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]
  idx_vars y
  have hN : t.val < 136 := t.isLt
  have h0 := y0.isLt
  have h1 := y1.isLt
  refine (point m c t y0 y1 (by omega) (by omega)).trans ?_
  exact emb_at t _ y0 y1 _ _

/-- The value claim of the dense down-projection: kernel and reference end with the same array. -/
theorem algebraic : Cert.algebraic_FfDownIdeal_FfDownRefIdeal (hFfDownIdeal := Cert.FfDownIdeal.Gen.facts)
    (hFfDownRefIdeal := Cert.FfDownRefIdeal.Gen.facts) := by
  intro m g m' g' _ hargs
  refine ⟨fun c => Cert.FfDownRefIdeal.Value.REF (m ((c : Thread nD τ).loc main_arg0)) (m ((c : Thread nD τ).loc main_arg1)) (m ((c : Thread nD τ).loc main_arg2)) (m ((c : Thread nD τ).loc main_arg3)),
    (θ_run (Cert.FfDownIdeal.defs (F := Ideal)) _ _).mono (fun r h c => ⟨(h c).1.trans (final m c), (h c).2⟩)
      (run_blocks m g),
    (θ_run (Cert.FfDownRefIdeal.defs (F := Ideal)) _ _).mono (fun r h c => ⟨(h c).1.trans ?_, (h c).2⟩)
      (Cert.FfDownRefIdeal.Value.run m' g')⟩
  obtain ⟨a0, a1, a2, a3⟩ := hargs c
  rw [a0, a1, a2, a3]
  rfl

end Cert.FfDownIdeal.Value
-- ==== Proof.MergeValue.lean ====
module

public import proofs.«01_k».proof.Defs
public import proofs.«01_k».proof.Proof.Gen.MergeIdeal.Frame
public import proofs.«01_k».proof.Proof.Gen.MergeIdeal.Value
public import proofs.«01_k».proof.Proof.Gen.MergeRefIdeal.Run
public import Idealize.ShloMosaic.Lib.Pipeline.ValueKit
public import Idealize.ShloMosaic.Lib.Pipeline.ReadBack
public import Idealize.ShloMosaic.Lib.Pointwise

/-!
# The merge of the two branches: the kernel's result is the reference's term

The grid is column-major: 4 column blocks of 512, and in each of them 17 row blocks of 1024. At the first row block
of a column block the two weight blocks are copied into scratch; every point multiplies the rows of each branch by
its scratch, scales each product by its gate's block and adds the two.
-/

@[expose] public section

set_option maxRecDepth 16384

noncomputable section

open Idealize.ShloMosaic Idealize.ShloMosaic.TcCoe Idealize.SL.Sem
open Idealize.ShloMosaic.Pipeline (Dat)

namespace Cert.MergeRefIdeal.Value

open Cert.MergeRefIdeal Cert.MergeRefIdeal.Gen

/-- The reference's composed term of its five arguments. -/
def REF (X0 X1 : FVec Ideal S17408x2048 .bf16) (X2 : FVec Ideal S17408x16384 .bf16) (X3 X4 : FVec Ideal S4x2048x2048 .f32) :
    FVec Ideal S17408x2048 .bf16 :=
  truncf .bf16 (addf (mulf (extractStridedSlice S17408x2048 ![0, 0] (extf .f32 (extractStridedSlice S17408x4096 ![0, 12288] X2 slices_S17408x16384_S17408x4096_0_12288) bitsLt_bf16_f32) slices_S17408x4096_S17408x2048_0_0) (Host.dotGeneral dot_S17408x2048_S2048x2048_S17408x2048_1_0_0_1_n_n none (extf .f32 X0 bitsLt_bf16_f32) (shapeCast _ (extractStridedSlice S1x2048x2048 ![1, 0, 0] X3 slices_S4x2048x2048_S1x2048x2048_1_0_0) shapeCasts_S1x2048x2048_S2048x2048))) (mulf (extractStridedSlice S17408x2048 ![0, 2048] (extf .f32 (extractStridedSlice S17408x4096 ![0, 12288] X2 slices_S17408x16384_S17408x4096_0_12288) bitsLt_bf16_f32) slices_S17408x4096_S17408x2048_0_2048) (Host.dotGeneral dot_S17408x2048_S2048x2048_S17408x2048_1_0_0_1_n_n none (extf .f32 X1 bitsLt_bf16_f32) (shapeCast _ (extractStridedSlice S1x2048x2048 ![1, 0, 0] X4 slices_S4x2048x2048_S1x2048x2048_1_0_0) shapeCasts_S1x2048x2048_S2048x2048)))) bitsLt_bf16_f32

/-- One element of the product of a branch's rows with the layer's matrix. -/
def dotW (X : FVec Ideal S17408x2048 .bf16) (W : FVec Ideal S4x2048x2048 .f32) (r : Fin 17408) (q : Fin 2048) : EReal :=
  ∑ k : Fin 2048, X (ix2 r k) * W (ix3 1 k q)

/-- The reference at an index: each branch's product scaled by its gate. -/
theorem REF_at (X0 X1 : FVec Ideal S17408x2048 .bf16) (X2 : FVec Ideal S17408x16384 .bf16) (X3 X4 : FVec Ideal S4x2048x2048 .f32)
    (r : Fin 17408) (q : Fin 2048) :
    REF X0 X1 X2 X3 X4 (ix2 r q)
      = X2 (ix2 r ⟨12288 + q.val, by omega⟩) * dotW X0 X3 r q + X2 (ix2 r ⟨14336 + q.val, by omega⟩) * dotW X1 X4 r q := by
  have e : ∀ h, (⟨12288 + (2048 + q.val), h⟩ : Fin 16384) = ⟨14336 + q.val, by omega⟩ := fun h =>
    Fin.ext (by show 12288 + (2048 + q.val) = 14336 + q.val; omega)
  pointwise [REF, dotW]
  try simp only [e]

end Cert.MergeRefIdeal.Value

namespace Cert.MergeIdeal.Value

open Cert.MergeIdeal Cert.MergeIdeal.Gen

variable (m : (ℓ : Loc nD τ sig) → Buf (Elt Ideal) ℓ)

/-- The index maps at a point, by arithmetic on its number. -/
theorem idx : ∀ t : Fin cfg0.N,
    win0_0.index t = ![t.val % 17, 0] ∧ win0_1.index t = ![t.val % 17, 0] ∧ win0_2.index t = ![1, 0, t.val / 17]
      ∧ win0_3.index t = ![1, 0, t.val / 17] ∧ win0_4.index t = ![t.val % 17, 24 + t.val / 17]
      ∧ win0_5.index t = ![t.val % 17, 28 + t.val / 17] ∧ win0_6.index t = ![t.val % 17, t.val / 17] :=
  (by decide +kernel : ∀ t : Fin grid0.N, _)

/-- The first weight block of a point, read at an index. -/
theorem wa_at (c : Dev nD) (t : Fin cfg0.N) (a : Fin 2048) (b : Fin 512) (h : t.val / 17 * 512 + b.val < 2048) :
    k0_pay1 (iblk m c 2 t) (ix2 a b) = m ((c : Thread nD τ).loc main_arg3) (ix3 1 a ⟨t.val / 17 * 512 + b.val, h⟩) := by
  pointwise [k0_pay1]
  blk_point [iblk, V, idx t]

/-- The second weight block of a point, read at an index. -/
theorem wb_at (c : Dev nD) (t : Fin cfg0.N) (a : Fin 2048) (b : Fin 512) (h : t.val / 17 * 512 + b.val < 2048) :
    k0_pay2 (iblk m c 3 t) (ix2 a b) = m ((c : Thread nD τ).loc main_arg4) (ix3 1 a ⟨t.val / 17 * 512 + b.val, h⟩) := by
  pointwise [k0_pay2]
  blk_point [iblk, V, idx t]

/-- The first branch's rows of a point, read at an index. -/
theorem a_at (c : Dev nD) (t : Fin cfg0.N) (a : Fin 1024) (k : Fin 2048) (h : t.val % 17 * 1024 + a.val < 17408) :
    iblk m c 0 t (ix2 a k) = m ((c : Thread nD τ).loc main_arg0) (ix2 ⟨t.val % 17 * 1024 + a.val, h⟩ k) := by
  blk_point [iblk, V, idx t]

/-- The second branch's rows of a point, read at an index. -/
theorem b_at (c : Dev nD) (t : Fin cfg0.N) (a : Fin 1024) (k : Fin 2048) (h : t.val % 17 * 1024 + a.val < 17408) :
    iblk m c 1 t (ix2 a k) = m ((c : Thread nD τ).loc main_arg1) (ix2 ⟨t.val % 17 * 1024 + a.val, h⟩ k) := by
  blk_point [iblk, V, idx t]

/-- The first gate's block of a point, read at an index. -/
theorem ga_at (c : Dev nD) (t : Fin cfg0.N) (a : Fin 1024) (b : Fin 512) (h : t.val % 17 * 1024 + a.val < 17408)
    (h' : 12288 + (t.val / 17 * 512 + b.val) < 16384) :
    iblk m c 4 t (ix2 a b) = m ((c : Thread nD τ).loc main_arg2) (ix2 ⟨t.val % 17 * 1024 + a.val, h⟩ ⟨12288 + (t.val / 17 * 512 + b.val), h'⟩) := by
  blk_point [iblk, V, idx t]

/-- The second gate's block of a point, read at an index. -/
theorem gb_at (c : Dev nD) (t : Fin cfg0.N) (a : Fin 1024) (b : Fin 512) (h : t.val % 17 * 1024 + a.val < 17408)
    (h' : 14336 + (t.val / 17 * 512 + b.val) < 16384) :
    iblk m c 5 t (ix2 a b) = m ((c : Thread nD τ).loc main_arg2) (ix2 ⟨t.val % 17 * 1024 + a.val, h⟩ ⟨14336 + (t.val / 17 * 512 + b.val), h'⟩) := by
  blk_point [iblk, V, idx t]

/-- At a first row block the scratch is filled with the two weight blocks. -/
theorem scr_A (c : Dev nD) (t : Fin cfg0.N) (h : t.val % 17 = 0) :
    (outsAt0 m c t.val t.isLt).2 = (k0_pay1 (iblk m c 2 t), k0_pay2 (iblk m c 3 t)) := by
  rw [outsAt0_A m c t h]
  refine Prod.ext ?_ ?_
  · funext y; frame_out
  · funext y; frame_out

/-- At every other point the scratch stays. -/
theorem scr_B (c : Dev nD) (t : Fin cfg0.N) (h : ¬t.val % 17 = 0) :
    (outsAt0 m c t.val t.isLt).2 = (outsAt0 m c (t.val - 1) (by have := t.isLt; omega)).2 := by
  rw [outsAt0_B m c t h]
  rfl

/-- The result block of a point is computed from its rows, its gates and the scratch. -/
theorem out_at (c : Dev nD) (t : Fin cfg0.N) :
    (outsAt0 m c t.val t.isLt).1
      = k0_pay3 (iblk m c 0 t) (outsAt0 m c t.val t.isLt).2.1 (iblk m c 1 t) (outsAt0 m c t.val t.isLt).2.2
          (iblk m c 4 t) (iblk m c 5 t) := by
  by_cases h : t.val % 17 = 0
  · rw [scr_A m c t h, outsAt0_A m c t h]
    funext y; frame_out
  · rw [scr_B m c t h, outsAt0_B m c t h]
    funext y; frame_out
    rw [read_unread_whole, read_unread_whole]

/-- After point `n` the first scratch holds the weight columns of the point's column block. -/
theorem scr1 (c : Dev nD) : ∀ (n : ℕ) (hn : n < cfg0.N) (a : Fin 2048) (b : Fin 512) (h : n / 17 * 512 + b.val < 2048),
    (outsAt0 m c n hn).2.1 (ix2 a b) = m ((c : Thread nD τ).loc main_arg3) (ix3 1 a ⟨n / 17 * 512 + b.val, h⟩) := by
  intro n
  induction n with
  | zero =>
    intro hn a b h
    rw [scr_A m c ⟨0, hn⟩ rfl]
    exact wa_at m c ⟨0, hn⟩ a b h
  | succ n ih =>
    intro hn a b h
    by_cases h0 : (n + 1) % 17 = 0
    · rw [scr_A m c ⟨n + 1, hn⟩ h0]
      exact wa_at m c ⟨n + 1, hn⟩ a b h
    · have e : (n + 1) / 17 = n / 17 := by omega
      rw [scr_B m c ⟨n + 1, hn⟩ h0]
      refine (ih (by omega) a b (by omega)).trans ?_
      simp only [e]

/-- After point `n` the second scratch holds the weight columns of the point's column block. -/
theorem scr2 (c : Dev nD) : ∀ (n : ℕ) (hn : n < cfg0.N) (a : Fin 2048) (b : Fin 512) (h : n / 17 * 512 + b.val < 2048),
    (outsAt0 m c n hn).2.2 (ix2 a b) = m ((c : Thread nD τ).loc main_arg4) (ix3 1 a ⟨n / 17 * 512 + b.val, h⟩) := by
  intro n
  induction n with
  | zero =>
    intro hn a b h
    rw [scr_A m c ⟨0, hn⟩ rfl]
    exact wb_at m c ⟨0, hn⟩ a b h
  | succ n ih =>
    intro hn a b h
    by_cases h0 : (n + 1) % 17 = 0
    · rw [scr_A m c ⟨n + 1, hn⟩ h0]
      exact wb_at m c ⟨n + 1, hn⟩ a b h
    · have e : (n + 1) / 17 = n / 17 := by omega
      rw [scr_B m c ⟨n + 1, hn⟩ h0]
      refine (ih (by omega) a b (by omega)).trans ?_
      simp only [e]

/-- The stored block over any rows, weights and gates, at an index. -/
theorem pay_at (A : FVec Ideal S1024x2048 .bf16) (W : FVec Ideal S2048x512 .bf16) (B : FVec Ideal S1024x2048 .bf16)
    (W' : FVec Ideal S2048x512 .bf16) (g g' : FVec Ideal S1024x512 .bf16) (a : Fin 1024) (b : Fin 512) :
    k0_pay3 (F := Ideal) A W B W' g g' (ix2 a b)
      = g (ix2 a b) * (∑ k : Fin 2048, A (ix2 a k) * W (ix2 k b)) + g' (ix2 a b) * ∑ k : Fin 2048, B (ix2 a k) * W' (ix2 k b) := by
  pointwise [k0_pay3]

/-- Each point leaves the reference's block. -/
theorem point (c : Dev nD) (t : Fin cfg0.N) (a : Fin 1024) (b : Fin 512)
    (ha : t.val % 17 * 1024 + a.val < 17408) (hb : t.val / 17 * 512 + b.val < 2048) :
    (outsAt0 m c t.val t.isLt).1 (ix2 a b)
      = Cert.MergeRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val % 17 * 1024 + a.val, ha⟩ ⟨t.val / 17 * 512 + b.val, hb⟩) := by
  rw [out_at m c t]
  refine (pay_at _ _ _ _ _ _ a b).trans ?_
  refine .trans ?_ (Cert.MergeRefIdeal.Value.REF_at _ _ _ _ _ _ _).symm
  have e1 : (∑ k : Fin 2048, (show EReal from iblk m c 0 t (ix2 a k)) * (outsAt0 m c t.val t.isLt).2.1 (ix2 k b))
      = Cert.MergeRefIdeal.Value.dotW (m ((c : Thread nD τ).loc main_arg0)) (m ((c : Thread nD τ).loc main_arg3))
          ⟨t.val % 17 * 1024 + a.val, ha⟩ ⟨t.val / 17 * 512 + b.val, hb⟩ :=
    Finset.sum_congr rfl fun k _ => Ideal.mul_congr (a_at m c t a k ha) (scr1 m c t.val t.isLt k b hb)
  have e2 : (∑ k : Fin 2048, (show EReal from iblk m c 1 t (ix2 a k)) * (outsAt0 m c t.val t.isLt).2.2 (ix2 k b))
      = Cert.MergeRefIdeal.Value.dotW (m ((c : Thread nD τ).loc main_arg1)) (m ((c : Thread nD τ).loc main_arg4))
          ⟨t.val % 17 * 1024 + a.val, ha⟩ ⟨t.val / 17 * 512 + b.val, hb⟩ :=
    Finset.sum_congr rfl fun k _ => Ideal.mul_congr (b_at m c t a k ha) (scr2 m c t.val t.isLt k b hb)
  exact congrArg₂ (fun u v : EReal => u + v) (Ideal.mul_congr (ga_at m c t a b ha (by omega)) e1)
    (Ideal.mul_congr (gb_at m c t a b ha (by omega)) e2)

/-- A block of the result window over any array, read at an index. -/
theorem emb_at (t : Fin cfg0.N) (R : S17408x2048.Idx → EReal) (a : Fin 1024) (b : Fin 512)
    (ha : t.val % 17 * 1024 + a.val < 17408) (hb : t.val / 17 * 512 + b.val < 2048) :
    R (ix2 ⟨t.val % 17 * 1024 + a.val, ha⟩ ⟨t.val / 17 * 512 + b.val, hb⟩) = R (((cfg0.win 6).blk t).view.emb (ix2 a b)) := by
  blk_point [idx t]

/-- The result array after the run is the reference's term of the arguments. -/
theorem final (c : Dev nD) :
    (dats m 0 c).arrAt 6 (cfgs 0).N
      = Cert.MergeRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp; rw [after0_6]
  idx_vars y
  have hN : t.val < 68 := t.isLt
  have h0 := y0.isLt
  have h1 := y1.isLt
  refine (point m c t y0 y1 (by omega) (by omega)).trans ?_
  exact emb_at t _ y0 y1 _ _

/-- The value claim of the merge: kernel and reference end with the same array. -/
theorem algebraic : Cert.algebraic_MergeIdeal_MergeRefIdeal (hMergeIdeal := Cert.MergeIdeal.Gen.facts)
    (hMergeRefIdeal := Cert.MergeRefIdeal.Gen.facts) := by
  intro m g m' g' _ hargs
  refine ⟨fun c => Cert.MergeRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)),
    (θ_run (Cert.MergeIdeal.defs (F := Ideal)) _ _).mono (fun r h c => ⟨(h c).1.trans (final m c), (h c).2⟩)
      (run_blocks m g),
    (θ_run (Cert.MergeRefIdeal.defs (F := Ideal)) _ _).mono (fun r h c => ⟨(h c).1.trans ?_, (h c).2⟩)
      (Cert.MergeRefIdeal.Value.run m' g')⟩
  obtain ⟨a0, a1, a2, a3, a4⟩ := hargs c
  rw [a0, a1, a2, a3, a4]
  rfl

end Cert.MergeIdeal.Value
-- ==== Proof.OutValue.lean ====
module

public import proofs.«01_k».proof.Defs
public import proofs.«01_k».proof.Proof.Gen.OutIdeal.Frame
public import proofs.«01_k».proof.Proof.Gen.OutIdeal.Value
public import proofs.«01_k».proof.Proof.Gen.OutRefIdeal.Run
public import Idealize.ShloMosaic.Lib.Pipeline.ValueKit
public import Idealize.ShloMosaic.Lib.Pipeline.ReadBack
public import Idealize.ShloMosaic.Lib.Pointwise

/-!
# The output projection: the kernel's result is the reference's term

The grid is column-major: 4 column blocks of 512, and in each of them 17 row blocks of 1024. At the first row block
of a column block the weight block is copied into scratch; every point multiplies its rows by the scratch, scales the
product by the gate of the rows' batch and adds it to its rows of the residual.
-/

@[expose] public section

set_option maxRecDepth 16384

noncomputable section

open Idealize.ShloMosaic Idealize.ShloMosaic.TcCoe Idealize.SL.Sem
open Idealize.ShloMosaic.Pipeline (Dat)

namespace Cert.OutRefIdeal.Value

open Cert.OutRefIdeal Cert.OutRefIdeal.Gen

/-- The product of the rows with the layer's matrix. -/
def Y (X0 : FVec Ideal S17408x2048 .bf16) (X1 : FVec Ideal S4x2048x2048 .f32) : FVec Ideal S17408x2048 .f32 :=
  Host.dotGeneral dot_S17408x2048_S2048x2048_S17408x2048_1_0_0_1_n_n none (extf .f32 X0 bitsLt_bf16_f32) (shapeCast _ (extractStridedSlice S1x2048x2048 ![1, 0, 0] X1 slices_S4x2048x2048_S1x2048x2048_1_0_0) shapeCasts_S1x2048x2048_S2048x2048)

/-- The latent rows of the result. -/
def LAT (X2 : FVec Ideal S17408x2048 .f32) (X3 : FVec Ideal S4x8x12288 .f32) (Y : FVec Ideal S17408x2048 .f32) :
    FVec Ideal S16384x2048 .f32 :=
  shapeCast _ (addf (shapeCast _ (extractStridedSlice S16384x2048 ![0, 0] X2 slices_S17408x2048_S16384x2048_0_0) shapeCasts_S16384x2048_S4x4096x2048) (mulf (broadcastInDim S4x4096x2048 ![0, 1, 2] bcast_S4x1x2048_S4x4096x2048_0_1_2 (broadcastInDim S4x1x2048 ![0, 2] bcast_S4x2048_S4x1x2048_0_2 (shapeCast _ (extractStridedSlice S1x4x2048 ![1, 0, 4096] X3 slices_S4x8x12288_S1x4x2048_1_0_4096) shapeCasts_S1x4x2048_S4x2048))) (shapeCast _ (extractStridedSlice S16384x2048 ![0, 0] Y slices_S17408x2048_S16384x2048_0_0) shapeCasts_S16384x2048_S4x4096x2048))) shapeCasts_S4x4096x2048_S16384x2048

/-- The context rows of the result. -/
def CTX (X2 : FVec Ideal S17408x2048 .f32) (X3 : FVec Ideal S4x8x12288 .f32) (Y : FVec Ideal S17408x2048 .f32) :
    FVec Ideal S1024x2048 .f32 :=
  addf (extractStridedSlice S1024x2048 ![16384, 0] X2 slices_S17408x2048_S1024x2048_16384_0) (mulf (broadcastInDim S1024x2048 ![0, 1] bcast_S1x2048_S1024x2048_0_1 (broadcastInDim S1x2048 ![1] bcast_S2048_S1x2048_1 (shapeCast _ (extractStridedSlice S1x1x2048 ![1, 4, 4096] X3 slices_S4x8x12288_S1x1x2048_1_4_4096) shapeCasts_S1x1x2048_S2048))) (extractStridedSlice S1024x2048 ![16384, 0] Y slices_S17408x2048_S1024x2048_16384_0))

/-- The reference's composed term of its four arguments. -/
def REF (X0 : FVec Ideal S17408x2048 .bf16) (X1 : FVec Ideal S4x2048x2048 .f32) (X2 : FVec Ideal S17408x2048 .f32)
    (X3 : FVec Ideal S4x8x12288 .f32) : FVec Ideal S17408x2048 .f32 :=
  concatenate S17408x2048 0 [⟨S16384x2048, LAT X2 X3 (Y X0 X1)⟩, ⟨S1024x2048, CTX X2 X3 (Y X0 X1)⟩] concatenates_S16384x2048_S1024x2048_S17408x2048_d0

/-- One element of the product of the rows with the layer's matrix. -/
def dotW (X : FVec Ideal S17408x2048 .bf16) (W : FVec Ideal S4x2048x2048 .f32) (r : Fin 17408) (q : Fin 2048) : EReal :=
  ∑ k : Fin 2048, X (ix2 r k) * W (ix3 1 k q)

/-- The product at an index. -/
theorem Y_at (X0 : FVec Ideal S17408x2048 .bf16) (X1 : FVec Ideal S4x2048x2048 .f32) (r : Fin 17408) (q : Fin 2048) :
    Y X0 X1 (ix2 r q) = dotW X0 X1 r q := by
  pointwise [Y, dotW]

/-- A latent row of the result. -/
theorem LAT_at (X2 : FVec Ideal S17408x2048 .f32) (X3 : FVec Ideal S4x8x12288 .f32) (Y : FVec Ideal S17408x2048 .f32)
    (r : Fin 16384) (q : Fin 2048) :
    LAT X2 X3 Y (ix2 r q) = X2 (ix2 ⟨r.val, by omega⟩ q)
      + X3 (ix3 1 ⟨r.val / 4096, by omega⟩ ⟨4096 + q.val, by omega⟩) * Y (ix2 ⟨r.val, by omega⟩ q) := by
  pointwise [LAT]

/-- A context row of the result. -/
theorem CTX_at (X2 : FVec Ideal S17408x2048 .f32) (X3 : FVec Ideal S4x8x12288 .f32) (Y : FVec Ideal S17408x2048 .f32)
    (r : Fin 1024) (q : Fin 2048) :
    CTX X2 X3 Y (ix2 r q) = X2 (ix2 ⟨16384 + r.val, by omega⟩ q)
      + X3 (ix3 1 4 ⟨4096 + q.val, by omega⟩) * Y (ix2 ⟨16384 + r.val, by omega⟩ q) := by
  pointwise [CTX]

/-- The reference at an index: the gate is that of the row's batch, the context's being the fifth. -/
theorem REF_at (X0 : FVec Ideal S17408x2048 .bf16) (X1 : FVec Ideal S4x2048x2048 .f32) (X2 : FVec Ideal S17408x2048 .f32)
    (X3 : FVec Ideal S4x8x12288 .f32) (r : Fin 17408) (q : Fin 2048) :
    REF X0 X1 X2 X3 (ix2 r q) = X2 (ix2 r q)
      + X3 (ix3 1 ⟨r.val / 4096, by omega⟩ ⟨4096 + q.val, by omega⟩) * dotW X0 X1 r q := by
  rw [← Y_at X0 X1 r q]
  unfold REF
  generalize Y X0 X1 = y
  by_cases hr : r.val < 16384
  · refine .trans ?_ (LAT_at X2 X3 y ⟨r.val, hr⟩ q)
    generalize LAT X2 X3 y = z
    generalize CTX X2 X3 y = w
    pointwise
    simp only [dif_pos hr]
  · have e := CTX_at X2 X3 y ⟨r.val - 16384, by omega⟩ q
    have e4 : (⟨r.val / 4096, by omega⟩ : Fin 8) = 4 := Fin.ext (by show r.val / 4096 = 4; omega)
    have er : (⟨16384 + (r.val - 16384), by omega⟩ : Fin 17408) = r := Fin.ext (by show 16384 + (r.val - 16384) = r.val; omega)
    rw [e4]
    simp only [er] at e
    refine .trans ?_ e
    generalize LAT X2 X3 y = z
    generalize CTX X2 X3 y = w
    pointwise
    simp only [dif_neg hr]

end Cert.OutRefIdeal.Value

namespace Cert.OutIdeal.Value

open Cert.OutIdeal Cert.OutIdeal.Gen

variable (m : (ℓ : Loc nD τ sig) → Buf (Elt Ideal) ℓ)

/-- The index maps at a point, by arithmetic on its number. -/
theorem idx : ∀ t : Fin cfg0.N,
    win0_0.index t = ![t.val % 17, 0] ∧ win0_1.index t = ![1, 0, t.val / 17] ∧ win0_2.index t = ![t.val % 17, t.val / 17]
      ∧ win0_3.index t = ![1, 0, 8 + t.val / 17] ∧ win0_4.index t = ![t.val % 17, t.val / 17] :=
  (by decide +kernel : ∀ t : Fin grid0.N, _)

/-- The gate's row a point reads: its row block's batch. -/
theorem off : ∀ t : Fin cfg0.N, k0_off1 (grid0.coords t) = ![0, t.val % 17 / 4, 0] :=
  (by decide +kernel : ∀ t : Fin grid0.N, k0_off1 (grid0.coords t) = ![0, t.val % 17 / 4, 0])

/-- The weight block of a point, read at an index. -/
theorem w_at (c : Dev nD) (t : Fin cfg0.N) (a : Fin 2048) (b : Fin 512) (h : t.val / 17 * 512 + b.val < 2048) :
    k0_pay1 (iblk m c 1 t) (ix2 a b) = m ((c : Thread nD τ).loc main_arg1) (ix3 1 a ⟨t.val / 17 * 512 + b.val, h⟩) := by
  pointwise [k0_pay1]
  blk_point [iblk, V, idx t]

/-- The rows of a point, read at an index. -/
theorem x_at (c : Dev nD) (t : Fin cfg0.N) (a : Fin 1024) (k : Fin 2048) (h : t.val % 17 * 1024 + a.val < 17408) :
    iblk m c 0 t (ix2 a k) = m ((c : Thread nD τ).loc main_arg0) (ix2 ⟨t.val % 17 * 1024 + a.val, h⟩ k) := by
  blk_point [iblk, V, idx t]

/-- The residual block of a point, read at an index. -/
theorem r_at (c : Dev nD) (t : Fin cfg0.N) (a : Fin 1024) (b : Fin 512) (h : t.val % 17 * 1024 + a.val < 17408)
    (h' : (t.val / 17 * 512 + b.val) < 2048) :
    iblk m c 2 t (ix2 a b) = m ((c : Thread nD τ).loc main_arg2) (ix2 ⟨t.val % 17 * 1024 + a.val, h⟩ ⟨(t.val / 17 * 512 + b.val), h'⟩) := by
  blk_point [iblk, V, idx t]

/-- The gate block of a point, read at an index. -/
theorem g_at (c : Dev nD) (t : Fin cfg0.N) (s : Fin 8) (b : Fin 512) (h : 4096 + (t.val / 17 * 512 + b.val) < 12288) :
    iblk m c 3 t (ix3 0 s b) = m ((c : Thread nD τ).loc main_arg3) (ix3 1 s ⟨4096 + (t.val / 17 * 512 + b.val), h⟩) := by
  blk_point [iblk, V, idx t]

/-- At a first row block the scratch is filled with the weight block. -/
theorem scr_A (c : Dev nD) (t : Fin cfg0.N) (h : t.val % 17 = 0) :
    (outsAt0 m c t.val t.isLt).2 = k0_pay1 (iblk m c 1 t) := by
  rw [outsAt0_A m c t h]
  funext y; frame_out

/-- At every other point the scratch stays. -/
theorem scr_B (c : Dev nD) (t : Fin cfg0.N) (h : ¬t.val % 17 = 0) :
    (outsAt0 m c t.val t.isLt).2 = (outsAt0 m c (t.val - 1) (by have := t.isLt; omega)).2 := by
  rw [outsAt0_B m c t h]
  rfl

/-- After point `n` the scratch holds the weight columns of the point's column block. -/
theorem scr (c : Dev nD) : ∀ (n : ℕ) (hn : n < cfg0.N) (a : Fin 2048) (b : Fin 512) (h : n / 17 * 512 + b.val < 2048),
    (outsAt0 m c n hn).2 (ix2 a b) = m ((c : Thread nD τ).loc main_arg1) (ix3 1 a ⟨n / 17 * 512 + b.val, h⟩) := by
  intro n
  induction n with
  | zero =>
    intro hn a b h
    rw [scr_A m c ⟨0, hn⟩ rfl]
    exact w_at m c ⟨0, hn⟩ a b h
  | succ n ih =>
    intro hn a b h
    by_cases h0 : (n + 1) % 17 = 0
    · rw [scr_A m c ⟨n + 1, hn⟩ h0]
      exact w_at m c ⟨n + 1, hn⟩ a b h
    · have e : (n + 1) / 17 = n / 17 := by omega
      rw [scr_B m c ⟨n + 1, hn⟩ h0]
      refine (ih (by omega) a b (by omega)).trans ?_
      simp only [e]

/-- The stored block over any rows, weights, gates and residual, at an index. -/
theorem pay_at (X : FVec Ideal S1024x2048 .bf16) (W : FVec Ideal S2048x512 .bf16) (f : Vec Ideal S1x8x512 .f32)
    (off : Fin 3 → ℕ) (s : Fin 8) (h : off = ![0, s.val, 0]) (inb) (x : FVec Ideal S1024x512 .f32) (a : Fin 1024) (b : Fin 512) :
    k0_pay2 (F := Ideal) X W
        (View.ld (Val := Elt Ideal) (e' := .f32) f (Rect.unit (s := S1x8x512) off ![1, 1, 512] inb)) x (ix2 a b)
      = x (ix2 a b) + f (ix3 0 s b) * ∑ k : Fin 2048, X (ix2 a k) * W (ix2 k b) := by
  subst h
  pointwise [k0_pay2]

/-- The result block of a point is computed from its rows, the scratch, the gates and the residual. -/
theorem out_at (c : Dev nD) (t : Fin cfg0.N) :
    (outsAt0 m c t.val t.isLt).1
      = k0_pay2 (F := Ideal) (iblk m c 0 t) (outsAt0 m c t.val t.isLt).2
          (View.ld (Val := Elt Ideal) (e' := .f32) (iblk m c 3 t)
            (Rect.unit (s := S1x8x512) (k0_off1 (grid0.coords t)) ![1, 1, 512] (k0_off1_inb (grid0.coords t)))) (iblk m c 2 t) := by
  by_cases h : t.val % 17 = 0
  · rw [scr_A m c t h, outsAt0_A m c t h]
    funext y; frame_out; rfl
  · rw [scr_B m c t h, outsAt0_B m c t h]
    funext y; frame_out
    rw [read_unread_whole]
    rfl

/-- Each point leaves the reference's block. -/
theorem point (c : Dev nD) (t : Fin cfg0.N) (a : Fin 1024) (b : Fin 512)
    (ha : t.val % 17 * 1024 + a.val < 17408) (hb : t.val / 17 * 512 + b.val < 2048) :
    (outsAt0 m c t.val t.isLt).1 (ix2 a b)
      = Cert.OutRefIdeal.Value.REF (m ((c : Thread nD τ).loc main_arg0)) (m ((c : Thread nD τ).loc main_arg1)) (m ((c : Thread nD τ).loc main_arg2)) (m ((c : Thread nD τ).loc main_arg3)) (ix2 ⟨t.val % 17 * 1024 + a.val, ha⟩ ⟨t.val / 17 * 512 + b.val, hb⟩) := by
  have e1 : (∑ k : Fin 2048, (show EReal from iblk m c 0 t (ix2 a k)) * (outsAt0 m c t.val t.isLt).2 (ix2 k b))
      = Cert.OutRefIdeal.Value.dotW (m ((c : Thread nD τ).loc main_arg0)) (m ((c : Thread nD τ).loc main_arg1))
          ⟨t.val % 17 * 1024 + a.val, ha⟩ ⟨t.val / 17 * 512 + b.val, hb⟩ :=
    Finset.sum_congr rfl fun k _ => Ideal.mul_congr (x_at m c t a k ha) (scr m c t.val t.isLt k b hb)
  have e3 := g_at m c t ⟨t.val % 17 / 4, by omega⟩ b (by omega)
  have e6 : (⟨t.val % 17 / 4, by omega⟩ : Fin 8) = ⟨(t.val % 17 * 1024 + a.val) / 4096, by omega⟩ :=
    Fin.ext (by show t.val % 17 / 4 = (t.val % 17 * 1024 + a.val) / 4096; have := a.isLt; omega)
  rw [out_at m c t]
  refine (pay_at _ _ _ _ ⟨t.val % 17 / 4, by omega⟩ (off t) _ _ a b).trans ?_
  refine .trans ?_ (Cert.OutRefIdeal.Value.REF_at _ _ _ _ _ _).symm
  rw [e6] at e3 ⊢
  exact congrArg₂ (fun u v : EReal => u + v) (r_at m c t a b ha hb) (Ideal.mul_congr e3 e1)

/-- A block of the result window over any array, read at an index. -/
theorem emb_at (t : Fin cfg0.N) (R : S17408x2048.Idx → EReal) (a : Fin 1024) (b : Fin 512)
    (ha : t.val % 17 * 1024 + a.val < 17408) (hb : t.val / 17 * 512 + b.val < 2048) :
    R (ix2 ⟨t.val % 17 * 1024 + a.val, ha⟩ ⟨t.val / 17 * 512 + b.val, hb⟩) = R (((cfg0.win 4).blk t).view.emb (ix2 a b)) := by
  blk_point [idx t]

/-- The result array after the run is the reference's term of the arguments. -/
theorem final (c : Dev nD) :
    (dats m 0 c).arrAt 4 (cfgs 0).N
      = Cert.OutRefIdeal.Value.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]
  idx_vars y
  have hN : t.val < 68 := t.isLt
  have h0 := y0.isLt
  have h1 := y1.isLt
  refine (point m c t y0 y1 (by omega) (by omega)).trans ?_
  exact emb_at t _ y0 y1 _ _

/-- The value claim of the output projection: kernel and reference end with the same array. -/
theorem algebraic : Cert.algebraic_OutIdeal_OutRefIdeal (hOutIdeal := Cert.OutIdeal.Gen.facts)
    (hOutRefIdeal := Cert.OutRefIdeal.Gen.facts) := by
  intro m g m' g' _ hargs
  refine ⟨fun c => Cert.OutRefIdeal.Value.REF (m ((c : Thread nD τ).loc main_arg0)) (m ((c : Thread nD τ).loc main_arg1)) (m ((c : Thread nD τ).loc main_arg2)) (m ((c : Thread nD τ).loc main_arg3)),
    (θ_run (Cert.OutIdeal.defs (F := Ideal)) _ _).mono (fun r h c => ⟨(h c).1.trans (final m c), (h c).2⟩)
      (run_blocks m g),
    (θ_run (Cert.OutRefIdeal.defs (F := Ideal)) _ _).mono (fun r h c => ⟨(h c).1.trans ?_, (h c).2⟩)
      (Cert.OutRefIdeal.Value.run m' g')⟩
  obtain ⟨a0, a1, a2, a3⟩ := hargs c
  rw [a0, a1, a2, a3]
  rfl

end Cert.OutIdeal.Value
-- ==== Proof.InprojRef.lean ====
module

public import proofs.«01_k».proof.Defs
public import proofs.«01_k».proof.Proof.Gen.InprojRefIdeal.Run
public import Idealize.ShloMosaic.Lib.Pipeline.ValueKit
public import Idealize.ShloMosaic.Lib.Pointwise

/-!
# The input projection: the reference at an index

The reference multiplies the rows by the layer's matrix. Of the product's columns the first 2048 are queries and the
next 2048 keys: every head of 128 of them is normalised, scaled by its gain and, on the latent rows, rotated by the
angles of the row's position; the queries are divided by the square root of 128. The next 8192 columns stay, and the
last 4096 go through the logistic function after their bias is added.
-/

@[expose] public section

set_option maxRecDepth 16384

noncomputable section

open Idealize.ShloMosaic Idealize.ShloMosaic.TcCoe Idealize.SL.Sem

namespace Cert.InprojRefIdeal.Value

open Cert.InprojRefIdeal Cert.InprojRefIdeal.Gen

/-- The inverse frequencies. -/
def INV : FVec Ideal S32 .f32 := Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The angles: position, axis, frequency. -/
def ANG : FVec Ideal S4096x2x32 .f32 :=
  concatenate S4096x2x32 1 [⟨S4096x1x32, (broadcastInDim S4096x1x32 ![0, 2] bcast_S4096x32_S4096x1x32_0_2 (mulf (broadcastInDim S4096x32 ![0, 1] bcast_S4096x1_S4096x32_0_1 (broadcastInDim S4096x1 ![0] bcast_S4096_S4096x1_0 (sitofp .f32 (shapeCast _ (broadcastInDim S64x64 ![0] bcast_S64_S64x64_0 (iotaInDim S64 32 0)) shapeCasts_S64x64_S4096)))) (broadcastInDim S4096x32 ![0, 1] bcast_S1x32_S4096x32_0_1 (broadcastInDim S1x32 ![1] bcast_S32_S1x32_1 INV))))⟩, ⟨S4096x1x32, (broadcastInDim S4096x1x32 ![0, 2] bcast_S4096x32_S4096x1x32_0_2 (mulf (broadcastInDim S4096x32 ![0, 1] bcast_S4096x1_S4096x32_0_1 (broadcastInDim S4096x1 ![0] bcast_S4096_S4096x1_0 (sitofp .f32 (shapeCast _ (broadcastInDim S64x64 ![0, 1] bcast_S1x64_S64x64_0_1 (shapeCast _ (iotaInDim S64 32 0) shapeCasts_S64_S1x64)) shapeCasts_S64x64_S4096)))) (broadcastInDim S4096x32 ![0, 1] bcast_S1x32_S4096x32_0_1 (broadcastInDim S1x32 ![1] bcast_S32_S1x32_1 INV))))⟩] concatenates_S4096x1x32_S4096x1x32_S4096x2x32_d1

/-- The product of the rows with the layer's matrix. -/
def PR (X0 : FVec Ideal S17408x2048 .bf16) (X1 : FVec Ideal S4x2048x16384 .f32) : FVec Ideal S17408x16384 .f32 :=
  Host.dotGeneral dot_S17408x2048_S2048x16384_S17408x16384_1_0_0_1_n_n none (extf .f32 X0 bitsLt_bf16_f32) (shapeCast _ (extractStridedSlice S1x2048x16384 ![1, 0, 0] X1 slices_S4x2048x16384_S1x2048x16384_1_0_0) shapeCasts_S1x2048x16384_S2048x16384)

/-- The latent rows' query heads. -/
def HL0 (P : FVec Ideal S17408x16384 .f32) : FVec Ideal S4x4096x16x128 .f32 :=
  shapeCast _ (extractStridedSlice S4x4096x2048 ![0, 0, 0] (shapeCast _ (extractStridedSlice S16384x16384 ![0, 0] P slices_S17408x16384_S16384x16384_0_0) shapeCasts_S16384x16384_S4x4096x16384) slices_S4x4096x16384_S4x4096x2048_0_0_0) shapeCasts_S4x4096x2048_S4x4096x16x128

/-- The latent rows' key heads. -/
def HL1 (P : FVec Ideal S17408x16384 .f32) : FVec Ideal S4x4096x16x128 .f32 :=
  shapeCast _ (extractStridedSlice S4x4096x2048 ![0, 0, 2048] (shapeCast _ (extractStridedSlice S16384x16384 ![0, 0] P slices_S17408x16384_S16384x16384_0_0) shapeCasts_S16384x16384_S4x4096x16384) slices_S4x4096x16384_S4x4096x2048_0_0_2048) shapeCasts_S4x4096x2048_S4x4096x16x128

/-- The context rows' query heads. -/
def HC0 (P : FVec Ideal S17408x16384 .f32) : FVec Ideal S1024x16x128 .f32 :=
  shapeCast _ (extractStridedSlice S1024x2048 ![0, 0] (extractStridedSlice S1024x16384 ![16384, 0] P slices_S17408x16384_S1024x16384_16384_0) slices_S1024x16384_S1024x2048_0_0) shapeCasts_S1024x2048_S1024x16x128

/-- The context rows' key heads. -/
def HC1 (P : FVec Ideal S17408x16384 .f32) : FVec Ideal S1024x16x128 .f32 :=
  shapeCast _ (extractStridedSlice S1024x2048 ![0, 2048] (extractStridedSlice S1024x16384 ![16384, 0] P slices_S17408x16384_S1024x16384_16384_0) slices_S1024x16384_S1024x2048_0_2048) shapeCasts_S1024x2048_S1024x16x128

/-- The normalised latent heads, scaled by their gain. -/
def NL (g : FVec Ideal S4x128 .f32) (Y : FVec Ideal S4x4096x16x128 .f32) : FVec Ideal S4x4096x16x128 .f32 :=
  mulf (mulf Y (broadcastInDim S4x4096x16x128 ![0, 1, 2, 3] bcast_S4x4096x16x1_S4x4096x16x128_0_1_2_3 (Host.rsqrt (addf (Host.divf (broadcastInDim S4x4096x16x1 ![0, 1, 2] bcast_S4x4096x16_S4x4096x16x1_0_1_2 (Host.reduceAdd (mulf Y Y) (constant S_ .f32 0x00000000#32) reducesTo_S4x4096x16x128_S4x4096x16_d3 h_S_)) (broadcastInDim S4x4096x16x1 ![] bcast_S_S4x4096x16x1 (constant S_ .f32 0x43000000#32))) (broadcastInDim S4x4096x16x1 ![] bcast_S_S4x4096x16x1 (constant S_ .f32 0x358637BD#32)))))) (broadcastInDim S4x4096x16x128 ![0, 1, 2, 3] bcast_S1x1x1x128_S4x4096x16x128_0_1_2_3 (broadcastInDim S1x1x1x128 ![3] bcast_S128_S1x1x1x128_3 (shapeCast _ (extractStridedSlice S1x128 ![1, 0] g slices_S4x128_S1x128_1_0) shapeCasts_S1x128_S128)))

/-- The latent heads rotated by the angles whose cosines and sines are given. -/
def ROPE (N : FVec Ideal S4x4096x16x128 .f32) (C S : FVec Ideal S4096x2x32 .f32) : FVec Ideal S16384x2048 .f32 :=
  shapeCast _ (shapeCast _ (concatenate S4x4096x16x2x2x32 4 [⟨S4x4096x16x2x1x32, (broadcastInDim S4x4096x16x2x1x32 ![0, 1, 2, 3, 5] bcast_S4x4096x16x2x32_S4x4096x16x2x1x32_0_1_2_3_5 (subf (mulf (shapeCast _ (extractStridedSlice S4x4096x16x2x1x32 ![0, 0, 0, 0, 0, 0] (shapeCast _ N shapeCasts_S4x4096x16x128_S4x4096x16x2x2x32) slices_S4x4096x16x2x2x32_S4x4096x16x2x1x32_0_0_0_0_0_0) shapeCasts_S4x4096x16x2x1x32_S4x4096x16x2x32) (broadcastInDim S4x4096x16x2x32 ![0, 1, 2, 3, 4] bcast_S1x4096x1x2x32_S4x4096x16x2x32_0_1_2_3_4 (broadcastInDim S1x4096x1x2x32 ![1, 3, 4] bcast_S4096x2x32_S1x4096x1x2x32_1_3_4 C))) (mulf (shapeCast _ (extractStridedSlice S4x4096x16x2x1x32 ![0, 0, 0, 0, 1, 0] (shapeCast _ N shapeCasts_S4x4096x16x128_S4x4096x16x2x2x32) slices_S4x4096x16x2x2x32_S4x4096x16x2x1x32_0_0_0_0_1_0) shapeCasts_S4x4096x16x2x1x32_S4x4096x16x2x32) (broadcastInDim S4x4096x16x2x32 ![0, 1, 2, 3, 4] bcast_S1x4096x1x2x32_S4x4096x16x2x32_0_1_2_3_4 (broadcastInDim S1x4096x1x2x32 ![1, 3, 4] bcast_S4096x2x32_S1x4096x1x2x32_1_3_4 S)))))⟩, ⟨S4x4096x16x2x1x32, (broadcastInDim S4x4096x16x2x1x32 ![0, 1, 2, 3, 5] bcast_S4x4096x16x2x32_S4x4096x16x2x1x32_0_1_2_3_5 (addf (mulf (shapeCast _ (extractStridedSlice S4x4096x16x2x1x32 ![0, 0, 0, 0, 0, 0] (shapeCast _ N shapeCasts_S4x4096x16x128_S4x4096x16x2x2x32) slices_S4x4096x16x2x2x32_S4x4096x16x2x1x32_0_0_0_0_0_0) shapeCasts_S4x4096x16x2x1x32_S4x4096x16x2x32) (broadcastInDim S4x4096x16x2x32 ![0, 1, 2, 3, 4] bcast_S1x4096x1x2x32_S4x4096x16x2x32_0_1_2_3_4 (broadcastInDim S1x4096x1x2x32 ![1, 3, 4] bcast_S4096x2x32_S1x4096x1x2x32_1_3_4 S))) (mulf (shapeCast _ (extractStridedSlice S4x4096x16x2x1x32 ![0, 0, 0, 0, 1, 0] (shapeCast _ N shapeCasts_S4x4096x16x128_S4x4096x16x2x2x32) slices_S4x4096x16x2x2x32_S4x4096x16x2x1x32_0_0_0_0_1_0) shapeCasts_S4x4096x16x2x1x32_S4x4096x16x2x32) (broadcastInDim S4x4096x16x2x32 ![0, 1, 2, 3, 4] bcast_S1x4096x1x2x32_S4x4096x16x2x32_0_1_2_3_4 (broadcastInDim S1x4096x1x2x32 ![1, 3, 4] bcast_S4096x2x32_S1x4096x1x2x32_1_3_4 C)))))⟩] concatenates_S4x4096x16x2x1x32_S4x4096x16x2x1x32_S4x4096x16x2x2x32_d4) shapeCasts_S4x4096x16x2x2x32_S4x4096x16x128) shapeCasts_S4x4096x16x128_S16384x2048

/-- The normalised context heads, scaled by their gain. -/
def NC (g : FVec Ideal S4x128 .f32) (Y : FVec Ideal S1024x16x128 .f32) : FVec Ideal S1024x2048 .f32 :=
  shapeCast _ (mulf (mulf Y (broadcastInDim S1024x16x128 ![0, 1, 2] bcast_S1024x16x1_S1024x16x128_0_1_2 (Host.rsqrt (addf (Host.divf (broadcastInDim S1024x16x1 ![0, 1] bcast_S1024x16_S1024x16x1_0_1 (Host.reduceAdd (mulf Y Y) (constant S_ .f32 0x00000000#32) reducesTo_S1024x16x128_S1024x16_d2 h_S_)) (broadcastInDim S1024x16x1 ![] bcast_S_S1024x16x1 (constant S_ .f32 0x43000000#32))) (broadcastInDim S1024x16x1 ![] bcast_S_S1024x16x1 (constant S_ .f32 0x358637BD#32)))))) (broadcastInDim S1024x16x128 ![0, 1, 2] bcast_S1x1x128_S1024x16x128_0_1_2 (broadcastInDim S1x1x128 ![2] bcast_S128_S1x1x128_2 (shapeCast _ (extractStridedSlice S1x128 ![1, 0] g slices_S4x128_S1x128_1_0) shapeCasts_S1x128_S128)))) shapeCasts_S1024x16x128_S1024x2048

/-- The latent rows over the context rows. -/
def CAT (L : FVec Ideal S16384x2048 .f32) (K : FVec Ideal S1024x2048 .f32) : FVec Ideal S17408x2048 .f32 :=
  concatenate S17408x2048 0 [⟨S16384x2048, L⟩, ⟨S1024x2048, K⟩] concatenates_S16384x2048_S1024x2048_S17408x2048_d0

/-- The queries divided by the square root of 128. -/
def QD (Q : FVec Ideal S17408x2048 .f32) : FVec Ideal S17408x2048 .f32 :=
  Host.divf Q (broadcastInDim S17408x2048 ![] bcast_S_S17408x2048 (constant S_ .f32 0x413504F3#32))

/-- The columns that stay. -/
def VV (P : FVec Ideal S17408x16384 .f32) : FVec Ideal S17408x8192 .f32 :=
  extractStridedSlice S17408x8192 ![0, 4096] P slices_S17408x16384_S17408x8192_0_4096

/-- The gates. -/
def GG (P : FVec Ideal S17408x16384 .f32) (X4 : FVec Ideal S4x4096 .f32) : FVec Ideal S17408x4096 .f32 :=
  Host.divf (broadcastInDim S17408x4096 ![] bcast_S_S17408x4096 (constant S_ .f32 0x3F800000#32)) (addf (broadcastInDim S17408x4096 ![] bcast_S_S17408x4096 (constant S_ .f32 0x3F800000#32)) (Host.exp (Host.negf (addf (extractStridedSlice S17408x4096 ![0, 12288] P slices_S17408x16384_S17408x4096_0_12288) (broadcastInDim S17408x4096 ![0, 1] bcast_S1x4096_S17408x4096_0_1 (broadcastInDim S1x4096 ![1] bcast_S4096_S1x4096_1 (shapeCast _ (extractStridedSlice S1x4096 ![1, 0] X4 slices_S4x4096_S1x4096_1_0) shapeCasts_S1x4096_S4096)))))))

/-- The four groups of columns side by side. -/
def ALL (Q K : FVec Ideal S17408x2048 .f32) (VV : FVec Ideal S17408x8192 .f32) (G : FVec Ideal S17408x4096 .f32) :
    FVec Ideal S17408x16384 .f32 :=
  concatenate S17408x16384 1 [⟨S17408x2048, (Q : (⟨S17408x2048, .f32⟩ : BufTy).Contents (Elt Ideal))⟩, ⟨S17408x2048, (K : (⟨S17408x2048, .f32⟩ : BufTy).Contents (Elt Ideal))⟩, ⟨S17408x8192, (VV : (⟨S17408x8192, .f32⟩ : BufTy).Contents (Elt Ideal))⟩, ⟨S17408x4096, (G : (⟨S17408x4096, .f32⟩ : BufTy).Contents (Elt Ideal))⟩] concatenates_S17408x2048_S17408x2048_S17408x8192_S17408x4096_S17408x16384_d1

/-- The cosines of the angles. -/
def COS : FVec Ideal S4096x2x32 .f32 := Host.cos ANG

/-- The sines of the angles. -/
def SIN : FVec Ideal S4096x2x32 .f32 := Host.sin ANG

/-- The reference's composed term of its five arguments. -/
def REF (X0 : FVec Ideal S17408x2048 .bf16) (X1 : FVec Ideal S4x2048x16384 .f32) (X2 X3 : FVec Ideal S4x128 .f32)
    (X4 : FVec Ideal S4x4096 .f32) : FVec Ideal S17408x16384 .bf16 :=
  truncf .bf16 (ALL (QD (CAT (ROPE (NL X2 (HL0 (PR X0 X1))) COS SIN) (NC X2 (HC0 (PR X0 X1)))))
    (CAT (ROPE (NL X3 (HL1 (PR X0 X1))) COS SIN) (NC X3 (HC1 (PR X0 X1)))) (VV (PR X0 X1)) (GG (PR X0 X1) X4)) bitsLt_bf16_f32

/-- One element of the product of the rows with the layer's matrix. -/
def dotW (X : FVec Ideal S17408x2048 .bf16) (W : FVec Ideal S4x2048x16384 .f32) (r : Fin 17408) (q : Fin 16384) : EReal :=
  ∑ k : Fin 2048, X (ix2 r k) * W (ix3 1 k q)

/-- A head's elements `p` normalised and scaled by the gain `g`. -/
def nrm (p g : Fin 128 → EReal) (d : Fin 128) : EReal :=
  p d * Ideal.rsqrt (Ideal.div (∑ x, p x * p x) (Ideal.ofBits .f32 0x43000000#32) + Ideal.ofBits .f32 0x358637BD#32) * g d

/-- A head's elements `y` rotated: each axis has 64 of them, in two halves of 32 that are rotated by an angle whose
cosine and sine are `c` and `s`. -/
def rot (y : Fin 128 → EReal) (c s : EReal) (d : Fin 128) : EReal :=
  if d.val / 32 % 2 < 1 then
    y ⟨d.val / 64 * 64 + d.val % 32, by omega⟩ * c - y ⟨d.val / 64 * 64 + 32 + d.val % 32, by omega⟩ * s
  else y ⟨d.val / 64 * 64 + d.val % 32, by omega⟩ * s + y ⟨d.val / 64 * 64 + 32 + d.val % 32, by omega⟩ * c

/-- The product at an index. -/
theorem PR_at (X0 : FVec Ideal S17408x2048 .bf16) (X1 : FVec Ideal S4x2048x16384 .f32) (r : Fin 17408) (q : Fin 16384) :
    PR X0 X1 (ix2 r q) = dotW X0 X1 r q := by
  pointwise [PR, dotW]

/-- A latent query head at an index. -/
theorem HL0_at (P : FVec Ideal S17408x16384 .f32) (b : Fin 4) (s : Fin 4096) (h : Fin 16) (d : Fin 128) :
    HL0 P (ix4 b s h d) = P (ix2 ⟨b.val * 4096 + s.val, by omega⟩ ⟨h.val * 128 + d.val, by omega⟩) := by
  pointwise [HL0]

/-- A latent key head at an index. -/
theorem HL1_at (P : FVec Ideal S17408x16384 .f32) (b : Fin 4) (s : Fin 4096) (h : Fin 16) (d : Fin 128) :
    HL1 P (ix4 b s h d) = P (ix2 ⟨b.val * 4096 + s.val, by omega⟩ ⟨2048 + (h.val * 128 + d.val), by omega⟩) := by
  pointwise [HL1]

/-- A context query head at an index. -/
theorem HC0_at (P : FVec Ideal S17408x16384 .f32) (r : Fin 1024) (h : Fin 16) (d : Fin 128) :
    HC0 P (ix3 r h d) = P (ix2 ⟨16384 + r.val, by omega⟩ ⟨h.val * 128 + d.val, by omega⟩) := by
  pointwise [HC0]

/-- A context key head at an index. -/
theorem HC1_at (P : FVec Ideal S17408x16384 .f32) (r : Fin 1024) (h : Fin 16) (d : Fin 128) :
    HC1 P (ix3 r h d) = P (ix2 ⟨16384 + r.val, by omega⟩ ⟨2048 + (h.val * 128 + d.val), by omega⟩) := by
  pointwise [HC1]

/-- The rotated latent heads at an index. -/
theorem ROPE_at (N : FVec Ideal S4x4096x16x128 .f32) (C S : FVec Ideal S4096x2x32 .f32) (r : Fin 16384) (q : Fin 2048) :
    ROPE N C S (ix2 r q)
      = rot (fun x => N (ix4 ⟨r.val / 4096, by omega⟩ ⟨r.val % 4096, by omega⟩ ⟨q.val / 128, by omega⟩ x))
          (C (ix3 ⟨r.val % 4096, by omega⟩ ⟨q.val / 64 % 2, by omega⟩ ⟨q.val % 32, by omega⟩))
          (S (ix3 ⟨r.val % 4096, by omega⟩ ⟨q.val / 64 % 2, by omega⟩ ⟨q.val % 32, by omega⟩)) ⟨q.val % 128, by omega⟩ := by
  have e1 : q.val % 128 / 64 = q.val / 64 % 2 := by omega
  have e2 : q.val % 128 % 32 = q.val % 32 := by omega
  have e3 : q.val % 128 / 32 % 2 = q.val / 32 % 2 := by omega
  unfold rot
  simp only [e1, e2, e3]
  by_cases hh : q.val / 32 % 2 < 1
  · rw [if_pos hh]
    pointwise [ROPE]
    rw [dif_pos hh]
  · rw [if_neg hh]
    pointwise [ROPE]
    rw [dif_neg hh]

/-- The normalised latent heads at an index. -/
theorem NL_at (g : FVec Ideal S4x128 .f32) (Y : FVec Ideal S4x4096x16x128 .f32) (b : Fin 4) (s : Fin 4096) (h : Fin 16) (d : Fin 128) :
    NL g Y (ix4 b s h d) = nrm (fun x => Y (ix4 b s h x)) (fun x => g (ix2 1 x)) d := by
  pointwise [NL]
  rfl

/-- The normalised context heads at an index. -/
theorem NC_at (g : FVec Ideal S4x128 .f32) (Y : FVec Ideal S1024x16x128 .f32) (r : Fin 1024) (q : Fin 2048) :
    NC g Y (ix2 r q)
      = nrm (fun x => Y (ix3 r ⟨q.val / 128, by omega⟩ x)) (fun x => g (ix2 1 x)) ⟨q.val % 128, by omega⟩ := by
  pointwise [NC]
  rfl

/-- A latent row of the two parts. -/
theorem CAT_lat (L : FVec Ideal S16384x2048 .f32) (K : FVec Ideal S1024x2048 .f32) (r : Fin 17408) (q : Fin 2048) (h : r.val < 16384) :
    CAT L K (ix2 r q) = L (ix2 ⟨r.val, h⟩ q) := by
  pointwise [CAT]
  simp only [dif_pos h]

/-- A context row of the two parts. -/
theorem CAT_ctx (L : FVec Ideal S16384x2048 .f32) (K : FVec Ideal S1024x2048 .f32) (r : Fin 17408) (q : Fin 2048) (h : ¬r.val < 16384) :
    CAT L K (ix2 r q) = K (ix2 ⟨r.val - 16384, by omega⟩ q) := by
  pointwise [CAT]
  simp only [dif_neg h]

/-- The divided queries at an index. -/
theorem QD_at (Q : FVec Ideal S17408x2048 .f32) (r : Fin 17408) (q : Fin 2048) :
    QD Q (ix2 r q) = Ideal.div (Q (ix2 r q)) (Ideal.ofBits .f32 0x413504F3#32) := by
  pointwise [QD]

/-- The columns that stay, at an index. -/
theorem VV_at (P : FVec Ideal S17408x16384 .f32) (r : Fin 17408) (q : Fin 8192) :
    VV P (ix2 r q) = P (ix2 r ⟨4096 + q.val, by omega⟩) := by
  pointwise [VV]

/-- The gates at an index. -/
theorem GG_at (P : FVec Ideal S17408x16384 .f32) (X4 : FVec Ideal S4x4096 .f32) (r : Fin 17408) (q : Fin 4096) :
    GG P X4 (ix2 r q) = Ideal.logistic (P (ix2 r ⟨12288 + q.val, by omega⟩) + X4 (ix2 1 q)) := by
  pointwise [GG]
  rfl

section
variable (Q K : FVec Ideal S17408x2048 .f32) (V : FVec Ideal S17408x8192 .f32) (G : FVec Ideal S17408x4096 .f32)
  (r : Fin 17408) (q : Fin 16384)

/-- A query column. -/
theorem ALL_q (h : q.val < 2048) : ALL Q K V G (ix2 r q) = Q (ix2 r ⟨q.val, h⟩) := by
  pointwise [ALL]
  simp only [dif_pos h]

/-- A key column. -/
theorem ALL_k (h : ¬q.val < 2048) (h' : q.val < 4096) : ALL Q K V G (ix2 r q) = K (ix2 r ⟨q.val - 2048, by omega⟩) := by
  have e : q.val - 2048 < 2048 := by omega
  pointwise [ALL]
  simp only [dif_neg h, dif_pos e, dif_pos h']

/-- A column that stays. -/
theorem ALL_v (h : ¬q.val < 4096) (h' : q.val < 12288) : ALL Q K V G (ix2 r q) = V (ix2 r ⟨q.val - 4096, by omega⟩) := by
  have e : ¬q.val < 2048 := by omega
  have e1 : ¬q.val - 2048 < 2048 := by omega
  have e2 : q.val - 2048 - 2048 = q.val - 4096 := by omega
  have e3 : q.val - 4096 < 8192 := by omega
  pointwise [ALL]
  simp only [dif_neg e, dif_neg e1, e2, dif_pos e3]

/-- A gate column. -/
theorem ALL_g (h : ¬q.val < 12288) : ALL Q K V G (ix2 r q) = G (ix2 r ⟨q.val - 12288, by omega⟩) := by
  have e : ¬q.val < 2048 := by omega
  have e1 : ¬q.val - 2048 < 2048 := by omega
  have e2 : ¬q.val - 2048 - 2048 < 8192 := by omega
  have e3 : q.val - 2048 - 2048 - 8192 = q.val - 12288 := by omega
  pointwise [ALL]
  simp only [dif_neg e, dif_neg e1, dif_neg e2, e3]

end

section
variable (X0 : FVec Ideal S17408x2048 .bf16) (X1 : FVec Ideal S4x2048x16384 .f32) (X2 X3 : FVec Ideal S4x128 .f32)
  (X4 : FVec Ideal S4x4096 .f32) (r : Fin 17408) (q : Fin 16384)

/-- A latent row's query column. -/
theorem REF_q_lat (hr : r.val < 16384) (h : q.val < 2048) :
    REF X0 X1 X2 X3 X4 (ix2 r q) = Ideal.div (rot (nrm (fun x => dotW X0 X1 r ⟨q.val / 128 * 128 + x.val, by omega⟩) (fun x => X2 (ix2 1 x)))
          (COS (ix3 ⟨r.val % 4096, by omega⟩ ⟨q.val / 64 % 2, by omega⟩ ⟨q.val % 32, by omega⟩))
          (SIN (ix3 ⟨r.val % 4096, by omega⟩ ⟨q.val / 64 % 2, by omega⟩ ⟨q.val % 32, by omega⟩)) ⟨q.val % 128, by omega⟩) (Ideal.ofBits .f32 0x413504F3#32) := by
  have er : r.val / 4096 * 4096 + r.val % 4096 = r.val := by omega
  refine .trans (ALL_q _ _ _ _ r q h) ?_
  refine (QD_at _ _ _).trans (congrArg (fun u : EReal => Ideal.div u (Ideal.ofBits .f32 0x413504F3#32)) ?_)
  refine (CAT_lat _ _ r _ hr).trans ((ROPE_at _ _ _ _ _).trans ?_)
  refine congrArg (fun y : Fin 128 → EReal => rot y _ _ _) (funext fun x => ?_)
  refine (NL_at _ _ _ _ _ _).trans ?_
  refine congrArg (fun y : Fin 128 → EReal => nrm y _ x) (funext fun z => ?_)
  refine (HL0_at _ _ _ _ _).trans ((PR_at _ _ _ _).trans ?_)
  simp only [er]

/-- A context row's query column. -/
theorem REF_q_ctx (hr : ¬r.val < 16384) (h : q.val < 2048) :
    REF X0 X1 X2 X3 X4 (ix2 r q) = Ideal.div (nrm (fun x => dotW X0 X1 r ⟨q.val / 128 * 128 + x.val, by omega⟩) (fun x => X2 (ix2 1 x))
          ⟨q.val % 128, by omega⟩) (Ideal.ofBits .f32 0x413504F3#32) := by
  have er : 16384 + (r.val - 16384) = r.val := by omega
  refine .trans (ALL_q _ _ _ _ r q h) ?_
  refine (QD_at _ _ _).trans (congrArg (fun u : EReal => Ideal.div u (Ideal.ofBits .f32 0x413504F3#32)) ?_)
  refine (CAT_ctx _ _ r _ hr).trans ((NC_at _ _ _ _).trans ?_)
  refine congrArg (fun y : Fin 128 → EReal => nrm y _ _) (funext fun z => ?_)
  refine (HC0_at _ _ _ _).trans ((PR_at _ _ _ _).trans ?_)
  simp only [er]

/-- A latent row's key column. -/
theorem REF_k_lat (hr : r.val < 16384) (h : ¬q.val < 2048) (h' : q.val < 4096) :
    REF X0 X1 X2 X3 X4 (ix2 r q) = rot (nrm (fun x => dotW X0 X1 r ⟨2048 + ((q.val - 2048) / 128 * 128 + x.val), by omega⟩) (fun x => X3 (ix2 1 x)))
          (COS (ix3 ⟨r.val % 4096, by omega⟩ ⟨(q.val - 2048) / 64 % 2, by omega⟩ ⟨(q.val - 2048) % 32, by omega⟩))
          (SIN (ix3 ⟨r.val % 4096, by omega⟩ ⟨(q.val - 2048) / 64 % 2, by omega⟩ ⟨(q.val - 2048) % 32, by omega⟩)) ⟨(q.val - 2048) % 128, by omega⟩ := by
  have er : r.val / 4096 * 4096 + r.val % 4096 = r.val := by omega
  refine .trans (ALL_k _ _ _ _ r q h h') ?_
  refine (CAT_lat _ _ r _ hr).trans ((ROPE_at _ _ _ _ _).trans ?_)
  refine congrArg (fun y : Fin 128 → EReal => rot y _ _ _) (funext fun x => ?_)
  refine (NL_at _ _ _ _ _ _).trans ?_
  refine congrArg (fun y : Fin 128 → EReal => nrm y _ x) (funext fun z => ?_)
  refine (HL1_at _ _ _ _ _).trans ((PR_at _ _ _ _).trans ?_)
  simp only [er]

/-- A context row's key column. -/
theorem REF_k_ctx (hr : ¬r.val < 16384) (h : ¬q.val < 2048) (h' : q.val < 4096) :
    REF X0 X1 X2 X3 X4 (ix2 r q) = nrm (fun x => dotW X0 X1 r ⟨2048 + ((q.val - 2048) / 128 * 128 + x.val), by omega⟩) (fun x => X3 (ix2 1 x))
          ⟨(q.val - 2048) % 128, by omega⟩ := by
  have er : 16384 + (r.val - 16384) = r.val := by omega
  refine .trans (ALL_k _ _ _ _ r q h h') ?_
  refine (CAT_ctx _ _ r _ hr).trans ((NC_at _ _ _ _).trans ?_)
  refine congrArg (fun y : Fin 128 → EReal => nrm y _ _) (funext fun z => ?_)
  refine (HC1_at _ _ _ _).trans ((PR_at _ _ _ _).trans ?_)
  simp only [er]

/-- A column that stays. -/
theorem REF_v (h : ¬q.val < 4096) (h' : q.val < 12288) : REF X0 X1 X2 X3 X4 (ix2 r q) = dotW X0 X1 r q := by
  have e : 4096 + (q.val - 4096) = q.val := by omega
  refine .trans (ALL_v _ _ _ _ r q h h') ((VV_at _ _ _).trans ((PR_at _ _ _ _).trans ?_))
  simp only [e]

/-- A gate column. -/
theorem REF_g (h : ¬q.val < 12288) :
    REF X0 X1 X2 X3 X4 (ix2 r q) = Ideal.logistic (dotW X0 X1 r q + X4 (ix2 1 ⟨q.val - 12288, by omega⟩)) := by
  have e : 12288 + (q.val - 12288) = q.val := by omega
  refine .trans (ALL_g _ _ _ _ r q h) ((GG_at _ _ _ _).trans ?_)
  refine congrArg (fun u : EReal => Ideal.logistic (u + _)) ((PR_at _ _ _ _).trans ?_)
  simp only [e]

end

end Cert.InprojRefIdeal.Value
-- ==== Proof.InprojHost.lean ====
module

public import proofs.«01_k».proof.Defs
public import proofs.«01_k».proof.Proof.Gen.InprojIdeal.Frame
public import proofs.«01_k».proof.Proof.InprojRef
public import Idealize.ShloMosaic.Lib.Pipeline.ValueKit
public import Idealize.ShloMosaic.Lib.Pipeline.ReadBack
public import Idealize.ShloMosaic.Lib.Routing.OpsSet
public import Idealize.ShloMosaic.Lib.Pointwise

/-!
# The input projection: the tables the host prepares

Before the kernel runs, the host lays out a cosine table and a sine table, 128 lanes wide, whose rows are the 4096
positions followed by 1024 rows of ones and zeros for the context; a table of gains whose first row is the query gain
divided by the square root of 128 and whose second row is the key gain; and the biases with an axis more.
-/

@[expose] public section

set_option maxRecDepth 16384

noncomputable section

open Idealize.ShloMosaic Idealize.ShloMosaic.TcCoe Idealize.SL.Sem

namespace Cert.InprojIdeal.Value

open Cert.InprojIdeal Cert.InprojIdeal.Gen
open Cert.InprojRefIdeal.Value (INV ANG COS SIN)

variable (m : (ℓ : Loc nD τ sig) → Buf (Elt Ideal) ℓ)

/-- The angles of the rows of the grid of positions. -/
def ROWA (v : FVec Ideal S32 .f32) : FVec Ideal S4096x32 .f32 :=
  mulf (broadcastInDim S4096x32 ![0, 1] bcast_S4096x1_S4096x32_0_1 (broadcastInDim S4096x1 ![0] bcast_S4096_S4096x1_0 (sitofp .f32 (shapeCast _ (broadcastInDim S64x64 ![0] bcast_S64_S64x64_0 (iotaInDim S64 32 0)) shapeCasts_S64x64_S4096)))) (broadcastInDim S4096x32 ![0, 1] bcast_S1x32_S4096x32_0_1 (broadcastInDim S1x32 ![1] bcast_S32_S1x32_1 v))

/-- The angles of the columns of the grid of positions. -/
def COLA (v : FVec Ideal S32 .f32) : FVec Ideal S4096x32 .f32 :=
  mulf (broadcastInDim S4096x32 ![0, 1] bcast_S4096x1_S4096x32_0_1 (broadcastInDim S4096x1 ![0] bcast_S4096_S4096x1_0 (sitofp .f32 (shapeCast _ (broadcastInDim S64x64 ![0, 1] bcast_S1x64_S64x64_0_1 (shapeCast _ (iotaInDim S64 32 0) shapeCasts_S64_S1x64)) shapeCasts_S64x64_S4096)))) (broadcastInDim S4096x32 ![0, 1] bcast_S1x32_S4096x32_0_1 (broadcastInDim S1x32 ![1] bcast_S32_S1x32_1 v))

/-- Four 32-lane pieces side by side. -/
def FOUR (a b c d : FVec Ideal S4096x32 .f32) : FVec Ideal S4096x128 .f32 :=
  concatenate S4096x128 1 [⟨S4096x32, a⟩, ⟨S4096x32, b⟩, ⟨S4096x32, c⟩, ⟨S4096x32, d⟩] concatenates_S4096x32_S4096x32_S4096x32_S4096x32_S4096x128_d1

/-- A table over the positions followed by the context's rows of one word. -/
def TAB (a : FVec Ideal S4096x128 .f32) (w : BitVec 32) : FVec Ideal S5120x128 .f32 :=
  concatenate S5120x128 0 [⟨S4096x128, a⟩, ⟨S1024x128, broadcastInDim S1024x128 ![] bcast_S_S1024x128 (constant S_ .f32 w)⟩] concatenates_S4096x128_S1024x128_S5120x128_d0

/-- The cosine table. -/
def CTAB : FVec Ideal S5120x128 .f32 :=
  TAB (FOUR (Host.cos (ROWA INV)) (Host.cos (ROWA INV)) (Host.cos (COLA INV)) (Host.cos (COLA INV))) 0x3F800000#32

/-- The sine table, the sign of the rotation in it. -/
def STAB : FVec Ideal S5120x128 .f32 :=
  TAB (FOUR (Host.negf (Host.sin (ROWA INV))) (Host.sin (ROWA INV)) (Host.negf (Host.sin (COLA INV))) (Host.sin (COLA INV))) 0x00000000#32

/-- A table of gains with one of its eight rows replaced, in every layer. -/
def SETROW (x : FVec Ideal S4x8x128 .f32) (w : BitVec 32) (g : FVec Ideal S4x128 .f32) : FVec Ideal S4x8x128 .f32 :=
  Host.scatter scatter_S4x8x128_S1_S4x128_01_1_1_0 (fun _ b => b) x (broadcastInDim S1 ![] bcast_S_S1 (constantI S_ 32 w)) g

/-- The table of gains. -/
def GTAB (X2 X3 : FVec Ideal S4x128 .f32) : FVec Ideal S4x8x128 .f32 :=
  SETROW (SETROW (broadcastInDim S4x8x128 ![] bcast_S_S4x8x128 (constant S_ .f32 0x00000000#32)) 0#32
    (Host.divf X2 (broadcastInDim S4x128 ![] bcast_S_S4x128 (constant S_ .f32 0x413504F3#32)))) 1#32 X3

/-- The cosine table is what the host prepares. -/
theorem entry_cos (c : Dev nD) : V m c main_v38 = CTAB := by
  show StableHlo.after hostOps0 (fun b => m (c, b)) (Proc.tc.devRef main_v38) = _
  simp only [hostOps0, cast_eq]
  after_results
  all_goals rfl

/-- The sine table is what the host prepares. -/
theorem entry_sin (c : Dev nD) : V m c main_v40 = STAB := by
  show StableHlo.after hostOps0 (fun b => m (c, b)) (Proc.tc.devRef main_v40) = _
  simp only [hostOps0, cast_eq]
  after_results
  all_goals rfl

/-- The table of gains is what the host prepares. -/
theorem entry_gain (c : Dev nD) : V m c main_v47
    = GTAB (m ((c : Thread nD τ).loc main_arg2)) (m ((c : Thread nD τ).loc main_arg3)) := by
  show StableHlo.after hostOps0 (fun b => m (c, b)) (Proc.tc.devRef main_v47) = _
  simp only [hostOps0, cast_eq]
  after_results
  all_goals rfl

/-- The biases as the host prepares them. -/
theorem entry_bias (c : Dev nD) : V m c main_v48
    = shapeCast S4x1x4096 (m ((c : Thread nD τ).loc main_arg4)) shapeCasts_S4x4096_S4x1x4096 := by
  show StableHlo.after hostOps0 (fun b => m (c, b)) (Proc.tc.devRef main_v48) = _
  simp only [hostOps0, cast_eq]
  after_results
  all_goals rfl

/-- The host's angles of a row of the grid of positions are the reference's. -/
theorem ROWA_at (p : Fin 4096) (f : Fin 32) : ROWA INV (ix2 p f) = ANG (ix3 p 0 f) := by
  unfold ANG
  generalize INV = v
  pointwise [ROWA]

/-- The host's angles of a column of the grid of positions are the reference's. -/
theorem COLA_at (p : Fin 4096) (f : Fin 32) : COLA INV (ix2 p f) = ANG (ix3 p 1 f) := by
  unfold ANG
  generalize INV = v
  pointwise [COLA]

/-- Four pieces side by side, at an index. -/
theorem FOUR_at (a b c d : FVec Ideal S4096x32 .f32) (p : Fin 4096) (l : Fin 128) :
    FOUR a b c d (ix2 p l) = if l.val / 64 = 0 then (if l.val / 32 % 2 < 1 then a (ix2 p ⟨l.val % 32, by omega⟩) else b (ix2 p ⟨l.val % 32, by omega⟩))
      else (if l.val / 32 % 2 < 1 then c (ix2 p ⟨l.val % 32, by omega⟩) else d (ix2 p ⟨l.val % 32, by omega⟩)) := by
  have h4 : l.val < 32 ∨ (32 ≤ l.val ∧ l.val < 64) ∨ (64 ≤ l.val ∧ l.val < 96) ∨ 96 ≤ l.val := by omega
  rcases h4 with h | h | h | h
  · have e : l.val % 32 = l.val := by omega
    rw [if_pos (by omega), if_pos (by omega)]
    simp only [e]
    pointwise [FOUR]
    simp only [dif_pos h]
  · have e : l.val % 32 = l.val - 32 := by omega
    rw [if_pos (by omega), if_neg (by omega)]
    simp only [e]
    pointwise [FOUR]
    simp only [dif_neg (show ¬l.val < 32 by omega), dif_pos (show l.val - 32 < 32 by omega)]
  · have e : l.val % 32 = l.val - 64 := by omega
    rw [if_neg (by omega), if_pos (by omega)]
    simp only [e]
    pointwise [FOUR]
    simp only [dif_neg (show ¬l.val < 32 by omega), dif_neg (show ¬l.val - 32 < 32 by omega), dif_pos (show l.val - 32 - 32 < 32 by omega)]
    exact congrArg (fun u => c (ix2 p u)) (Fin.ext (by show l.val - 32 - 32 = l.val - 64; omega))
  · have e : l.val % 32 = l.val - 96 := by omega
    rw [if_neg (by omega), if_neg (by omega)]
    simp only [e]
    pointwise [FOUR]
    simp only [dif_neg (show ¬l.val < 32 by omega), dif_neg (show ¬l.val - 32 < 32 by omega), dif_neg (show ¬l.val - 32 - 32 < 32 by omega)]
    exact congrArg (fun u => d (ix2 p u)) (Fin.ext (by show l.val - 32 - 32 - 32 = l.val - 96; omega))

/-- A table at a position. -/
theorem TAB_pos (a : FVec Ideal S4096x128 .f32) (w : BitVec 32) (p : Fin 5120) (l : Fin 128) (h : p.val < 4096) :
    TAB a w (ix2 p l) = a (ix2 ⟨p.val, h⟩ l) := by
  pointwise [TAB]
  simp only [dif_pos h]

/-- A table at a row of the context. -/
theorem TAB_ctx (a : FVec Ideal S4096x128 .f32) (w : BitVec 32) (p : Fin 5120) (l : Fin 128) (h : ¬p.val < 4096) :
    TAB a w (ix2 p l) = Ideal.ofBits .f32 w := by
  pointwise [TAB]
  simp only [dif_neg h]

/-- The cosine table at a position: the lane's axis and frequency. -/
theorem CTAB_pos (p : Fin 5120) (l : Fin 128) (h : p.val < 4096) :
    CTAB (ix2 p l) = COS (ix3 ⟨p.val, h⟩ ⟨l.val / 64, by omega⟩ ⟨l.val % 32, by omega⟩) := by
  refine (TAB_pos _ _ p l h).trans ((FOUR_at _ _ _ _ ⟨p.val, h⟩ l).trans ?_)
  by_cases h0 : l.val / 64 = 0
  · have e : (⟨l.val / 64, by omega⟩ : Fin 2) = 0 := Fin.ext h0
    rw [if_pos h0, ite_self, e]
    exact congrArg Ideal.cos (ROWA_at ⟨p.val, h⟩ ⟨l.val % 32, by omega⟩)
  · have e : (⟨l.val / 64, by omega⟩ : Fin 2) = 1 := Fin.ext (show l.val / 64 = 1 by omega)
    rw [if_neg h0, ite_self, e]
    exact congrArg Ideal.cos (COLA_at ⟨p.val, h⟩ ⟨l.val % 32, by omega⟩)

/-- The cosine table at a row of the context: one. -/
theorem CTAB_ctx (p : Fin 5120) (l : Fin 128) (h : ¬p.val < 4096) :
    CTAB (ix2 p l) = Ideal.ofBits .f32 0x3F800000#32 := TAB_ctx _ _ p l h

/-- The sine table at a position: the lane's axis and frequency, negated in the first half of each axis's lanes. -/
theorem STAB_pos (p : Fin 5120) (l : Fin 128) (h : p.val < 4096) :
    STAB (ix2 p l) = if l.val / 32 % 2 < 1 then -SIN (ix3 ⟨p.val, h⟩ ⟨l.val / 64, by omega⟩ ⟨l.val % 32, by omega⟩)
      else SIN (ix3 ⟨p.val, h⟩ ⟨l.val / 64, by omega⟩ ⟨l.val % 32, by omega⟩) := by
  refine (TAB_pos _ _ p l h).trans ((FOUR_at _ _ _ _ ⟨p.val, h⟩ l).trans ?_)
  by_cases h0 : l.val / 64 = 0
  · have e : (⟨l.val / 64, by omega⟩ : Fin 2) = 0 := Fin.ext h0
    rw [if_pos h0, e]
    by_cases h1 : l.val / 32 % 2 < 1
    · rw [if_pos h1, if_pos h1]
      exact congrArg (fun u : EReal => -Ideal.sin u) (ROWA_at ⟨p.val, h⟩ ⟨l.val % 32, by omega⟩)
    · rw [if_neg h1, if_neg h1]
      exact congrArg Ideal.sin (ROWA_at ⟨p.val, h⟩ ⟨l.val % 32, by omega⟩)
  · have e : (⟨l.val / 64, by omega⟩ : Fin 2) = 1 := Fin.ext (show l.val / 64 = 1 by omega)
    rw [if_neg h0, e]
    by_cases h1 : l.val / 32 % 2 < 1
    · rw [if_pos h1, if_pos h1]
      exact congrArg (fun u : EReal => -Ideal.sin u) (COLA_at ⟨p.val, h⟩ ⟨l.val % 32, by omega⟩)
    · rw [if_neg h1, if_neg h1]
      exact congrArg Ideal.sin (COLA_at ⟨p.val, h⟩ ⟨l.val % 32, by omega⟩)

/-- The sine table at a row of the context: zero. -/
theorem STAB_ctx (p : Fin 5120) (l : Fin 128) (h : ¬p.val < 4096) :
    STAB (ix2 p l) = Ideal.ofBits .f32 0x00000000#32 := TAB_ctx _ _ p l h

/-- An update of one row of the gains lands at that row, in its own layer and lane. -/
theorem lands (idx : IVec S1 32) (a : Fin 4) (x : Fin 128) (l : Fin 4) (s : Fin 8) (y : Fin 128) :
    scatter_S4x8x128_S1_S4x128_01_1_1_0.resultIdx? (ix2 a x) idx = some (ix3 l s y)
      ↔ a = l ∧ (idx (ix1 0)).toInt = (s.val : Int) ∧ x = y := by
  have w0 : scatter_S4x8x128_S1_S4x128_01_1_1_0.window (ix2 a x) 0 = a.val := rfl
  have w1 : scatter_S4x8x128_S1_S4x128_01_1_1_0.window (ix2 a x) 1 = 0 := rfl
  have w2 : scatter_S4x8x128_S1_S4x128_01_1_1_0.window (ix2 a x) 2 = x.val := rfl
  have s0 : scatter_S4x8x128_S1_S4x128_01_1_1_0.start (ix2 a x) idx 0 = 0 := rfl
  have s1 : scatter_S4x8x128_S1_S4x128_01_1_1_0.start (ix2 a x) idx 1 = (idx (ix1 0)).toInt := by
    show (idx _).toInt = (idx _).toInt
    exact congrArg (fun u => (idx u).toInt) ((eq_ix1 _).trans (congrArg ix1 (Subsingleton.elim (α := Fin 1) _ _)))
  have s2 : scatter_S4x8x128_S1_S4x128_01_1_1_0.start (ix2 a x) idx 2 = 0 := rfl
  rw [Idealize.ShloMosaic.Routing.resultIdx?_eq_some]
  constructor
  · intro h
    have h0 := h 0
    have h1 := h 1
    have h2 := h 2
    rw [w0, s0] at h0
    rw [w1, s1] at h1
    rw [w2, s2] at h2
    have e0 : (0 : Int) + (a.val : Int) = (l.val : Int) := h0
    have e1 : (idx (ix1 0)).toInt + ((0 : ℕ) : Int) = (s.val : Int) := h1
    have e2 : (0 : Int) + (x.val : Int) = (y.val : Int) := h2
    exact ⟨Fin.ext (by omega), by omega, Fin.ext (by omega)⟩
  · rintro ⟨rfl, h, rfl⟩ b
    match b with
    | ⟨0, _⟩ =>
      show scatter_S4x8x128_S1_S4x128_01_1_1_0.start (ix2 a x) idx 0 + (scatter_S4x8x128_S1_S4x128_01_1_1_0.window (ix2 a x) 0 : Int) = (a.val : Int)
      rw [w0, s0]; omega
    | ⟨1, _⟩ =>
      show scatter_S4x8x128_S1_S4x128_01_1_1_0.start (ix2 a x) idx 1 + (scatter_S4x8x128_S1_S4x128_01_1_1_0.window (ix2 a x) 1 : Int) = (s.val : Int)
      rw [w1, s1]; omega
    | ⟨2, _⟩ =>
      show scatter_S4x8x128_S1_S4x128_01_1_1_0.start (ix2 a x) idx 2 + (scatter_S4x8x128_S1_S4x128_01_1_1_0.window (ix2 a x) 2 : Int) = (x.val : Int)
      rw [w2, s2]; omega

/-- The row replaced. -/
theorem SETROW_hit (x : FVec Ideal S4x8x128 .f32) (w : BitVec 32) (g : FVec Ideal S4x128 .f32) (l : Fin 4) (s : Fin 8) (y : Fin 128)
    (h : w.toInt = (s.val : Int)) : SETROW x w g (ix3 l s y) = g (ix2 l y) := by
  refine Idealize.ShloMosaic.Routing.scatter_set_hit _ _ _ _ _ _ (fun k hk => ?_) (ix2 l y) ((lands _ l y l s y).2 ⟨rfl, h, rfl⟩)
  obtain ⟨a, b, rfl⟩ : ∃ (a : Fin 4) (b : Fin 128), k = ix2 a b := ⟨k 0, k 1, eq_ix2 k⟩
  obtain ⟨rfl, -, rfl⟩ := (lands _ a b l s y).1 hk
  rfl

/-- Another row stays. -/
theorem SETROW_miss (x : FVec Ideal S4x8x128 .f32) (w : BitVec 32) (g : FVec Ideal S4x128 .f32) (l : Fin 4) (s : Fin 8) (y : Fin 128)
    (h : ¬w.toInt = (s.val : Int)) : SETROW x w g (ix3 l s y) = x (ix3 l s y) := by
  refine Idealize.ShloMosaic.Routing.scatter_set_miss _ _ _ _ _ (fun k hk => ?_)
  obtain ⟨a, b, rfl⟩ : ∃ (a : Fin 4) (b : Fin 128), k = ix2 a b := ⟨k 0, k 1, eq_ix2 k⟩
  exact h ((lands _ a b l s y).1 hk).2.1

/-- The first row of gains is the queries', divided. -/
theorem GTAB_0 (X2 X3 : FVec Ideal S4x128 .f32) (l : Fin 4) (y : Fin 128) :
    GTAB X2 X3 (ix3 l 0 y) = Ideal.div (X2 (ix2 l y)) (Ideal.ofBits .f32 0x413504F3#32) := by
  refine (SETROW_miss _ _ _ l 0 y (by decide)).trans ((SETROW_hit _ _ _ l 0 y (by decide)).trans ?_)
  pointwise

/-- The second row of gains is the keys'. -/
theorem GTAB_1 (X2 X3 : FVec Ideal S4x128 .f32) (l : Fin 4) (y : Fin 128) :
    GTAB X2 X3 (ix3 l 1 y) = X3 (ix2 l y) := SETROW_hit _ _ _ l 1 y (by decide)

end Cert.InprojIdeal.Value
-- ==== Proof.InprojPay.lean ====
module

public import proofs.«01_k».proof.Defs
public import proofs.«01_k».proof.Proof.Gen.InprojIdeal.Skeleton
public import proofs.«01_k».proof.Proof.InprojRef
public import Idealize.ShloMosaic.Lib.Pipeline.ValueKit
public import Idealize.ShloMosaic.Lib.Pipeline.ReadBack
public import Idealize.ShloMosaic.Lib.IdealHost
public import Idealize.ShloMosaic.Lib.Pointwise

/-!
# The input projection: what one point computes

A point multiplies its rows by the weight columns held in scratch. Of query and key columns it takes the heads one by
one: it normalises the head, scales it by the gains, and adds to its product with the cosines the product of the
head's other half of each axis with the sines, whose sign the sine table holds. Here that is read at an index, and set
beside the rotation as the reference writes it.
-/

@[expose] public section

set_option maxRecDepth 16384

noncomputable section

open Idealize.ShloMosaic Idealize.ShloMosaic.TcCoe Idealize.SL.Sem

namespace Cert.InprojIdeal.Value

open Cert.InprojIdeal Cert.InprojIdeal.Gen
open Cert.InprojRefIdeal.Value (nrm rot)

/-- The product at an index. -/
theorem prod_at (X : FVec Ideal S1024x2048 .bf16) (W : FVec Ideal S2048x512 .bf16) (a : Fin 1024) (b : Fin 512) :
    k0_pay2 (F := Ideal) X W (ix2 a b) = ∑ k : Fin 2048, X (ix2 a k) * W (ix2 k b) := by
  pointwise [k0_pay2]

/-- A block of columns that stay. -/
theorem plain_at (X : FVec Ideal S1024x2048 .bf16) (W : FVec Ideal S2048x512 .bf16) (a : Fin 1024) (b : Fin 512) :
    k0_pay4 (F := Ideal) X W (ix2 a b) = ∑ k : Fin 2048, X (ix2 a k) * W (ix2 k b) := by
  refine .trans ?_ (prod_at X W a b)
  unfold k0_pay4
  generalize k0_pay2 (F := Ideal) X W = A
  pointwise

/-- A block of gate columns. -/
theorem gate_at (X : FVec Ideal S1024x2048 .bf16) (W : FVec Ideal S2048x512 .bf16) (v : Vec Ideal S1x1x512 .f32) (a : Fin 1024) (b : Fin 512) :
    k0_pay5 (F := Ideal) X W v (ix2 a b) = Ideal.logistic ((∑ k : Fin 2048, X (ix2 a k) * W (ix2 k b)) + v (ix3 0 0 b)) := by
  refine .trans ?_ (congrArg (fun u : EReal => Ideal.logistic (u + _)) (prod_at X W a b))
  unfold k0_pay5
  generalize k0_pay2 (F := Ideal) X W = A
  pointwise

/-- A head normalised and scaled by the gains. -/
def YN (A : FVec Ideal S1024x128 .f32) (g : FVec Ideal S1x128 .f32) : FVec Ideal S1024x128 .f32 :=
  mulf (mulf A (broadcastTo S1024x128 (rsqrt (addf (divf (shapeCast S1024x1 (multiReduction .add [1] S1024 (mulf A A) 0x00000000#32 reduces_S1024x128_S1024 (.inl rfl) rfl) shapeCasts_S1024_S1024x1) (broadcast S1024x1 (Scalar.ofBits .f32 0x43000000#32))) (broadcast S1024x1 (Scalar.ofBits .f32 0x358637BD#32)))) broadcasts_S1024x1_S1024x128)) (broadcastTo S1024x128 g broadcasts_S1x128_S1024x128)

/-- A head's other half of each axis: lanes 32 on where the mask holds, lanes 32 back where it does not. -/
def SWAP (Y : FVec Ideal S1024x128 .f32) (M : IVec S1x128 1) : FVec Ideal S1024x128 .f32 :=
  select (broadcastTo S1024x128 (shapeCast S1x128 M shapeCasts_S1x128_S1x128) broadcasts_S1x128_S1024x128) (dynamicRotate 1 96#32 none Y rotates_S1024x128_d1) (dynamicRotate 1 32#32 none Y rotates_S1024x128_d1)

/-- A head multiplied by the cosines, its other half by the sines. -/
def TURN (Y Z C S : FVec Ideal S1024x128 .f32) : FVec Ideal S1024x128 .f32 := addf (mulf Y C) (mulf Z S)

/-- What the kernel stores of one head. -/
def HEAD (A : FVec Ideal S1024x128 .f32) (g : FVec Ideal S1x128 .f32) (C S : FVec Ideal S1024x128 .f32) (M : IVec S1x128 1) : FVec Ideal S1024x128 .bf16 :=
  truncf .bf16 (TURN (YN A g) (SWAP (YN A g) M) C S) bitsLt_bf16_f32

/-- The first head of a block. -/
theorem head1 (A : FVec Ideal S1024x512 .f32) (g : FVec Ideal S1x128 .f32) (C S : FVec Ideal S1024x128 .f32) (w : IVec S1x128 32) :
    k0_pay11 (F := Ideal) A g C S w = HEAD (extractStridedSlice S1024x128 ![0, 0] A slices_S1024x512_o0_0_S1024x128) g C S (k0_pay10 w) := rfl

/-- The second head of a block. -/
theorem head2 (A : FVec Ideal S1024x512 .f32) (g : FVec Ideal S1x128 .f32) (C S : FVec Ideal S1024x128 .f32) (w : IVec S1x128 32) :
    k0_pay13 (F := Ideal) (k0_pay12 A g C S w) = HEAD (extractStridedSlice S1024x128 ![0, 128] A slices_S1024x512_o0_128_S1024x128) g C S (k0_pay10 w) := rfl

/-- The third head of a block. -/
theorem head3 (A : FVec Ideal S1024x512 .f32) (g : FVec Ideal S1x128 .f32) (C S : FVec Ideal S1024x128 .f32) (M : IVec S1x128 1) :
    k0_pay14 (F := Ideal) A g C S M = HEAD (extractStridedSlice S1024x128 ![0, 256] A slices_S1024x512_o0_256_S1024x128) g C S M := rfl

/-- The fourth head of a block. -/
theorem head4 (A : FVec Ideal S1024x512 .f32) (g : FVec Ideal S1x128 .f32) (C S : FVec Ideal S1024x128 .f32) (M : IVec S1x128 1) :
    k0_pay3 (F := Ideal) S (k0_pay16 A g M) (k0_pay17 A g C) = HEAD (extractStridedSlice S1024x128 ![0, 384] A slices_S1024x512_o0_384_S1024x128) g C S M := rfl

/-- The mask holds on the first 32 lanes of each axis. -/
theorem mask : ∀ d : Fin 128, k0_pay10 k0_pay9 (ix2 0 d) = if d.val / 32 % 2 < 1 then 1#1 else 0#1 := by
  decide +kernel

/-- The normalised head at an index. -/
theorem YN_at (A : FVec Ideal S1024x128 .f32) (g : FVec Ideal S1x128 .f32) (a : Fin 1024) (d : Fin 128) :
    YN A g (ix2 a d) = nrm (fun x => A (ix2 a x)) (fun x => g (ix2 0 x)) d := by
  pointwise [YN, nrm]

/-- The other half at an index. -/
theorem SWAP_at (Y : FVec Ideal S1024x128 .f32) (M : IVec S1x128 1) (a : Fin 1024) (d : Fin 128) :
    SWAP Y M (ix2 a d) = if M (ix2 0 d) = 1#1 then Y (ix2 a ⟨(d.val + 32) % 128, by omega⟩) else Y (ix2 a ⟨(d.val + 96) % 128, by omega⟩) := by
  have e1 : d.val + 128 - 96 = d.val + 32 := by omega
  have e2 : d.val + 128 - 32 = d.val + 96 := by omega
  pointwise [SWAP]
  simp only [e1, e2]
  rfl

/-- The turned head at an index. -/
theorem TURN_at (Y Z C S : FVec Ideal S1024x128 .f32) (a : Fin 1024) (d : Fin 128) :
    TURN Y Z C S (ix2 a d) = Y (ix2 a d) * C (ix2 a d) + Z (ix2 a d) * S (ix2 a d) := by
  pointwise [TURN]

/-- A head `N` turned by the cosines `C` and the signed sines `S`. -/
def turn (N C S : Fin 128 → EReal) (d : Fin 128) : EReal :=
  N d * C d + (if d.val / 32 % 2 < 1 then N ⟨(d.val + 32) % 128, by omega⟩ else N ⟨(d.val + 96) % 128, by omega⟩) * S d

/-- What the kernel stores of one head, at an index. -/
theorem HEAD_at (A : FVec Ideal S1024x128 .f32) (g : FVec Ideal S1x128 .f32) (C S : FVec Ideal S1024x128 .f32) (a : Fin 1024) (d : Fin 128) :
    HEAD A g C S (k0_pay10 k0_pay9) (ix2 a d)
      = turn (nrm (fun x => A (ix2 a x)) (fun x => g (ix2 0 x))) (fun x => C (ix2 a x)) (fun x => S (ix2 a x)) d := by
  have e : SWAP (YN A g) (k0_pay10 k0_pay9) (ix2 a d)
      = if d.val / 32 % 2 < 1 then nrm (fun x => A (ix2 a x)) (fun x => g (ix2 0 x)) ⟨(d.val + 32) % 128, by omega⟩
        else nrm (fun x => A (ix2 a x)) (fun x => g (ix2 0 x)) ⟨(d.val + 96) % 128, by omega⟩ := by
    rw [SWAP_at, mask d, YN_at, YN_at]
    by_cases h : d.val / 32 % 2 < 1
    · rw [if_pos h, if_pos h, if_pos rfl]
    · rw [if_neg h, if_neg h, if_neg (by decide)]
  refine (TURN_at (YN A g) (SWAP (YN A g) (k0_pay10 k0_pay9)) C S a d).trans ?_
  rw [e, YN_at]
  rfl

/-- What a block of query or key columns holds at an index, of the product `A`. -/
def blockH (A : S1024x512.Idx → EReal) (g : S1x128.Idx → EReal) (C S : S1024x128.Idx → EReal) (y : S1024x512.Idx) : EReal :=
  turn (nrm (fun x => A (ix2 (y 0) ⟨(y 1).val / 128 * 128 + x.val, by have h : (y 1).val < 512 := (y 1).isLt; omega⟩)) (fun x => g (ix2 0 x)))
    (fun x => C (ix2 (y 0) x)) (fun x => S (ix2 (y 0) x)) ⟨(y 1).val % 128, Nat.mod_lt _ (by decide)⟩

/-- A head's indices within the block. -/
theorem strip_emb (o : ℕ) (inb) (a : Fin 1024) (b : Fin 128) (h : o + b.val < 512) :
    (Rect.unit (s := S1024x512) ![0, o] ![1024, 128] inb).emb (ix2 a b) = ix2 a ⟨o + b.val, h⟩ := by
  show (Rect.unit (s := S1024x512) ![0, o] ![1024, 128] inb).idx (ix2 a b) = _
  funext d
  fin_cases d <;> exact Fin.ext (by simp [Rect.idx_unit_val])

/-- `blockH` at an index of a head that starts at column `o`. -/
theorem blockH_strip (A : S1024x512.Idx → EReal) (g : S1x128.Idx → EReal) (C S : S1024x128.Idx → EReal)
    (o : ℕ) (ho : o % 128 = 0) (ho' : o + 128 ≤ 512) (a : Fin 1024) (b : Fin 128) :
    blockH A g C S (ix2 a ⟨o + b.val, by omega⟩)
      = turn (nrm (fun x => A (ix2 a ⟨o + x.val, by omega⟩)) (fun x => g (ix2 0 x))) (fun x => C (ix2 a x)) (fun x => S (ix2 a x)) b := by
  have e : (⟨(o + b.val) % 128, Nat.mod_lt _ (by decide)⟩ : Fin 128) = b := Fin.ext (by show (o + b.val) % 128 = b.val; omega)
  have e' : (o + b.val) / 128 * 128 = o := by omega
  show turn (nrm (fun x => A (ix2 a ⟨(o + b.val) / 128 * 128 + x.val, _⟩)) _) _ _ ⟨(o + b.val) % 128, _⟩ = _
  rw [e]
  simp only [e']
  rfl

/-- A head of the product. -/
theorem slice_at (A : FVec Ideal S1024x512 .f32) (o : ℕ) (ho' : o + 128 ≤ 512) (hs) (a : Fin 1024) (x : Fin 128) :
    extractStridedSlice S1024x128 ![0, o] A hs (ix2 a x) = A (ix2 a ⟨o + x.val, by omega⟩) := by
  pointwise

/-- The head that starts at column `o`, at an index. -/
theorem head_at (A : FVec Ideal S1024x512 .f32) (g : FVec Ideal S1x128 .f32) (C S : FVec Ideal S1024x128 .f32)
    (o : ℕ) (ho : o % 128 = 0) (ho' : o + 128 ≤ 512) (hs) (inb) (a : Fin 1024) (b : Fin 128) :
    HEAD (extractStridedSlice S1024x128 ![0, o] A hs) g C S (k0_pay10 k0_pay9) (ix2 a b)
      = blockH A g C S ((Rect.unit (s := S1024x512) ![0, o] ![1024, 128] inb).emb (ix2 a b)) := by
  refine (HEAD_at _ _ _ _ _ _).trans ?_
  refine .trans ?_ ((blockH_strip A g C S o ho ho' a b).symm.trans (congrArg (blockH A g C S) (strip_emb o inb a b (by omega)).symm))
  exact congrArg (fun p : Fin 128 → EReal => turn (nrm p _) _ _ b) (funext fun x => slice_at A o ho' hs a x)

/-- The four heads make the block. -/
theorem strips (A : FVec Ideal S1024x512 .f32) (g : FVec Ideal S1x128 .f32) (C S : FVec Ideal S1024x128 .f32) (y : S1024x512.Idx) :
    View.canon (Val := Elt Ideal) (s := S1024x512) (e := .bf16)
      [⟨Rect.unit ![0, 384] ![1024, 128] inb_S1024x512_S1024x128_0_384, k0_pay3 S (k0_pay16 A g (k0_pay10 k0_pay9)) (k0_pay17 A g C)⟩,
        ⟨Rect.unit ![0, 256] ![1024, 128] inb_S1024x512_S1024x128_0_256, k0_pay14 A g C S (k0_pay10 k0_pay9)⟩,
        ⟨Rect.unit ![0, 128] ![1024, 128] inb_S1024x512_S1024x128_0_128, k0_pay13 (k0_pay12 A g C S k0_pay9)⟩,
        ⟨Rect.unit ![0, 0] ![1024, 128] inb_S1024x512_S1024x128_0_0, k0_pay11 A g C S k0_pay9⟩] y
      = blockH A g C S y := by
  refine View.canon_apply_of_pieces (Val := Elt Ideal) (S := S1024x512) (e := .bf16) (blockH A g C S) _ ?_ y ?_
  · rw [head1, head2, head3, head4]
    intro p hp
    simp only [List.mem_cons, List.not_mem_nil, or_false] at hp
    rcases hp with rfl | rfl | rfl | rfl
    · intro z
      obtain ⟨a, b, rfl⟩ : ∃ (a : Fin 1024) (b : Fin 128), z = ix2 a b := ⟨z 0, z 1, eq_ix2 z⟩
      exact head_at A g C S 384 rfl (by decide) _ inb_S1024x512_S1024x128_0_384 a b
    · intro z
      obtain ⟨a, b, rfl⟩ : ∃ (a : Fin 1024) (b : Fin 128), z = ix2 a b := ⟨z 0, z 1, eq_ix2 z⟩
      exact head_at A g C S 256 rfl (by decide) _ inb_S1024x512_S1024x128_0_256 a b
    · intro z
      obtain ⟨a, b, rfl⟩ : ∃ (a : Fin 1024) (b : Fin 128), z = ix2 a b := ⟨z 0, z 1, eq_ix2 z⟩
      exact head_at A g C S 128 rfl (by decide) _ inb_S1024x512_S1024x128_0_128 a b
    · intro z
      obtain ⟨a, b, rfl⟩ : ∃ (a : Fin 1024) (b : Fin 128), z = ix2 a b := ⟨z 0, z 1, eq_ix2 z⟩
      exact head_at A g C S 0 rfl (by decide) _ inb_S1024x512_S1024x128_0_0 a b
  · obtain ⟨a, b, rfl⟩ : ∃ (a : Fin 1024) (b : Fin 512), y = ix2 a b := ⟨y 0, y 1, eq_ix2 y⟩
    have hb := b.isLt
    have ha := a.isLt
    have mem : ∀ (o : ℕ) (inb), o ≤ b.val → b.val < o + 128 →
        ix2 a b ∈ (Rect.unit (s := S1024x512) ![0, o] ![1024, 128] inb).set := fun o inb h1 h2 =>
      Rect.mem_set_unit.mpr fun d => by fin_cases d <;> constructor <;> simp <;> omega
    simp only [List.exists_mem_cons_iff, List.not_mem_nil, false_and, exists_false, or_false]
    by_cases h3 : 384 ≤ b.val
    · exact Or.inl (mem 384 _ h3 (by omega))
    by_cases h2 : 256 ≤ b.val
    · exact Or.inr (Or.inl (mem 256 _ h2 (by omega)))
    by_cases h1 : 128 ≤ b.val
    · exact Or.inr (Or.inr (Or.inl (mem 128 _ h1 (by omega))))
    · exact Or.inr (Or.inr (Or.inr (mem 0 _ (by omega) (by omega))))

/-! ## The kernel's turn and the reference's rotation -/

/-- A head turned by a position's cosines and signed sines is rotated. -/
theorem turn_rot (N C S : Fin 128 → EReal) (c s : EReal) (d : Fin 128) (hc : C d = c) (hs : S d = if d.val / 32 % 2 < 1 then -s else s) :
    turn N C S d = rot N c s d := by
  unfold turn rot
  rw [hc, hs]
  by_cases h : d.val / 32 % 2 < 1
  · have e1 : (⟨d.val / 64 * 64 + d.val % 32, by omega⟩ : Fin 128) = d := Fin.ext (by show d.val / 64 * 64 + d.val % 32 = d.val; omega)
    have e2 : (⟨d.val / 64 * 64 + 32 + d.val % 32, by omega⟩ : Fin 128) = ⟨(d.val + 32) % 128, by omega⟩ := Fin.ext (by show d.val / 64 * 64 + 32 + d.val % 32 = (d.val + 32) % 128; omega)
    rw [if_pos h, if_pos h, if_pos h, e1, e2, mul_neg, sub_eq_add_neg]
  · have e1 : (⟨d.val / 64 * 64 + 32 + d.val % 32, by omega⟩ : Fin 128) = d := Fin.ext (by show d.val / 64 * 64 + 32 + d.val % 32 = d.val; omega)
    have e2 : (⟨d.val / 64 * 64 + d.val % 32, by omega⟩ : Fin 128) = ⟨(d.val + 96) % 128, by omega⟩ := Fin.ext (by show d.val / 64 * 64 + d.val % 32 = (d.val + 96) % 128; omega)
    rw [if_neg h, if_neg h, if_neg h, e1, e2, add_comm]

/-- A head turned by a cosine of one and a sine of zero stays. -/
theorem turn_one (N C S : Fin 128 → EReal) (d : Fin 128) (hc : C d = Ideal.ofBits .f32 0x3F800000#32) (hs : S d = Ideal.ofBits .f32 0x00000000#32) :
    turn N C S d = N d := by
  unfold turn
  rw [hc, hs, Ideal.ofBits_one_f32, Ideal.ofBits_zero_f32, mul_one, mul_zero, add_zero]

/-- The square root of 128, as both programs hold it, is a positive real. -/
theorem root_real : ∃ k : ℝ, 0 < k ∧ Ideal.ofBits .f32 0x413504F3#32 = (k : EReal) := by
  refine ⟨_, ?_, by simp [Ideal.ofBits, Ideal.ieee, -EReal.coe_mul]; rfl⟩
  norm_num

/-- Dividing by the square root of 128 is multiplying by a nonnegative real. -/
theorem div_root : ∃ κ : ℝ, 0 ≤ κ ∧ ∀ x : EReal, Ideal.div x (Ideal.ofBits .f32 0x413504F3#32) = x * (κ : EReal) := by
  obtain ⟨k, hk, e⟩ := root_real
  refine ⟨1 / k, by positivity, fun x => ?_⟩
  rw [e, Ideal.div_coe hk.ne']

/-- Dividing the gain divides the normalised head. -/
theorem nrm_div (p g : Fin 128 → EReal) :
    nrm p (fun x => Ideal.div (g x) (Ideal.ofBits .f32 0x413504F3#32)) = fun d => Ideal.div (nrm p g d) (Ideal.ofBits .f32 0x413504F3#32) := by
  obtain ⟨κ, h0, hκ⟩ := div_root
  funext d
  unfold nrm
  simp only [hκ]
  exact (mul_assoc _ _ _).symm

/-- Dividing a head divides its rotation. -/
theorem rot_div (y : Fin 128 → EReal) (c s : EReal) (d : Fin 128) :
    rot (fun d => Ideal.div (y d) (Ideal.ofBits .f32 0x413504F3#32)) c s d = Ideal.div (rot y c s d) (Ideal.ofBits .f32 0x413504F3#32) := by
  obtain ⟨κ, h0, hκ⟩ := div_root
  have hp : (0 : EReal) ≤ (κ : EReal) := EReal.coe_nonneg.2 h0
  have hadd : ∀ u v : EReal, (u + v) * (κ : EReal) = u * (κ : EReal) + v * (κ : EReal) := fun u v =>
    EReal.right_distrib_of_nonneg_of_ne_top hp (EReal.coe_ne_top κ) u v
  have hm : ∀ u v : EReal, u * (κ : EReal) * v = u * v * (κ : EReal) := fun u v => mul_right_comm _ _ _
  unfold rot
  simp only [hκ]
  by_cases h : d.val / 32 % 2 < 1
  · rw [if_pos h, if_pos h, hm, hm, sub_eq_add_neg, sub_eq_add_neg, hadd, EReal.neg_mul]
  · rw [if_neg h, if_neg h, hm, hm, hadd]

end Cert.InprojIdeal.Value
-- ==== Proof.InprojValue.lean ====
module

public import proofs.«01_k».proof.Defs
public import proofs.«01_k».proof.Proof.Gen.InprojIdeal.Frame
public import proofs.«01_k».proof.Proof.InprojHost
public import proofs.«01_k».proof.Proof.InprojPay
public import Idealize.ShloMosaic.Lib.Pipeline.ValueKit
public import Idealize.ShloMosaic.Lib.Pipeline.ReadBack
public import Idealize.ShloMosaic.Lib.Pointwise

/-!
# The input projection: the kernel's result is the reference's term

The grid is column-major: 32 column blocks of 512, and in each of them 17 row blocks of 1024, the last of which is the
context. At the first row block of a column block the weight block is copied into scratch. The first four column blocks
are queries, the next four keys, the next sixteen stay, and the last eight are gates.
-/

@[expose] public section

set_option maxRecDepth 16384

noncomputable section

open Idealize.ShloMosaic Idealize.ShloMosaic.TcCoe Idealize.SL.Sem
open Idealize.ShloMosaic.Pipeline (Dat)

namespace Cert.InprojIdeal.Value

open Cert.InprojIdeal Cert.InprojIdeal.Gen
open Cert.InprojRefIdeal.Value (nrm rot COS SIN dotW REF)

variable (m : (ℓ : Loc nD τ sig) → Buf (Elt Ideal) ℓ)

/-- The index maps at a point, by arithmetic on its number. -/
theorem idx : ∀ t : Fin cfg0.N,
    win0_0.index t = ![t.val % 17, 0] ∧ win0_1.index t = ![1, 0, t.val / 17] ∧ win0_2.index t = ![1, 0, 0]
      ∧ win0_3.index t = ![t.val % 17 % 4 + 4 * (t.val % 17 / 16), 0] ∧ win0_4.index t = ![t.val % 17 % 4 + 4 * (t.val % 17 / 16), 0]
      ∧ win0_5.index t = ![1, 0, t.val / 17 - 24] ∧ win0_6.index t = ![t.val % 17, t.val / 17] :=
  (by decide +kernel : ∀ t : Fin grid0.N, _)

/-- The row of gains a point reads: the queries' in the first four column blocks, the keys' in the next four. -/
theorem off : ∀ t : Fin cfg0.N, k0_off1 (grid0.coords t) = ![0, t.val / 17 / 4, 0] :=
  (by decide +kernel : ∀ t : Fin grid0.N, k0_off1 (grid0.coords t) = ![0, t.val / 17 / 4, 0])

/-- The weight block of a point, read at an index. -/
theorem w_at (c : Dev nD) (t : Fin cfg0.N) (a : Fin 2048) (b : Fin 512) (h : t.val / 17 * 512 + b.val < 16384) :
    k0_pay1 (iblk m c 1 t) (ix2 a b) = m ((c : Thread nD τ).loc main_arg1) (ix3 1 a ⟨t.val / 17 * 512 + b.val, h⟩) := by
  pointwise [k0_pay1]
  blk_point [iblk, V, idx t]

/-- The rows of a point, read at an index. -/
theorem x_at (c : Dev nD) (t : Fin cfg0.N) (a : Fin 1024) (k : Fin 2048) (h : t.val % 17 * 1024 + a.val < 17408) :
    iblk m c 0 t (ix2 a k) = m ((c : Thread nD τ).loc main_arg0) (ix2 ⟨t.val % 17 * 1024 + a.val, h⟩ k) := by
  blk_point [iblk, V, idx t]

/-- A block of gains over any table, read at an index. -/
theorem block2 (t : Fin cfg0.N) (z : S4x8x128.Idx → EReal) (s : Fin 8) (x : Fin 128) :
    View.read (Elt Ideal) ((cfg0.win 2).blk t).view z (ix3 0 s x) = z (ix3 1 s x) := by
  blk_point [idx t]

/-- A block of cosines over any table, read at an index. -/
theorem block3 (t : Fin cfg0.N) (z : S5120x128.Idx → EReal) (a : Fin 1024) (x : Fin 128)
    (h : (t.val % 17 % 4 + 4 * (t.val % 17 / 16)) * 1024 + a.val < 5120) :
    View.read (Elt Ideal) ((cfg0.win 3).blk t).view z (ix2 a x) = z (ix2 ⟨(t.val % 17 % 4 + 4 * (t.val % 17 / 16)) * 1024 + a.val, h⟩ x) := by
  blk_point [idx t]

/-- A block of sines over any table, read at an index. -/
theorem block4 (t : Fin cfg0.N) (z : S5120x128.Idx → EReal) (a : Fin 1024) (x : Fin 128)
    (h : (t.val % 17 % 4 + 4 * (t.val % 17 / 16)) * 1024 + a.val < 5120) :
    View.read (Elt Ideal) ((cfg0.win 4).blk t).view z (ix2 a x) = z (ix2 ⟨(t.val % 17 % 4 + 4 * (t.val % 17 / 16)) * 1024 + a.val, h⟩ x) := by
  blk_point [idx t]

/-- A block of biases over any table, read at an index. -/
theorem block5 (t : Fin cfg0.N) (z : S4x1x4096.Idx → EReal) (b : Fin 512) (h : (t.val / 17 - 24) * 512 + b.val < 4096) :
    View.read (Elt Ideal) ((cfg0.win 5).blk t).view z (ix3 0 0 b) = z (ix3 1 0 ⟨(t.val / 17 - 24) * 512 + b.val, h⟩) := by
  blk_point [idx t]

/-- The biases with an axis more, read at an index. -/
theorem bias_cast (z : S4x4096.Idx → EReal) (q : Fin 4096) :
    shapeCast S4x1x4096 z shapeCasts_S4x4096_S4x1x4096 (ix3 1 0 q) = z (ix2 1 q) := by
  pointwise

/-- The biases of a point, read at an index. -/
theorem bias_at (c : Dev nD) (t : Fin cfg0.N) (b : Fin 512) (h : (t.val / 17 - 24) * 512 + b.val < 4096) :
    iblk m c 5 t (ix3 0 0 b) = m ((c : Thread nD τ).loc main_arg4) (ix2 1 ⟨(t.val / 17 - 24) * 512 + b.val, h⟩) :=
  (block5 t (V m c main_v48) b h).trans ((congrFun (entry_bias m c) _).trans (bias_cast _ _))

/-- The gains of a point, read at an index. -/
theorem gains_at (c : Dev nD) (t : Fin cfg0.N) (s : Fin 8) (x : Fin 128) :
    iblk m c 2 t (ix3 0 s x) = GTAB (m ((c : Thread nD τ).loc main_arg2)) (m ((c : Thread nD τ).loc main_arg3)) (ix3 1 s x) :=
  (block2 t (V m c main_v47) s x).trans (congrFun (entry_gain m c) _)

/-- The cosines of a latent point. -/
theorem cos_lat (c : Dev nD) (t : Fin cfg0.N) (ht : t.val % 17 < 16) (a : Fin 1024) (x : Fin 128) (h : (t.val % 17 * 1024 + a.val) % 4096 < 4096) :
    iblk m c 3 t (ix2 a x) = COS (ix3 ⟨(t.val % 17 * 1024 + a.val) % 4096, h⟩ ⟨x.val / 64, by omega⟩ ⟨x.val % 32, by omega⟩) := by
  have ha := a.isLt
  have e : (t.val % 17 % 4 + 4 * (t.val % 17 / 16)) * 1024 + a.val = (t.val % 17 * 1024 + a.val) % 4096 := by omega
  refine (block3 t (V m c main_v38) a x (by omega)).trans ((congrFun (entry_cos m c) _).trans ?_)
  refine (CTAB_pos _ x (by show (t.val % 17 % 4 + 4 * (t.val % 17 / 16)) * 1024 + a.val < 4096; omega)).trans ?_
  simp only [e]

/-- The cosines of a context point. -/
theorem cos_ctx (c : Dev nD) (t : Fin cfg0.N) (ht : ¬t.val % 17 < 16) (a : Fin 1024) (x : Fin 128) :
    iblk m c 3 t (ix2 a x) = Ideal.ofBits .f32 0x3F800000#32 := by
  have ha := a.isLt
  refine (block3 t (V m c main_v38) a x (by omega)).trans ((congrFun (entry_cos m c) _).trans ?_)
  exact CTAB_ctx _ x (by show ¬(t.val % 17 % 4 + 4 * (t.val % 17 / 16)) * 1024 + a.val < 4096; omega)

/-- The sines of a latent point. -/
theorem sin_lat (c : Dev nD) (t : Fin cfg0.N) (ht : t.val % 17 < 16) (a : Fin 1024) (x : Fin 128) (h : (t.val % 17 * 1024 + a.val) % 4096 < 4096) :
    iblk m c 4 t (ix2 a x) = if x.val / 32 % 2 < 1 then -SIN (ix3 ⟨(t.val % 17 * 1024 + a.val) % 4096, h⟩ ⟨x.val / 64, by omega⟩ ⟨x.val % 32, by omega⟩)
      else SIN (ix3 ⟨(t.val % 17 * 1024 + a.val) % 4096, h⟩ ⟨x.val / 64, by omega⟩ ⟨x.val % 32, by omega⟩) := by
  have ha := a.isLt
  have e : (t.val % 17 % 4 + 4 * (t.val % 17 / 16)) * 1024 + a.val = (t.val % 17 * 1024 + a.val) % 4096 := by omega
  refine (block4 t (V m c main_v40) a x (by omega)).trans ((congrFun (entry_sin m c) _).trans ?_)
  refine (STAB_pos _ x (by show (t.val % 17 % 4 + 4 * (t.val % 17 / 16)) * 1024 + a.val < 4096; omega)).trans ?_
  simp only [e]

/-- The sines of a context point. -/
theorem sin_ctx (c : Dev nD) (t : Fin cfg0.N) (ht : ¬t.val % 17 < 16) (a : Fin 1024) (x : Fin 128) :
    iblk m c 4 t (ix2 a x) = Ideal.ofBits .f32 0x00000000#32 := by
  have ha := a.isLt
  refine (block4 t (V m c main_v40) a x (by omega)).trans ((congrFun (entry_sin m c) _).trans ?_)
  exact STAB_ctx _ x (by show ¬(t.val % 17 % 4 + 4 * (t.val % 17 / 16)) * 1024 + a.val < 4096; omega)

/-- At a first row block the scratch is filled with the weight block. -/
theorem scr_first (c : Dev nD) (t : Fin cfg0.N) (h : t.val % 17 = 0) :
    (outsAt0 m c t.val t.isLt).2 = k0_pay1 (iblk m c 1 t) := by
  have hN : t.val < 544 := t.isLt
  by_cases h1 : t.val < 136
  · rw [outsAt0_A m c t h h1 (by omega) (by omega)]
    funext y; frame_out
  by_cases h3 : 408 ≤ t.val
  · rw [outsAt0_E m c t h h1 (by omega) h3]
    funext y; frame_out
  · rw [outsAt0_C m c t h h1 (by omega) h3]
    funext y; frame_out

/-- At every other point the scratch stays. -/
theorem scr_next (c : Dev nD) (t : Fin cfg0.N) (h : ¬t.val % 17 = 0) :
    (outsAt0 m c t.val t.isLt).2 = (outsAt0 m c (t.val - 1) (by have := t.isLt; omega)).2 := by
  have hN : t.val < 544 := t.isLt
  by_cases h1 : t.val < 136
  · rw [outsAt0_B m c t h h1 (by omega) (by omega)]
    rfl
  by_cases h3 : 408 ≤ t.val
  · rw [outsAt0_F m c t h h1 (by omega) h3]
    rfl
  · rw [outsAt0_D m c t h h1 (by omega) h3]
    rfl

/-- After point `n` the scratch holds the weight columns of the point's column block. -/
theorem scr (c : Dev nD) : ∀ (n : ℕ) (hn : n < cfg0.N) (a : Fin 2048) (b : Fin 512) (h : n / 17 * 512 + b.val < 16384),
    (outsAt0 m c n hn).2 (ix2 a b) = m ((c : Thread nD τ).loc main_arg1) (ix3 1 a ⟨n / 17 * 512 + b.val, h⟩) := by
  intro n
  induction n with
  | zero =>
    intro hn a b h
    rw [scr_first m c ⟨0, hn⟩ rfl]
    exact w_at m c ⟨0, hn⟩ a b h
  | succ n ih =>
    intro hn a b h
    by_cases h0 : (n + 1) % 17 = 0
    · rw [scr_first m c ⟨n + 1, hn⟩ h0]
      exact w_at m c ⟨n + 1, hn⟩ a b h
    · have e : (n + 1) / 17 = n / 17 := by omega
      rw [scr_next m c ⟨n + 1, hn⟩ h0]
      refine (ih (by omega) a b (by omega)).trans ?_
      simp only [e]

/-- One element of the product of a point's rows with the scratch. -/
def dotB (X : FVec Ideal S1024x2048 .bf16) (W : FVec Ideal S2048x512 .bf16) (a : Fin 1024) (b : Fin 512) : EReal :=
  ∑ k : Fin 2048, X (ix2 a k) * W (ix2 k b)

/-- The rows of a point against a column of the scratch. -/
theorem dot_at (c : Dev nD) (t : Fin cfg0.N) (a : Fin 1024) (b : Fin 512) (ha : t.val % 17 * 1024 + a.val < 17408)
    (hb : t.val / 17 * 512 + b.val < 16384) :
    dotB (iblk m c 0 t) (outsAt0 m c t.val t.isLt).2 a b
      = dotW (m ((c : Thread nD τ).loc main_arg0)) (m ((c : Thread nD τ).loc main_arg1))
          ⟨t.val % 17 * 1024 + a.val, ha⟩ ⟨t.val / 17 * 512 + b.val, hb⟩ :=
  Finset.sum_congr rfl fun k _ => Ideal.mul_congr (x_at m c t a k ha) (scr m c t.val t.isLt k b hb)

/-- A point of columns that stay. -/
theorem out_v (c : Dev nD) (t : Fin cfg0.N) (h1 : ¬t.val < 136) (h3 : ¬408 ≤ t.val) :
    (outsAt0 m c t.val t.isLt).1 = k0_pay4 (F := Ideal) (iblk m c 0 t) (outsAt0 m c t.val t.isLt).2 := by
  by_cases h : t.val % 17 = 0
  · rw [scr_first m c t h, outsAt0_C m c t h h1 (by omega) h3]
    funext y; frame_out
  · rw [scr_next m c t h, outsAt0_D m c t h h1 (by omega) h3]
    funext y; frame_out
    rw [read_unread_whole]

/-- A point of gate columns. -/
theorem out_g (c : Dev nD) (t : Fin cfg0.N) (h1 : ¬t.val < 136) (h3 : 408 ≤ t.val) :
    (outsAt0 m c t.val t.isLt).1 = k0_pay5 (F := Ideal) (iblk m c 0 t) (outsAt0 m c t.val t.isLt).2 (iblk m c 5 t) := by
  have hN : t.val < 544 := t.isLt
  by_cases h : t.val % 17 = 0
  · rw [scr_first m c t h, outsAt0_E m c t h h1 (by omega) h3]
    funext y; frame_out
  · rw [scr_next m c t h, outsAt0_F m c t h h1 (by omega) h3]
    funext y; frame_out
    rw [read_unread_whole]

/-- The row of gains a point of query or key columns uses. -/
def gainRow (c : Dev nD) (t : Fin cfg0.N) (h1 : t.val < 136) : FVec Ideal S1x128 .f32 :=
  k0_pay6 (F := Ideal) (View.ld (Val := Elt Ideal) (e' := .f32) (iblk m c 2 t)
    (Rect.unit (s := S1x8x128) (k0_off1 (grid0.coords t)) ![1, 1, 128] (k0_off1_inb (grid0.coords t) ((hcond0_1 t).mpr h1))))

/-- A point of query or key columns. -/
theorem out_h (c : Dev nD) (t : Fin cfg0.N) (h1 : t.val < 136) (y : S1024x512.Idx) :
    (outsAt0 m c t.val t.isLt).1 y
      = blockH (k0_pay2 (F := Ideal) (iblk m c 0 t) (outsAt0 m c t.val t.isLt).2) (gainRow m c t h1)
          (k0_pay7 (F := Ideal) (iblk m c 3 t)) (k0_pay8 (F := Ideal) (iblk m c 4 t)) y := by
  by_cases h : t.val % 17 = 0
  · rw [scr_first m c t h, outsAt0_A m c t h h1 (by omega) (by omega)]
    frame_out
    exact strips (k0_pay2 (F := Ideal) (iblk m c 0 t) (k0_pay1 (iblk m c 1 t))) (gainRow m c t h1) (k0_pay7 (F := Ideal) (iblk m c 3 t)) (k0_pay8 (F := Ideal) (iblk m c 4 t)) y
  · rw [scr_next m c t h, outsAt0_B m c t h h1 (by omega) (by omega)]
    frame_out
    rw [read_unread_whole]
    exact strips (k0_pay2 (F := Ideal) (iblk m c 0 t) _) (gainRow m c t h1) (k0_pay7 (F := Ideal) (iblk m c 3 t)) (k0_pay8 (F := Ideal) (iblk m c 4 t)) y

/-- The row of gains, read at an index, over any block of them. -/
theorem gain_ld (f : Vec Ideal S1x8x128 .f32) (off : Fin 3 → ℕ) (s : Fin 8) (h : off = ![0, s.val, 0]) (inb) (x : Fin 128) :
    k0_pay6 (F := Ideal) (View.ld (Val := Elt Ideal) (e' := .f32) f (Rect.unit (s := S1x8x128) off ![1, 1, 128] inb)) (ix2 0 x)
      = f (ix3 0 s x) := by
  subst h
  pointwise [k0_pay6]

/-- The row of gains of a point, read at an index. -/
theorem gainRow_at (c : Dev nD) (t : Fin cfg0.N) (h1 : t.val < 136) (x : Fin 128) :
    gainRow m c t h1 (ix2 0 x) = GTAB (m ((c : Thread nD τ).loc main_arg2)) (m ((c : Thread nD τ).loc main_arg3)) (ix3 1 ⟨t.val / 17 / 4, by omega⟩ x) :=
  (gain_ld (iblk m c 2 t) _ ⟨t.val / 17 / 4, by omega⟩ (off t) _ x).trans (gains_at m c t _ x)

/-- A point's cosines are its block of the table. -/
theorem pay7_at (z : Vec Ideal S1024x128 .f32) (a : Fin 1024) (x : Fin 128) : k0_pay7 (F := Ideal) z (ix2 a x) = z (ix2 a x) := by
  pointwise [k0_pay7]

/-- A point's sines are its block of the table. -/
theorem pay8_at (z : Vec Ideal S1024x128 .f32) (a : Fin 1024) (x : Fin 128) : k0_pay8 (F := Ideal) z (ix2 a x) = z (ix2 a x) := by
  pointwise [k0_pay8]

/-- `blockH` at an index, of a head, gains, cosines and sines given lane by lane. -/
theorem blockH_of (A : S1024x512.Idx → EReal) (g : S1x128.Idx → EReal) (C S : S1024x128.Idx → EReal) (a : Fin 1024) (b : Fin 512)
    (P G C' S' : Fin 128 → EReal) (hA : ∀ x : Fin 128, A (ix2 a ⟨b.val / 128 * 128 + x.val, by omega⟩) = P x) (hg : ∀ x, g (ix2 0 x) = G x)
    (hC : ∀ x, C (ix2 a x) = C' x) (hS : ∀ x, S (ix2 a x) = S' x) :
    blockH A g C S (ix2 a b) = turn (nrm P G) C' S' ⟨b.val % 128, by omega⟩ := by
  obtain rfl : (fun x : Fin 128 => A (ix2 a ⟨b.val / 128 * 128 + x.val, by omega⟩)) = P := funext hA
  obtain rfl : (fun x => g (ix2 0 x)) = G := funext hg
  obtain rfl : (fun x => C (ix2 a x)) = C' := funext hC
  obtain rfl : (fun x => S (ix2 a x)) = S' := funext hS
  rfl

section

variable (c : Dev nD) (t : Fin cfg0.N) (a : Fin 1024) (b : Fin 512) (ha : t.val % 17 * 1024 + a.val < 17408) (hb : t.val / 17 * 512 + b.val < 16384)

/-- The product's elements of the head that holds a column. -/
theorem head_dot (n : ℕ) (x : Fin 128) (hn : n = t.val / 17 * 512 + (b.val / 128 * 128 + x.val)) (hn' : n < 16384) :
    k0_pay2 (F := Ideal) (iblk m c 0 t) (outsAt0 m c t.val t.isLt).2 (ix2 a ⟨b.val / 128 * 128 + x.val, by omega⟩)
      = dotW (m ((c : Thread nD τ).loc main_arg0)) (m ((c : Thread nD τ).loc main_arg1)) ⟨t.val % 17 * 1024 + a.val, ha⟩ ⟨n, hn'⟩ := by
  subst hn
  exact (prod_at _ _ a _).trans (dot_at m c t a ⟨b.val / 128 * 128 + x.val, by omega⟩ ha hn')

/-- A latent point of query columns. -/
theorem point_q_lat (ht : t.val % 17 < 16) (hq : t.val < 68) :
    (outsAt0 m c t.val t.isLt).1 (ix2 a b) = REF (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val % 17 * 1024 + a.val, ha⟩ ⟨t.val / 17 * 512 + b.val, hb⟩) := by
  have h4 : (⟨t.val / 17 / 4, by omega⟩ : Fin 8) = 0 := Fin.ext (by show t.val / 17 / 4 = 0; omega)
  have ed : (⟨b.val % 128, by omega⟩ : Fin 128) = ⟨(t.val / 17 * 512 + b.val) % 128, by omega⟩ := Fin.ext (by show b.val % 128 = (t.val / 17 * 512 + b.val) % 128; omega)
  refine (out_h m c t (by omega) (ix2 a b)).trans ?_
  refine (blockH_of _ _ _ _ a b (fun x => dotW (m ((c : Thread nD τ).loc main_arg0)) (m ((c : Thread nD τ).loc main_arg1)) ⟨t.val % 17 * 1024 + a.val, ha⟩ ⟨(t.val / 17 * 512 + b.val) / 128 * 128 + x.val, by omega⟩)
    (fun x => Ideal.div ((m ((c : Thread nD τ).loc main_arg2)) (ix2 1 x)) (Ideal.ofBits .f32 0x413504F3#32)) _ _
    (fun x => head_dot m c t a b ha _ x (by omega) _)
    (fun x => (gainRow_at m c t _ x).trans ((congrArg (fun s => GTAB (m ((c : Thread nD τ).loc main_arg2)) (m ((c : Thread nD τ).loc main_arg3)) (ix3 1 s x)) h4).trans (GTAB_0 _ _ 1 x)))
    (fun x => (pay7_at _ a x).trans (cos_lat m c t ht a x (by omega))) (fun x => (pay8_at _ a x).trans (sin_lat m c t ht a x (by omega)))).trans ?_
  refine .trans ?_ (Cert.InprojRefIdeal.Value.REF_q_lat _ _ _ _ _ _ _ (by show t.val % 17 * 1024 + a.val < 16384; omega) (by show t.val / 17 * 512 + b.val < 2048; omega)).symm
  refine .trans ?_ (rot_div _ _ _ _)
  refine (congrArg (fun N : Fin 128 → EReal => turn N _ _ _) (nrm_div _ _)).trans ?_
  rw [ed]
  have e1 : (t.val / 17 * 512 + b.val) % 128 / 64 = (t.val / 17 * 512 + b.val) / 64 % 2 := by omega
  have e2 : (t.val / 17 * 512 + b.val) % 128 % 32 = (t.val / 17 * 512 + b.val) % 32 := by omega
  refine turn_rot _ _ _ _ _ _ ?_ ?_
  · simp only [e1, e2]
  · simp only [e1, e2]

/-- A context point of query columns. -/
theorem point_q_ctx (ht : ¬t.val % 17 < 16) (hq : t.val < 68) :
    (outsAt0 m c t.val t.isLt).1 (ix2 a b) = REF (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val % 17 * 1024 + a.val, ha⟩ ⟨t.val / 17 * 512 + b.val, hb⟩) := by
  have h4 : (⟨t.val / 17 / 4, by omega⟩ : Fin 8) = 0 := Fin.ext (by show t.val / 17 / 4 = 0; omega)
  have ed : (⟨b.val % 128, by omega⟩ : Fin 128) = ⟨(t.val / 17 * 512 + b.val) % 128, by omega⟩ := Fin.ext (by show b.val % 128 = (t.val / 17 * 512 + b.val) % 128; omega)
  refine (out_h m c t (by omega) (ix2 a b)).trans ?_
  refine (blockH_of _ _ _ _ a b (fun x => dotW (m ((c : Thread nD τ).loc main_arg0)) (m ((c : Thread nD τ).loc main_arg1)) ⟨t.val % 17 * 1024 + a.val, ha⟩ ⟨(t.val / 17 * 512 + b.val) / 128 * 128 + x.val, by omega⟩)
    (fun x => Ideal.div ((m ((c : Thread nD τ).loc main_arg2)) (ix2 1 x)) (Ideal.ofBits .f32 0x413504F3#32)) _ _
    (fun x => head_dot m c t a b ha _ x (by omega) _)
    (fun x => (gainRow_at m c t _ x).trans ((congrArg (fun s => GTAB (m ((c : Thread nD τ).loc main_arg2)) (m ((c : Thread nD τ).loc main_arg3)) (ix3 1 s x)) h4).trans (GTAB_0 _ _ 1 x)))
    (fun x => (pay7_at _ a x).trans (cos_ctx m c t ht a x)) (fun x => (pay8_at _ a x).trans (sin_ctx m c t ht a x))).trans ?_
  refine .trans ?_ (Cert.InprojRefIdeal.Value.REF_q_ctx _ _ _ _ _ _ _ (by show ¬t.val % 17 * 1024 + a.val < 16384; omega) (by show t.val / 17 * 512 + b.val < 2048; omega)).symm
  refine (turn_one _ _ _ _ rfl rfl).trans ?_
  rw [nrm_div, ed]

/-- A latent point of key columns. -/
theorem point_k_lat (ht : t.val % 17 < 16) (hq : ¬t.val < 68) (hk : t.val < 136) :
    (outsAt0 m c t.val t.isLt).1 (ix2 a b) = REF (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val % 17 * 1024 + a.val, ha⟩ ⟨t.val / 17 * 512 + b.val, hb⟩) := by
  have h4 : (⟨t.val / 17 / 4, by omega⟩ : Fin 8) = 1 := Fin.ext (by show t.val / 17 / 4 = 1; omega)
  have ed : (⟨b.val % 128, by omega⟩ : Fin 128) = ⟨(t.val / 17 * 512 + b.val - 2048) % 128, by omega⟩ := Fin.ext (by show b.val % 128 = (t.val / 17 * 512 + b.val - 2048) % 128; omega)
  refine (out_h m c t (by omega) (ix2 a b)).trans ?_
  refine (blockH_of _ _ _ _ a b (fun x => dotW (m ((c : Thread nD τ).loc main_arg0)) (m ((c : Thread nD τ).loc main_arg1)) ⟨t.val % 17 * 1024 + a.val, ha⟩ ⟨2048 + ((t.val / 17 * 512 + b.val - 2048) / 128 * 128 + x.val), by omega⟩)
    (fun x => (m ((c : Thread nD τ).loc main_arg3)) (ix2 1 x)) _ _
    (fun x => head_dot m c t a b ha _ x (by omega) _)
    (fun x => (gainRow_at m c t _ x).trans ((congrArg (fun s => GTAB (m ((c : Thread nD τ).loc main_arg2)) (m ((c : Thread nD τ).loc main_arg3)) (ix3 1 s x)) h4).trans (GTAB_1 _ _ 1 x)))
    (fun x => (pay7_at _ a x).trans (cos_lat m c t ht a x (by omega))) (fun x => (pay8_at _ a x).trans (sin_lat m c t ht a x (by omega)))).trans ?_
  refine .trans ?_ (Cert.InprojRefIdeal.Value.REF_k_lat _ _ _ _ _ _ _ (by show t.val % 17 * 1024 + a.val < 16384; omega) (by show ¬t.val / 17 * 512 + b.val < 2048; omega) (by show t.val / 17 * 512 + b.val < 4096; omega)).symm
  rw [ed]
  have e1 : (t.val / 17 * 512 + b.val - 2048) % 128 / 64 = (t.val / 17 * 512 + b.val - 2048) / 64 % 2 := by omega
  have e2 : (t.val / 17 * 512 + b.val - 2048) % 128 % 32 = (t.val / 17 * 512 + b.val - 2048) % 32 := by omega
  refine turn_rot _ _ _ _ _ _ ?_ ?_
  · simp only [e1, e2]
  · simp only [e1, e2]

/-- A context point of key columns. -/
theorem point_k_ctx (ht : ¬t.val % 17 < 16) (hq : ¬t.val < 68) (hk : t.val < 136) :
    (outsAt0 m c t.val t.isLt).1 (ix2 a b) = REF (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val % 17 * 1024 + a.val, ha⟩ ⟨t.val / 17 * 512 + b.val, hb⟩) := by
  have h4 : (⟨t.val / 17 / 4, by omega⟩ : Fin 8) = 1 := Fin.ext (by show t.val / 17 / 4 = 1; omega)
  have ed : (⟨b.val % 128, by omega⟩ : Fin 128) = ⟨(t.val / 17 * 512 + b.val - 2048) % 128, by omega⟩ := Fin.ext (by show b.val % 128 = (t.val / 17 * 512 + b.val - 2048) % 128; omega)
  refine (out_h m c t (by omega) (ix2 a b)).trans ?_
  refine (blockH_of _ _ _ _ a b (fun x => dotW (m ((c : Thread nD τ).loc main_arg0)) (m ((c : Thread nD τ).loc main_arg1)) ⟨t.val % 17 * 1024 + a.val, ha⟩ ⟨2048 + ((t.val / 17 * 512 + b.val - 2048) / 128 * 128 + x.val), by omega⟩)
    (fun x => (m ((c : Thread nD τ).loc main_arg3)) (ix2 1 x)) _ _
    (fun x => head_dot m c t a b ha _ x (by omega) _)
    (fun x => (gainRow_at m c t _ x).trans ((congrArg (fun s => GTAB (m ((c : Thread nD τ).loc main_arg2)) (m ((c : Thread nD τ).loc main_arg3)) (ix3 1 s x)) h4).trans (GTAB_1 _ _ 1 x)))
    (fun x => (pay7_at _ a x).trans (cos_ctx m c t ht a x)) (fun x => (pay8_at _ a x).trans (sin_ctx m c t ht a x))).trans ?_
  refine .trans ?_ (Cert.InprojRefIdeal.Value.REF_k_ctx _ _ _ _ _ _ _ (by show ¬t.val % 17 * 1024 + a.val < 16384; omega) (by show ¬t.val / 17 * 512 + b.val < 2048; omega) (by show t.val / 17 * 512 + b.val < 4096; omega)).symm
  refine (turn_one _ _ _ _ rfl rfl).trans ?_
  rw [ed]

/-- A point of columns that stay. -/
theorem point_v (h1 : ¬t.val < 136) (h3 : ¬408 ≤ t.val) :
    (outsAt0 m c t.val t.isLt).1 (ix2 a b) = REF (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val % 17 * 1024 + a.val, ha⟩ ⟨t.val / 17 * 512 + b.val, hb⟩) := by
  rw [out_v m c t h1 h3]
  refine (plain_at _ _ a b).trans ((dot_at m c t a b ha hb).trans ?_)
  exact (Cert.InprojRefIdeal.Value.REF_v _ _ _ _ _ _ _ (by show ¬t.val / 17 * 512 + b.val < 4096; omega) (by show t.val / 17 * 512 + b.val < 12288; omega)).symm

/-- A point of gate columns. -/
theorem point_g (h1 : ¬t.val < 136) (h3 : 408 ≤ t.val) :
    (outsAt0 m c t.val t.isLt).1 (ix2 a b) = REF (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val % 17 * 1024 + a.val, ha⟩ ⟨t.val / 17 * 512 + b.val, hb⟩) := by
  have e : (t.val / 17 - 24) * 512 + b.val = t.val / 17 * 512 + b.val - 12288 := by omega
  rw [out_g m c t h1 h3]
  refine (gate_at _ _ _ a b).trans ?_
  refine .trans ?_ (Cert.InprojRefIdeal.Value.REF_g _ _ _ _ _ _ _ (by show ¬t.val / 17 * 512 + b.val < 12288; omega)).symm
  refine congrArg Ideal.logistic (congrArg₂ (fun u v : EReal => u + v) (dot_at m c t a b ha hb) ((bias_at m c t b (by omega)).trans ?_))
  simp only [e]

/-- Each point leaves the reference's block. -/
theorem point : (outsAt0 m c t.val t.isLt).1 (ix2 a b) = REF (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val % 17 * 1024 + a.val, ha⟩ ⟨t.val / 17 * 512 + b.val, hb⟩) := by
  by_cases ht : t.val % 17 < 16
  · by_cases hq : t.val < 68
    · exact point_q_lat m c t a b ha hb ht hq
    by_cases hk : t.val < 136
    · exact point_k_lat m c t a b ha hb ht hq hk
    by_cases h3 : 408 ≤ t.val
    · exact point_g m c t a b ha hb hk h3
    · exact point_v m c t a b ha hb hk h3
  · by_cases hq : t.val < 68
    · exact point_q_ctx m c t a b ha hb ht hq
    by_cases hk : t.val < 136
    · exact point_k_ctx m c t a b ha hb ht hq hk
    by_cases h3 : 408 ≤ t.val
    · exact point_g m c t a b ha hb hk h3
    · exact point_v m c t a b ha hb hk h3

end

/-- A block of the result window over any array, read at an index. -/
theorem emb_at (t : Fin cfg0.N) (R : S17408x16384.Idx → EReal) (a : Fin 1024) (b : Fin 512)
    (ha : t.val % 17 * 1024 + a.val < 17408) (hb : t.val / 17 * 512 + b.val < 16384) :
    R (ix2 ⟨t.val % 17 * 1024 + a.val, ha⟩ ⟨t.val / 17 * 512 + b.val, hb⟩) = R (((cfg0.win 6).blk t).view.emb (ix2 a b)) := by
  blk_point [idx t]

/-- The result array after the run is the reference's term of the arguments. -/
theorem final (c : Dev nD) :
    (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp; rw [after0_6]
  idx_vars y
  have hN : t.val < 544 := t.isLt
  have h0 := y0.isLt
  have h1 := y1.isLt
  refine (point m c t y0 y1 (by omega) (by omega)).trans ?_
  exact emb_at t _ y0 y1 _ _

/-- The kernel's run, its result named and its arguments as they were. -/
theorem run_result (ρ : Dev nD → PrngReg) : θ_run defs (onTc (τ := τ) (main (F := Ideal))) ⟨m, fun _ => 0, ρ⟩ fun r => ∀ c : Dev nD,
      r.2.mem ((c.tc : Thread nD τ).loc main_v49) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 6, h.2 c⟩) (θ_run_and (run_main m ρ) (unchanged m ρ))

/-- The value claim of the input projection: kernel and reference end with the same array. -/
theorem algebraic : Cert.algebraic_InprojIdeal_InprojRefIdeal (hInprojIdeal := Cert.InprojIdeal.Gen.facts)
    (hInprojRefIdeal := Cert.InprojRefIdeal.Gen.facts) := by
  intro m g m' g' _ hargs
  refine ⟨fun c => REF (m ((c : Thread nD τ).loc main_arg0)) (m ((c : Thread nD τ).loc main_arg1)) (m ((c : Thread nD τ).loc main_arg2)) (m ((c : Thread nD τ).loc main_arg3)) (m ((c : Thread nD τ).loc main_arg4)),
    (θ_run (Cert.InprojIdeal.defs (F := Ideal)) _ _).mono (fun r h c => ⟨(h c).1.trans (final m c), (h c).2⟩)
      (run_result m g),
    (θ_run (Cert.InprojRefIdeal.defs (F := Ideal)) _ _).mono (fun r h c => ⟨(h c).1.trans ?_, (h c).2⟩)
      (Cert.InprojRefIdeal.Value.run m' g')⟩
  obtain ⟨a0, a1, a2, a3, a4⟩ := hargs c
  refine .trans ?_ (congr (congr (congr (congr (congrArg Cert.InprojRefIdeal.Value.REF a0) a1) a2) a3) a4)
  rfl

end Cert.InprojIdeal.Value
-- ==== Proof.AdalnValue.lean ====
module

public import proofs.«01_k».proof.Defs
public import proofs.«01_k».proof.Proof.Gen.AdalnIdeal.Frame
public import proofs.«01_k».proof.Proof.Gen.AdalnIdeal.Value
public import proofs.«01_k».proof.Proof.Gen.AdalnRefIdeal.Run
public import Idealize.ShloMosaic.Lib.Pipeline.ValueKit
public import Idealize.ShloMosaic.Lib.Pipeline.ReadBack
public import Idealize.ShloMosaic.Lib.Pointwise

/-!
# The conditioning vectors: the kernel's result is the reference's term

The grid has one point per layer and block of 1536 columns. The host stacks the four batches' vectors, the context's
vector and three rows of zeros; each point takes the stack through `silu`, multiplies it by its block of the layer's
matrix and adds the bias. A row of zeros gives a sum of products with zero, so its result is the bias.
-/

@[expose] public section

set_option maxRecDepth 16384

noncomputable section

open Idealize.ShloMosaic Idealize.ShloMosaic.TcCoe Idealize.SL.Sem
open Idealize.ShloMosaic.Pipeline (Dat)

namespace Cert.AdalnRefIdeal.Value

open Cert.AdalnRefIdeal Cert.AdalnRefIdeal.Gen

/-- The batches' rows of the result. -/
def LAT (X0 : FVec Ideal S4x2048 .f32) (X2 : FVec Ideal S4x2048x12288 .f32) (X3 : FVec Ideal S4x12288 .f32) :
    FVec Ideal S4x4x12288 .f32 :=
  (addf (transpose S4x4x12288 [0, 2, 1] (Host.dotGeneral dot_S4x2048x12288_S4x2048_S4x12288x4_1_1_02_0_n_n none X2 (mulf X0 (Host.divf (broadcastInDim S4x2048 ![] bcast_S_S4x2048 (constant S_ .f32 0x3F800000#32)) (addf (broadcastInDim S4x2048 ![] bcast_S_S4x2048 (constant S_ .f32 0x3F800000#32)) (Host.exp (Host.negf X0)))))) transposes_S4x12288x4_S4x4x12288_0_2_1) (broadcastInDim S4x4x12288 ![0, 1, 2] bcast_S4x1x12288_S4x4x12288_0_1_2 (broadcastInDim S4x1x12288 ![0, 2] bcast_S4x12288_S4x1x12288_0_2 X3)))

/-- The context's row of the result. -/
def CTX (X1 : FVec Ideal S2048 .f32) (X2 : FVec Ideal S4x2048x12288 .f32) (X3 : FVec Ideal S4x12288 .f32) :
    FVec Ideal S4x1x12288 .f32 :=
  (broadcastInDim S4x1x12288 ![0, 2] bcast_S4x12288_S4x1x12288_0_2 (addf (Host.dotGeneral dot_S2048_S4x2048x12288_S4x12288_0_1_n_02_n_n none (mulf X1 (Host.divf (broadcastInDim S2048 ![] bcast_S_S2048 (constant S_ .f32 0x3F800000#32)) (addf (broadcastInDim S2048 ![] bcast_S_S2048 (constant S_ .f32 0x3F800000#32)) (Host.exp (Host.negf X1))))) X2) X3))

/-- The rows of the result that belong to no vector. -/
def REST (X3 : FVec Ideal S4x12288 .f32) : FVec Ideal S4x3x12288 .f32 :=
  (broadcastInDim S4x3x12288 ![0, 1, 2] bcast_S4x1x12288_S4x3x12288_0_1_2 (broadcastInDim S4x1x12288 ![0, 2] bcast_S4x12288_S4x1x12288_0_2 X3))

/-- The reference's composed term of its four arguments. -/
def REF (X0 : FVec Ideal S4x2048 .f32) (X1 : FVec Ideal S2048 .f32) (X2 : FVec Ideal S4x2048x12288 .f32) (X3 : FVec Ideal S4x12288 .f32) :
    FVec Ideal S4x8x12288 .f32 :=
  concatenate S4x8x12288 1 [⟨S4x4x12288, LAT X0 X2 X3⟩, ⟨S4x1x12288, CTX X1 X2 X3⟩, ⟨S4x3x12288, REST X3⟩] concatenates_S4x4x12288_S4x1x12288_S4x3x12288_S4x8x12288_d1

/-- One element of the product of a vector's `silu` with a layer's matrix, its bias added. -/
def row (u : Fin 2048 → EReal) (X2 : FVec Ideal S4x2048x12288 .f32) (X3 : FVec Ideal S4x12288 .f32) (l : Fin 4) (q : Fin 12288) : EReal :=
  (∑ k : Fin 2048, u k * Ideal.logistic (u k) * X2 (ix3 l k q)) + X3 (ix2 l q)

/-- A batch's row of the result. -/
theorem LAT_at (X0 : FVec Ideal S4x2048 .f32) (X2 : FVec Ideal S4x2048x12288 .f32) (X3 : FVec Ideal S4x12288 .f32)
    (l : Fin 4) (s : Fin 4) (q : Fin 12288) :
    LAT X0 X2 X3 (ix3 l s q) = row (fun k => X0 (ix2 s k)) X2 X3 l q := by
  pointwise [LAT, row]
  refine congrArg (fun u : EReal => u + X3 (ix2 l q)) (Finset.sum_congr rfl fun k _ => ?_)
  exact mul_comm _ _

/-- The context's row of the result. -/
theorem CTX_at (X1 : FVec Ideal S2048 .f32) (X2 : FVec Ideal S4x2048x12288 .f32) (X3 : FVec Ideal S4x12288 .f32)
    (l : Fin 4) (q : Fin 12288) :
    CTX X1 X2 X3 (ix3 l 0 q) = row (fun k => X1 (ix1 k)) X2 X3 l q := by
  pointwise [CTX, row]
  rfl

/-- A row that belongs to no vector. -/
theorem REST_at (X3 : FVec Ideal S4x12288 .f32) (l : Fin 4) (s : Fin 3) (q : Fin 12288) :
    REST X3 (ix3 l s q) = X3 (ix2 l q) := by
  pointwise [REST]

/-- The reference at a batch's row. -/
theorem REF_lt (X0 : FVec Ideal S4x2048 .f32) (X1 : FVec Ideal S2048 .f32) (X2 : FVec Ideal S4x2048x12288 .f32) (X3 : FVec Ideal S4x12288 .f32)
    (l : Fin 4) (s : Fin 8) (q : Fin 12288) (h : s.val < 4) :
    REF X0 X1 X2 X3 (ix3 l s q) = row (fun k => X0 (ix2 ⟨s.val, h⟩ k)) X2 X3 l q := by
  refine .trans ?_ (LAT_at X0 X2 X3 l ⟨s.val, h⟩ q)
  unfold REF
  generalize LAT X0 X2 X3 = z
  generalize CTX X1 X2 X3 = w
  generalize REST X3 = v
  pointwise
  simp only [dif_pos h]

/-- The reference at the context's row. -/
theorem REF_eq (X0 : FVec Ideal S4x2048 .f32) (X1 : FVec Ideal S2048 .f32) (X2 : FVec Ideal S4x2048x12288 .f32) (X3 : FVec Ideal S4x12288 .f32)
    (l : Fin 4) (s : Fin 8) (q : Fin 12288) (h : s.val = 4) :
    REF X0 X1 X2 X3 (ix3 l s q) = row (fun k => X1 (ix1 k)) X2 X3 l q := by
  refine .trans ?_ (CTX_at X1 X2 X3 l q)
  obtain rfl : s = 4 := Fin.ext h
  unfold REF
  generalize LAT X0 X2 X3 = z
  generalize CTX X1 X2 X3 = w
  generalize REST X3 = v
  pointwise

/-- The reference at a row that belongs to no vector. -/
theorem REF_gt (X0 : FVec Ideal S4x2048 .f32) (X1 : FVec Ideal S2048 .f32) (X2 : FVec Ideal S4x2048x12288 .f32) (X3 : FVec Ideal S4x12288 .f32)
    (l : Fin 4) (s : Fin 8) (q : Fin 12288) (h : ¬s.val < 5) :
    REF X0 X1 X2 X3 (ix3 l s q) = X3 (ix2 l q) := by
  refine .trans ?_ (REST_at X3 l ⟨s.val - 5, by omega⟩ q)
  have h' : ¬s.val < 4 := by omega
  have h'' : ¬s.val - 4 < 1 := by omega
  unfold REF
  generalize LAT X0 X2 X3 = z
  generalize CTX X1 X2 X3 = w
  generalize REST X3 = v
  pointwise
  simp only [dif_neg h', dif_neg h'']
  exact congrArg (fun u => v (ix3 l u q)) (Fin.ext (by show s.val - 4 - 1 = s.val - 5; omega))

end Cert.AdalnRefIdeal.Value

namespace Cert.AdalnIdeal.Value

open Cert.AdalnIdeal Cert.AdalnIdeal.Gen

variable (m : (ℓ : Loc nD τ sig) → Buf (Elt Ideal) ℓ)

/-- The stack of vectors the host prepares: the batches', the context's, and rows of zeros. -/
def STACK (X0 : FVec Ideal S4x2048 .f32) (X1 : FVec Ideal S2048 .f32) : FVec Ideal S8x2048 .f32 :=
  concatenate S8x2048 0 [⟨S4x2048, X0⟩, ⟨S1x2048, broadcastInDim S1x2048 ![1] bcast_S2048_S1x2048_1 X1⟩, ⟨S3x2048, broadcastInDim S3x2048 ![] bcast_S_S3x2048 (constant S_ .f32 0x00000000#32)⟩] concatenates_S4x2048_S1x2048_S3x2048_S8x2048_d0

/-- The stack is what the host prepares. -/
theorem entry_stack (c : Dev nD) : V m c main_v2
    = STACK (m ((c : Thread nD τ).loc main_arg0)) (m ((c : Thread nD τ).loc main_arg1)) := by
  show StableHlo.after hostOps0 (fun b => m (c, b)) (Proc.tc.devRef main_v2) = _
  simp only [hostOps0, cast_eq]
  after_results
  all_goals rfl

/-- A batch's row of the stack. -/
theorem STACK_lt (X0 : FVec Ideal S4x2048 .f32) (X1 : FVec Ideal S2048 .f32) (s : Fin 8) (k : Fin 2048) (h : s.val < 4) :
    STACK X0 X1 (ix2 s k) = X0 (ix2 ⟨s.val, h⟩ k) := by
  pointwise [STACK]
  simp only [dif_pos h]

/-- The context's row of the stack. -/
theorem STACK_eq (X0 : FVec Ideal S4x2048 .f32) (X1 : FVec Ideal S2048 .f32) (s : Fin 8) (k : Fin 2048) (h : s.val = 4) :
    STACK X0 X1 (ix2 s k) = X1 (ix1 k) := by
  obtain rfl : s = 4 := Fin.ext h
  pointwise [STACK]

/-- A row of zeros of the stack. -/
theorem STACK_gt (X0 : FVec Ideal S4x2048 .f32) (X1 : FVec Ideal S2048 .f32) (s : Fin 8) (k : Fin 2048) (h : ¬s.val < 5) :
    STACK X0 X1 (ix2 s k) = (0 : EReal) := by
  have h' : ¬s.val < 4 := by omega
  have h'' : ¬s.val - 4 < 1 := by omega
  pointwise [STACK]
  simp only [dif_neg h', dif_neg h, dif_neg h'']

/-- The index maps at a point, by arithmetic on its number. -/
theorem idx : ∀ t : Fin cfg0.N,
    win0_0.index t = ![0, 0] ∧ win0_1.index t = ![t.val / 8, 0, t.val % 8] ∧ win0_2.index t = ![t.val / 8, 0, t.val % 8]
      ∧ win0_3.index t = ![t.val / 8, 0, t.val % 8] :=
  (by decide +kernel : ∀ t : Fin grid0.N, _)

/-- The stack's block over any stack, read at an index. -/
theorem block0 (t : Fin cfg0.N) (z : S8x2048.Idx → EReal) (s : Fin 8) (k : Fin 2048) :
    View.read (Elt Ideal) ((cfg0.win 0).blk t).view z (ix2 s k) = z (ix2 s k) := by
  blk_point [idx t]

/-- The stack of a point, read at an index. -/
theorem cs_at (c : Dev nD) (t : Fin cfg0.N) (s : Fin 8) (k : Fin 2048) :
    iblk m c 0 t (ix2 s k) = STACK (m ((c : Thread nD τ).loc main_arg0)) (m ((c : Thread nD τ).loc main_arg1)) (ix2 s k) :=
  (block0 t (V m c main_v2) s k).trans (congrFun (entry_stack m c) _)

/-- The block of the matrix, read at an index. -/
theorem w_at (c : Dev nD) (t : Fin cfg0.N) (k : Fin 2048) (b : Fin 1536) (hl : t.val / 8 < 4) (hb : t.val % 8 * 1536 + b.val < 12288) :
    iblk m c 1 t (ix3 0 k b) = m ((c : Thread nD τ).loc main_arg2) (ix3 ⟨t.val / 8, hl⟩ k ⟨t.val % 8 * 1536 + b.val, hb⟩) := by
  blk_point [iblk, V, idx t]

/-- The block of the bias, read at an index. -/
theorem bias_at (c : Dev nD) (t : Fin cfg0.N) (b : Fin 1536) (hl : t.val / 8 < 4) (hb : t.val % 8 * 1536 + b.val < 12288) :
    iblk m c 2 t (ix3 0 0 b) = m ((c : Thread nD τ).loc main_arg3) (ix2 ⟨t.val / 8, hl⟩ ⟨t.val % 8 * 1536 + b.val, hb⟩) := by
  blk_point [iblk, V, idx t]

/-- The stored block over any stack, matrix and bias, at an index. -/
theorem pay_at (C : FVec Ideal S8x2048 .f32) (W : FVec Ideal S1x2048x1536 .f32) (v : FVec Ideal S1x1x1536 .f32) (s : Fin 8) (b : Fin 1536) :
    k0_pay1 (F := Ideal) C W v (ix3 0 s b)
      = (∑ k : Fin 2048, C (ix2 s k) * Ideal.logistic (C (ix2 s k)) * W (ix3 0 k b)) + v (ix3 0 0 b) := by
  pointwise [k0_pay1]

/-- The block of a point is computed from its stack, matrix and bias. -/
theorem out_at (c : Dev nD) (t : Fin cfg0.N) :
    out0_3 (iblk m c 0 t) (iblk m c 1 t) (iblk m c 2 t) = k0_pay1 (F := Ideal) (iblk m c 0 t) (iblk m c 1 t) (iblk m c 2 t) := by
  funext y; frame_out

/-- Each point leaves the reference's block. -/
theorem point (c : Dev nD) (t : Fin cfg0.N) (s : Fin 8) (b : Fin 1536) (hl : t.val / 8 < 4) (hb : t.val % 8 * 1536 + b.val < 12288) :
    out0_3 (iblk m c 0 t) (iblk m c 1 t) (iblk m c 2 t) (ix3 0 s b)
      = Cert.AdalnRefIdeal.Value.REF (m ((c : Thread nD τ).loc main_arg0)) (m ((c : Thread nD τ).loc main_arg1)) (m ((c : Thread nD τ).loc main_arg2))
          (m ((c : Thread nD τ).loc main_arg3)) (ix3 ⟨t.val / 8, hl⟩ s ⟨t.val % 8 * 1536 + b.val, hb⟩) := by
  rw [out_at m c t]
  refine (pay_at _ _ _ s b).trans ?_
  have key : ∀ u : Fin 2048 → EReal, (∀ k, iblk m c 0 t (ix2 s k) = u k) →
      (∑ k : Fin 2048, (show EReal from iblk m c 0 t (ix2 s k)) * Ideal.logistic (show EReal from iblk m c 0 t (ix2 s k)) * (show EReal from iblk m c 1 t (ix3 0 k b)))
          + (show EReal from iblk m c 2 t (ix3 0 0 b))
        = Cert.AdalnRefIdeal.Value.row u (m ((c : Thread nD τ).loc main_arg2)) (m ((c : Thread nD τ).loc main_arg3)) ⟨t.val / 8, hl⟩ ⟨t.val % 8 * 1536 + b.val, hb⟩ := by
    intro u hu
    refine congrArg₂ (fun x y : EReal => x + y) (Finset.sum_congr rfl fun k _ => ?_) (bias_at m c t b hl hb)
    exact congrArg₂ (fun x y : EReal => x * Ideal.logistic x * y) (hu k) (w_at m c t k b hl hb)
  by_cases h4 : s.val < 4
  · refine .trans ?_ (Cert.AdalnRefIdeal.Value.REF_lt _ _ _ _ _ s _ h4).symm
    exact key _ fun k => (cs_at m c t s k).trans (STACK_lt _ _ s k h4)
  · by_cases h5 : s.val < 5
    · refine .trans ?_ (Cert.AdalnRefIdeal.Value.REF_eq _ _ _ _ _ s _ (by omega)).symm
      exact key _ fun k => (cs_at m c t s k).trans (STACK_eq _ _ s k (by omega))
    · refine .trans ?_ (Cert.AdalnRefIdeal.Value.REF_gt _ _ _ _ _ s _ h5).symm
      refine (key (fun _ => 0) fun k => (cs_at m c t s k).trans (STACK_gt _ _ s k h5)).trans ?_
      unfold Cert.AdalnRefIdeal.Value.row
      simp only [zero_mul, Finset.sum_const_zero, zero_add]

/-- A block of the result window over any array, read at an index. -/
theorem emb_at (t : Fin cfg0.N) (R : S4x8x12288.Idx → EReal) (s : Fin 8) (b : Fin 1536) (hl : t.val / 8 < 4) (hb : t.val % 8 * 1536 + b.val < 12288) :
    R (ix3 ⟨t.val / 8, hl⟩ s ⟨t.val % 8 * 1536 + b.val, hb⟩) = R (((cfg0.win 3).blk t).view.emb (ix3 0 s b)) := by
  blk_point [idx t]

/-- The result array after the run is the reference's term of the arguments. -/
theorem final (c : Dev nD) :
    (dats m 0 c).arrAt 3 (cfgs 0).N
      = Cert.AdalnRefIdeal.Value.REF (m ((c : Thread nD τ).loc main_arg0)) (m ((c : Thread nD τ).loc main_arg1)) (m ((c : Thread nD τ).loc main_arg2))
          (m ((c : Thread nD τ).loc main_arg3)) := by
  refine (dats m 0 c).arrAt_eq_of_covers 3 _ (by decide +kernel) fun t _ y => ?_
  blk_simp; rw [after0_3]
  idx_vars y
  obtain rfl : y0 = 0 := Subsingleton.elim (α := Fin 1) _ _
  have hN : t.val < 32 := t.isLt
  have h2 := y2.isLt
  refine (point m c t y1 y2 (by omega) (by omega)).trans ?_
  exact emb_at t _ y1 y2 _ _

/-- The value claim of the conditioning vectors: kernel and reference end with the same array. -/
theorem algebraic : Cert.algebraic_AdalnIdeal_AdalnRefIdeal (hAdalnIdeal := Cert.AdalnIdeal.Gen.facts)
    (hAdalnRefIdeal := Cert.AdalnRefIdeal.Gen.facts) := by
  intro m g m' g' _ hargs
  refine ⟨fun c => Cert.AdalnRefIdeal.Value.REF (m ((c : Thread nD τ).loc main_arg0)) (m ((c : Thread nD τ).loc main_arg1)) (m ((c : Thread nD τ).loc main_arg2))
      (m ((c : Thread nD τ).loc main_arg3)),
    (θ_run (Cert.AdalnIdeal.defs (F := Ideal)) _ _).mono (fun r h c => ⟨(h c).1.trans (final m c), (h c).2⟩)
      (run_blocks m g),
    (θ_run (Cert.AdalnRefIdeal.defs (F := Ideal)) _ _).mono (fun r h c => ⟨(h c).1.trans ?_, (h c).2⟩)
      (Cert.AdalnRefIdeal.Value.run m' g')⟩
  obtain ⟨a0, a1, a2, a3⟩ := hargs c
  rw [a0, a1, a2, a3]
  rfl

end Cert.AdalnIdeal.Value
-- ==== Proof.RowNorm.lean ====
module
public import Idealize.ShloMosaic.Lib.Pointwise

/-!
# The modulated norm of one row

Both norms of a layer divide a row by the root of its mean square, multiply by a gain and by one plus a scale, and
add a shift.
-/

@[expose] public section

noncomputable section

open Idealize.ShloMosaic

namespace Cert.RowNorm

/-- Column `q` of the modulated norm of the row `x`, under the gain `g`, the scale `sc` and the shift `sh` of that column. -/
def modded (x : Fin 2048 → EReal) (g sc sh : EReal) (q : Fin 2048) : EReal :=
  x q * Ideal.rsqrt (Ideal.div (∑ k, x k * x k) (Ideal.ofBits .f32 0x45000000#32) + Ideal.ofBits .f32 0x358637BD#32) * g
    * (Ideal.ofBits .f32 0x3F800000#32 + sc) + sh

/-- Equal rows, gains, scales and shifts have equal modulated norms. -/
theorem modded_congr {x x' : Fin 2048 → EReal} {g g' sc sc' sh sh' : EReal} (hx : x = x') (hg : g = g') (hc : sc = sc')
    (hs : sh = sh') (q : Fin 2048) : modded x g sc sh q = modded x' g' sc' sh' q := by
  rw [hx, hg, hc, hs]

end Cert.RowNorm
-- ==== Proof.NormValue.lean ====
module

public import proofs.«01_k».proof.Defs
public import proofs.«01_k».proof.Proof.Gen.NormIdeal.Frame
public import proofs.«01_k».proof.Proof.Gen.NormIdeal.Value
public import proofs.«01_k».proof.Proof.Gen.NormRefIdeal.Run
public import proofs.«01_k».proof.Proof.RowNorm
public import Idealize.ShloMosaic.Lib.Pipeline.ValueKit
public import Idealize.ShloMosaic.Lib.Pipeline.ReadBack
public import Idealize.ShloMosaic.Lib.Pointwise

/-!
# The norm before the mixer: the kernel's result is the reference's term

The grid has 68 row blocks of 256. Each point takes the norm of its rows, multiplies it by the layer's gain, by one
plus the scale of the rows' batch, and adds the batch's shift; the context's rows use the fifth scale and shift.
-/

@[expose] public section

set_option maxRecDepth 16384

noncomputable section

open Idealize.ShloMosaic Idealize.ShloMosaic.TcCoe Idealize.SL.Sem
open Idealize.ShloMosaic.Pipeline (Dat)

namespace Cert.NormRefIdeal.Value

open Cert.NormRefIdeal Cert.NormRefIdeal.Gen
open Cert.RowNorm (modded)

/-- The latent rows of the result. -/
def LAT (X0 : FVec Ideal S17408x2048 .f32) (X1 : FVec Ideal S4x2048 .f32) (X2 : FVec Ideal S4x8x12288 .f32) :
    FVec Ideal S16384x2048 .f32 :=
  shapeCast _ (addf (mulf (mulf (mulf (shapeCast _ (extractStridedSlice S16384x2048 ![0, 0] X0 slices_S17408x2048_S16384x2048_0_0) shapeCasts_S16384x2048_S4x4096x2048) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (shapeCast _ (extractStridedSlice S16384x2048 ![0, 0] X0 slices_S17408x2048_S16384x2048_0_0) shapeCasts_S16384x2048_S4x4096x2048) (shapeCast _ (extractStridedSlice S16384x2048 ![0, 0] X0 slices_S17408x2048_S16384x2048_0_0) shapeCasts_S16384x2048_S4x4096x2048)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ (extractStridedSlice S1x2048 ![1, 0] X1 slices_S4x2048_S1x2048_1_0) shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (shapeCast _ (extractStridedSlice S1x4x2048 ![1, 0, 2048] X2 slices_S4x8x12288_S1x4x2048_1_0_2048) shapeCasts_S1x4x2048_S4x2048))))) (broadcastInDim S4x4096x2048 ![0, 1, 2] bcast_S4x1x2048_S4x4096x2048_0_1_2 (broadcastInDim S4x1x2048 ![0, 2] bcast_S4x2048_S4x1x2048_0_2 (shapeCast _ (extractStridedSlice S1x4x2048 ![1, 0, 0] X2 slices_S4x8x12288_S1x4x2048_1_0_0) shapeCasts_S1x4x2048_S4x2048)))) shapeCasts_S4x4096x2048_S16384x2048

/-- The context rows of the result. -/
def CTX (X0 : FVec Ideal S17408x2048 .f32) (X1 : FVec Ideal S4x2048 .f32) (X2 : FVec Ideal S4x8x12288 .f32) :
    FVec Ideal S1024x2048 .f32 :=
  addf (mulf (mulf (mulf (extractStridedSlice S1024x2048 ![16384, 0] X0 slices_S17408x2048_S1024x2048_16384_0) (broadcastInDim S1024x2048 ![0, 1] bcast_S1024x1_S1024x2048_0_1 (Host.rsqrt (addf (Host.divf (broadcastInDim S1024x1 ![0] bcast_S1024_S1024x1_0 (Host.reduceAdd (mulf (extractStridedSlice S1024x2048 ![16384, 0] X0 slices_S17408x2048_S1024x2048_16384_0) (extractStridedSlice S1024x2048 ![16384, 0] X0 slices_S17408x2048_S1024x2048_16384_0)) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x358637BD#32)))))) (broadcastInDim S1024x2048 ![0, 1] bcast_S1x2048_S1024x2048_0_1 (broadcastInDim S1x2048 ![1] bcast_S2048_S1x2048_1 (shapeCast _ (extractStridedSlice S1x2048 ![1, 0] X1 slices_S4x2048_S1x2048_1_0) shapeCasts_S1x2048_S2048)))) (broadcastInDim S1024x2048 ![0, 1] bcast_S1x2048_S1024x2048_0_1 (broadcastInDim S1x2048 ![1] bcast_S2048_S1x2048_1 (addf (broadcastInDim S2048 ![] bcast_S_S2048 (constant S_ .f32 0x3F800000#32)) (shapeCast _ (extractStridedSlice S1x1x2048 ![1, 4, 2048] X2 slices_S4x8x12288_S1x1x2048_1_4_2048) shapeCasts_S1x1x2048_S2048))))) (broadcastInDim S1024x2048 ![0, 1] bcast_S1x2048_S1024x2048_0_1 (broadcastInDim S1x2048 ![1] bcast_S2048_S1x2048_1 (shapeCast _ (extractStridedSlice S1x1x2048 ![1, 4, 0] X2 slices_S4x8x12288_S1x1x2048_1_4_0) shapeCasts_S1x1x2048_S2048)))

/-- The reference's composed term of its three arguments. -/
def REF (X0 : FVec Ideal S17408x2048 .f32) (X1 : FVec Ideal S4x2048 .f32) (X2 : FVec Ideal S4x8x12288 .f32) :
    FVec Ideal S17408x2048 .bf16 :=
  truncf .bf16 (concatenate S17408x2048 0 [⟨S16384x2048, LAT X0 X1 X2⟩, ⟨S1024x2048, CTX X0 X1 X2⟩] concatenates_S16384x2048_S1024x2048_S17408x2048_d0) bitsLt_bf16_f32

/-- A latent row of the result. -/
theorem LAT_at (X0 : FVec Ideal S17408x2048 .f32) (X1 : FVec Ideal S4x2048 .f32) (X2 : FVec Ideal S4x8x12288 .f32)
    (r : Fin 16384) (q : Fin 2048) :
    LAT X0 X1 X2 (ix2 r q) = modded (fun x => X0 (ix2 ⟨r.val, by omega⟩ x)) (X1 (ix2 1 q))
      (X2 (ix3 1 ⟨r.val / 4096, by omega⟩ ⟨2048 + q.val, by omega⟩)) (X2 (ix3 1 ⟨r.val / 4096, by omega⟩ ⟨q.val, by omega⟩)) q := by
  pointwise [LAT, modded]

/-- A context row of the result. -/
theorem CTX_at (X0 : FVec Ideal S17408x2048 .f32) (X1 : FVec Ideal S4x2048 .f32) (X2 : FVec Ideal S4x8x12288 .f32)
    (r : Fin 1024) (q : Fin 2048) :
    CTX X0 X1 X2 (ix2 r q) = modded (fun x => X0 (ix2 ⟨16384 + r.val, by omega⟩ x)) (X1 (ix2 1 q))
      (X2 (ix3 1 4 ⟨2048 + q.val, by omega⟩)) (X2 (ix3 1 4 ⟨q.val, by omega⟩)) q := by
  pointwise [CTX, modded]

/-- The reference at an index: scale and shift are those of the row's batch, the context's being the fifth. -/
theorem REF_at (X0 : FVec Ideal S17408x2048 .f32) (X1 : FVec Ideal S4x2048 .f32) (X2 : FVec Ideal S4x8x12288 .f32)
    (r : Fin 17408) (q : Fin 2048) :
    REF X0 X1 X2 (ix2 r q) = modded (fun x => X0 (ix2 r x)) (X1 (ix2 1 q))
      (X2 (ix3 1 ⟨r.val / 4096, by omega⟩ ⟨2048 + q.val, by omega⟩)) (X2 (ix3 1 ⟨r.val / 4096, by omega⟩ ⟨q.val, by omega⟩)) q := by
  unfold REF
  by_cases hr : r.val < 16384
  · refine .trans ?_ (LAT_at X0 X1 X2 ⟨r.val, hr⟩ q)
    generalize LAT X0 X1 X2 = z
    generalize CTX X0 X1 X2 = w
    pointwise
    simp only [dif_pos hr]
  · have e := CTX_at X0 X1 X2 ⟨r.val - 16384, by omega⟩ q
    have e4 : (⟨r.val / 4096, by omega⟩ : Fin 8) = 4 := Fin.ext (by show r.val / 4096 = 4; omega)
    have er : (⟨16384 + (r.val - 16384), by omega⟩ : Fin 17408) = r := Fin.ext (by show 16384 + (r.val - 16384) = r.val; omega)
    rw [e4]
    simp only [er] at e
    refine .trans ?_ e
    generalize LAT X0 X1 X2 = z
    generalize CTX X0 X1 X2 = w
    pointwise
    simp only [dif_neg hr]

end Cert.NormRefIdeal.Value

namespace Cert.NormIdeal.Value

open Cert.NormIdeal Cert.NormIdeal.Gen
open Cert.RowNorm (modded modded_congr)

variable (m : (ℓ : Loc nD τ sig) → Buf (Elt Ideal) ℓ)

/-- The index maps at a point, by arithmetic on its number. -/
theorem idx : ∀ t : Fin cfg0.N,
    win0_0.index t = ![t.val, 0] ∧ win0_1.index t = ![1, 0, 0] ∧ win0_2.index t = ![1, 0, 0]
      ∧ win0_3.index t = ![1, 0, 1] ∧ win0_4.index t = ![t.val, 0] :=
  (by decide +kernel : ∀ t : Fin grid0.N, _)

/-- The row of scales and shifts a point reads: its row block's batch. -/
theorem off : ∀ t : Fin cfg0.N, k0_off1 (grid0.coords t) = ![0, t.val / 16, 0] :=
  (by decide +kernel : ∀ t : Fin grid0.N, k0_off1 (grid0.coords t) = ![0, t.val / 16, 0])

/-- The rows of a point, read at an index. -/
theorem x_at (c : Dev nD) (t : Fin cfg0.N) (a : Fin 256) (k : Fin 2048) (h : t.val * 256 + a.val < 17408) :
    iblk m c 0 t (ix2 a k) = m ((c : Thread nD τ).loc main_arg0) (ix2 ⟨t.val * 256 + a.val, h⟩ k) := by
  blk_point [iblk, V, idx t]

/-- The layer's gains, read at an index. -/
theorem gain_at (c : Dev nD) (t : Fin cfg0.N) (b : Fin 2048) :
    iblk m c 1 t (ix3 0 0 b) = m ((c : Thread nD τ).loc main_arg1) (ix2 1 b) := by
  blk_point [iblk, V, idx t]

/-- The block of shifts, read at an index. -/
theorem sh_at (c : Dev nD) (t : Fin cfg0.N) (s : Fin 8) (b : Fin 2048) (h : b.val < 12288) :
    iblk m c 2 t (ix3 0 s b) = m ((c : Thread nD τ).loc main_arg2) (ix3 1 s ⟨b.val, h⟩) := by
  blk_point [iblk, V, idx t]

/-- The block of scales, read at an index. -/
theorem sc_at (c : Dev nD) (t : Fin cfg0.N) (s : Fin 8) (b : Fin 2048) (h : 2048 + b.val < 12288) :
    iblk m c 3 t (ix3 0 s b) = m ((c : Thread nD τ).loc main_arg2) (ix3 1 s ⟨2048 + b.val, h⟩) := by
  blk_point [iblk, V, idx t]

/-- The stored block over any rows, gains, scales and shifts, at an index. -/
theorem pay_at (X : FVec Ideal S256x2048 .f32) (g : FVec Ideal S1x1x2048 .f32) (f f' : Vec Ideal S1x8x2048 .f32)
    (off : Fin 3 → ℕ) (s : Fin 8) (h : off = ![0, s.val, 0]) (inb) (inb') (a : Fin 256) (b : Fin 2048) :
    k0_pay1 (F := Ideal) (k0_pay2 (F := Ideal) X g)
        (k0_pay3 (F := Ideal) (View.ld (Val := Elt Ideal) (e' := .f32) f (Rect.unit (s := S1x8x2048) off ![1, 1, 2048] inb)))
        (View.ld (Val := Elt Ideal) (e' := .f32) f' (Rect.unit (s := S1x8x2048) off ![1, 1, 2048] inb')) (ix2 a b)
      = modded (fun x => X (ix2 a x)) (g (ix3 0 0 b)) (f (ix3 0 s b)) (f' (ix3 0 s b)) b := by
  subst h
  pointwise [k0_pay1, k0_pay2, k0_pay3, modded]

/-- The block of a point is computed from its rows, the gains, the scales and the shifts. -/
theorem out_at (c : Dev nD) (t : Fin cfg0.N) :
    outsAt0 m c t = k0_pay1 (F := Ideal) (k0_pay2 (F := Ideal) (iblk m c 0 t) (iblk m c 1 t))
        (k0_pay3 (F := Ideal) (View.ld (Val := Elt Ideal) (e' := .f32) (iblk m c 3 t)
          (Rect.unit (s := S1x8x2048) (k0_off1 (grid0.coords t)) ![1, 1, 2048] (k0_off1_inb (grid0.coords t)))))
        (View.ld (Val := Elt Ideal) (e' := .f32) (iblk m c 2 t)
          (Rect.unit (s := S1x8x2048) (k0_off1 (grid0.coords t)) ![1, 1, 2048] (k0_off1_inb (grid0.coords t)))) := by
  unfold outsAt0
  funext y; frame_out; rfl

/-- Each point leaves the reference's block. -/
theorem point (c : Dev nD) (t : Fin cfg0.N) (a : Fin 256) (b : Fin 2048) (ha : t.val * 256 + a.val < 17408) :
    outsAt0 m c t (ix2 a b)
      = Cert.NormRefIdeal.Value.REF (m ((c : Thread nD τ).loc main_arg0)) (m ((c : Thread nD τ).loc main_arg1)) (m ((c : Thread nD τ).loc main_arg2)) (ix2 ⟨t.val * 256 + a.val, ha⟩ b) := by
  have hN : t.val < 68 := t.isLt
  have es : (⟨t.val / 16, by omega⟩ : Fin 8) = ⟨(t.val * 256 + a.val) / 4096, by omega⟩ :=
    Fin.ext (by show t.val / 16 = (t.val * 256 + a.val) / 4096; have := a.isLt; omega)
  have e3 := sc_at m c t ⟨t.val / 16, by omega⟩ b (by omega)
  have e2 := sh_at m c t ⟨t.val / 16, by omega⟩ b (by omega)
  rw [out_at m c t]
  refine (pay_at _ _ _ _ _ ⟨t.val / 16, by omega⟩ (off t) _ _ a b).trans ?_
  refine .trans ?_ (Cert.NormRefIdeal.Value.REF_at _ _ _ _ _).symm
  rw [es] at e2 e3 ⊢
  exact modded_congr (funext fun x => x_at m c t a x ha) (gain_at m c t b) e3 e2 b

/-- A block of the result window over any array, read at an index. -/
theorem emb_at (t : Fin cfg0.N) (R : S17408x2048.Idx → EReal) (a : Fin 256) (b : Fin 2048) (ha : t.val * 256 + a.val < 17408) :
    R (ix2 ⟨t.val * 256 + a.val, ha⟩ b) = R (((cfg0.win 4).blk t).view.emb (ix2 a b)) := by
  blk_point [idx t]

/-- The result array after the run is the reference's term of the arguments. -/
theorem final (c : Dev nD) :
    (dats m 0 c).arrAt 4 (cfgs 0).N
      = Cert.NormRefIdeal.Value.REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]
  idx_vars y
  have hN : t.val < 68 := t.isLt
  have h0 := y0.isLt
  refine (point m c t y0 y1 (by omega)).trans ?_
  exact emb_at t _ y0 y1 _

/-- The value claim of the norm: kernel and reference end with the same array. -/
theorem algebraic : Cert.algebraic_NormIdeal_NormRefIdeal (hNormIdeal := Cert.NormIdeal.Gen.facts)
    (hNormRefIdeal := Cert.NormRefIdeal.Gen.facts) := by
  intro m g m' g' _ hargs
  refine ⟨fun c => Cert.NormRefIdeal.Value.REF (m ((c : Thread nD τ).loc main_arg0)) (m ((c : Thread nD τ).loc main_arg1)) (m ((c : Thread nD τ).loc main_arg2)),
    (θ_run (Cert.NormIdeal.defs (F := Ideal)) _ _).mono (fun r h c => ⟨(h c).1.trans (final m c), (h c).2⟩)
      (run_blocks m g),
    (θ_run (Cert.NormRefIdeal.defs (F := Ideal)) _ _).mono (fun r h c => ⟨(h c).1.trans ?_, (h c).2⟩)
      (Cert.NormRefIdeal.Value.run m' g')⟩
  obtain ⟨a0, a1, a2⟩ := hargs c
  rw [a0, a1, a2]
  rfl

end Cert.NormIdeal.Value
-- ==== Proof.RnormValue.lean ====
module

public import proofs.«01_k».proof.Defs
public import proofs.«01_k».proof.Proof.Gen.RnormIdeal.Frame
public import proofs.«01_k».proof.Proof.Gen.RnormIdeal.Value
public import proofs.«01_k».proof.Proof.Gen.RnormRefIdeal.Run
public import proofs.«01_k».proof.Proof.RowNorm
public import Idealize.ShloMosaic.Lib.Pipeline.ValueKit
public import Idealize.ShloMosaic.Lib.Pipeline.ReadBack
public import Idealize.ShloMosaic.Lib.Routing.OpsSet
public import Idealize.ShloMosaic.Lib.Pointwise

/-!
# The norm before the experts and the router's product: the kernel's results are the reference's terms

The grid has 68 row blocks of 256. Each point takes the norm of its rows, multiplies it by the layer's gain, by one
plus the scale of the rows' batch, and adds the batch's shift; the context's rows use the fifth scale and shift. The
point also multiplies the same rows by the router's matrix, which the host has widened with zeros from 8 to 128 columns:
the logits past the experts are sums of products with zero.
-/

@[expose] public section

set_option maxRecDepth 16384

noncomputable section

open Idealize.ShloMosaic Idealize.ShloMosaic.TcCoe Idealize.SL.Sem
open Idealize.ShloMosaic.Pipeline (Dat)

namespace Cert.RnormRefIdeal.Value

open Cert.RnormRefIdeal Cert.RnormRefIdeal.Gen
open Cert.RowNorm (modded)

/-- The latent rows of the result. -/
def LAT (X0 : FVec Ideal S17408x2048 .f32) (X1 : FVec Ideal S4x2048 .f32) (X2 : FVec Ideal S4x8x12288 .f32) :
    FVec Ideal S16384x2048 .f32 :=
  shapeCast _ (addf (mulf (mulf (mulf (shapeCast _ (extractStridedSlice S16384x2048 ![0, 0] X0 slices_S17408x2048_S16384x2048_0_0) shapeCasts_S16384x2048_S4x4096x2048) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (shapeCast _ (extractStridedSlice S16384x2048 ![0, 0] X0 slices_S17408x2048_S16384x2048_0_0) shapeCasts_S16384x2048_S4x4096x2048) (shapeCast _ (extractStridedSlice S16384x2048 ![0, 0] X0 slices_S17408x2048_S16384x2048_0_0) shapeCasts_S16384x2048_S4x4096x2048)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ (extractStridedSlice S1x2048 ![1, 0] X1 slices_S4x2048_S1x2048_1_0) shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (shapeCast _ (extractStridedSlice S1x4x2048 ![1, 0, 8192] X2 slices_S4x8x12288_S1x4x2048_1_0_8192) shapeCasts_S1x4x2048_S4x2048))))) (broadcastInDim S4x4096x2048 ![0, 1, 2] bcast_S4x1x2048_S4x4096x2048_0_1_2 (broadcastInDim S4x1x2048 ![0, 2] bcast_S4x2048_S4x1x2048_0_2 (shapeCast _ (extractStridedSlice S1x4x2048 ![1, 0, 6144] X2 slices_S4x8x12288_S1x4x2048_1_0_6144) shapeCasts_S1x4x2048_S4x2048)))) shapeCasts_S4x4096x2048_S16384x2048

/-- The context rows of the result. -/
def CTX (X0 : FVec Ideal S17408x2048 .f32) (X1 : FVec Ideal S4x2048 .f32) (X2 : FVec Ideal S4x8x12288 .f32) :
    FVec Ideal S1024x2048 .f32 :=
  addf (mulf (mulf (mulf (extractStridedSlice S1024x2048 ![16384, 0] X0 slices_S17408x2048_S1024x2048_16384_0) (broadcastInDim S1024x2048 ![0, 1] bcast_S1024x1_S1024x2048_0_1 (Host.rsqrt (addf (Host.divf (broadcastInDim S1024x1 ![0] bcast_S1024_S1024x1_0 (Host.reduceAdd (mulf (extractStridedSlice S1024x2048 ![16384, 0] X0 slices_S17408x2048_S1024x2048_16384_0) (extractStridedSlice S1024x2048 ![16384, 0] X0 slices_S17408x2048_S1024x2048_16384_0)) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x358637BD#32)))))) (broadcastInDim S1024x2048 ![0, 1] bcast_S1x2048_S1024x2048_0_1 (broadcastInDim S1x2048 ![1] bcast_S2048_S1x2048_1 (shapeCast _ (extractStridedSlice S1x2048 ![1, 0] X1 slices_S4x2048_S1x2048_1_0) shapeCasts_S1x2048_S2048)))) (broadcastInDim S1024x2048 ![0, 1] bcast_S1x2048_S1024x2048_0_1 (broadcastInDim S1x2048 ![1] bcast_S2048_S1x2048_1 (addf (broadcastInDim S2048 ![] bcast_S_S2048 (constant S_ .f32 0x3F800000#32)) (shapeCast _ (extractStridedSlice S1x1x2048 ![1, 4, 8192] X2 slices_S4x8x12288_S1x1x2048_1_4_8192) shapeCasts_S1x1x2048_S2048))))) (broadcastInDim S1024x2048 ![0, 1] bcast_S1x2048_S1024x2048_0_1 (broadcastInDim S1x2048 ![1] bcast_S2048_S1x2048_1 (shapeCast _ (extractStridedSlice S1x1x2048 ![1, 4, 6144] X2 slices_S4x8x12288_S1x1x2048_1_4_6144) shapeCasts_S1x1x2048_S2048)))

/-- The modulated rows. -/
def ROWS (X0 : FVec Ideal S17408x2048 .f32) (X1 : FVec Ideal S4x2048 .f32) (X2 : FVec Ideal S4x8x12288 .f32) :
    FVec Ideal S17408x2048 .f32 :=
  concatenate S17408x2048 0 [⟨S16384x2048, LAT X0 X1 X2⟩, ⟨S1024x2048, CTX X0 X1 X2⟩] concatenates_S16384x2048_S1024x2048_S17408x2048_d0

/-- The logits of rows under the router's matrix, the lanes past the experts zero. -/
def LOG (R : FVec Ideal S17408x2048 .f32) (X3 : FVec Ideal S2x2048x8 .f32) : FVec Ideal S17408x128 .f32 :=
  concatenate S17408x128 1 [⟨S17408x8, (Host.dotGeneral dot_S17408x2048_S2048x8_S17408x8_1_0_0_1_n_n none R (shapeCast _ (extractStridedSlice S1x2048x8 ![0, 0, 0] X3 slices_S2x2048x8_S1x2048x8_0_0_0) shapeCasts_S1x2048x8_S2048x8))⟩, ⟨S17408x120, (broadcastInDim S17408x120 ![] bcast_S_S17408x120 (constant S_ .f32 0x00000000#32))⟩] concatenates_S17408x8_S17408x120_S17408x128_d1

/-- The reference's first result, of its arguments. -/
def REF (X0 : FVec Ideal S17408x2048 .f32) (X1 : FVec Ideal S4x2048 .f32) (X2 : FVec Ideal S4x8x12288 .f32) :
    FVec Ideal S17408x2048 .bf16 :=
  truncf .bf16 (ROWS X0 X1 X2) bitsLt_bf16_f32

/-- A latent row of the result. -/
theorem LAT_at (X0 : FVec Ideal S17408x2048 .f32) (X1 : FVec Ideal S4x2048 .f32) (X2 : FVec Ideal S4x8x12288 .f32)
    (r : Fin 16384) (q : Fin 2048) :
    LAT X0 X1 X2 (ix2 r q) = modded (fun x => X0 (ix2 ⟨r.val, by omega⟩ x)) (X1 (ix2 1 q))
      (X2 (ix3 1 ⟨r.val / 4096, by omega⟩ ⟨8192 + q.val, by omega⟩)) (X2 (ix3 1 ⟨r.val / 4096, by omega⟩ ⟨6144 + q.val, by omega⟩)) q := by
  pointwise [LAT, modded]

/-- A context row of the result. -/
theorem CTX_at (X0 : FVec Ideal S17408x2048 .f32) (X1 : FVec Ideal S4x2048 .f32) (X2 : FVec Ideal S4x8x12288 .f32)
    (r : Fin 1024) (q : Fin 2048) :
    CTX X0 X1 X2 (ix2 r q) = modded (fun x => X0 (ix2 ⟨16384 + r.val, by omega⟩ x)) (X1 (ix2 1 q))
      (X2 (ix3 1 4 ⟨8192 + q.val, by omega⟩)) (X2 (ix3 1 4 ⟨6144 + q.val, by omega⟩)) q := by
  pointwise [CTX, modded]

/-- The modulated rows at an index: scale and shift are those of the row's batch, the context's being the fifth. -/
theorem ROWS_at (X0 : FVec Ideal S17408x2048 .f32) (X1 : FVec Ideal S4x2048 .f32) (X2 : FVec Ideal S4x8x12288 .f32)
    (r : Fin 17408) (q : Fin 2048) :
    ROWS X0 X1 X2 (ix2 r q) = modded (fun x => X0 (ix2 r x)) (X1 (ix2 1 q))
      (X2 (ix3 1 ⟨r.val / 4096, by omega⟩ ⟨8192 + q.val, by omega⟩)) (X2 (ix3 1 ⟨r.val / 4096, by omega⟩ ⟨6144 + q.val, by omega⟩)) q := by
  unfold ROWS
  by_cases hr : r.val < 16384
  · refine .trans ?_ (LAT_at X0 X1 X2 ⟨r.val, hr⟩ q)
    generalize LAT X0 X1 X2 = z
    generalize CTX X0 X1 X2 = w
    pointwise
    simp only [dif_pos hr]
  · have e := CTX_at X0 X1 X2 ⟨r.val - 16384, by omega⟩ q
    have e4 : (⟨r.val / 4096, by omega⟩ : Fin 8) = 4 := Fin.ext (by show r.val / 4096 = 4; omega)
    have er : (⟨16384 + (r.val - 16384), by omega⟩ : Fin 17408) = r := Fin.ext (by show 16384 + (r.val - 16384) = r.val; omega)
    rw [e4]
    simp only [er] at e
    refine .trans ?_ e
    generalize LAT X0 X1 X2 = z
    generalize CTX X0 X1 X2 = w
    pointwise
    simp only [dif_neg hr]

/-- The logits of an expert. -/
theorem LOG_lt (R : FVec Ideal S17408x2048 .f32) (X3 : FVec Ideal S2x2048x8 .f32) (r : Fin 17408) (e : Fin 128) (h : e.val < 8) :
    LOG R X3 (ix2 r e) = ∑ k : Fin 2048, R (ix2 r k) * X3 (ix3 0 k ⟨e.val, h⟩) := by
  pointwise [LOG]
  simp only [dif_pos h]

/-- The lanes past the experts. -/
theorem LOG_ge (R : FVec Ideal S17408x2048 .f32) (X3 : FVec Ideal S2x2048x8 .f32) (r : Fin 17408) (e : Fin 128) (h : ¬e.val < 8) :
    LOG R X3 (ix2 r e) = 0 := by
  pointwise [LOG]
  simp only [dif_neg h]

/-- What the reference's run leaves as logits is the value of its stages. -/
theorem res_eq (m : (ℓ : Loc nD τ sig) → Buf (Elt Ideal) ℓ) (c : Dev nD) :
    res_main_v64 m c = LOG (ROWS (m (c.tc.loc main_arg0)) (m (c.tc.loc main_arg1)) (m (c.tc.loc main_arg2))) (m (c.tc.loc main_arg3)) := rfl

end Cert.RnormRefIdeal.Value

namespace Cert.RnormIdeal.Value

open Cert.RnormIdeal Cert.RnormIdeal.Gen
open Cert.RowNorm (modded modded_congr)

variable (m : (ℓ : Loc nD τ sig) → Buf (Elt Ideal) ℓ)

/-- The router's matrix widened with zeros, of every layer that has one. -/
def PAD (X3 : FVec Ideal S2x2048x8 .f32) : FVec Ideal S2x2048x128 .f32 :=
  Host.scatter scatter_S2x2048x128_S1_S2x2048x8_012_n_2_0 (fun _ b => b)
    (broadcastInDim S2x2048x128 ![] bcast_S_S2x2048x128 (constant S_ .f32 0x00000000#32)) (broadcastInDim S1 ![] bcast_S_S1 (constantI S_ 32 0#32)) X3

/-- The widened matrix is what the host prepares. -/
theorem entry_pad (c : Dev nD) : V m c main_v4
    = shapeCast S2048x128 (extractStridedSlice S1x2048x128 ![0, 0, 0] (PAD (m ((c : Thread nD τ).loc main_arg3))) slices_S2x2048x128_S1x2048x128_0_0_0) shapeCasts_S1x2048x128_S2048x128 := by
  show StableHlo.after hostOps0 (fun b => m (c, b)) (Proc.tc.devRef main_v4) = _
  simp only [hostOps0, cast_eq]
  after_results
  all_goals rfl

/-- An update lands at its own place, where the start is zero. -/
theorem lands (idx : IVec S1 32) (hi : (idx (ix1 0)).toInt = 0) (a : Fin 2) (x : Fin 2048) (e : Fin 8) (l : Fin 2) (y : Fin 2048) (f : Fin 128) :
    scatter_S2x2048x128_S1_S2x2048x8_012_n_2_0.resultIdx? (ix3 a x e) idx = some (ix3 l y f) ↔ a = l ∧ x = y ∧ e.val = f.val := by
  have w0 : scatter_S2x2048x128_S1_S2x2048x8_012_n_2_0.window (ix3 a x e) 0 = a.val := rfl
  have w1 : scatter_S2x2048x128_S1_S2x2048x8_012_n_2_0.window (ix3 a x e) 1 = x.val := rfl
  have w2 : scatter_S2x2048x128_S1_S2x2048x8_012_n_2_0.window (ix3 a x e) 2 = e.val := rfl
  have s0 : scatter_S2x2048x128_S1_S2x2048x8_012_n_2_0.start (ix3 a x e) idx 0 = 0 := rfl
  have s1 : scatter_S2x2048x128_S1_S2x2048x8_012_n_2_0.start (ix3 a x e) idx 1 = 0 := rfl
  have s2 : scatter_S2x2048x128_S1_S2x2048x8_012_n_2_0.start (ix3 a x e) idx 2 = 0 := by
    refine Eq.trans ?_ hi
    show (idx _).toInt = (idx _).toInt
    exact congrArg (fun u => (idx u).toInt) ((eq_ix1 _).trans (congrArg ix1 (Subsingleton.elim (α := Fin 1) _ _)))
  rw [Idealize.ShloMosaic.Routing.resultIdx?_eq_some]
  constructor
  · intro h
    have h0 := h 0
    have h1 := h 1
    have h2 := h 2
    rw [w0, s0] at h0
    rw [w1, s1] at h1
    rw [w2, s2] at h2
    have e0 : (0 : Int) + (a.val : Int) = (l.val : Int) := h0
    have e1 : (0 : Int) + (x.val : Int) = (y.val : Int) := h1
    have e2 : (0 : Int) + (e.val : Int) = (f.val : Int) := h2
    exact ⟨Fin.ext (by omega), Fin.ext (by omega), by omega⟩
  · rintro ⟨rfl, rfl, h⟩ b
    match b with
    | ⟨0, _⟩ =>
      show scatter_S2x2048x128_S1_S2x2048x8_012_n_2_0.start (ix3 a x e) idx 0 + (scatter_S2x2048x128_S1_S2x2048x8_012_n_2_0.window (ix3 a x e) 0 : Int) = (a.val : Int)
      rw [w0, s0]; omega
    | ⟨1, _⟩ =>
      show scatter_S2x2048x128_S1_S2x2048x8_012_n_2_0.start (ix3 a x e) idx 1 + (scatter_S2x2048x128_S1_S2x2048x8_012_n_2_0.window (ix3 a x e) 1 : Int) = (x.val : Int)
      rw [w1, s1]; omega
    | ⟨2, _⟩ =>
      show scatter_S2x2048x128_S1_S2x2048x8_012_n_2_0.start (ix3 a x e) idx 2 + (scatter_S2x2048x128_S1_S2x2048x8_012_n_2_0.window (ix3 a x e) 2 : Int) = (f.val : Int)
      rw [w2, s2]; omega

/-- The widened matrix at an expert's column. -/
theorem PAD_lt (X3 : FVec Ideal S2x2048x8 .f32) (l : Fin 2) (y : Fin 2048) (f : Fin 128) (h : f.val < 8) :
    PAD X3 (ix3 l y f) = X3 (ix3 l y ⟨f.val, h⟩) := by
  refine Idealize.ShloMosaic.Routing.scatter_set_hit _ _ _ _ _ _ (fun k hk => ?_) (ix3 l y ⟨f.val, h⟩) ((lands _ rfl _ _ _ l y f).2 ⟨rfl, rfl, rfl⟩)
  obtain ⟨a, b, e, rfl⟩ : ∃ (a : Fin 2) (b : Fin 2048) (e : Fin 8), k = ix3 a b e := ⟨k 0, k 1, k 2, eq_ix3 k⟩
  obtain ⟨rfl, rfl, he⟩ := (lands _ rfl a b e l y f).1 hk
  exact congrArg (fun u => X3 (ix3 a b u)) (Fin.ext he)

/-- The widened matrix past the experts. -/
theorem PAD_ge (X3 : FVec Ideal S2x2048x8 .f32) (l : Fin 2) (y : Fin 2048) (f : Fin 128) (h : ¬f.val < 8) :
    PAD X3 (ix3 l y f) = 0 := by
  refine (Idealize.ShloMosaic.Routing.scatter_set_miss _ _ _ _ _ (fun k hk => ?_)).trans ?_
  · obtain ⟨a, b, e, rfl⟩ : ∃ (a : Fin 2) (b : Fin 2048) (e : Fin 8), k = ix3 a b e := ⟨k 0, k 1, k 2, eq_ix3 k⟩
    have := ((lands _ rfl a b e l y f).1 hk).2.2
    exact h (by omega)
  · pointwise

/-- The index maps at a point, by arithmetic on its number. -/
theorem idx : ∀ t : Fin cfg0.N,
    win0_0.index t = ![t.val, 0] ∧ win0_1.index t = ![1, 0, 0] ∧ win0_2.index t = ![1, 0, 3]
      ∧ win0_3.index t = ![1, 0, 4] ∧ win0_4.index t = ![0, 0] ∧ win0_5.index t = ![t.val, 0] ∧ win0_6.index t = ![t.val, 0] :=
  (by decide +kernel : ∀ t : Fin grid0.N, _)

/-- The row of scales and shifts a point reads: its row block's batch. -/
theorem off : ∀ t : Fin cfg0.N, k0_off1 (grid0.coords t) = ![0, t.val / 16, 0] :=
  (by decide +kernel : ∀ t : Fin grid0.N, k0_off1 (grid0.coords t) = ![0, t.val / 16, 0])

/-- The rows of a point, read at an index. -/
theorem x_at (c : Dev nD) (t : Fin cfg0.N) (a : Fin 256) (k : Fin 2048) (h : t.val * 256 + a.val < 17408) :
    iblk m c 0 t (ix2 a k) = m ((c : Thread nD τ).loc main_arg0) (ix2 ⟨t.val * 256 + a.val, h⟩ k) := by
  blk_point [iblk, V, idx t]

/-- The layer's gains, read at an index. -/
theorem gain_at (c : Dev nD) (t : Fin cfg0.N) (b : Fin 2048) :
    iblk m c 1 t (ix3 0 0 b) = m ((c : Thread nD τ).loc main_arg1) (ix2 1 b) := by
  blk_point [iblk, V, idx t]

/-- The block of shifts, read at an index. -/
theorem sh_at (c : Dev nD) (t : Fin cfg0.N) (s : Fin 8) (b : Fin 2048) (h : 6144 + b.val < 12288) :
    iblk m c 2 t (ix3 0 s b) = m ((c : Thread nD τ).loc main_arg2) (ix3 1 s ⟨6144 + b.val, h⟩) := by
  blk_point [iblk, V, idx t]

/-- The block of scales, read at an index. -/
theorem sc_at (c : Dev nD) (t : Fin cfg0.N) (s : Fin 8) (b : Fin 2048) (h : 8192 + b.val < 12288) :
    iblk m c 3 t (ix3 0 s b) = m ((c : Thread nD τ).loc main_arg2) (ix3 1 s ⟨8192 + b.val, h⟩) := by
  blk_point [iblk, V, idx t]

/-- The router's block over any matrix, read at an index. -/
theorem block4 (t : Fin cfg0.N) (z : S2048x128.Idx → EReal) (k : Fin 2048) (f : Fin 128) :
    View.read (Elt Ideal) ((cfg0.win 4).blk t).view z (ix2 k f) = z (ix2 k f) := by
  blk_point [idx t]

/-- The first layer of a widened matrix, at an index. -/
theorem pad_cast (z : FVec Ideal S2x2048x128 .f32) (k : Fin 2048) (f : Fin 128) :
    (shapeCast S2048x128 (extractStridedSlice S1x2048x128 ![0, 0, 0] z slices_S2x2048x128_S1x2048x128_0_0_0) shapeCasts_S1x2048x128_S2048x128 : FVec Ideal S2048x128 .f32) (ix2 k f) = z (ix3 0 k f) := by
  pointwise

/-- The router's block at an expert's column. -/
theorem w_lt (c : Dev nD) (t : Fin cfg0.N) (k : Fin 2048) (f : Fin 128) (h : f.val < 8) :
    iblk m c 4 t (ix2 k f) = m ((c : Thread nD τ).loc main_arg3) (ix3 0 k ⟨f.val, h⟩) :=
  (block4 t (V m c main_v4) k f).trans ((congrFun (entry_pad m c) _).trans ((pad_cast _ k f).trans (PAD_lt _ 0 k f h)))

/-- The router's block past the experts. -/
theorem w_ge (c : Dev nD) (t : Fin cfg0.N) (k : Fin 2048) (f : Fin 128) (h : ¬f.val < 8) :
    iblk m c 4 t (ix2 k f) = (0 : EReal) :=
  (block4 t (V m c main_v4) k f).trans ((congrFun (entry_pad m c) _).trans ((pad_cast _ k f).trans (PAD_ge _ 0 k f h)))

/-- The block of rows over any rows, gains, scales and shifts, at an index. -/
theorem pay_at (X : FVec Ideal S256x2048 .f32) (g : FVec Ideal S1x1x2048 .f32) (f f' : Vec Ideal S1x8x2048 .f32)
    (off : Fin 3 → ℕ) (s : Fin 8) (h : off = ![0, s.val, 0]) (inb) (inb') (a : Fin 256) (b : Fin 2048) :
    k0_pay1 (F := Ideal) (k0_pay4 (F := Ideal) X g)
        (k0_pay5 (F := Ideal) (View.ld (Val := Elt Ideal) (e' := .f32) f (Rect.unit (s := S1x8x2048) off ![1, 1, 2048] inb)))
        (View.ld (Val := Elt Ideal) (e' := .f32) f' (Rect.unit (s := S1x8x2048) off ![1, 1, 2048] inb')) (ix2 a b)
      = modded (fun x => X (ix2 a x)) (g (ix3 0 0 b)) (f (ix3 0 s b)) (f' (ix3 0 s b)) b := by
  subst h
  pointwise [k0_pay1, k0_pay4, k0_pay5, modded]

/-- The stored rows are the block's rows. -/
theorem pay3_at (u : FVec Ideal S256x2048 .f32) (v : FVec Ideal S1x2048 .f32) (w : Vec Ideal S1x1x2048 .f32) (a : Fin 256) (b : Fin 2048) :
    k0_pay3 (F := Ideal) u v w (ix2 a b) = k0_pay1 (F := Ideal) u v w (ix2 a b) := rfl

/-- The stored logits are the product of the block's rows with the router's block. -/
theorem pay2_at (u : FVec Ideal S256x2048 .f32) (v : FVec Ideal S1x2048 .f32) (w : Vec Ideal S1x1x2048 .f32)
    (W : FVec Ideal S2048x128 .f32) (a : Fin 256) (f : Fin 128) :
    k0_pay2 (F := Ideal) u v w W (ix2 a f) = ∑ k : Fin 2048, k0_pay1 (F := Ideal) u v w (ix2 a k) * W (ix2 k f) := by
  generalize hz : k0_pay1 (F := Ideal) u v w = z
  unfold k0_pay2
  rw [hz]
  pointwise

/-- The rows of a point, from its block, the gains, the scales and the shifts. -/
def ROWB (c : Dev nD) (t : Fin cfg0.N) : FVec Ideal S256x2048 .f32 :=
  k0_pay1 (F := Ideal) (k0_pay4 (F := Ideal) (iblk m c 0 t) (iblk m c 1 t))
        (k0_pay5 (F := Ideal) (View.ld (Val := Elt Ideal) (e' := .f32) (iblk m c 3 t)
          (Rect.unit (s := S1x8x2048) (k0_off1 (grid0.coords t)) ![1, 1, 2048] (k0_off1_inb (grid0.coords t)))))
        (View.ld (Val := Elt Ideal) (e' := .f32) (iblk m c 2 t)
          (Rect.unit (s := S1x8x2048) (k0_off1 (grid0.coords t)) ![1, 1, 2048] (k0_off1_inb (grid0.coords t))))

/-- The rows a point leaves, at an index. -/
theorem out5_at (c : Dev nD) (t : Fin cfg0.N) (a : Fin 256) (b : Fin 2048) :
    (outsAt0 m c t).1 (ix2 a b) = ROWB m c t (ix2 a b) := by
  unfold outsAt0
  dsimp only
  frame_out
  rfl

/-- The logits a point leaves, at an index. -/
theorem out6_at (c : Dev nD) (t : Fin cfg0.N) (a : Fin 256) (f : Fin 128) :
    (outsAt0 m c t).2 (ix2 a f) = ∑ k : Fin 2048, ROWB m c t (ix2 a k) * iblk m c 4 t (ix2 k f) := by
  refine .trans ?_ (pay2_at _ _ _ (iblk m c 4 t) a f)
  unfold outsAt0
  dsimp only
  frame_out
  rfl

/-- A point's rows are the reference's. -/
theorem rowb_at (c : Dev nD) (t : Fin cfg0.N) (a : Fin 256) (b : Fin 2048) (ha : t.val * 256 + a.val < 17408) :
    ROWB m c t (ix2 a b)
      = Cert.RnormRefIdeal.Value.ROWS (m ((c : Thread nD τ).loc main_arg0)) (m ((c : Thread nD τ).loc main_arg1)) (m ((c : Thread nD τ).loc main_arg2)) (ix2 ⟨t.val * 256 + a.val, ha⟩ b) := by
  have hN : t.val < 68 := t.isLt
  have es : (⟨t.val / 16, by omega⟩ : Fin 8) = ⟨(t.val * 256 + a.val) / 4096, by omega⟩ :=
    Fin.ext (by show t.val / 16 = (t.val * 256 + a.val) / 4096; have := a.isLt; omega)
  have e3 := sc_at m c t ⟨t.val / 16, by omega⟩ b (by omega)
  have e2 := sh_at m c t ⟨t.val / 16, by omega⟩ b (by omega)
  refine (pay_at _ _ _ _ _ ⟨t.val / 16, by omega⟩ (off t) _ _ a b).trans ?_
  refine .trans ?_ (Cert.RnormRefIdeal.Value.ROWS_at _ _ _ _ _).symm
  rw [es] at e2 e3 ⊢
  exact modded_congr (funext fun x => x_at m c t a x ha) (gain_at m c t b) e3 e2 b

/-- A point's logits are the reference's. -/
theorem log_at (c : Dev nD) (t : Fin cfg0.N) (a : Fin 256) (f : Fin 128) (ha : t.val * 256 + a.val < 17408) :
    (outsAt0 m c t).2 (ix2 a f)
      = Cert.RnormRefIdeal.Value.LOG (Cert.RnormRefIdeal.Value.ROWS (m ((c : Thread nD τ).loc main_arg0)) (m ((c : Thread nD τ).loc main_arg1)) (m ((c : Thread nD τ).loc main_arg2))) (m ((c : Thread nD τ).loc main_arg3)) (ix2 ⟨t.val * 256 + a.val, ha⟩ f) := by
  refine (out6_at m c t a f).trans ?_
  by_cases hf : f.val < 8
  · refine .trans ?_ (Cert.RnormRefIdeal.Value.LOG_lt _ _ _ f hf).symm
    exact Finset.sum_congr rfl fun k _ => Ideal.mul_congr (rowb_at m c t a k ha) (w_lt m c t k f hf)
  · refine .trans ?_ (Cert.RnormRefIdeal.Value.LOG_ge _ _ _ f hf).symm
    refine Finset.sum_eq_zero fun k _ => ?_
    refine (Ideal.mul_congr rfl (w_ge m c t k f hf)).trans ?_
    exact mul_zero _

/-- A block of rows over any array, read at an index. -/
theorem emb5_at (t : Fin cfg0.N) (R : S17408x2048.Idx → EReal) (a : Fin 256) (b : Fin 2048) (ha : t.val * 256 + a.val < 17408) :
    R (ix2 ⟨t.val * 256 + a.val, ha⟩ b) = R (((cfg0.win 5).blk t).view.emb (ix2 a b)) := by
  blk_point [idx t]

/-- A block of logits over any array, read at an index. -/
theorem emb6_at (t : Fin cfg0.N) (R : S17408x128.Idx → EReal) (a : Fin 256) (b : Fin 128) (ha : t.val * 256 + a.val < 17408) :
    R (ix2 ⟨t.val * 256 + a.val, ha⟩ b) = R (((cfg0.win 6).blk t).view.emb (ix2 a b)) := by
  blk_point [idx t]

/-- The rows' array after the run is the reference's term of the arguments. -/
theorem final5 (c : Dev nD) :
    (dats m 0 c).arrAt 5 (cfgs 0).N
      = Cert.RnormRefIdeal.Value.REF (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp; rw [after0_5]
  idx_vars y
  have hN : t.val < 68 := t.isLt
  have h0 := y0.isLt
  refine (out5_at m c t y0 y1).trans ((rowb_at m c t y0 y1 (by omega)).trans ?_)
  exact emb5_at t (Cert.RnormRefIdeal.Value.ROWS _ _ _) y0 y1 _

/-- The logits' array after the run is the reference's term of the arguments. -/
theorem final6 (c : Dev nD) :
    (dats m 0 c).arrAt 6 (cfgs 0).N
      = Cert.RnormRefIdeal.Value.LOG (Cert.RnormRefIdeal.Value.ROWS (m ((c : Thread nD τ).loc main_arg0)) (m ((c : Thread nD τ).loc main_arg1)) (m ((c : Thread nD τ).loc main_arg2))) (m ((c : Thread nD τ).loc main_arg3)) := by
  refine (dats m 0 c).arrAt_eq_of_covers 6 _ (by decide +kernel) fun t _ y => ?_
  blk_simp; rw [after0_6]
  idx_vars y
  have hN : t.val < 68 := t.isLt
  have h0 := y0.isLt
  refine (log_at m c t y0 y1 (by omega)).trans ?_
  exact emb6_at t _ y0 y1 _

/-- The value claim of the norm and the router's product: kernel and reference end with the same two arrays. -/
theorem algebraic : Cert.algebraic_RnormIdeal_RnormRefIdeal (hRnormIdeal := Cert.RnormIdeal.Gen.facts)
    (hRnormRefIdeal := Cert.RnormRefIdeal.Gen.facts) := by
  intro m g m' g' _ hargs
  refine ⟨fun c => Cert.RnormRefIdeal.Value.REF (m ((c : Thread nD τ).loc main_arg0)) (m ((c : Thread nD τ).loc main_arg1)) (m ((c : Thread nD τ).loc main_arg2)),
    fun c => Cert.RnormRefIdeal.Value.LOG (Cert.RnormRefIdeal.Value.ROWS (m ((c : Thread nD τ).loc main_arg0)) (m ((c : Thread nD τ).loc main_arg1)) (m ((c : Thread nD τ).loc main_arg2))) (m ((c : Thread nD τ).loc main_arg3)),
    (θ_run (Cert.RnormIdeal.defs (F := Ideal)) _ _).mono (fun r h c => ⟨(h c).1.trans (final5 m c), (h c).2.1.trans (final6 m c), (h c).2.2⟩)
      (run_blocks m g),
    (θ_run (Cert.RnormRefIdeal.defs (F := Ideal)) _ _).mono (fun r h c => ⟨(h c).1.trans ?_, (h c).2.1.trans ?_, (h c).2.2⟩)
      (Cert.RnormRefIdeal.Value.run m' g')⟩
  · obtain ⟨a0, a1, a2, a3⟩ := hargs c
    rw [a0, a1, a2]
    rfl
  · obtain ⟨a0, a1, a2, a3⟩ := hargs c
    rw [Cert.RnormRefIdeal.Value.res_eq m' c, a0, a1, a2, a3]

end Cert.RnormIdeal.Value
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxIdeal.Value
public import proofs.«01_k».proof.Proof.Gen.CtxRefIdeal
public import proofs.«01_k».proof.Proof.Gen.CtxRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.FfUp
public import proofs.«01_k».proof.Proof.Gen.FfUp.Skeleton
public import proofs.«01_k».proof.Proof.Gen.FfUp.Launch
public import proofs.«01_k».proof.Proof.Gen.FfUp.Points
public import proofs.«01_k».proof.Proof.Gen.FfUp.Frame
public import proofs.«01_k».proof.Proof.Gen.FfUpIdeal
public import proofs.«01_k».proof.Proof.Gen.FfUpIdeal.Skeleton
public import proofs.«01_k».proof.Proof.Gen.FfUpIdeal.Launch
public import proofs.«01_k».proof.Proof.Gen.FfUpIdeal.Points
public import proofs.«01_k».proof.Proof.Gen.FfUpIdeal.Frame
public import proofs.«01_k».proof.Proof.Gen.FfUpIdeal.Value
public import proofs.«01_k».proof.Proof.Gen.FfUpRefIdeal
public import proofs.«01_k».proof.Proof.Gen.FfUpRefIdeal.Run
public import proofs.«01_k».proof.Proof.Gen.FfDown
public import proofs.«01_k».proof.Proof.Gen.FfDown.Skeleton
public import proofs.«01_k».proof.Proof.Gen.FfDown.Launch
public import proofs.«01_k».proof.Proof.Gen.FfDown.Points
public import proofs.«01_k».proof.Proof.Gen.FfDown.Frame
public import proofs.«01_k».proof.Proof.Gen.FfDownIdeal
public import proofs.«01_k».proof.Proof.Gen.FfDownIdeal.Skeleton
public import proofs.«01_k».proof.Proof.Gen.FfDownIdeal.Launch
public import proofs.«01_k».proof.Proof.Gen.FfDownIdeal.Points
public import proofs.«01_k».proof.Proof.Gen.FfDownIdeal.Frame
public import proofs.«01_k».proof.Proof.Gen.FfDownIdeal.Value
public import proofs.«01_k».proof.Proof.Gen.FfDownRefIdeal
public import proofs.«01_k».proof.Proof.Gen.FfDownRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.Adaln
public import proofs.«01_k».proof.Proof.Gen.Adaln.Skeleton
public import proofs.«01_k».proof.Proof.Gen.Adaln.Launch
public import proofs.«01_k».proof.Proof.Gen.Adaln.Points
public import proofs.«01_k».proof.Proof.Gen.Adaln.Frame
public import proofs.«01_k».proof.Proof.Gen.AdalnIdeal
public import proofs.«01_k».proof.Proof.Gen.AdalnIdeal.Skeleton
public import proofs.«01_k».proof.Proof.Gen.AdalnIdeal.Launch
public import proofs.«01_k».proof.Proof.Gen.AdalnIdeal.Points
public import proofs.«01_k».proof.Proof.Gen.AdalnIdeal.Frame
public import proofs.«01_k».proof.Proof.Gen.AdalnIdeal.Value
public import proofs.«01_k».proof.Proof.Gen.AdalnRefIdeal
public import proofs.«01_k».proof.Proof.Gen.AdalnRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Rnorm
public import proofs.«01_k».proof.Proof.Gen.Rnorm.Skeleton
public import proofs.«01_k».proof.Proof.Gen.Rnorm.Launch
public import proofs.«01_k».proof.Proof.Gen.Rnorm.Points
public import proofs.«01_k».proof.Proof.Gen.Rnorm.Frame
public import proofs.«01_k».proof.Proof.Gen.RnormIdeal
public import proofs.«01_k».proof.Proof.Gen.RnormIdeal.Skeleton
public import proofs.«01_k».proof.Proof.Gen.RnormIdeal.Launch
public import proofs.«01_k».proof.Proof.Gen.RnormIdeal.Points
public import proofs.«01_k».proof.Proof.Gen.RnormIdeal.Frame
public import proofs.«01_k».proof.Proof.Gen.RnormIdeal.Value
public import proofs.«01_k».proof.Proof.Gen.RnormRefIdeal
public import proofs.«01_k».proof.Proof.Gen.RnormRefIdeal.Run
public import proofs.«01_k».proof.Proof.Gen.Pre_finite
public import proofs.«01_k».proof.Proof.Gen.Pre_ctx_finite
public import proofs.«01_k».proof.Proof.Gen.On_latent_rows
public import proofs.«01_k».proof.Proof.AttnPre
public import proofs.«01_k».proof.Proof.CtxValue
public import proofs.«01_k».proof.Proof.UpValue
public import proofs.«01_k».proof.Proof.DownValue
public import proofs.«01_k».proof.Proof.FfUpValue
public import proofs.«01_k».proof.Proof.FfDownValue
public import proofs.«01_k».proof.Proof.MergeValue
public import proofs.«01_k».proof.Proof.OutValue
public import proofs.«01_k».proof.Proof.InprojValue
public import proofs.«01_k».proof.Proof.AdalnValue
public import proofs.«01_k».proof.Proof.NormValue
public import proofs.«01_k».proof.Proof.RnormValue
public import Idealize.ShloMosaic.Adequacy
public import Idealize.ShloMosaic.Init

/-!
# The claim

Every program's frame, every idealization's preservation, and for each call of the layer the equality over the
extended reals of what its kernel and its reference leave.
-/

@[expose] public section

noncomputable section

namespace Cert.Proof

open Idealize.ShloMosaic Idealize.SL.Sem

/-- The frame of the reference AttnRef: it ends, its arguments are unchanged and every counter is zero. -/
theorem frameAttnRef (m : (ℓ : Loc Cert.AttnRefIdeal.nD Cert.AttnRefIdeal.τ Cert.AttnRefIdeal.sig) → Buf (Elt Ideal) ℓ) (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0) :=
  (θ_run (Cert.AttnRefIdeal.defs (F := Ideal)) _ _).mono (fun r h => ⟨fun c => (h c).2, funext fun g => ((by decide : ∀ s : SemLoc Cert.AttnRefIdeal.sig, False) g.2).elim⟩)
    (Cert.AttnRefIdeal.Value.run m ρ)

/-- The frame of the reference CtxRef: it ends, its arguments are unchanged and every counter is zero. -/
theorem frameCtxRef (m : (ℓ : Loc Cert.CtxRefIdeal.nD Cert.CtxRefIdeal.τ Cert.CtxRefIdeal.sig) → Buf (Elt Ideal) ℓ) (ρ : Dev Cert.CtxRefIdeal.nD → PrngReg) :
    θ_run (Cert.CtxRefIdeal.defs (F := Ideal)) (onTc (τ := Cert.CtxRefIdeal.τ) (Cert.CtxRefIdeal.main (F := Ideal))) ⟨m, fun _ => 0, ρ⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6))
      ∧ r.2.sem = fun _ => 0) :=
  (θ_run (Cert.CtxRefIdeal.defs (F := Ideal)) _ _).mono (fun r h => ⟨fun c => (h c).2, funext fun g => ((by decide : ∀ s : SemLoc Cert.CtxRefIdeal.sig, False) g.2).elim⟩)
    (Cert.CtxRefIdeal.Value.run m ρ)

/-- The frame of the reference UpRef: it ends, its arguments are unchanged and every counter is zero. -/
theorem frameUpRef (m : (ℓ : Loc Cert.UpRefIdeal.nD Cert.UpRefIdeal.τ Cert.UpRefIdeal.sig) → Buf (Elt Ideal) ℓ) (ρ : Dev Cert.UpRefIdeal.nD → PrngReg) :
    θ_run (Cert.UpRefIdeal.defs (F := Ideal)) (onTc (τ := Cert.UpRefIdeal.τ) (Cert.UpRefIdeal.main (F := Ideal))) ⟨m, fun _ => 0, ρ⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0) :=
  (θ_run (Cert.UpRefIdeal.defs (F := Ideal)) _ _).mono (fun r h => ⟨fun c => (h c).2, funext fun g => ((by decide : ∀ s : SemLoc Cert.UpRefIdeal.sig, False) g.2).elim⟩)
    (Cert.UpRefIdeal.Value.run m ρ)

/-- The frame of the reference DownRef: it ends, its arguments are unchanged and every counter is zero. -/
theorem frameDownRef (m : (ℓ : Loc Cert.DownRefIdeal.nD Cert.DownRefIdeal.τ Cert.DownRefIdeal.sig) → Buf (Elt Ideal) ℓ) (ρ : Dev Cert.DownRefIdeal.nD → PrngReg) :
    θ_run (Cert.DownRefIdeal.defs (F := Ideal)) (onTc (τ := Cert.DownRefIdeal.τ) (Cert.DownRefIdeal.main (F := Ideal))) ⟨m, fun _ => 0, ρ⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0) :=
  (θ_run (Cert.DownRefIdeal.defs (F := Ideal)) _ _).mono (fun r h => ⟨fun c => (h c).2, funext fun g => ((by decide : ∀ s : SemLoc Cert.DownRefIdeal.sig, False) g.2).elim⟩)
    (Cert.DownRefIdeal.Value.run m ρ)

/-- The frame of the reference FfUpRef: it ends, its arguments are unchanged and every counter is zero. -/
theorem frameFfUpRef (m : (ℓ : Loc Cert.FfUpRefIdeal.nD Cert.FfUpRefIdeal.τ Cert.FfUpRefIdeal.sig) → Buf (Elt Ideal) ℓ) (ρ : Dev Cert.FfUpRefIdeal.nD → PrngReg) :
    θ_run (Cert.FfUpRefIdeal.defs (F := Ideal)) (onTc (τ := Cert.FfUpRefIdeal.τ) (Cert.FfUpRefIdeal.main (F := Ideal))) ⟨m, fun _ => 0, ρ⟩ (fun r => (∀ c : Dev Cert.FfUpRefIdeal.nD,
      r.2.mem ((c.tc : Thread Cert.FfUpRefIdeal.nD Cert.FfUpRefIdeal.τ).loc Cert.FfUpRefIdeal.main_arg0) = m ((c.tc : Thread Cert.FfUpRefIdeal.nD Cert.FfUpRefIdeal.τ).loc Cert.FfUpRefIdeal.main_arg0)
      ∧ r.2.mem ((c.tc : Thread Cert.FfUpRefIdeal.nD Cert.FfUpRefIdeal.τ).loc Cert.FfUpRefIdeal.main_arg1) = m ((c.tc : Thread Cert.FfUpRefIdeal.nD Cert.FfUpRefIdeal.τ).loc Cert.FfUpRefIdeal.main_arg1)
      ∧ r.2.mem ((c.tc : Thread Cert.FfUpRefIdeal.nD Cert.FfUpRefIdeal.τ).loc Cert.FfUpRefIdeal.main_arg2) = m ((c.tc : Thread Cert.FfUpRefIdeal.nD Cert.FfUpRefIdeal.τ).loc Cert.FfUpRefIdeal.main_arg2))
      ∧ r.2.sem = fun _ => 0) :=
  (θ_run (Cert.FfUpRefIdeal.defs (F := Ideal)) _ _).mono (fun r h => ⟨fun c => (h c).2, funext fun g => ((by decide : ∀ s : SemLoc Cert.FfUpRefIdeal.sig, False) g.2).elim⟩)
    (Cert.FfUpRefIdeal.Value.run m ρ)

/-- The frame of the reference FfDownRef: it ends, its arguments are unchanged and every counter is zero. -/
theorem frameFfDownRef (m : (ℓ : Loc Cert.FfDownRefIdeal.nD Cert.FfDownRefIdeal.τ Cert.FfDownRefIdeal.sig) → Buf (Elt Ideal) ℓ) (ρ : Dev Cert.FfDownRefIdeal.nD → PrngReg) :
    θ_run (Cert.FfDownRefIdeal.defs (F := Ideal)) (onTc (τ := Cert.FfDownRefIdeal.τ) (Cert.FfDownRefIdeal.main (F := Ideal))) ⟨m, fun _ => 0, ρ⟩ (fun r => (∀ c : Dev Cert.FfDownRefIdeal.nD,
      r.2.mem ((c.tc : Thread Cert.FfDownRefIdeal.nD Cert.FfDownRefIdeal.τ).loc Cert.FfDownRefIdeal.main_arg0) = m ((c.tc : Thread Cert.FfDownRefIdeal.nD Cert.FfDownRefIdeal.τ).loc Cert.FfDownRefIdeal.main_arg0)
      ∧ r.2.mem ((c.tc : Thread Cert.FfDownRefIdeal.nD Cert.FfDownRefIdeal.τ).loc Cert.FfDownRefIdeal.main_arg1) = m ((c.tc : Thread Cert.FfDownRefIdeal.nD Cert.FfDownRefIdeal.τ).loc Cert.FfDownRefIdeal.main_arg1)
      ∧ r.2.mem ((c.tc : Thread Cert.FfDownRefIdeal.nD Cert.FfDownRefIdeal.τ).loc Cert.FfDownRefIdeal.main_arg2) = m ((c.tc : Thread Cert.FfDownRefIdeal.nD Cert.FfDownRefIdeal.τ).loc Cert.FfDownRefIdeal.main_arg2)
      ∧ r.2.mem ((c.tc : Thread Cert.FfDownRefIdeal.nD Cert.FfDownRefIdeal.τ).loc Cert.FfDownRefIdeal.main_arg3) = m ((c.tc : Thread Cert.FfDownRefIdeal.nD Cert.FfDownRefIdeal.τ).loc Cert.FfDownRefIdeal.main_arg3))
      ∧ r.2.sem = fun _ => 0) :=
  (θ_run (Cert.FfDownRefIdeal.defs (F := Ideal)) _ _).mono (fun r h => ⟨fun c => (h c).2, funext fun g => ((by decide : ∀ s : SemLoc Cert.FfDownRefIdeal.sig, False) g.2).elim⟩)
    (Cert.FfDownRefIdeal.Value.run m ρ)

/-- The frame of the reference MergeRef: it ends, its arguments are unchanged and every counter is zero. -/
theorem frameMergeRef (m : (ℓ : Loc Cert.MergeRefIdeal.nD Cert.MergeRefIdeal.τ Cert.MergeRefIdeal.sig) → Buf (Elt Ideal) ℓ) (ρ : Dev Cert.MergeRefIdeal.nD → PrngReg) :
    θ_run (Cert.MergeRefIdeal.defs (F := Ideal)) (onTc (τ := Cert.MergeRefIdeal.τ) (Cert.MergeRefIdeal.main (F := Ideal))) ⟨m, fun _ => 0, ρ⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0) :=
  (θ_run (Cert.MergeRefIdeal.defs (F := Ideal)) _ _).mono (fun r h => ⟨fun c => (h c).2, funext fun g => ((by decide : ∀ s : SemLoc Cert.MergeRefIdeal.sig, False) g.2).elim⟩)
    (Cert.MergeRefIdeal.Value.run m ρ)

/-- The frame of the reference OutRef: it ends, its arguments are unchanged and every counter is zero. -/
theorem frameOutRef (m : (ℓ : Loc Cert.OutRefIdeal.nD Cert.OutRefIdeal.τ Cert.OutRefIdeal.sig) → Buf (Elt Ideal) ℓ) (ρ : Dev Cert.OutRefIdeal.nD → PrngReg) :
    θ_run (Cert.OutRefIdeal.defs (F := Ideal)) (onTc (τ := Cert.OutRefIdeal.τ) (Cert.OutRefIdeal.main (F := Ideal))) ⟨m, fun _ => 0, ρ⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0) :=
  (θ_run (Cert.OutRefIdeal.defs (F := Ideal)) _ _).mono (fun r h => ⟨fun c => (h c).2, funext fun g => ((by decide : ∀ s : SemLoc Cert.OutRefIdeal.sig, False) g.2).elim⟩)
    (Cert.OutRefIdeal.Value.run m ρ)

/-- The frame of the reference InprojRef: it ends, its arguments are unchanged and every counter is zero. -/
theorem frameInprojRef (m : (ℓ : Loc Cert.InprojRefIdeal.nD Cert.InprojRefIdeal.τ Cert.InprojRefIdeal.sig) → Buf (Elt Ideal) ℓ) (ρ : Dev Cert.InprojRefIdeal.nD → PrngReg) :
    θ_run (Cert.InprojRefIdeal.defs (F := Ideal)) (onTc (τ := Cert.InprojRefIdeal.τ) (Cert.InprojRefIdeal.main (F := Ideal))) ⟨m, fun _ => 0, ρ⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0) :=
  (θ_run (Cert.InprojRefIdeal.defs (F := Ideal)) _ _).mono (fun r h => ⟨fun c => (h c).2, funext fun g => ((by decide : ∀ s : SemLoc Cert.InprojRefIdeal.sig, False) g.2).elim⟩)
    (Cert.InprojRefIdeal.Value.run m ρ)

/-- The frame of the reference AdalnRef: it ends, its arguments are unchanged and every counter is zero. -/
theorem frameAdalnRef (m : (ℓ : Loc Cert.AdalnRefIdeal.nD Cert.AdalnRefIdeal.τ Cert.AdalnRefIdeal.sig) → Buf (Elt Ideal) ℓ) (ρ : Dev Cert.AdalnRefIdeal.nD → PrngReg) :
    θ_run (Cert.AdalnRefIdeal.defs (F := Ideal)) (onTc (τ := Cert.AdalnRefIdeal.τ) (Cert.AdalnRefIdeal.main (F := Ideal))) ⟨m, fun _ => 0, ρ⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2)
      ∧ r.2.mem ((c.tc : Thread Cert.AdalnRefIdeal.nD Cert.AdalnRefIdeal.τ).loc Cert.AdalnRefIdeal.main_arg3) = m ((c.tc : Thread Cert.AdalnRefIdeal.nD Cert.AdalnRefIdeal.τ).loc Cert.AdalnRefIdeal.main_arg3))
      ∧ r.2.sem = fun _ => 0) :=
  (θ_run (Cert.AdalnRefIdeal.defs (F := Ideal)) _ _).mono (fun r h => ⟨fun c => (h c).2, funext fun g => ((by decide : ∀ s : SemLoc Cert.AdalnRefIdeal.sig, False) g.2).elim⟩)
    (Cert.AdalnRefIdeal.Value.run m ρ)

/-- The frame of the reference NormRef: it ends, its arguments are unchanged and every counter is zero. -/
theorem frameNormRef (m : (ℓ : Loc Cert.NormRefIdeal.nD Cert.NormRefIdeal.τ Cert.NormRefIdeal.sig) → Buf (Elt Ideal) ℓ) (ρ : Dev Cert.NormRefIdeal.nD → PrngReg) :
    θ_run (Cert.NormRefIdeal.defs (F := Ideal)) (onTc (τ := Cert.NormRefIdeal.τ) (Cert.NormRefIdeal.main (F := Ideal))) ⟨m, fun _ => 0, ρ⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0) :=
  (θ_run (Cert.NormRefIdeal.defs (F := Ideal)) _ _).mono (fun r h => ⟨fun c => (h c).2, funext fun g => ((by decide : ∀ s : SemLoc Cert.NormRefIdeal.sig, False) g.2).elim⟩)
    (Cert.NormRefIdeal.Value.run m ρ)

/-- The frame of the reference RnormRef: it ends, its arguments are unchanged and every counter is zero. -/
theorem frameRnormRef (m : (ℓ : Loc Cert.RnormRefIdeal.nD Cert.RnormRefIdeal.τ Cert.RnormRefIdeal.sig) → Buf (Elt Ideal) ℓ) (ρ : Dev Cert.RnormRefIdeal.nD → PrngReg) :
    θ_run (Cert.RnormRefIdeal.defs (F := Ideal)) (onTc (τ := Cert.RnormRefIdeal.τ) (Cert.RnormRefIdeal.main (F := Ideal))) ⟨m, fun _ => 0, ρ⟩ (fun r => (∀ c : Dev Cert.RnormRefIdeal.nD,
      r.2.mem ((c.tc : Thread Cert.RnormRefIdeal.nD Cert.RnormRefIdeal.τ).loc Cert.RnormRefIdeal.main_arg0) = m ((c.tc : Thread Cert.RnormRefIdeal.nD Cert.RnormRefIdeal.τ).loc Cert.RnormRefIdeal.main_arg0)
      ∧ r.2.mem ((c.tc : Thread Cert.RnormRefIdeal.nD Cert.RnormRefIdeal.τ).loc Cert.RnormRefIdeal.main_arg1) = m ((c.tc : Thread Cert.RnormRefIdeal.nD Cert.RnormRefIdeal.τ).loc Cert.RnormRefIdeal.main_arg1)
      ∧ r.2.mem ((c.tc : Thread Cert.RnormRefIdeal.nD Cert.RnormRefIdeal.τ).loc Cert.RnormRefIdeal.main_arg2) = m ((c.tc : Thread Cert.RnormRefIdeal.nD Cert.RnormRefIdeal.τ).loc Cert.RnormRefIdeal.main_arg2)
      ∧ r.2.mem ((c.tc : Thread Cert.RnormRefIdeal.nD Cert.RnormRefIdeal.τ).loc Cert.RnormRefIdeal.main_arg3) = m ((c.tc : Thread Cert.RnormRefIdeal.nD Cert.RnormRefIdeal.τ).loc Cert.RnormRefIdeal.main_arg3))
      ∧ r.2.sem = fun _ => 0) :=
  (θ_run (Cert.RnormRefIdeal.defs (F := Ideal)) _ _).mono (fun r h => ⟨fun c => (h c).2.2, funext fun g => ((by decide : ∀ s : SemLoc Cert.RnormRefIdeal.sig, False) g.2).elim⟩)
    (Cert.RnormRefIdeal.Value.run m ρ)

/-- All the claims: the frames of every program, then for each call `preserves` and `algebraic`. -/
theorem claim : Cert.Claim := ⟨Cert.Attn.Gen.facts,
  Cert.AttnIdeal.Gen.facts,
  Cert.AttnRefIdeal.Gen.facts,
  Cert.Ctx.Gen.facts,
  Cert.CtxIdeal.Gen.facts,
  Cert.CtxRefIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.FfUp.Gen.facts,
  Cert.FfUpIdeal.Gen.facts,
  Cert.FfUpRefIdeal.Gen.facts,
  Cert.FfDown.Gen.facts,
  Cert.FfDownIdeal.Gen.facts,
  Cert.FfDownRefIdeal.Gen.facts,
  Cert.Merge.Gen.facts,
  Cert.MergeIdeal.Gen.facts,
  Cert.MergeRefIdeal.Gen.facts,
  Cert.Out.Gen.facts,
  Cert.OutIdeal.Gen.facts,
  Cert.OutRefIdeal.Gen.facts,
  Cert.Inproj.Gen.facts,
  Cert.InprojIdeal.Gen.facts,
  Cert.InprojRefIdeal.Gen.facts,
  Cert.Adaln.Gen.facts,
  Cert.AdalnIdeal.Gen.facts,
  Cert.AdalnRefIdeal.Gen.facts,
  Cert.Norm.Gen.facts,
  Cert.NormIdeal.Gen.facts,
  Cert.NormRefIdeal.Gen.facts,
  Cert.Rnorm.Gen.facts,
  Cert.RnormIdeal.Gen.facts,
  Cert.RnormRefIdeal.Gen.facts,
  Cert.Pre_finite.Gen.facts,
  Cert.Pre_ctx_finite.Gen.facts,
  Cert.On_latent_rows.Gen.facts,
  fun m ρ _ => Cert.Attn.Gen.frame m ρ,
  fun m ρ _ => Cert.AttnIdeal.Gen.frame m ρ,
  fun m ρ _ => Cert.AttnIdeal.Gen.frame m ρ,
  fun m ρ _ => frameAttnRef m ρ,
  fun m ρ _ => frameAttnRef m ρ,
  fun m ρ _ => Cert.Ctx.Gen.frame m ρ,
  fun m ρ _ => Cert.CtxIdeal.Gen.frame m ρ,
  fun m ρ _ => Cert.CtxIdeal.Gen.frame m ρ,
  fun m ρ _ => frameCtxRef m ρ,
  fun m ρ _ => frameCtxRef m ρ,
  fun m ρ _ => Cert.Up.Gen.frame m ρ,
  fun m ρ _ => Cert.UpIdeal.Gen.frame m ρ,
  fun m ρ _ => frameUpRef m ρ,
  fun m ρ _ => Cert.Down.Gen.frame m ρ,
  fun m ρ _ => Cert.DownIdeal.Gen.frame m ρ,
  fun m ρ _ => frameDownRef m ρ,
  fun m ρ _ => Cert.FfUp.Gen.frame m ρ,
  fun m ρ _ => Cert.FfUpIdeal.Gen.frame m ρ,
  fun m ρ _ => frameFfUpRef m ρ,
  fun m ρ _ => Cert.FfDown.Gen.frame m ρ,
  fun m ρ _ => Cert.FfDownIdeal.Gen.frame m ρ,
  fun m ρ _ => frameFfDownRef m ρ,
  fun m ρ _ => Cert.Merge.Gen.frame m ρ,
  fun m ρ _ => Cert.MergeIdeal.Gen.frame m ρ,
  fun m ρ _ => frameMergeRef m ρ,
  fun m ρ _ => Cert.Out.Gen.frame m ρ,
  fun m ρ _ => Cert.OutIdeal.Gen.frame m ρ,
  fun m ρ _ => frameOutRef m ρ,
  fun m ρ _ => Cert.Inproj.Gen.frame m ρ,
  fun m ρ _ => Cert.InprojIdeal.Gen.frame m ρ,
  fun m ρ _ => frameInprojRef m ρ,
  fun m ρ _ => Cert.Adaln.Gen.frame m ρ,
  fun m ρ _ => Cert.AdalnIdeal.Gen.frame m ρ,
  fun m ρ _ => frameAdalnRef m ρ,
  fun m ρ _ => Cert.Norm.Gen.frame m ρ,
  fun m ρ _ => Cert.NormIdeal.Gen.frame m ρ,
  fun m ρ _ => frameNormRef m ρ,
  fun m ρ _ => Cert.Rnorm.Gen.frame m ρ,
  fun m ρ _ => Cert.RnormIdeal.Gen.frame m ρ,
  fun m ρ _ => frameRnormRef m ρ,
  trivial,
  Cert.AttnPre.algebraic,
  trivial,
  Cert.CtxIdeal.Value.algebraic,
  trivial,
  Cert.UpIdeal.Value.algebraic,
  trivial,
  Cert.DownIdeal.Value.algebraic,
  trivial,
  Cert.FfUpIdeal.Value.algebraic,
  trivial,
  Cert.FfDownIdeal.Value.algebraic,
  trivial,
  Cert.MergeIdeal.Value.algebraic,
  trivial,
  Cert.OutIdeal.Value.algebraic,
  trivial,
  Cert.InprojIdeal.Value.algebraic,
  trivial,
  Cert.AdalnIdeal.Value.algebraic,
  trivial,
  Cert.NormIdeal.Value.algebraic,
  trivial,
  Cert.RnormIdeal.Value.algebraic⟩

end Cert.Proof

end
